-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_1)) (v1 : (c : Dev Cert.KernelIdeal.nD) → Buf (Elt Ideal) ((c.tc : Thread Cert.KernelIdeal.nD Cert.KernelIdeal.τ).loc Cert.KernelIdeal.main_v46_2)) (v2 : (c : Dev Cert.KernelIdeal.nD) → Buf (Elt Ideal) ((c.tc : Thread Cert.KernelIdeal.nD Cert.KernelIdeal.τ).loc Cert.KernelIdeal.main_v46_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_1) = v0 c
          ∧ r.2.mem ((c.tc : Thread Cert.KernelIdeal.nD Cert.KernelIdeal.τ).loc Cert.KernelIdeal.main_v46_2) = v1 c
          ∧ r.2.mem ((c.tc : Thread Cert.KernelIdeal.nD Cert.KernelIdeal.τ).loc Cert.KernelIdeal.main_v46_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v17) = v0 c
          ∧ r.2.mem ((c.tc : Thread Cert.Reference18Ideal.nD Cert.Reference18Ideal.τ).loc Cert.Reference18Ideal.main_v2) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v17) = v0 c
          ∧ r.2.mem ((c.tc : Thread Cert.Reference19Ideal.nD Cert.Reference19Ideal.τ).loc Cert.Reference19Ideal.main_v2) = v1 c
          ∧ r.2.mem ((c.tc : Thread Cert.Reference19Ideal.nD Cert.Reference19Ideal.τ).loc Cert.Reference19Ideal.main_v32) = v2 c
          ∧ r.2.mem ((c.tc : Thread Cert.Reference19Ideal.nD Cert.Reference19Ideal.τ).loc Cert.Reference19Ideal.main_v47) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v17) = v0 c
          ∧ r.2.mem ((c.tc : Thread Cert.Reference20Ideal.nD Cert.Reference20Ideal.τ).loc Cert.Reference20Ideal.main_v2) = v1 c
          ∧ r.2.mem ((c.tc : Thread Cert.Reference20Ideal.nD Cert.Reference20Ideal.τ).loc Cert.Reference20Ideal.main_v32) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v16) = v0 c
          ∧ r.2.mem ((c.tc : Thread Cert.Reference21Ideal.nD Cert.Reference21Ideal.τ).loc Cert.Reference21Ideal.main_v1) = v1 c
          ∧ r.2.mem ((c.tc : Thread Cert.Reference21Ideal.nD Cert.Reference21Ideal.τ).loc Cert.Reference21Ideal.main_v31) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v14) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v24) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v11) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v38) = v0 c
          ∧ r.2.mem ((c.tc : Thread Cert.Reference30Ideal.nD Cert.Reference30Ideal.τ).loc Cert.Reference30Ideal.main_v39) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v11) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S4128x1024 : Shape := ⟨2, ![4128, 1024]⟩
abbrev S4128x2048 : Shape := ⟨2, ![4128, 2048]⟩
abbrev S4128x16 : Shape := ⟨2, ![4128, 16]⟩
abbrev S_ : Shape := ⟨0, ![]⟩

class Facts : Prop where
  bitsLt_bf16_f32 : FTy.bits .bf16 < FTy.bits .f32
  bcast_S_S4128x1024 : S_.BroadcastsInDim S4128x1024 (![] : Fin 0 → Fin S4128x1024.rank)
  reducesTo_S4128x1024_S_d0_1 : S4128x1024.ReducesTo [0, 1] S_
  h_S_ : 0 < S_.numel
  bcast_S_S4128x2048 : S_.BroadcastsInDim S4128x2048 (![] : Fin 0 → Fin S4128x2048.rank)
  reducesTo_S4128x2048_S_d0_1 : S4128x2048.ReducesTo [0, 1] S_
  bcast_S_S4128x16 : S_.BroadcastsInDim S4128x16 (![] : Fin 0 → Fin S4128x16.rank)
  reducesTo_S4128x16_S_d0_1 : S4128x16.ReducesTo [0, 1] S_

variable [Facts]

def fn_part1 {F : FTy → Type} [FloatOps F] (main_v15 : IVec S_ 1) (main_v17 : FVec F S4128x1024 .f32) : IVec S_ 1 :=
  let main_cst_4 : FVec F S_ .f32 := constant S_ .f32 0x7F800000#32
  let main_v18 : FVec F S4128x1024 .f32 := broadcastInDim S4128x1024 ![] bcast_S_S4128x1024 main_cst_4
  let main_v19 : IVec S4128x1024 1 := cmpf .olt main_v17 main_v18
  let main_c_5 : IVec S_ 1 := constantI S_ 1 1#1
  let main_v20 : IVec S_ 1 := (fun x v => Host.reduce IntOp.andi x v reducesTo_S4128x1024_S_d0_1 h_S_) main_v19 main_c_5
  let main_v21 : IVec S_ 1 := andi main_v15 main_v20
  main_v21

def fn {F : FTy → Type} [FloatOps F] (main_arg0 : FVec F S4128x1024 .bf16) (main_arg1 : FVec F S4128x2048 .bf16) (main_arg2 : FVec F S4128x16 .f32) (main_arg3 : FVec F S4128x1024 .bf16) : IVec S_ 1 :=
  let main_v0 : FVec F S4128x1024 .f32 := (extf .f32 · bitsLt_bf16_f32) main_arg0
  let main_v1 : FVec F S4128x1024 .f32 := Host.absf main_v0
  let main_cst : FVec F S_ .f32 := constant S_ .f32 0x7F800000#32
  let main_v2 : FVec F S4128x1024 .f32 := broadcastInDim S4128x1024 ![] bcast_S_S4128x1024 main_cst
  let main_v3 : IVec S4128x1024 1 := cmpf .olt main_v1 main_v2
  let main_c : IVec S_ 1 := constantI S_ 1 1#1
  let main_v4 : IVec S_ 1 := (fun x v => Host.reduce IntOp.andi x v reducesTo_S4128x1024_S_d0_1 h_S_) main_v3 main_c
  let main_v5 : FVec F S4128x2048 .f32 := (extf .f32 · bitsLt_bf16_f32) main_arg1
  let main_v6 : FVec F S4128x2048 .f32 := Host.absf main_v5
  let main_cst_0 : FVec F S_ .f32 := constant S_ .f32 0x7F800000#32
  let main_v7 : FVec F S4128x2048 .f32 := broadcastInDim S4128x2048 ![] bcast_S_S4128x2048 main_cst_0
  let main_v8 : IVec S4128x2048 1 := cmpf .olt main_v6 main_v7
  let main_c_1 : IVec S_ 1 := constantI S_ 1 1#1
  let main_v9 : IVec S_ 1 := (fun x v => Host.reduce IntOp.andi x v reducesTo_S4128x2048_S_d0_1 h_S_) main_v8 main_c_1
  let main_v10 : IVec S_ 1 := andi main_v4 main_v9
  let main_v11 : FVec F S4128x16 .f32 := Host.absf main_arg2
  let main_cst_2 : FVec F S_ .f32 := constant S_ .f32 0x7F800000#32
  let main_v12 : FVec F S4128x16 .f32 := broadcastInDim S4128x16 ![] bcast_S_S4128x16 main_cst_2
  let main_v13 : IVec S4128x16 1 := cmpf .olt main_v11 main_v12
  let main_c_3 : IVec S_ 1 := constantI S_ 1 1#1
  let main_v14 : IVec S_ 1 := (fun x v => Host.reduce IntOp.andi x v reducesTo_S4128x16_S_d0_1 h_S_) main_v13 main_c_3
  let main_v15 : IVec S_ 1 := andi main_v10 main_v14
  let main_v16 : FVec F S4128x1024 .f32 := (extf .f32 · bitsLt_bf16_f32) main_arg3
  let main_v17 : FVec F S4128x1024 .f32 := Host.absf main_v16
  fn_part1 (F := F) main_v15 main_v17
-- ==== Kernel.lean ====
abbrev S4128x1024 : Shape := ⟨2, ![4128, 1024]⟩
abbrev S4128x2048 : Shape := ⟨2, ![4128, 2048]⟩
abbrev S4128x16 : Shape := ⟨2, ![4128, 16]⟩
abbrev S2x2064x16x64 : Shape := ⟨4, ![2, 2064, 16, 64]⟩
abbrev S2x16x2064x64 : Shape := ⟨4, ![2, 16, 2064, 64]⟩
abbrev S2x2064x16 : Shape := ⟨3, ![2, 2064, 16]⟩
abbrev S2x16x2064 : Shape := ⟨3, ![2, 16, 2064]⟩
abbrev S2x16x2064x2064 : Shape := ⟨4, ![2, 16, 2064, 2064]⟩
abbrev S_ : Shape := ⟨0, ![]⟩
abbrev S2x16x1x2064 : Shape := ⟨4, ![2, 16, 1, 2064]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S2x16x2064x1 : Shape := ⟨4, ![2, 16, 2064, 1]⟩
abbrev S2x3x688x8x2 : Shape := ⟨5, ![2, 3, 688, 8, 2]⟩
abbrev S2x8x3x2x688 : Shape := ⟨5, ![2, 8, 3, 2, 688]⟩
abbrev S8x4128x2 : Shape := ⟨3, ![8, 4128, 2]⟩
abbrev S2064x128 : Shape := ⟨2, ![2064, 128]⟩
abbrev S688x128 : Shape := ⟨2, ![688, 128]⟩
abbrev S1x1x1x2x688 : Shape := ⟨5, ![1, 1, 1, 2, 688]⟩
abbrev S1x2064x2 : Shape := ⟨3, ![1, 2064, 2]⟩
abbrev S688x688 : Shape := ⟨2, ![688, 688]⟩
abbrev S688x64 : Shape := ⟨2, ![688, 64]⟩
abbrev S64x688 : Shape := ⟨2, ![64, 688]⟩
abbrev S1x1x1x1x688 : Shape := ⟨5, ![1, 1, 1, 1, 688]⟩
abbrev S1x688 : Shape := ⟨2, ![1, 688]⟩
abbrev S688x1 : Shape := ⟨2, ![688, 1]⟩
abbrev S688 : Shape := ⟨1, ![688]⟩
abbrev S1x688x1 : Shape := ⟨3, ![1, 688, 1]⟩

abbrev nBuf : Space → Nat
  | .hbm => 62
  | .vmem => 24
  | .smem => 0
  | _ => 0

abbrev bufTy : (tb : Table) → Fin (tcTables nBuf tb) → BufTy
  | .hbm, ⟨0, _⟩ => ⟨S4128x1024, .bf16⟩
  | .hbm, ⟨1, _⟩ => ⟨S4128x2048, .bf16⟩
  | .hbm, ⟨2, _⟩ => ⟨S4128x16, .f32⟩
  | .hbm, ⟨3, _⟩ => ⟨S4128x1024, .bf16⟩
  | .hbm, ⟨4, _⟩ => ⟨S4128x1024, .bf16⟩
  | .hbm, ⟨5, _⟩ => ⟨S4128x1024, .f32⟩
  | .hbm, ⟨6, _⟩ => ⟨S2x2064x16x64, .f32⟩
  | .hbm, ⟨7, _⟩ => ⟨S2x16x2064x64, .f32⟩
  | .hbm, ⟨8, _⟩ => ⟨S4128x1024, .bf16⟩
  | .hbm, ⟨9, _⟩ => ⟨S4128x1024, .f32⟩
  | .hbm, ⟨10, _⟩ => ⟨S2x2064x16x64, .f32⟩
  | .hbm, ⟨11, _⟩ => ⟨S2x16x2064x64, .f32⟩
  | .hbm, ⟨12, _⟩ => ⟨S2x2064x16, .f32⟩
  | .hbm, ⟨13, _⟩ => ⟨S2x16x2064, .f32⟩
  | .hbm, ⟨14, _⟩ => ⟨S4128x1024, .f32⟩
  | .hbm, ⟨15, _⟩ => ⟨S2x2064x16x64, .f32⟩
  | .hbm, ⟨16, _⟩ => ⟨S2x16x2064x64, .f32⟩
  | .hbm, ⟨17, _⟩ => ⟨S2x16x2064x2064, .f32⟩
  | .hbm, ⟨18, _⟩ => ⟨S_, .f32⟩
  | .hbm, ⟨19, _⟩ => ⟨S2x16x2064x2064, .f32⟩
  | .hbm, ⟨20, _⟩ => ⟨S2x16x2064x2064, .f32⟩
  | .hbm, ⟨21, _⟩ => ⟨S2x16x1x2064, .f32⟩
  | .hbm, ⟨22, _⟩ => ⟨S2x16x2064x2064, .f32⟩
  | .hbm, ⟨23, _⟩ => ⟨S2x16x2064x2064, .f32⟩
  | .hbm, ⟨24, _⟩ => ⟨S2064, .i32⟩
  | .hbm, ⟨25, _⟩ => ⟨S2064x1, .i32⟩
  | .hbm, ⟨26, _⟩ => ⟨S2064, .i32⟩
  | .hbm, ⟨27, _⟩ => ⟨S1x2064, .i32⟩
  | .hbm, ⟨28, _⟩ => ⟨S2064x2064, .i32⟩
  | .hbm, ⟨29, _⟩ => ⟨S2064x2064, .i32⟩
  | .hbm, ⟨30, _⟩ => ⟨S2064x2064, .i1⟩
  | .hbm, ⟨31, _⟩ => ⟨S_, .f32⟩
  | .hbm, ⟨32, _⟩ => ⟨S_, .f32⟩
  | .hbm, ⟨33, _⟩ => ⟨S2x16x2064x2064, .i1⟩
  | .hbm, ⟨34, _⟩ => ⟨S2x16x2064x2064, .f32⟩
  | .hbm, ⟨35, _⟩ => ⟨S2x16x2064x2064, .f32⟩
  | .hbm, ⟨36, _⟩ => ⟨S_, .f32⟩
  | .hbm, ⟨37, _⟩ => ⟨S2x16x2064, .f32⟩
  | .hbm, ⟨38, _⟩ => ⟨S2x16x2064x1, .f32⟩
  | .hbm, ⟨39, _⟩ => ⟨S2x16x2064x2064, .f32⟩
  | .hbm, ⟨40, _⟩ => ⟨S2x16x2064x2064, .f32⟩
  | .hbm, ⟨41, _⟩ => ⟨S2x16x2064x2064, .f32⟩
  | .hbm, ⟨42, _⟩ => ⟨S_, .f32⟩
  | .hbm, ⟨43, _⟩ => ⟨S2x16x2064, .f32⟩
  | .hbm, ⟨44, _⟩ => ⟨S2x16x2064x1, .f32⟩
  | .hbm, ⟨45, _⟩ => ⟨S2x16x2064x2064, .f32⟩
  | .hbm, ⟨46, _⟩ => ⟨S2x16x2064x2064, .f32⟩
  | .hbm, ⟨47, _⟩ => ⟨S2x16x2064x64, .f32⟩
  | .hbm, ⟨48, _⟩ => ⟨S2x2064x16x64, .f32⟩
  | .hbm, ⟨49, _⟩ => ⟨S4128x1024, .f32⟩
  | .hbm, ⟨50, _⟩ => ⟨S2x16x2064x1, .f32⟩
  | .hbm, ⟨51, _⟩ => ⟨S2x16x2064x1, .f32⟩
  | .hbm, ⟨52, _⟩ => ⟨S2x16x2064x64, .f32⟩
  | .hbm, ⟨53, _⟩ => ⟨S2x2064x16x64, .f32⟩
  | .hbm, ⟨54, _⟩ => ⟨S4128x1024, .f32⟩
  | .hbm, ⟨55, _⟩ => ⟨S2x3x688x8x2, .f32⟩
  | .hbm, ⟨56, _⟩ => ⟨S2x8x3x2x688, .f32⟩
  | .hbm, ⟨57, _⟩ => ⟨S4128x1024, .f32⟩
  | .hbm, ⟨58, _⟩ => ⟨S4128x1024, .bf16⟩
  | .hbm, ⟨59, _⟩ => ⟨S4128x1024, .bf16⟩
  | .hbm, ⟨60, _⟩ => ⟨S2x8x3x2x688, .f32⟩
  | .hbm, ⟨61, _⟩ => ⟨S8x4128x2, .f32⟩
  | .local _ .vmem, ⟨0, _⟩ => ⟨S2064x128, .bf16⟩
  | .local _ .vmem, ⟨1, _⟩ => ⟨S2064x128, .bf16⟩
  | .local _ .vmem, ⟨2, _⟩ => ⟨S688x128, .bf16⟩
  | .local _ .vmem, ⟨3, _⟩ => ⟨S688x128, .bf16⟩
  | .local _ .vmem, ⟨4, _⟩ => ⟨S688x128, .bf16⟩
  | .local _ .vmem, ⟨5, _⟩ => ⟨S688x128, .bf16⟩
  | .local _ .vmem, ⟨6, _⟩ => ⟨S2064x128, .f32⟩
  | .local _ .vmem, ⟨7, _⟩ => ⟨S2064x128, .f32⟩
  | .local _ .vmem, ⟨8, _⟩ => ⟨S2064x128, .bf16⟩
  | .local _ .vmem, ⟨9, _⟩ => ⟨S2064x128, .bf16⟩
  | .local _ .vmem, ⟨10, _⟩ => ⟨S2064x128, .f32⟩
  | .local _ .vmem, ⟨11, _⟩ => ⟨S2064x128, .f32⟩
  | .local _ .vmem, ⟨12, _⟩ => ⟨S1x1x1x2x688, .f32⟩
  | .local _ .vmem, ⟨13, _⟩ => ⟨S1x1x1x2x688, .f32⟩
  | .local _ .vmem, ⟨14, _⟩ => ⟨S2064x128, .f32⟩
  | .local _ .vmem, ⟨15, _⟩ => ⟨S2064x128, .f32⟩
  | .local _ .vmem, ⟨16, _⟩ => ⟨S688x128, .bf16⟩
  | .local _ .vmem, ⟨17, _⟩ => ⟨S688x128, .bf16⟩
  | .local _ .vmem, ⟨18, _⟩ => ⟨S688x128, .bf16⟩
  | .local _ .vmem, ⟨19, _⟩ => ⟨S688x128, .bf16⟩
  | .local _ .vmem, ⟨20, _⟩ => ⟨S1x1x1x2x688, .f32⟩
  | .local _ .vmem, ⟨21, _⟩ => ⟨S1x1x1x2x688, .f32⟩
  | .local _ .vmem, ⟨22, _⟩ => ⟨S1x2064x2, .f32⟩
  | .local _ .vmem, ⟨23, _⟩ => ⟨S1x2064x2, .f32⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46_0 : Ref sig .tc := ⟨.hbm, 57, rfl⟩
abbrev main_v46_1 : Ref sig .tc := ⟨.hbm, 58, rfl⟩
abbrev main_v46_2 : Ref sig .tc := ⟨.hbm, 59, rfl⟩
abbrev main_v46_3 : Ref sig .tc := ⟨.hbm, 60, rfl⟩
abbrev main_v46_4 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 8, 3], ![false, false, false]⟩

def k0_mult1 (i : grid0.Coords) : BitVec 32 :=
  let arg2 : BitVec 32 := BitVec.ofNat 32 (i 2).val
  let c688_i32 : BitVec 32 := 688#32
  let v17 : BitVec 32 := Scalar.muli arg2 c688_i32
  v17
def k0_off1 (i : grid0.Coords) : Fin 2 → Nat :=
  let arg2 : BitVec 32 := BitVec.ofNat 32 (i 2).val
  let c688_i32 : BitVec 32 := 688#32
  let v17 : BitVec 32 := Scalar.muli arg2 c688_i32
  let v18 : BitVec 32 := v17
  let v19 : Index := Scalar.indexCast v18
  let c0_11 : Index := 0#32
  ![v19.toNat, 0]
def k0_off2 (i : grid0.Coords) : Fin 2 → Nat :=
  let arg2 : BitVec 32 := BitVec.ofNat 32 (i 2).val
  let c688_i32 : BitVec 32 := 688#32
  let v17 : BitVec 32 := Scalar.muli arg2 c688_i32
  let v18 : BitVec 32 := v17
  let v32 : Index := Scalar.indexCast v18
  let c0_16 : Index := 0#32
  ![v32.toNat, 0]
def k0_off3 (i : grid0.Coords) : Fin 3 → Nat :=
  let c0_24 : Index := 0#32
  let arg2 : BitVec 32 := BitVec.ofNat 32 (i 2).val
  let c688_i32 : BitVec 32 := 688#32
  let v17 : BitVec 32 := Scalar.muli arg2 c688_i32
  let v18 : BitVec 32 := v17
  let v60 : Index := Scalar.indexCast v18
  let c0_25 : Index := 0#32
  ![0, v60.toNat, 0]
@[reducible] def k0_t1_loop (i : grid0.Coords) : Scf.Loop 32 :=
  let arg2 : BitVec 32 := BitVec.ofNat 32 (i 2).val
  let c1_i32 : BitVec 32 := 1#32
  let v16 : BitVec 32 := Scalar.addi arg2 c1_i32
  let c3_i32 : BitVec 32 := 3#32
  let v78 : BitVec 32 := Scalar.subi c3_i32 v16
  let c1_i32_32 : BitVec 32 := 1#32
  let v80 : BitVec 32 := Scalar.divsi v78 c1_i32_32
  let v81 : BitVec 32 := Scalar.muli v80 c1_i32_32
  let v82 : BitVec 32 := Scalar.addi v16 v81
  let c1_i32_33 : BitVec 32 := 1#32
  ⟨v16, v82, c1_i32_33⟩
def k0_mult2 (i : grid0.Coords) (k0_t1 : Fin (k0_t1_loop i).trips) : BitVec 32 :=
  let arg2 : BitVec 32 := BitVec.ofNat 32 (i 2).val
  let c1_i32 : BitVec 32 := 1#32
  let v16 : BitVec 32 := Scalar.addi arg2 c1_i32
  let c1_i32_33 : BitVec 32 := 1#32
  let arg15 : BitVec 32 := Scf.iv v16 c1_i32_33 k0_t1
  let c688_i32_90 : BitVec 32 := 688#32
  let v182 : BitVec 32 := Scalar.muli arg15 c688_i32_90
  v182
def k0_off4 (i : grid0.Coords) (k0_t1 : Fin (k0_t1_loop i).trips) : Fin 2 → Nat :=
  let arg2 : BitVec 32 := BitVec.ofNat 32 (i 2).val
  let c1_i32 : BitVec 32 := 1#32
  let v16 : BitVec 32 := Scalar.addi arg2 c1_i32
  let c1_i32_33 : BitVec 32 := 1#32
  let arg15 : BitVec 32 := Scf.iv v16 c1_i32_33 k0_t1
  let c688_i32_90 : BitVec 32 := 688#32
  let v182 : BitVec 32 := Scalar.muli arg15 c688_i32_90
  let v183 : BitVec 32 := v182
  let v184 : Index := Scalar.indexCast v183
  let c0_91 : Index := 0#32
  ![v184.toNat, 0]
def k0_off5 (i : grid0.Coords) (k0_t1 : Fin (k0_t1_loop i).trips) : Fin 2 → Nat :=
  let arg2 : BitVec 32 := BitVec.ofNat 32 (i 2).val
  let c1_i32 : BitVec 32 := 1#32
  let v16 : BitVec 32 := Scalar.addi arg2 c1_i32
  let c1_i32_33 : BitVec 32 := 1#32
  let arg15 : BitVec 32 := Scf.iv v16 c1_i32_33 k0_t1
  let c688_i32_90 : BitVec 32 := 688#32
  let v182 : BitVec 32 := Scalar.muli arg15 c688_i32_90
  let v183 : BitVec 32 := v182
  let v195 : Index := Scalar.indexCast v183
  let c0_95 : Index := 0#32
  ![v195.toNat, 0]
def k0_off6 (i : grid0.Coords) (k0_t1 : Fin (k0_t1_loop i).trips) : Fin 3 → Nat :=
  let c0_103 : Index := 0#32
  let arg2 : BitVec 32 := BitVec.ofNat 32 (i 2).val
  let c1_i32 : BitVec 32 := 1#32
  let v16 : BitVec 32 := Scalar.addi arg2 c1_i32
  let c1_i32_33 : BitVec 32 := 1#32
  let arg15 : BitVec 32 := Scf.iv v16 c1_i32_33 k0_t1
  let c688_i32_90 : BitVec 32 := 688#32
  let v182 : BitVec 32 := Scalar.muli arg15 c688_i32_90
  let v183 : BitVec 32 := v182
  let v223 : Index := Scalar.indexCast v183
  let c0_104 : Index := 0#32
  ![0, v223.toNat, 0]
@[reducible] def k0_t2_loop (i : grid0.Coords) : Scf.Loop 32 :=
  let arg2 : BitVec 32 := BitVec.ofNat 32 (i 2).val
  let c1_i32 : BitVec 32 := 1#32
  let v16 : BitVec 32 := Scalar.addi arg2 c1_i32
  let c3_i32 : BitVec 32 := 3#32
  let v78 : BitVec 32 := Scalar.subi c3_i32 v16
  let c1_i32_32 : BitVec 32 := 1#32
  let v80 : BitVec 32 := Scalar.divsi v78 c1_i32_32
  let v81 : BitVec 32 := Scalar.muli v80 c1_i32_32
  let v82 : BitVec 32 := Scalar.addi v16 v81
  let v79 : BitVec 32 := Scalar.addi v16 v78
  let c1_i32_34 : BitVec 32 := 1#32
  ⟨v82, v79, c1_i32_34⟩
def k0_mult3 (i : grid0.Coords) (k0_t2 : Fin (k0_t2_loop i).trips) : BitVec 32 :=
  let arg2 : BitVec 32 := BitVec.ofNat 32 (i 2).val
  let c1_i32 : BitVec 32 := 1#32
  let v16 : BitVec 32 := Scalar.addi arg2 c1_i32
  let c3_i32 : BitVec 32 := 3#32
  let v78 : BitVec 32 := Scalar.subi c3_i32 v16
  let c1_i32_32 : BitVec 32 := 1#32
  let v80 : BitVec 32 := Scalar.divsi v78 c1_i32_32
  let v81 : BitVec 32 := Scalar.muli v80 c1_i32_32
  let v82 : BitVec 32 := Scalar.addi v16 v81
  let c1_i32_34 : BitVec 32 := 1#32
  let arg15 : BitVec 32 := Scf.iv v82 c1_i32_34 k0_t2
  let c688_i32_90 : BitVec 32 := 688#32
  let v182 : BitVec 32 := Scalar.muli arg15 c688_i32_90
  v182
def k0_off7 (i : grid0.Coords) (k0_t2 : Fin (k0_t2_loop i).trips) : Fin 2 → Nat :=
  let arg2 : BitVec 32 := BitVec.ofNat 32 (i 2).val
  let c1_i32 : BitVec 32 := 1#32
  let v16 : BitVec 32 := Scalar.addi arg2 c1_i32
  let c3_i32 : BitVec 32 := 3#32
  let v78 : BitVec 32 := Scalar.subi c3_i32 v16
  let c1_i32_32 : BitVec 32 := 1#32
  let v80 : BitVec 32 := Scalar.divsi v78 c1_i32_32
  let v81 : BitVec 32 := Scalar.muli v80 c1_i32_32
  let v82 : BitVec 32 := Scalar.addi v16 v81
  let c1_i32_34 : BitVec 32 := 1#32
  let arg15 : BitVec 32 := Scf.iv v82 c1_i32_34 k0_t2
  let c688_i32_90 : BitVec 32 := 688#32
  let v182 : BitVec 32 := Scalar.muli arg15 c688_i32_90
  let v183 : BitVec 32 := v182
  let v184 : Index := Scalar.indexCast v183
  let c0_91 : Index := 0#32
  ![v184.toNat, 0]
def k0_off8 (i : grid0.Coords) (k0_t2 : Fin (k0_t2_loop i).trips) : Fin 2 → Nat :=
  let arg2 : BitVec 32 := BitVec.ofNat 32 (i 2).val
  let c1_i32 : BitVec 32 := 1#32
  let v16 : BitVec 32 := Scalar.addi arg2 c1_i32
  let c3_i32 : BitVec 32 := 3#32
  let v78 : BitVec 32 := Scalar.subi c3_i32 v16
  let c1_i32_32 : BitVec 32 := 1#32
  let v80 : BitVec 32 := Scalar.divsi v78 c1_i32_32
  let v81 : BitVec 32 := Scalar.muli v80 c1_i32_32
  let v82 : BitVec 32 := Scalar.addi v16 v81
  let c1_i32_34 : BitVec 32 := 1#32
  let arg15 : BitVec 32 := Scf.iv v82 c1_i32_34 k0_t2
  let c688_i32_90 : BitVec 32 := 688#32
  let v182 : BitVec 32 := Scalar.muli arg15 c688_i32_90
  let v183 : BitVec 32 := v182
  let v195 : Index := Scalar.indexCast v183
  let c0_95 : Index := 0#32
  ![v195.toNat, 0]
def k0_off9 (i : grid0.Coords) (k0_t2 : Fin (k0_t2_loop i).trips) : Fin 3 → Nat :=
  let c0_103 : Index := 0#32
  let arg2 : BitVec 32 := BitVec.ofNat 32 (i 2).val
  let c1_i32 : BitVec 32 := 1#32
  let v16 : BitVec 32 := Scalar.addi arg2 c1_i32
  let c3_i32 : BitVec 32 := 3#32
  let v78 : BitVec 32 := Scalar.subi c3_i32 v16
  let c1_i32_32 : BitVec 32 := 1#32
  let v80 : BitVec 32 := Scalar.divsi v78 c1_i32_32
  let v81 : BitVec 32 := Scalar.muli v80 c1_i32_32
  let v82 : BitVec 32 := Scalar.addi v16 v81
  let c1_i32_34 : BitVec 32 := 1#32
  let arg15 : BitVec 32 := Scf.iv v82 c1_i32_34 k0_t2
  let c688_i32_90 : BitVec 32 := 688#32
  let v182 : BitVec 32 := Scalar.muli arg15 c688_i32_90
  let v183 : BitVec 32 := v182
  let v223 : Index := Scalar.indexCast v183
  let c0_104 : Index := 0#32
  ![0, v223.toNat, 0]
def k0_mult4 (i : grid0.Coords) : BitVec 32 :=
  let arg2 : BitVec 32 := BitVec.ofNat 32 (i 2).val
  let c688_i32_55 : BitVec 32 := 688#32
  let v105 : BitVec 32 := Scalar.muli arg2 c688_i32_55
  v105
def k0_off10 (i : grid0.Coords) : Fin 2 → Nat :=
  let arg2 : BitVec 32 := BitVec.ofNat 32 (i 2).val
  let c688_i32_55 : BitVec 32 := 688#32
  let v105 : BitVec 32 := Scalar.muli arg2 c688_i32_55
  let v106 : BitVec 32 := v105
  let v107 : Index := Scalar.indexCast v106
  let c64_56 : Index := 64#32
  ![v107.toNat, 64]
def k0_off11 (i : grid0.Coords) : Fin 2 → Nat :=
  let arg2 : BitVec 32 := BitVec.ofNat 32 (i 2).val
  let c688_i32_55 : BitVec 32 := 688#32
  let v105 : BitVec 32 := Scalar.muli arg2 c688_i32_55
  let v106 : BitVec 32 := v105
  let v120 : Index := Scalar.indexCast v106
  let c64_61 : Index := 64#32
  ![v120.toNat, 64]
def k0_off12 (i : grid0.Coords) : Fin 3 → Nat :=
  let c0_69 : Index := 0#32
  let arg2 : BitVec 32 := BitVec.ofNat 32 (i 2).val
  let c688_i32_55 : BitVec 32 := 688#32
  let v105 : BitVec 32 := Scalar.muli arg2 c688_i32_55
  let v106 : BitVec 32 := v105
  let v148 : Index := Scalar.indexCast v106
  let c1_70 : Index := 1#32
  ![0, v148.toNat, 1]
@[reducible] def k0_t3_loop (i : grid0.Coords) : Scf.Loop 32 :=
  let arg2 : BitVec 32 := BitVec.ofNat 32 (i 2).val
  let c1_i32_54 : BitVec 32 := 1#32
  let v104 : BitVec 32 := Scalar.addi arg2 c1_i32_54
  let c3_i32_77 : BitVec 32 := 3#32
  let v166 : BitVec 32 := Scalar.subi c3_i32_77 v104
  let c1_i32_78 : BitVec 32 := 1#32
  let v168 : BitVec 32 := Scalar.divsi v166 c1_i32_78
  let v169 : BitVec 32 := Scalar.muli v168 c1_i32_78
  let v170 : BitVec 32 := Scalar.addi v104 v169
  let c1_i32_79 : BitVec 32 := 1#32
  ⟨v104, v170, c1_i32_79⟩
def k0_mult5 (i : grid0.Coords) (k0_t3 : Fin (k0_t3_loop i).trips) : BitVec 32 :=
  let arg2 : BitVec 32 := BitVec.ofNat 32 (i 2).val
  let c1_i32_54 : BitVec 32 := 1#32
  let v104 : BitVec 32 := Scalar.addi arg2 c1_i32_54
  let c1_i32_79 : BitVec 32 := 1#32
  let arg15 : BitVec 32 := Scf.iv v104 c1_i32_79 k0_t3
  let c688_i32_90 : BitVec 32 := 688#32
  let v182 : BitVec 32 := Scalar.muli arg15 c688_i32_90
  v182
def k0_off13 (i : grid0.Coords) (k0_t3 : Fin (k0_t3_loop i).trips) : Fin 2 → Nat :=
  let arg2 : BitVec 32 := BitVec.ofNat 32 (i 2).val
  let c1_i32_54 : BitVec 32 := 1#32
  let v104 : BitVec 32 := Scalar.addi arg2 c1_i32_54
  let c1_i32_79 : BitVec 32 := 1#32
  let arg15 : BitVec 32 := Scf.iv v104 c1_i32_79 k0_t3
  let c688_i32_90 : BitVec 32 := 688#32
  let v182 : BitVec 32 := Scalar.muli arg15 c688_i32_90
  let v183 : BitVec 32 := v182
  let v184 : Index := Scalar.indexCast v183
  let c64_91 : Index := 64#32
  ![v184.toNat, 64]
def k0_off14 (i : grid0.Coords) (k0_t3 : Fin (k0_t3_loop i).trips) : Fin 2 → Nat :=
  let arg2 : BitVec 32 := BitVec.ofNat 32 (i 2).val
  let c1_i32_54 : BitVec 32 := 1#32
  let v104 : BitVec 32 := Scalar.addi arg2 c1_i32_54
  let c1_i32_79 : BitVec 32 := 1#32
  let arg15 : BitVec 32 := Scf.iv v104 c1_i32_79 k0_t3
  let c688_i32_90 : BitVec 32 := 688#32
  let v182 : BitVec 32 := Scalar.muli arg15 c688_i32_90
  let v183 : BitVec 32 := v182
  let v195 : Index := Scalar.indexCast v183
  let c64_95 : Index := 64#32
  ![v195.toNat, 64]
def k0_off15 (i : grid0.Coords) (k0_t3 : Fin (k0_t3_loop i).trips) : Fin 3 → Nat :=
  let c0_103 : Index := 0#32
  let arg2 : BitVec 32 := BitVec.ofNat 32 (i 2).val
  let c1_i32_54 : BitVec 32 := 1#32
  let v104 : BitVec 32 := Scalar.addi arg2 c1_i32_54
  let c1_i32_79 : BitVec 32 := 1#32
  let arg15 : BitVec 32 := Scf.iv v104 c1_i32_79 k0_t3
  let c688_i32_90 : BitVec 32 := 688#32
  let v182 : BitVec 32 := Scalar.muli arg15 c688_i32_90
  let v183 : BitVec 32 := v182
  let v223 : Index := Scalar.indexCast v183
  let c1_104 : Index := 1#32
  ![0, v223.toNat, 1]
@[reducible] def k0_t4_loop (i : grid0.Coords) : Scf.Loop 32 :=
  let arg2 : BitVec 32 := BitVec.ofNat 32 (i 2).val
  let c1_i32_54 : BitVec 32 := 1#32
  let v104 : BitVec 32 := Scalar.addi arg2 c1_i32_54
  let c3_i32_77 : BitVec 32 := 3#32
  let v166 : BitVec 32 := Scalar.subi c3_i32_77 v104
  let c1_i32_78 : BitVec 32 := 1#32
  let v168 : BitVec 32 := Scalar.divsi v166 c1_i32_78
  let v169 : BitVec 32 := Scalar.muli v168 c1_i32_78
  let v170 : BitVec 32 := Scalar.addi v104 v169
  let v167 : BitVec 32 := Scalar.addi v104 v166
  let c1_i32_80 : BitVec 32 := 1#32
  ⟨v170, v167, c1_i32_80⟩
def k0_mult6 (i : grid0.Coords) (k0_t4 : Fin (k0_t4_loop i).trips) : BitVec 32 :=
  let arg2 : BitVec 32 := BitVec.ofNat 32 (i 2).val
  let c1_i32_54 : BitVec 32 := 1#32
  let v104 : BitVec 32 := Scalar.addi arg2 c1_i32_54
  let c3_i32_77 : BitVec 32 := 3#32
  let v166 : BitVec 32 := Scalar.subi c3_i32_77 v104
  let c1_i32_78 : BitVec 32 := 1#32
  let v168 : BitVec 32 := Scalar.divsi v166 c1_i32_78
  let v169 : BitVec 32 := Scalar.muli v168 c1_i32_78
  let v170 : BitVec 32 := Scalar.addi v104 v169
  let c1_i32_80 : BitVec 32 := 1#32
  let arg15 : BitVec 32 := Scf.iv v170 c1_i32_80 k0_t4
  let c688_i32_90 : BitVec 32 := 688#32
  let v182 : BitVec 32 := Scalar.muli arg15 c688_i32_90
  v182
def k0_off16 (i : grid0.Coords) (k0_t4 : Fin (k0_t4_loop i).trips) : Fin 2 → Nat :=
  let arg2 : BitVec 32 := BitVec.ofNat 32 (i 2).val
  let c1_i32_54 : BitVec 32 := 1#32
  let v104 : BitVec 32 := Scalar.addi arg2 c1_i32_54
  let c3_i32_77 : BitVec 32 := 3#32
  let v166 : BitVec 32 := Scalar.subi c3_i32_77 v104
  let c1_i32_78 : BitVec 32 := 1#32
  let v168 : BitVec 32 := Scalar.divsi v166 c1_i32_78
  let v169 : BitVec 32 := Scalar.muli v168 c1_i32_78
  let v170 : BitVec 32 := Scalar.addi v104 v169
  let c1_i32_80 : BitVec 32 := 1#32
  let arg15 : BitVec 32 := Scf.iv v170 c1_i32_80 k0_t4
  let c688_i32_90 : BitVec 32 := 688#32
  let v182 : BitVec 32 := Scalar.muli arg15 c688_i32_90
  let v183 : BitVec 32 := v182
  let v184 : Index := Scalar.indexCast v183
  let c64_91 : Index := 64#32
  ![v184.toNat, 64]
def k0_off17 (i : grid0.Coords) (k0_t4 : Fin (k0_t4_loop i).trips) : Fin 2 → Nat :=
  let arg2 : BitVec 32 := BitVec.ofNat 32 (i 2).val
  let c1_i32_54 : BitVec 32 := 1#32
  let v104 : BitVec 32 := Scalar.addi arg2 c1_i32_54
  let c3_i32_77 : BitVec 32 := 3#32
  let v166 : BitVec 32 := Scalar.subi c3_i32_77 v104
  let c1_i32_78 : BitVec 32 := 1#32
  let v168 : BitVec 32 := Scalar.divsi v166 c1_i32_78
  let v169 : BitVec 32 := Scalar.muli v168 c1_i32_78
  let v170 : BitVec 32 := Scalar.addi v104 v169
  let c1_i32_80 : BitVec 32 := 1#32
  let arg15 : BitVec 32 := Scf.iv v170 c1_i32_80 k0_t4
  let c688_i32_90 : BitVec 32 := 688#32
  let v182 : BitVec 32 := Scalar.muli arg15 c688_i32_90
  let v183 : BitVec 32 := v182
  let v195 : Index := Scalar.indexCast v183
  let c64_95 : Index := 64#32
  ![v195.toNat, 64]
def k0_off18 (i : grid0.Coords) (k0_t4 : Fin (k0_t4_loop i).trips) : Fin 3 → Nat :=
  let c0_103 : Index := 0#32
  let arg2 : BitVec 32 := BitVec.ofNat 32 (i 2).val
  let c1_i32_54 : BitVec 32 := 1#32
  let v104 : BitVec 32 := Scalar.addi arg2 c1_i32_54
  let c3_i32_77 : BitVec 32 := 3#32
  let v166 : BitVec 32 := Scalar.subi c3_i32_77 v104
  let c1_i32_78 : BitVec 32 := 1#32
  let v168 : BitVec 32 := Scalar.divsi v166 c1_i32_78
  let v169 : BitVec 32 := Scalar.muli v168 c1_i32_78
  let v170 : BitVec 32 := Scalar.addi v104 v169
  let c1_i32_80 : BitVec 32 := 1#32
  let arg15 : BitVec 32 := Scf.iv v170 c1_i32_80 k0_t4
  let c688_i32_90 : BitVec 32 := 688#32
  let v182 : BitVec 32 := Scalar.muli arg15 c688_i32_90
  let v183 : BitVec 32 := v182
  let v223 : Index := Scalar.indexCast v183
  let c1_104 : Index := 1#32
  ![0, v223.toNat, 1]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2064x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S688x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S688x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2064x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2064x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2064x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1x2x688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2064x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S688x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S688x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1x2x688 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2064x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S4128x1024 : Shape := ⟨2, ![4128, 1024]⟩
abbrev S4128x2048 : Shape := ⟨2, ![4128, 2048]⟩
abbrev S4128x16 : Shape := ⟨2, ![4128, 16]⟩
abbrev S2x2064x16 : Shape := ⟨3, ![2, 2064, 16]⟩
abbrev S2x16x2064 : Shape := ⟨3, ![2, 16, 2064]⟩
abbrev S2x2064x16x64 : Shape := ⟨4, ![2, 2064, 16, 64]⟩
abbrev S2x16x2064x64 : Shape := ⟨4, ![2, 16, 2064, 64]⟩
abbrev S2x16x2064x2064 : Shape := ⟨4, ![2, 16, 2064, 2064]⟩
abbrev S_ : Shape := ⟨0, ![]⟩
abbrev S2x16x2064x1 : Shape := ⟨4, ![2, 16, 2064, 1]⟩
abbrev S2x16x1x2064 : Shape := ⟨4, ![2, 16, 1, 2064]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S2x16x64x2064 : Shape := ⟨4, ![2, 16, 64, 2064]⟩
abbrev S2x8x2x3x688 : Shape := ⟨5, ![2, 8, 2, 3, 688]⟩
abbrev S2x8x3x2x688 : Shape := ⟨5, ![2, 8, 3, 2, 688]⟩

abbrev nBuf : Space → Nat
  | .hbm => 123
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S4128x2048, .bf16⟩
  | .hbm, ⟨2, _⟩ => ⟨S4128x16, .f32⟩
  | .hbm, ⟨3, _⟩ => ⟨S4128x1024, .bf16⟩
  | .hbm, ⟨4, _⟩ => ⟨S2x2064x16, .f32⟩
  | .hbm, ⟨5, _⟩ => ⟨S2x16x2064, .f32⟩
  | .hbm, ⟨6, _⟩ => ⟨S4128x1024, .bf16⟩
  | .hbm, ⟨7, _⟩ => ⟨S4128x1024, .f32⟩
  | .hbm, ⟨8, _⟩ => ⟨S4128x1024, .bf16⟩
  | .hbm, ⟨9, _⟩ => ⟨S4128x1024, .f32⟩
  | .hbm, ⟨10, _⟩ => ⟨S4128x1024, .f32⟩
  | .hbm, ⟨11, _⟩ => ⟨S2x2064x16x64, .f32⟩
  | .hbm, ⟨12, _⟩ => ⟨S2x16x2064x64, .f32⟩
  | .hbm, ⟨13, _⟩ => ⟨S2x2064x16x64, .f32⟩
  | .hbm, ⟨14, _⟩ => ⟨S2x16x2064x64, .f32⟩
  | .hbm, ⟨15, _⟩ => ⟨S2x16x2064x2064, .f32⟩
  | .hbm, ⟨16, _⟩ => ⟨S_, .f32⟩
  | .hbm, ⟨17, _⟩ => ⟨S2x16x2064x2064, .f32⟩
  | .hbm, ⟨18, _⟩ => ⟨S2x16x2064x2064, .f32⟩
  | .hbm, ⟨19, _⟩ => ⟨S2x16x2064x1, .f32⟩
  | .hbm, ⟨20, _⟩ => ⟨S2x16x1x2064, .f32⟩
  | .hbm, ⟨21, _⟩ => ⟨S2x16x2064x2064, .f32⟩
  | .hbm, ⟨22, _⟩ => ⟨S2x16x2064x2064, .f32⟩
  | .hbm, ⟨23, _⟩ => ⟨S2x16x2064x2064, .f32⟩
  | .hbm, ⟨24, _⟩ => ⟨S2x16x2064x2064, .f32⟩
  | .hbm, ⟨25, _⟩ => ⟨S2064, .i32⟩
  | .hbm, ⟨26, _⟩ => ⟨S2064x1, .i32⟩
  | .hbm, ⟨27, _⟩ => ⟨S2064, .i32⟩
  | .hbm, ⟨28, _⟩ => ⟨S1x2064, .i32⟩
  | .hbm, ⟨29, _⟩ => ⟨S2064x2064, .i32⟩
  | .hbm, ⟨30, _⟩ => ⟨S2064x2064, .i32⟩
  | .hbm, ⟨31, _⟩ => ⟨S2064x2064, .i1⟩
  | .hbm, ⟨32, _⟩ => ⟨S_, .f32⟩
  | .hbm, ⟨33, _⟩ => ⟨S_, .f32⟩
  | .hbm, ⟨34, _⟩ => ⟨S2x16x2064x2064, .i1⟩
  | .hbm, ⟨35, _⟩ => ⟨S2x16x2064x2064, .f32⟩
  | .hbm, ⟨36, _⟩ => ⟨S2x16x2064x2064, .f32⟩
  | .hbm, ⟨37, _⟩ => ⟨S_, .f32⟩
  | .hbm, ⟨38, _⟩ => ⟨S2x16x2064x2064, .f32⟩
  | .hbm, ⟨39, _⟩ => ⟨S_, .f32⟩
  | .hbm, ⟨40, _⟩ => ⟨S2x16x2064, .f32⟩
  | .hbm, ⟨41, _⟩ => ⟨S2x16x2064x1, .f32⟩
  | .hbm, ⟨42, _⟩ => ⟨S2x16x2064x2064, .f32⟩
  | .hbm, ⟨43, _⟩ => ⟨S2x16x2064x2064, .i1⟩
  | .hbm, ⟨44, _⟩ => ⟨S2x16x2064x2064, .f32⟩
  | .hbm, ⟨45, _⟩ => ⟨S_, .f32⟩
  | .hbm, ⟨46, _⟩ => ⟨S2x16x2064, .f32⟩
  | .hbm, ⟨47, _⟩ => ⟨S_, .f32⟩
  | .hbm, ⟨48, _⟩ => ⟨S2x16x2064, .f32⟩
  | .hbm, ⟨49, _⟩ => ⟨S2x16x2064, .f32⟩
  | .hbm, ⟨50, _⟩ => ⟨S_, .f32⟩
  | .hbm, ⟨51, _⟩ => ⟨S2x16x2064, .f32⟩
  | .hbm, ⟨52, _⟩ => ⟨S2x16x2064, .i1⟩
  | .hbm, ⟨53, _⟩ => ⟨S_, .f32⟩
  | .hbm, ⟨54, _⟩ => ⟨S2x16x2064, .f32⟩
  | .hbm, ⟨55, _⟩ => ⟨S2x16x2064, .i1⟩
  | .hbm, ⟨56, _⟩ => ⟨S_, .f32⟩
  | .hbm, ⟨57, _⟩ => ⟨S2x16x2064, .f32⟩
  | .hbm, ⟨58, _⟩ => ⟨S_, .f32⟩
  | .hbm, ⟨59, _⟩ => ⟨S2x16x2064, .f32⟩
  | .hbm, ⟨60, _⟩ => ⟨S_, .f32⟩
  | .hbm, ⟨61, _⟩ => ⟨S2x16x2064, .f32⟩
  | .hbm, ⟨62, _⟩ => ⟨S2x16x2064, .f32⟩
  | .hbm, ⟨63, _⟩ => ⟨S2x16x2064, .f32⟩
  | .hbm, ⟨64, _⟩ => ⟨S2x16x2064x1, .f32⟩
  | .hbm, ⟨65, _⟩ => ⟨S2x16x2064x2064, .f32⟩
  | .hbm, ⟨66, _⟩ => ⟨S2x16x2064x2064, .f32⟩
  | .hbm, ⟨67, _⟩ => ⟨S2x16x2064x2064, .f32⟩
  | .hbm, ⟨68, _⟩ => ⟨S_, .f32⟩
  | .hbm, ⟨69, _⟩ => ⟨S2x16x2064, .f32⟩
  | .hbm, ⟨70, _⟩ => ⟨S2x16x2064x1, .f32⟩
  | .hbm, ⟨71, _⟩ => ⟨S2x16x2064x2064, .f32⟩
  | .hbm, ⟨72, _⟩ => ⟨S2x16x2064x2064, .f32⟩
  | .hbm, ⟨73, _⟩ => ⟨S2x16x2064x1, .f32⟩
  | .hbm, ⟨74, _⟩ => ⟨S_, .f32⟩
  | .hbm, ⟨75, _⟩ => ⟨S2x16x2064x1, .f32⟩
  | .hbm, ⟨76, _⟩ => ⟨S2x16x2064x1, .f32⟩
  | .hbm, ⟨77, _⟩ => ⟨S2x2064x16x64, .f32⟩
  | .hbm, ⟨78, _⟩ => ⟨S2x16x2064x64, .f32⟩
  | .hbm, ⟨79, _⟩ => ⟨S2x16x2064x64, .f32⟩
  | .hbm, ⟨80, _⟩ => ⟨S2x2064x16x64, .f32⟩
  | .hbm, ⟨81, _⟩ => ⟨S4128x1024, .f32⟩
  | .hbm, ⟨82, _⟩ => ⟨S4128x1024, .f32⟩
  | .hbm, ⟨83, _⟩ => ⟨S2x2064x16x64, .f32⟩
  | .hbm, ⟨84, _⟩ => ⟨S2x16x2064x64, .f32⟩
  | .hbm, ⟨85, _⟩ => ⟨S2x16x64x2064, .f32⟩
  | .hbm, ⟨86, _⟩ => ⟨S2x16x2064x64, .f32⟩
  | .hbm, ⟨87, _⟩ => ⟨S2x16x2064x2064, .f32⟩
  | .hbm, ⟨88, _⟩ => ⟨S2x2064x16x64, .f32⟩
  | .hbm, ⟨89, _⟩ => ⟨S4128x1024, .f32⟩
  | .hbm, ⟨90, _⟩ => ⟨S2x16x2064x2064, .f32⟩
  | .hbm, ⟨91, _⟩ => ⟨S2x16x2064x2064, .f32⟩
  | .hbm, ⟨92, _⟩ => ⟨S2x16x2064x2064, .f32⟩
  | .hbm, ⟨93, _⟩ => ⟨S_, .f32⟩
  | .hbm, ⟨94, _⟩ => ⟨S2x16x2064, .f32⟩
  | .hbm, ⟨95, _⟩ => ⟨S2x16x2064x1, .f32⟩
  | .hbm, ⟨96, _⟩ => ⟨S2x16x2064x1, .f32⟩
  | .hbm, ⟨97, _⟩ => ⟨S2x16x2064x2064, .f32⟩
  | .hbm, ⟨98, _⟩ => ⟨S2x16x2064x2064, .f32⟩
  | .hbm, ⟨99, _⟩ => ⟨S_, .f32⟩
  | .hbm, ⟨100, _⟩ => ⟨S2x16x2064, .f32⟩
  | .hbm, ⟨101, _⟩ => ⟨S2x16x2064x2064, .f32⟩
  | .hbm, ⟨102, _⟩ => ⟨S2x16x2064x2064, .f32⟩
  | .hbm, ⟨103, _⟩ => ⟨S2x16x2064x2064, .f32⟩
  | .hbm, ⟨104, _⟩ => ⟨S_, .f32⟩
  | .hbm, ⟨105, _⟩ => ⟨S2x16x2064x2064, .f32⟩
  | .hbm, ⟨106, _⟩ => ⟨S2x16x2064x2064, .f32⟩
  | .hbm, ⟨107, _⟩ => ⟨S_, .f32⟩
  | .hbm, ⟨108, _⟩ => ⟨S2x16x2064, .f32⟩
  | .hbm, ⟨109, _⟩ => ⟨S2x16x1x2064, .f32⟩
  | .hbm, ⟨110, _⟩ => ⟨S2x16x1x2064, .f32⟩
  | .hbm, ⟨111, _⟩ => ⟨S_, .f32⟩
  | .hbm, ⟨112, _⟩ => ⟨S2x16x2064, .f32⟩
  | .hbm, ⟨113, _⟩ => ⟨S_, .f32⟩
  | .hbm, ⟨114, _⟩ => ⟨S2x16x2064x2064, .f32⟩
  | .hbm, ⟨115, _⟩ => ⟨S2x16x2064x2064, .f32⟩
  | .hbm, ⟨116, _⟩ => ⟨S2x16x2064x64, .f32⟩
  | .hbm, ⟨117, _⟩ => ⟨S2x2064x16x64, .f32⟩
  | .hbm, ⟨118, _⟩ => ⟨S4128x1024, .f32⟩
  | .hbm, ⟨119, _⟩ => ⟨S4128x1024, .bf16⟩
  | .hbm, ⟨120, _⟩ => ⟨S4128x1024, .bf16⟩
  | .hbm, ⟨121, _⟩ => ⟨S2x8x2x3x688, .f32⟩
  | .hbm, ⟨122, _⟩ => ⟨S2x8x3x2x688, .f32⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_call0_v0 : Ref sig .tc := ⟨.hbm, 33, rfl⟩
abbrev main_v27_1 : Ref sig .tc := ⟨.hbm, 34, rfl⟩
abbrev main_call0_v2 : Ref sig .tc := ⟨.hbm, 35, rfl⟩
abbrev main_v27_0 : Ref sig .tc := ⟨.hbm, 36, rfl⟩
abbrev main_call0_cst : Ref sig .tc := ⟨.hbm, 37, rfl⟩
abbrev main_v27_2 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_12 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_call1_cst : Ref sig .tc := ⟨.hbm, 104, rfl⟩
abbrev main_call1_v0 : Ref sig .tc := ⟨.hbm, 105, rfl⟩
abbrev main_v81 : Ref sig .tc := ⟨.hbm, 106, rfl⟩
abbrev main_cst_13 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_14 : Ref sig .tc := ⟨.hbm, 111, rfl⟩
abbrev main_v85 : Ref sig .tc := ⟨.hbm, 112, rfl⟩
abbrev main_cst_15 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]

def κ : String → Option EReal := fun
  | "mask" => some ⊥
  | _ => none
-- ==== Kernel2.lean ====
abbrev S4128x1024 : Shape := ⟨2, ![4128, 1024]⟩
abbrev S2752x1024 : Shape := ⟨2, ![2752, 1024]⟩
abbrev S4128x2752 : Shape := ⟨2, ![4128, 2752]⟩
abbrev S688x1024 : Shape := ⟨2, ![688, 1024]⟩
abbrev S688x2752 : Shape := ⟨2, ![688, 2752]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .bf16⟩
  | .hbm, ⟨1, _⟩ => ⟨S2752x1024, .bf16⟩
  | .hbm, ⟨2, _⟩ => ⟨S4128x2752, .bf16⟩
  | .local _ .vmem, ⟨0, _⟩ => ⟨S688x1024, .bf16⟩
  | .local _ .vmem, ⟨1, _⟩ => ⟨S688x1024, .bf16⟩
  | .local _ .vmem, ⟨2, _⟩ => ⟨S2752x1024, .bf16⟩
  | .local _ .vmem, ⟨3, _⟩ => ⟨S688x2752, .bf16⟩
  | .local _ .vmem, ⟨4, _⟩ => ⟨S688x2752, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2752x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S688x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4128x1024 : Shape := ⟨2, ![4128, 1024]⟩
abbrev S2752x1024 : Shape := ⟨2, ![2752, 1024]⟩
abbrev S_ : Shape := ⟨0, ![]⟩
abbrev S4128x2752 : Shape := ⟨2, ![4128, 2752]⟩

abbrev nBuf : Space → Nat
  | .hbm => 9
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S2752x1024, .bf16⟩
  | .hbm, ⟨2, _⟩ => ⟨S_, .f32⟩
  | .hbm, ⟨3, _⟩ => ⟨S4128x2752, .f32⟩
  | .hbm, ⟨4, _⟩ => ⟨S2752x1024, .f32⟩
  | .hbm, ⟨5, _⟩ => ⟨S4128x1024, .f32⟩
  | .hbm, ⟨6, _⟩ => ⟨S4128x1024, .f32⟩
  | .hbm, ⟨7, _⟩ => ⟨S4128x2752, .f32⟩
  | .hbm, ⟨8, _⟩ => ⟨S4128x2752, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4128x2752 : Shape := ⟨2, ![4128, 2752]⟩
abbrev S1024x2752 : Shape := ⟨2, ![1024, 2752]⟩
abbrev S4128x1024 : Shape := ⟨2, ![4128, 1024]⟩
abbrev S688x2752 : Shape := ⟨2, ![688, 2752]⟩
abbrev S512x2752 : Shape := ⟨2, ![512, 2752]⟩
abbrev S688x512 : Shape := ⟨2, ![688, 512]⟩

abbrev nBuf : Space → Nat
  | .hbm => 5
  | .vmem => 10
  | .smem => 0
  | _ => 0

abbrev bufTy : (tb : Table) → Fin (tcTables nBuf tb) → BufTy
  | .hbm, ⟨0, _⟩ => ⟨S4128x2752, .bf16⟩
  | .hbm, ⟨1, _⟩ => ⟨S1024x2752, .bf16⟩
  | .hbm, ⟨2, _⟩ => ⟨S4128x2752, .bf16⟩
  | .hbm, ⟨3, _⟩ => ⟨S1024x2752, .bf16⟩
  | .hbm, ⟨4, _⟩ => ⟨S4128x1024, .bf16⟩
  | .local _ .vmem, ⟨0, _⟩ => ⟨S688x2752, .bf16⟩
  | .local _ .vmem, ⟨1, _⟩ => ⟨S688x2752, .bf16⟩
  | .local _ .vmem, ⟨2, _⟩ => ⟨S512x2752, .bf16⟩
  | .local _ .vmem, ⟨3, _⟩ => ⟨S512x2752, .bf16⟩
  | .local _ .vmem, ⟨4, _⟩ => ⟨S688x2752, .bf16⟩
  | .local _ .vmem, ⟨5, _⟩ => ⟨S688x2752, .bf16⟩
  | .local _ .vmem, ⟨6, _⟩ => ⟨S512x2752, .bf16⟩
  | .local _ .vmem, ⟨7, _⟩ => ⟨S512x2752, .bf16⟩
  | .local _ .vmem, ⟨8, _⟩ => ⟨S688x512, .bf16⟩
  | .local _ .vmem, ⟨9, _⟩ => ⟨S688x512, .bf16⟩
  | _, _ => ⟨S4128x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2752 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S688x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4128x2752 : Shape := ⟨2, ![4128, 2752]⟩
abbrev S1024x2752 : Shape := ⟨2, ![1024, 2752]⟩
abbrev S_ : Shape := ⟨0, ![]⟩
abbrev S4128x1024 : Shape := ⟨2, ![4128, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4128x2752, .bf16⟩
  | .hbm, ⟨1, _⟩ => ⟨S1024x2752, .bf16⟩
  | .hbm, ⟨2, _⟩ => ⟨S4128x2752, .bf16⟩
  | .hbm, ⟨3, _⟩ => ⟨S1024x2752, .bf16⟩
  | .hbm, ⟨4, _⟩ => ⟨S_, .f32⟩
  | .hbm, ⟨5, _⟩ => ⟨S4128x1024, .f32⟩
  | .hbm, ⟨6, _⟩ => ⟨S1024x2752, .f32⟩
  | .hbm, ⟨7, _⟩ => ⟨S4128x2752, .f32⟩
  | .hbm, ⟨8, _⟩ => ⟨S1024x2752, .f32⟩
  | .hbm, ⟨9, _⟩ => ⟨S4128x2752, .f32⟩
  | .hbm, ⟨10, _⟩ => ⟨S4128x2752, .f32⟩
  | .hbm, ⟨11, _⟩ => ⟨S4128x2752, .f32⟩
  | .hbm, ⟨12, _⟩ => ⟨S4128x1024, .f32⟩
  | .hbm, ⟨13, _⟩ => ⟨S4128x1024, .f32⟩
  | .hbm, ⟨14, _⟩ => ⟨S4128x1024, .f32⟩
  | .hbm, ⟨15, _⟩ => ⟨S4128x1024, .bf16⟩
  | _, _ => ⟨S4128x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S4128x2752 : Shape := ⟨2, ![4128, 2752]⟩
abbrev S4128x1024 : Shape := ⟨2, ![4128, 1024]⟩
abbrev S2752x1024 : Shape := ⟨2, ![2752, 1024]⟩
abbrev S688x2752 : Shape := ⟨2, ![688, 2752]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4128x2752, .bf16⟩
  | .hbm, ⟨1, _⟩ => ⟨S4128x1024, .bf16⟩
  | .hbm, ⟨2, _⟩ => ⟨S2752x1024, .f32⟩
  | .local _ .vmem, ⟨0, _⟩ => ⟨S688x2752, .bf16⟩
  | .local _ .vmem, ⟨1, _⟩ => ⟨S688x2752, .bf16⟩
  | .local _ .vmem, ⟨2, _⟩ => ⟨S688x1024, .bf16⟩
  | .local _ .vmem, ⟨3, _⟩ => ⟨S688x1024, .bf16⟩
  | .local _ .vmem, ⟨4, _⟩ => ⟨S2752x1024, .f32⟩
  | _, _ => ⟨S4128x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2752x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S4128x2752 : Shape := ⟨2, ![4128, 2752]⟩
abbrev S4128x1024 : Shape := ⟨2, ![4128, 1024]⟩
abbrev S_ : Shape := ⟨0, ![]⟩
abbrev S2752x1024 : Shape := ⟨2, ![2752, 1024]⟩
abbrev S1024x2752 : Shape := ⟨2, ![1024, 2752]⟩

abbrev nBuf : Space → Nat
  | .hbm => 9
  | .vmem => 0
  | .smem => 0
  | _ => 0

abbrev bufTy : (tb : Table) → Fin (tcTables nBuf tb) → BufTy
  | .hbm, ⟨0, _⟩ => ⟨S4128x2752, .bf16⟩
  | .hbm, ⟨1, _⟩ => ⟨S4128x1024, .bf16⟩
  | .hbm, ⟨2, _⟩ => ⟨S_, .f32⟩
  | .hbm, ⟨3, _⟩ => ⟨S2752x1024, .f32⟩
  | .hbm, ⟨4, _⟩ => ⟨S4128x2752, .f32⟩
  | .hbm, ⟨5, _⟩ => ⟨S4128x1024, .f32⟩
  | .hbm, ⟨6, _⟩ => ⟨S4128x1024, .f32⟩
  | .hbm, ⟨7, _⟩ => ⟨S1024x2752, .f32⟩
  | .hbm, ⟨8, _⟩ => ⟨S2752x1024, .f32⟩
  | _, _ => ⟨S4128x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4128x1024 : Shape := ⟨2, ![4128, 1024]⟩
abbrev S4128x2752 : Shape := ⟨2, ![4128, 2752]⟩
abbrev S1024x2752 : Shape := ⟨2, ![1024, 2752]⟩
abbrev S688x1024 : Shape := ⟨2, ![688, 1024]⟩
abbrev S688x2752 : Shape := ⟨2, ![688, 2752]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .bf16⟩
  | .hbm, ⟨1, _⟩ => ⟨S4128x2752, .bf16⟩
  | .hbm, ⟨2, _⟩ => ⟨S1024x2752, .f32⟩
  | .local _ .vmem, ⟨0, _⟩ => ⟨S688x1024, .bf16⟩
  | .local _ .vmem, ⟨1, _⟩ => ⟨S688x1024, .bf16⟩
  | .local _ .vmem, ⟨2, _⟩ => ⟨S688x2752, .bf16⟩
  | .local _ .vmem, ⟨3, _⟩ => ⟨S688x2752, .bf16⟩
  | .local _ .vmem, ⟨4, _⟩ => ⟨S1024x2752, .f32⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2752 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S4128x1024 : Shape := ⟨2, ![4128, 1024]⟩
abbrev S4128x2752 : Shape := ⟨2, ![4128, 2752]⟩
abbrev S_ : Shape := ⟨0, ![]⟩
abbrev S1024x2752 : Shape := ⟨2, ![1024, 2752]⟩
abbrev S2752x1024 : Shape := ⟨2, ![2752, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S4128x2752, .bf16⟩
  | .hbm, ⟨2, _⟩ => ⟨S_, .f32⟩
  | .hbm, ⟨3, _⟩ => ⟨S1024x2752, .f32⟩
  | .hbm, ⟨4, _⟩ => ⟨S4128x1024, .f32⟩
  | .hbm, ⟨5, _⟩ => ⟨S4128x2752, .f32⟩
  | .hbm, ⟨6, _⟩ => ⟨S4128x2752, .f32⟩
  | .hbm, ⟨7, _⟩ => ⟨S2752x1024, .f32⟩
  | .hbm, ⟨8, _⟩ => ⟨S1024x2752, .f32⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4128x1024 : Shape := ⟨2, ![4128, 1024]⟩
abbrev S1024x2752 : Shape := ⟨2, ![1024, 2752]⟩
abbrev S4128x2752 : Shape := ⟨2, ![4128, 2752]⟩
abbrev S688x1024 : Shape := ⟨2, ![688, 1024]⟩
abbrev S688x2752 : Shape := ⟨2, ![688, 2752]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .bf16⟩
  | .hbm, ⟨1, _⟩ => ⟨S1024x2752, .bf16⟩
  | .hbm, ⟨2, _⟩ => ⟨S4128x2752, .bf16⟩
  | .local _ .vmem, ⟨0, _⟩ => ⟨S688x1024, .bf16⟩
  | .local _ .vmem, ⟨1, _⟩ => ⟨S688x1024, .bf16⟩
  | .local _ .vmem, ⟨2, _⟩ => ⟨S1024x2752, .bf16⟩
  | .local _ .vmem, ⟨3, _⟩ => ⟨S688x2752, .bf16⟩
  | .local _ .vmem, ⟨4, _⟩ => ⟨S688x2752, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2752 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S688x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4128x1024 : Shape := ⟨2, ![4128, 1024]⟩
abbrev S1024x2752 : Shape := ⟨2, ![1024, 2752]⟩
abbrev S4128x2752 : Shape := ⟨2, ![4128, 2752]⟩

abbrev nBuf : Space → Nat
  | .hbm => 6
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x2752, .bf16⟩
  | .hbm, ⟨2, _⟩ => ⟨S4128x1024, .f32⟩
  | .hbm, ⟨3, _⟩ => ⟨S1024x2752, .f32⟩
  | .hbm, ⟨4, _⟩ => ⟨S4128x2752, .f32⟩
  | .hbm, ⟨5, _⟩ => ⟨S4128x2752, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4128x1024 : Shape := ⟨2, ![4128, 1024]⟩
abbrev S1024x1024 : Shape := ⟨2, ![1024, 1024]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .bf16⟩
  | .hbm, ⟨1, _⟩ => ⟨S4128x1024, .bf16⟩
  | .hbm, ⟨2, _⟩ => ⟨S1024x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S1024x1024, .f32⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4128x1024 : Shape := ⟨2, ![4128, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S4128x1024, .bf16⟩
  | .hbm, ⟨2, _⟩ => ⟨S_, .f32⟩
  | .hbm, ⟨3, _⟩ => ⟨S1024x1024, .f32⟩
  | .hbm, ⟨4, _⟩ => ⟨S4128x1024, .f32⟩
  | .hbm, ⟨5, _⟩ => ⟨S4128x1024, .f32⟩
  | .hbm, ⟨6, _⟩ => ⟨S4128x1024, .f32⟩
  | .hbm, ⟨7, _⟩ => ⟨S1024x1024, .f32⟩
  | .hbm, ⟨8, _⟩ => ⟨S1024x1024, .f32⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4128x1024 : Shape := ⟨2, ![4128, 1024]⟩
abbrev S1024x1024 : Shape := ⟨2, ![1024, 1024]⟩
abbrev S688x1024 : Shape := ⟨2, ![688, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S4128x1024, .bf16⟩
  | .hbm, ⟨3, _⟩ => ⟨S1024x1024, .bf16⟩
  | .hbm, ⟨4, _⟩ => ⟨S4128x1024, .bf16⟩
  | .hbm, ⟨5, _⟩ => ⟨S1024x1024, .bf16⟩
  | .hbm, ⟨6, _⟩ => ⟨S4128x1024, .bf16⟩
  | .hbm, ⟨7, _⟩ => ⟨S1024x1024, .bf16⟩
  | .hbm, ⟨8, _⟩ => ⟨S4128x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .bf16⟩
  | .local _ .vmem, ⟨4, _⟩ => ⟨S688x1024, .bf16⟩
  | .local _ .vmem, ⟨5, _⟩ => ⟨S1024x1024, .bf16⟩
  | .local _ .vmem, ⟨6, _⟩ => ⟨S688x1024, .bf16⟩
  | .local _ .vmem, ⟨7, _⟩ => ⟨S688x1024, .bf16⟩
  | .local _ .vmem, ⟨8, _⟩ => ⟨S1024x1024, .bf16⟩
  | .local _ .vmem, ⟨9, _⟩ => ⟨S688x1024, .bf16⟩
  | .local _ .vmem, ⟨10, _⟩ => ⟨S688x1024, .bf16⟩
  | .local _ .vmem, ⟨11, _⟩ => ⟨S1024x1024, .bf16⟩
  | .local _ .vmem, ⟨12, _⟩ => ⟨S688x1024, .bf16⟩
  | .local _ .vmem, ⟨13, _⟩ => ⟨S688x1024, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S4128x1024 : Shape := ⟨2, ![4128, 1024]⟩
abbrev S1024x1024 : Shape := ⟨2, ![1024, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S4128x1024, .bf16⟩
  | .hbm, ⟨3, _⟩ => ⟨S1024x1024, .bf16⟩
  | .hbm, ⟨4, _⟩ => ⟨S4128x1024, .bf16⟩
  | .hbm, ⟨5, _⟩ => ⟨S1024x1024, .bf16⟩
  | .hbm, ⟨6, _⟩ => ⟨S4128x1024, .bf16⟩
  | .hbm, ⟨7, _⟩ => ⟨S1024x1024, .bf16⟩
  | .hbm, ⟨8, _⟩ => ⟨S4128x1024, .f32⟩
  | .hbm, ⟨9, _⟩ => ⟨S4128x1024, .f32⟩
  | .hbm, ⟨10, _⟩ => ⟨S4128x1024, .f32⟩
  | .hbm, ⟨11, _⟩ => ⟨S4128x1024, .f32⟩
  | .hbm, ⟨12, _⟩ => ⟨S_, .f32⟩
  | .hbm, ⟨13, _⟩ => ⟨S4128x1024, .f32⟩
  | .hbm, ⟨14, _⟩ => ⟨S1024x1024, .f32⟩
  | .hbm, ⟨15, _⟩ => ⟨S4128x1024, .f32⟩
  | .hbm, ⟨16, _⟩ => ⟨S1024x1024, .f32⟩
  | .hbm, ⟨17, _⟩ => ⟨S4128x1024, .f32⟩
  | .hbm, ⟨18, _⟩ => ⟨S1024x1024, .f32⟩
  | .hbm, ⟨19, _⟩ => ⟨S4128x1024, .f32⟩
  | .hbm, ⟨20, _⟩ => ⟨S1024x1024, .f32⟩
  | .hbm, ⟨21, _⟩ => ⟨S4128x1024, .f32⟩
  | .hbm, ⟨22, _⟩ => ⟨S4128x1024, .f32⟩
  | .hbm, ⟨23, _⟩ => ⟨S4128x1024, .f32⟩
  | .hbm, ⟨24, _⟩ => ⟨S4128x1024, .f32⟩
  | .hbm, ⟨25, _⟩ => ⟨S4128x1024, .f32⟩
  | .hbm, ⟨26, _⟩ => ⟨S4128x1024, .f32⟩
  | .hbm, ⟨27, _⟩ => ⟨S4128x1024, .f32⟩
  | .hbm, ⟨28, _⟩ => ⟨S4128x1024, .f32⟩
  | .hbm, ⟨29, _⟩ => ⟨S4128x1024, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel9.lean ====
abbrev S4128x1024 : Shape := ⟨2, ![4128, 1024]⟩
abbrev S1024x4096 : Shape := ⟨2, ![1024, 4096]⟩
abbrev S4128x4096 : Shape := ⟨2, ![4128, 4096]⟩
abbrev S688x1024 : Shape := ⟨2, ![688, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4128x1024, .bf16⟩
  | .hbm, ⟨1, _⟩ => ⟨S1024x4096, .bf16⟩
  | .hbm, ⟨2, _⟩ => ⟨S4128x4096, .f32⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S1024x1024, .bf16⟩
  | .local _ .vmem, ⟨4, _⟩ => ⟨S688x1024, .f32⟩
  | .local _ .vmem, ⟨5, _⟩ => ⟨S688x1024, .f32⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4128x1024 : Shape := ⟨2, ![4128, 1024]⟩
abbrev S1024x4096 : Shape := ⟨2, ![1024, 4096]⟩
abbrev S4128x4096 : Shape := ⟨2, ![4128, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x4096, .bf16⟩
  | .hbm, ⟨2, _⟩ => ⟨S4128x1024, .f32⟩
  | .hbm, ⟨3, _⟩ => ⟨S1024x4096, .f32⟩
  | .hbm, ⟨4, _⟩ => ⟨S4128x4096, .f32⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4128x1024 : Shape := ⟨2, ![4128, 1024]⟩
abbrev S1024x2048 : Shape := ⟨2, ![1024, 2048]⟩
abbrev S4128x2048 : Shape := ⟨2, ![4128, 2048]⟩
abbrev S688x1024 : Shape := ⟨2, ![688, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4128x1024, .bf16⟩
  | .hbm, ⟨1, _⟩ => ⟨S1024x2048, .bf16⟩
  | .hbm, ⟨2, _⟩ => ⟨S4128x2048, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S1024x1024, .bf16⟩
  | .local _ .vmem, ⟨4, _⟩ => ⟨S688x1024, .bf16⟩
  | .local _ .vmem, ⟨5, _⟩ => ⟨S688x1024, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4128x1024 : Shape := ⟨2, ![4128, 1024]⟩
abbrev S1024x2048 : Shape := ⟨2, ![1024, 2048]⟩
abbrev S4128x2048 : Shape := ⟨2, ![4128, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x2048, .bf16⟩
  | .hbm, ⟨2, _⟩ => ⟨S4128x1024, .f32⟩
  | .hbm, ⟨3, _⟩ => ⟨S1024x2048, .f32⟩
  | .hbm, ⟨4, _⟩ => ⟨S4128x2048, .f32⟩
  | .hbm, ⟨5, _⟩ => ⟨S4128x2048, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S4128x1024 : Shape := ⟨2, ![4128, 1024]⟩
abbrev S1024x1024 : Shape := ⟨2, ![1024, 1024]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S4128x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .bf16⟩
  | .local _ .vmem, ⟨4, _⟩ => ⟨S688x1024, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4128x1024 : Shape := ⟨2, ![4128, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S_, .f32⟩
  | .hbm, ⟨3, _⟩ => ⟨S4128x1024, .f32⟩
  | .hbm, ⟨4, _⟩ => ⟨S1024x1024, .f32⟩
  | .hbm, ⟨5, _⟩ => ⟨S4128x1024, .f32⟩
  | .hbm, ⟨6, _⟩ => ⟨S4128x1024, .f32⟩
  | .hbm, ⟨7, _⟩ => ⟨S4128x1024, .f32⟩
  | .hbm, ⟨8, _⟩ => ⟨S4128x1024, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4128x1024 : Shape := ⟨2, ![4128, 1024]⟩
abbrev S1024x1024 : Shape := ⟨2, ![1024, 1024]⟩
abbrev S4128x128 : Shape := ⟨2, ![4128, 128]⟩
abbrev S1024x128 : Shape := ⟨2, ![1024, 128]⟩
abbrev S688x1024 : Shape := ⟨2, ![688, 1024]⟩
abbrev S688x128 : Shape := ⟨2, ![688, 128]⟩

abbrev nBuf : Space → Nat
  | .hbm => 7
  | .vmem => 11
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S4128x1024, .bf16⟩
  | .hbm, ⟨3, _⟩ => ⟨S1024x1024, .bf16⟩
  | .hbm, ⟨4, _⟩ => ⟨S4128x128, .bf16⟩
  | .hbm, ⟨5, _⟩ => ⟨S1024x128, .bf16⟩
  | .hbm, ⟨6, _⟩ => ⟨S4128x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .bf16⟩
  | .local _ .vmem, ⟨4, _⟩ => ⟨S688x1024, .bf16⟩
  | .local _ .vmem, ⟨5, _⟩ => ⟨S1024x1024, .bf16⟩
  | .local _ .vmem, ⟨6, _⟩ => ⟨S688x128, .bf16⟩
  | .local _ .vmem, ⟨7, _⟩ => ⟨S688x128, .bf16⟩
  | .local _ .vmem, ⟨8, _⟩ => ⟨S1024x128, .bf16⟩
  | .local _ .vmem, ⟨9, _⟩ => ⟨S688x1024, .bf16⟩
  | .local _ .vmem, ⟨10, _⟩ => ⟨S688x1024, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S688x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S4128x1024 : Shape := ⟨2, ![4128, 1024]⟩
abbrev S1024x1024 : Shape := ⟨2, ![1024, 1024]⟩
abbrev S4128x128 : Shape := ⟨2, ![4128, 128]⟩
abbrev S1024x128 : Shape := ⟨2, ![1024, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S4128x1024, .bf16⟩
  | .hbm, ⟨3, _⟩ => ⟨S1024x1024, .bf16⟩
  | .hbm, ⟨4, _⟩ => ⟨S4128x128, .bf16⟩
  | .hbm, ⟨5, _⟩ => ⟨S1024x128, .bf16⟩
  | .hbm, ⟨6, _⟩ => ⟨S_, .f32⟩
  | .hbm, ⟨7, _⟩ => ⟨S4128x1024, .f32⟩
  | .hbm, ⟨8, _⟩ => ⟨S1024x1024, .f32⟩
  | .hbm, ⟨9, _⟩ => ⟨S4128x1024, .f32⟩
  | .hbm, ⟨10, _⟩ => ⟨S1024x1024, .f32⟩
  | .hbm, ⟨11, _⟩ => ⟨S4128x1024, .f32⟩
  | .hbm, ⟨12, _⟩ => ⟨S1024x128, .f32⟩
  | .hbm, ⟨13, _⟩ => ⟨S4128x128, .f32⟩
  | .hbm, ⟨14, _⟩ => ⟨S4128x1024, .f32⟩
  | .hbm, ⟨15, _⟩ => ⟨S4128x1024, .f32⟩
  | .hbm, ⟨16, _⟩ => ⟨S4128x128, .f32⟩
  | .hbm, ⟨17, _⟩ => ⟨S4128x1024, .f32⟩
  | .hbm, ⟨18, _⟩ => ⟨S4128x1024, .f32⟩
  | .hbm, ⟨19, _⟩ => ⟨S4128x1024, .f32⟩
  | .hbm, ⟨20, _⟩ => ⟨S4128x1024, .f32⟩
  | .hbm, ⟨21, _⟩ => ⟨S4128x1024, .f32⟩
  | .hbm, ⟨22, _⟩ => ⟨S4128x1024, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel13.lean ====
abbrev S4128x1024 : Shape := ⟨2, ![4128, 1024]⟩
abbrev S1024x1024 : Shape := ⟨2, ![1024, 1024]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S4128x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .bf16⟩
  | .local _ .vmem, ⟨4, _⟩ => ⟨S688x1024, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4128x1024 : Shape := ⟨2, ![4128, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S4128x1024, .f32⟩
  | .hbm, ⟨3, _⟩ => ⟨S1024x1024, .f32⟩
  | .hbm, ⟨4, _⟩ => ⟨S4128x1024, .f32⟩
  | .hbm, ⟨5, _⟩ => ⟨S4128x1024, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4128x1024 : Shape := ⟨2, ![4128, 1024]⟩
abbrev S1024x1024 : Shape := ⟨2, ![1024, 1024]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .f32⟩
  | .hbm, ⟨1, _⟩ => ⟨S1024x1024, .bf16⟩
  | .hbm, ⟨2, _⟩ => ⟨S4128x1024, .bf16⟩
  | .local _ .vmem, ⟨0, _⟩ => ⟨S688x1024, .f32⟩
  | .local _ .vmem, ⟨1, _⟩ => ⟨S688x1024, .f32⟩
  | .local _ .vmem, ⟨2, _⟩ => ⟨S1024x1024, .bf16⟩
  | .local _ .vmem, ⟨3, _⟩ => ⟨S688x1024, .bf16⟩
  | .local _ .vmem, ⟨4, _⟩ => ⟨S688x1024, .bf16⟩
  | _, _ => ⟨S4128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4128x1024 : Shape := ⟨2, ![4128, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4128x1024, .f32⟩
  | .hbm, ⟨1, _⟩ => ⟨S1024x1024, .bf16⟩
  | .hbm, ⟨2, _⟩ => ⟨S_, .f32⟩
  | .hbm, ⟨3, _⟩ => ⟨S4128x1024, .f32⟩
  | .hbm, ⟨4, _⟩ => ⟨S1024x1024, .f32⟩
  | .hbm, ⟨5, _⟩ => ⟨S4128x1024, .f32⟩
  | .hbm, ⟨6, _⟩ => ⟨S4128x1024, .f32⟩
  | .hbm, ⟨7, _⟩ => ⟨S4128x1024, .bf16⟩
  | _, _ => ⟨S4128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4128x1024 : Shape := ⟨2, ![4128, 1024]⟩
abbrev S1024x1024 : Shape := ⟨2, ![1024, 1024]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .bf16⟩
  | .hbm, ⟨1, _⟩ => ⟨S4128x1024, .f32⟩
  | .hbm, ⟨2, _⟩ => ⟨S1024x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .f32⟩
  | .local _ .vmem, ⟨3, _⟩ => ⟨S688x1024, .f32⟩
  | .local _ .vmem, ⟨4, _⟩ => ⟨S1024x1024, .f32⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4128x1024 : Shape := ⟨2, ![4128, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S4128x1024, .f32⟩
  | .hbm, ⟨2, _⟩ => ⟨S_, .f32⟩
  | .hbm, ⟨3, _⟩ => ⟨S1024x1024, .f32⟩
  | .hbm, ⟨4, _⟩ => ⟨S4128x1024, .f32⟩
  | .hbm, ⟨5, _⟩ => ⟨S4128x1024, .f32⟩
  | .hbm, ⟨6, _⟩ => ⟨S1024x1024, .f32⟩
  | .hbm, ⟨7, _⟩ => ⟨S1024x1024, .f32⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4128x1024 : Shape := ⟨2, ![4128, 1024]⟩
abbrev S1024x1024 : Shape := ⟨2, ![1024, 1024]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .f32⟩
  | .hbm, ⟨1, _⟩ => ⟨S4128x1024, .bf16⟩
  | .hbm, ⟨2, _⟩ => ⟨S1024x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .bf16⟩
  | .local _ .vmem, ⟨3, _⟩ => ⟨S688x1024, .bf16⟩
  | .local _ .vmem, ⟨4, _⟩ => ⟨S1024x1024, .f32⟩
  | _, _ => ⟨S4128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4128x1024 : Shape := ⟨2, ![4128, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4128x1024, .f32⟩
  | .hbm, ⟨1, _⟩ => ⟨S4128x1024, .bf16⟩
  | .hbm, ⟨2, _⟩ => ⟨S_, .f32⟩
  | .hbm, ⟨3, _⟩ => ⟨S1024x1024, .f32⟩
  | .hbm, ⟨4, _⟩ => ⟨S4128x1024, .f32⟩
  | .hbm, ⟨5, _⟩ => ⟨S4128x1024, .f32⟩
  | .hbm, ⟨6, _⟩ => ⟨S1024x1024, .f32⟩
  | .hbm, ⟨7, _⟩ => ⟨S1024x1024, .f32⟩
  | _, _ => ⟨S4128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4128x1024 : Shape := ⟨2, ![4128, 1024]⟩
abbrev S4128x128 : Shape := ⟨2, ![4128, 128]⟩
abbrev S1024x128 : Shape := ⟨2, ![1024, 128]⟩
abbrev S688x1024 : Shape := ⟨2, ![688, 1024]⟩
abbrev S688x128 : Shape := ⟨2, ![688, 128]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .bf16⟩
  | .hbm, ⟨1, _⟩ => ⟨S4128x128, .bf16⟩
  | .hbm, ⟨2, _⟩ => ⟨S1024x128, .f32⟩
  | .local _ .vmem, ⟨0, _⟩ => ⟨S688x1024, .bf16⟩
  | .local _ .vmem, ⟨1, _⟩ => ⟨S688x1024, .bf16⟩
  | .local _ .vmem, ⟨2, _⟩ => ⟨S688x128, .bf16⟩
  | .local _ .vmem, ⟨3, _⟩ => ⟨S688x128, .bf16⟩
  | .local _ .vmem, ⟨4, _⟩ => ⟨S1024x128, .f32⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4128x1024 : Shape := ⟨2, ![4128, 1024]⟩
abbrev S4128x128 : Shape := ⟨2, ![4128, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S4128x128, .bf16⟩
  | .hbm, ⟨2, _⟩ => ⟨S_, .f32⟩
  | .hbm, ⟨3, _⟩ => ⟨S1024x128, .f32⟩
  | .hbm, ⟨4, _⟩ => ⟨S4128x1024, .f32⟩
  | .hbm, ⟨5, _⟩ => ⟨S4128x128, .f32⟩
  | .hbm, ⟨6, _⟩ => ⟨S4128x128, .f32⟩
  | .hbm, ⟨7, _⟩ => ⟨S128x1024, .f32⟩
  | .hbm, ⟨8, _⟩ => ⟨S1024x128, .f32⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S4128x2752 : Shape := ⟨2, ![4128, 2752]⟩
abbrev S2752x1024 : Shape := ⟨2, ![2752, 1024]⟩
abbrev S1x1024 : Shape := ⟨2, ![1, 1024]⟩
abbrev S4128x1024 : Shape := ⟨2, ![4128, 1024]⟩
abbrev S688x2752 : Shape := ⟨2, ![688, 2752]⟩
abbrev S688x1024 : Shape := ⟨2, ![688, 1024]⟩
abbrev S688 : Shape := ⟨1, ![688]⟩
abbrev S688x1 : Shape := ⟨2, ![688, 1]⟩

abbrev nBuf : Space → Nat
  | .hbm => 6
  | .vmem => 10
  | .smem => 0
  | _ => 0

abbrev bufTy : (tb : Table) → Fin (tcTables nBuf tb) → BufTy
  | .hbm, ⟨0, _⟩ => ⟨S4128x2752, .bf16⟩
  | .hbm, ⟨1, _⟩ => ⟨S2752x1024, .bf16⟩
  | .hbm, ⟨2, _⟩ => ⟨S1x1024, .f32⟩
  | .hbm, ⟨3, _⟩ => ⟨S4128x1024, .f32⟩
  | .hbm, ⟨4, _⟩ => ⟨S4128x1024, .f32⟩
  | .hbm, ⟨5, _⟩ => ⟨S4128x1024, .f32⟩
  | .local _ .vmem, ⟨0, _⟩ => ⟨S688x2752, .bf16⟩
  | .local _ .vmem, ⟨1, _⟩ => ⟨S688x2752, .bf16⟩
  | .local _ .vmem, ⟨2, _⟩ => ⟨S2752x1024, .bf16⟩
  | .local _ .vmem, ⟨3, _⟩ => ⟨S1x1024, .f32⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | _, _ => ⟨S4128x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2752x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S4128x2752 : Shape := ⟨2, ![4128, 2752]⟩
abbrev S2752x1024 : Shape := ⟨2, ![2752, 1024]⟩
abbrev S1x1024 : Shape := ⟨2, ![1, 1024]⟩
abbrev S4128x1024 : Shape := ⟨2, ![4128, 1024]⟩
abbrev S1024 : Shape := ⟨1, ![1024]⟩
abbrev S_ : Shape := ⟨0, ![]⟩
abbrev S4128 : Shape := ⟨1, ![4128]⟩
abbrev S4128x1 : Shape := ⟨2, ![4128, 1]⟩

abbrev nBuf : Space → Nat
  | .hbm => 25
  | .vmem => 0
  | .smem => 0
  | _ => 0

abbrev bufTy : (tb : Table) → Fin (tcTables nBuf tb) → BufTy
  | .hbm, ⟨0, _⟩ => ⟨S4128x2752, .bf16⟩
  | .hbm, ⟨1, _⟩ => ⟨S2752x1024, .bf16⟩
  | .hbm, ⟨2, _⟩ => ⟨S1x1024, .f32⟩
  | .hbm, ⟨3, _⟩ => ⟨S4128x1024, .f32⟩
  | .hbm, ⟨4, _⟩ => ⟨S4128x2752, .f32⟩
  | .hbm, ⟨5, _⟩ => ⟨S2752x1024, .f32⟩
  | .hbm, ⟨6, _⟩ => ⟨S4128x1024, .f32⟩
  | .hbm, ⟨7, _⟩ => ⟨S1024, .f32⟩
  | .hbm, ⟨8, _⟩ => ⟨S4128x1024, .f32⟩
  | .hbm, ⟨9, _⟩ => ⟨S_, .f32⟩
  | .hbm, ⟨10, _⟩ => ⟨S4128, .f32⟩
  | .hbm, ⟨11, _⟩ => ⟨S4128x1, .f32⟩
  | .hbm, ⟨12, _⟩ => ⟨S_, .f32⟩
  | .hbm, ⟨13, _⟩ => ⟨S4128x1, .f32⟩
  | .hbm, ⟨14, _⟩ => ⟨S4128x1, .f32⟩
  | .hbm, ⟨15, _⟩ => ⟨S_, .f32⟩
  | .hbm, ⟨16, _⟩ => ⟨S4128x1, .f32⟩
  | .hbm, ⟨17, _⟩ => ⟨S4128x1, .f32⟩
  | .hbm, ⟨18, _⟩ => ⟨S4128x1, .f32⟩
  | .hbm, ⟨19, _⟩ => ⟨S4128x1024, .f32⟩
  | .hbm, ⟨20, _⟩ => ⟨S4128x1024, .f32⟩
  | .hbm, ⟨21, _⟩ => ⟨S1x1024, .f32⟩
  | .hbm, ⟨22, _⟩ => ⟨S4128x1024, .f32⟩
  | .hbm, ⟨23, _⟩ => ⟨S4128x1024, .f32⟩
  | .hbm, ⟨24, _⟩ => ⟨S4128x1024, .f32⟩
  | _, _ => ⟨S4128x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel19.lean ====
abbrev S4128x2752 : Shape := ⟨2, ![4128, 2752]⟩
abbrev S2752x1024 : Shape := ⟨2, ![2752, 1024]⟩
abbrev S1x1024 : Shape := ⟨2, ![1, 1024]⟩
abbrev S4128x1024 : Shape := ⟨2, ![4128, 1024]⟩
abbrev S688x2752 : Shape := ⟨2, ![688, 2752]⟩
abbrev S688x1024 : Shape := ⟨2, ![688, 1024]⟩
abbrev S688 : Shape := ⟨1, ![688]⟩
abbrev S688x1 : Shape := ⟨2, ![688, 1]⟩

abbrev nBuf : Space → Nat
  | .hbm => 10
  | .vmem => 16
  | .smem => 0
  | _ => 0

abbrev bufTy : (tb : Table) → Fin (tcTables nBuf tb) → BufTy
  | .hbm, ⟨0, _⟩ => ⟨S4128x2752, .bf16⟩
  | .hbm, ⟨1, _⟩ => ⟨S2752x1024, .bf16⟩
  | .hbm, ⟨2, _⟩ => ⟨S1x1024, .f32⟩
  | .hbm, ⟨3, _⟩ => ⟨S4128x1024, .f32⟩
  | .hbm, ⟨4, _⟩ => ⟨S1x1024, .f32⟩
  | .hbm, ⟨5, _⟩ => ⟨S1x1024, .f32⟩
  | .hbm, ⟨6, _⟩ => ⟨S4128x1024, .f32⟩
  | .hbm, ⟨7, _⟩ => ⟨S4128x1024, .f32⟩
  | .hbm, ⟨8, _⟩ => ⟨S4128x1024, .bf16⟩
  | .hbm, ⟨9, _⟩ => ⟨S4128x1024, .bf16⟩
  | .local _ .vmem, ⟨0, _⟩ => ⟨S688x2752, .bf16⟩
  | .local _ .vmem, ⟨1, _⟩ => ⟨S688x2752, .bf16⟩
  | .local _ .vmem, ⟨2, _⟩ => ⟨S2752x1024, .bf16⟩
  | .local _ .vmem, ⟨3, _⟩ => ⟨S1x1024, .f32⟩
  | .local _ .vmem, ⟨4, _⟩ => ⟨S688x1024, .f32⟩
  | .local _ .vmem, ⟨5, _⟩ => ⟨S688x1024, .f32⟩
  | .local _ .vmem, ⟨6, _⟩ => ⟨S1x1024, .f32⟩
  | .local _ .vmem, ⟨7, _⟩ => ⟨S1x1024, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .f32⟩
  | .local _ .vmem, ⟨12, _⟩ => ⟨S688x1024, .bf16⟩
  | .local _ .vmem, ⟨13, _⟩ => ⟨S688x1024, .bf16⟩
  | .local _ .vmem, ⟨14, _⟩ => ⟨S688x1024, .bf16⟩
  | .local _ .vmem, ⟨15, _⟩ => ⟨S688x1024, .bf16⟩
  | _, _ => ⟨S4128x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2752x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference19Ideal.lean ====
abbrev S4128x2752 : Shape := ⟨2, ![4128, 2752]⟩
abbrev S2752x1024 : Shape := ⟨2, ![2752, 1024]⟩
abbrev S1x1024 : Shape := ⟨2, ![1, 1024]⟩
abbrev S4128x1024 : Shape := ⟨2, ![4128, 1024]⟩
abbrev S1024 : Shape := ⟨1, ![1024]⟩
abbrev S_ : Shape := ⟨0, ![]⟩
abbrev S4128 : Shape := ⟨1, ![4128]⟩
abbrev S4128x1 : Shape := ⟨2, ![4128, 1]⟩

abbrev nBuf : Space → Nat
  | .hbm => 63
  | .vmem => 0
  | .smem => 0
  | _ => 0

abbrev bufTy : (tb : Table) → Fin (tcTables nBuf tb) → BufTy
  | .hbm, ⟨0, _⟩ => ⟨S4128x2752, .bf16⟩
  | .hbm, ⟨1, _⟩ => ⟨S2752x1024, .bf16⟩
  | .hbm, ⟨2, _⟩ => ⟨S1x1024, .f32⟩
  | .hbm, ⟨3, _⟩ => ⟨S4128x1024, .f32⟩
  | .hbm, ⟨4, _⟩ => ⟨S1x1024, .f32⟩
  | .hbm, ⟨5, _⟩ => ⟨S1x1024, .f32⟩
  | .hbm, ⟨6, _⟩ => ⟨S4128x2752, .f32⟩
  | .hbm, ⟨7, _⟩ => ⟨S2752x1024, .f32⟩
  | .hbm, ⟨8, _⟩ => ⟨S4128x1024, .f32⟩
  | .hbm, ⟨9, _⟩ => ⟨S1024, .f32⟩
  | .hbm, ⟨10, _⟩ => ⟨S4128x1024, .f32⟩
  | .hbm, ⟨11, _⟩ => ⟨S_, .f32⟩
  | .hbm, ⟨12, _⟩ => ⟨S4128, .f32⟩
  | .hbm, ⟨13, _⟩ => ⟨S4128x1, .f32⟩
  | .hbm, ⟨14, _⟩ => ⟨S_, .f32⟩
  | .hbm, ⟨15, _⟩ => ⟨S4128x1, .f32⟩
  | .hbm, ⟨16, _⟩ => ⟨S4128x1, .f32⟩
  | .hbm, ⟨17, _⟩ => ⟨S_, .f32⟩
  | .hbm, ⟨18, _⟩ => ⟨S4128x1, .f32⟩
  | .hbm, ⟨19, _⟩ => ⟨S4128x1, .f32⟩
  | .hbm, ⟨20, _⟩ => ⟨S4128x1, .f32⟩
  | .hbm, ⟨21, _⟩ => ⟨S4128x1024, .f32⟩
  | .hbm, ⟨22, _⟩ => ⟨S4128x1024, .f32⟩
  | .hbm, ⟨23, _⟩ => ⟨S1x1024, .f32⟩
  | .hbm, ⟨24, _⟩ => ⟨S4128x1024, .f32⟩
  | .hbm, ⟨25, _⟩ => ⟨S4128x1024, .f32⟩
  | .hbm, ⟨26, _⟩ => ⟨S4128x1024, .f32⟩
  | .hbm, ⟨27, _⟩ => ⟨S1024, .f32⟩
  | .hbm, ⟨28, _⟩ => ⟨S4128x1024, .f32⟩
  | .hbm, ⟨29, _⟩ => ⟨S_, .f32⟩
  | .hbm, ⟨30, _⟩ => ⟨S4128, .f32⟩
  | .hbm, ⟨31, _⟩ => ⟨S4128x1, .f32⟩
  | .hbm, ⟨32, _⟩ => ⟨S_, .f32⟩
  | .hbm, ⟨33, _⟩ => ⟨S4128x1, .f32⟩
  | .hbm, ⟨34, _⟩ => ⟨S4128x1, .f32⟩
  | .hbm, ⟨35, _⟩ => ⟨S_, .f32⟩
  | .hbm, ⟨36, _⟩ => ⟨S4128x1, .f32⟩
  | .hbm, ⟨37, _⟩ => ⟨S4128x1, .f32⟩
  | .hbm, ⟨38, _⟩ => ⟨S4128x1, .f32⟩
  | .hbm, ⟨39, _⟩ => ⟨S4128x1024, .f32⟩
  | .hbm, ⟨40, _⟩ => ⟨S4128x1024, .f32⟩
  | .hbm, ⟨41, _⟩ => ⟨S1x1024, .f32⟩
  | .hbm, ⟨42, _⟩ => ⟨S4128x1024, .f32⟩
  | .hbm, ⟨43, _⟩ => ⟨S4128x1024, .f32⟩
  | .hbm, ⟨44, _⟩ => ⟨S4128x1024, .bf16⟩
  | .hbm, ⟨45, _⟩ => ⟨S1024, .f32⟩
  | .hbm, ⟨46, _⟩ => ⟨S4128x1024, .f32⟩
  | .hbm, ⟨47, _⟩ => ⟨S_, .f32⟩
  | .hbm, ⟨48, _⟩ => ⟨S4128, .f32⟩
  | .hbm, ⟨49, _⟩ => ⟨S4128x1, .f32⟩
  | .hbm, ⟨50, _⟩ => ⟨S_, .f32⟩
  | .hbm, ⟨51, _⟩ => ⟨S4128x1, .f32⟩
  | .hbm, ⟨52, _⟩ => ⟨S4128x1, .f32⟩
  | .hbm, ⟨53, _⟩ => ⟨S_, .f32⟩
  | .hbm, ⟨54, _⟩ => ⟨S4128x1, .f32⟩
  | .hbm, ⟨55, _⟩ => ⟨S4128x1, .f32⟩
  | .hbm, ⟨56, _⟩ => ⟨S4128x1, .f32⟩
  | .hbm, ⟨57, _⟩ => ⟨S4128x1024, .f32⟩
  | .hbm, ⟨58, _⟩ => ⟨S4128x1024, .f32⟩
  | .hbm, ⟨59, _⟩ => ⟨S1x1024, .f32⟩
  | .hbm, ⟨60, _⟩ => ⟨S4128x1024, .f32⟩
  | .hbm, ⟨61, _⟩ => ⟨S4128x1024, .f32⟩
  | .hbm, ⟨62, _⟩ => ⟨S4128x1024, .bf16⟩
  | _, _ => ⟨S4128x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel20.lean ====
abbrev S4128x1024 : Shape := ⟨2, ![4128, 1024]⟩
abbrev S1024x1024 : Shape := ⟨2, ![1024, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 8
  | .vmem => 13
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S1x1024, .f32⟩
  | .hbm, ⟨3, _⟩ => ⟨S4128x1024, .f32⟩
  | .hbm, ⟨4, _⟩ => ⟨S1x1024, .f32⟩
  | .hbm, ⟨5, _⟩ => ⟨S4128x1024, .f32⟩
  | .hbm, ⟨6, _⟩ => ⟨S4128x1024, .f32⟩
  | .hbm, ⟨7, _⟩ => ⟨S4128x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S1x1024, .f32⟩
  | .local _ .vmem, ⟨4, _⟩ => ⟨S688x1024, .f32⟩
  | .local _ .vmem, ⟨5, _⟩ => ⟨S688x1024, .f32⟩
  | .local _ .vmem, ⟨6, _⟩ => ⟨S1x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .bf16⟩
  | .local _ .vmem, ⟨12, _⟩ => ⟨S688x1024, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S4128x1024 : Shape := ⟨2, ![4128, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4128 : Shape := ⟨1, ![4128]⟩
abbrev S4128x1 : Shape := ⟨2, ![4128, 1]⟩

abbrev nBuf : Space → Nat
  | .hbm => 44
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S1x1024, .f32⟩
  | .hbm, ⟨3, _⟩ => ⟨S4128x1024, .f32⟩
  | .hbm, ⟨4, _⟩ => ⟨S1x1024, .f32⟩
  | .hbm, ⟨5, _⟩ => ⟨S4128x1024, .f32⟩
  | .hbm, ⟨6, _⟩ => ⟨S1024x1024, .f32⟩
  | .hbm, ⟨7, _⟩ => ⟨S4128x1024, .f32⟩
  | .hbm, ⟨8, _⟩ => ⟨S1024, .f32⟩
  | .hbm, ⟨9, _⟩ => ⟨S4128x1024, .f32⟩
  | .hbm, ⟨10, _⟩ => ⟨S_, .f32⟩
  | .hbm, ⟨11, _⟩ => ⟨S4128, .f32⟩
  | .hbm, ⟨12, _⟩ => ⟨S4128x1, .f32⟩
  | .hbm, ⟨13, _⟩ => ⟨S_, .f32⟩
  | .hbm, ⟨14, _⟩ => ⟨S4128x1, .f32⟩
  | .hbm, ⟨15, _⟩ => ⟨S4128x1, .f32⟩
  | .hbm, ⟨16, _⟩ => ⟨S_, .f32⟩
  | .hbm, ⟨17, _⟩ => ⟨S4128x1, .f32⟩
  | .hbm, ⟨18, _⟩ => ⟨S4128x1, .f32⟩
  | .hbm, ⟨19, _⟩ => ⟨S4128x1, .f32⟩
  | .hbm, ⟨20, _⟩ => ⟨S4128x1024, .f32⟩
  | .hbm, ⟨21, _⟩ => ⟨S4128x1024, .f32⟩
  | .hbm, ⟨22, _⟩ => ⟨S1x1024, .f32⟩
  | .hbm, ⟨23, _⟩ => ⟨S4128x1024, .f32⟩
  | .hbm, ⟨24, _⟩ => ⟨S4128x1024, .f32⟩
  | .hbm, ⟨25, _⟩ => ⟨S4128x1024, .f32⟩
  | .hbm, ⟨26, _⟩ => ⟨S1024, .f32⟩
  | .hbm, ⟨27, _⟩ => ⟨S4128x1024, .f32⟩
  | .hbm, ⟨28, _⟩ => ⟨S_, .f32⟩
  | .hbm, ⟨29, _⟩ => ⟨S4128, .f32⟩
  | .hbm, ⟨30, _⟩ => ⟨S4128x1, .f32⟩
  | .hbm, ⟨31, _⟩ => ⟨S_, .f32⟩
  | .hbm, ⟨32, _⟩ => ⟨S4128x1, .f32⟩
  | .hbm, ⟨33, _⟩ => ⟨S4128x1, .f32⟩
  | .hbm, ⟨34, _⟩ => ⟨S_, .f32⟩
  | .hbm, ⟨35, _⟩ => ⟨S4128x1, .f32⟩
  | .hbm, ⟨36, _⟩ => ⟨S4128x1, .f32⟩
  | .hbm, ⟨37, _⟩ => ⟨S4128x1, .f32⟩
  | .hbm, ⟨38, _⟩ => ⟨S4128x1024, .f32⟩
  | .hbm, ⟨39, _⟩ => ⟨S4128x1024, .f32⟩
  | .hbm, ⟨40, _⟩ => ⟨S1x1024, .f32⟩
  | .hbm, ⟨41, _⟩ => ⟨S4128x1024, .f32⟩
  | .hbm, ⟨42, _⟩ => ⟨S4128x1024, .f32⟩
  | .hbm, ⟨43, _⟩ => ⟨S4128x1024, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel21.lean ====
abbrev S4128x1024 : Shape := ⟨2, ![4128, 1024]⟩
abbrev S1024x1024 : Shape := ⟨2, ![1024, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 8
  | .vmem => 13
  | .smem => 0
  | _ => 0

abbrev bufTy : (tb : Table) → Fin (tcTables nBuf tb) → BufTy
  | .hbm, ⟨0, _⟩ => ⟨S4128x1024, .f32⟩
  | .hbm, ⟨1, _⟩ => ⟨S1024x1024, .bf16⟩
  | .hbm, ⟨2, _⟩ => ⟨S1x1024, .f32⟩
  | .hbm, ⟨3, _⟩ => ⟨S4128x1024, .f32⟩
  | .hbm, ⟨4, _⟩ => ⟨S1x1024, .f32⟩
  | .hbm, ⟨5, _⟩ => ⟨S4128x1024, .f32⟩
  | .hbm, ⟨6, _⟩ => ⟨S4128x1024, .f32⟩
  | .hbm, ⟨7, _⟩ => ⟨S4128x1024, .bf16⟩
  | .local _ .vmem, ⟨0, _⟩ => ⟨S688x1024, .f32⟩
  | .local _ .vmem, ⟨1, _⟩ => ⟨S688x1024, .f32⟩
  | .local _ .vmem, ⟨2, _⟩ => ⟨S1024x1024, .bf16⟩
  | .local _ .vmem, ⟨3, _⟩ => ⟨S1x1024, .f32⟩
  | .local _ .vmem, ⟨4, _⟩ => ⟨S688x1024, .f32⟩
  | .local _ .vmem, ⟨5, _⟩ => ⟨S688x1024, .f32⟩
  | .local _ .vmem, ⟨6, _⟩ => ⟨S1x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .bf16⟩
  | .local _ .vmem, ⟨12, _⟩ => ⟨S688x1024, .bf16⟩
  | _, _ => ⟨S4128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S4128x1024 : Shape := ⟨2, ![4128, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4128 : Shape := ⟨1, ![4128]⟩
abbrev S4128x1 : Shape := ⟨2, ![4128, 1]⟩

abbrev nBuf : Space → Nat
  | .hbm => 43
  | .vmem => 0
  | .smem => 0
  | _ => 0

abbrev bufTy : (tb : Table) → Fin (tcTables nBuf tb) → BufTy
  | .hbm, ⟨0, _⟩ => ⟨S4128x1024, .f32⟩
  | .hbm, ⟨1, _⟩ => ⟨S1024x1024, .bf16⟩
  | .hbm, ⟨2, _⟩ => ⟨S1x1024, .f32⟩
  | .hbm, ⟨3, _⟩ => ⟨S4128x1024, .f32⟩
  | .hbm, ⟨4, _⟩ => ⟨S1x1024, .f32⟩
  | .hbm, ⟨5, _⟩ => ⟨S1024x1024, .f32⟩
  | .hbm, ⟨6, _⟩ => ⟨S4128x1024, .f32⟩
  | .hbm, ⟨7, _⟩ => ⟨S1024, .f32⟩
  | .hbm, ⟨8, _⟩ => ⟨S4128x1024, .f32⟩
  | .hbm, ⟨9, _⟩ => ⟨S_, .f32⟩
  | .hbm, ⟨10, _⟩ => ⟨S4128, .f32⟩
  | .hbm, ⟨11, _⟩ => ⟨S4128x1, .f32⟩
  | .hbm, ⟨12, _⟩ => ⟨S_, .f32⟩
  | .hbm, ⟨13, _⟩ => ⟨S4128x1, .f32⟩
  | .hbm, ⟨14, _⟩ => ⟨S4128x1, .f32⟩
  | .hbm, ⟨15, _⟩ => ⟨S_, .f32⟩
  | .hbm, ⟨16, _⟩ => ⟨S4128x1, .f32⟩
  | .hbm, ⟨17, _⟩ => ⟨S4128x1, .f32⟩
  | .hbm, ⟨18, _⟩ => ⟨S4128x1, .f32⟩
  | .hbm, ⟨19, _⟩ => ⟨S4128x1024, .f32⟩
  | .hbm, ⟨20, _⟩ => ⟨S4128x1024, .f32⟩
  | .hbm, ⟨21, _⟩ => ⟨S1x1024, .f32⟩
  | .hbm, ⟨22, _⟩ => ⟨S4128x1024, .f32⟩
  | .hbm, ⟨23, _⟩ => ⟨S4128x1024, .f32⟩
  | .hbm, ⟨24, _⟩ => ⟨S4128x1024, .f32⟩
  | .hbm, ⟨25, _⟩ => ⟨S1024, .f32⟩
  | .hbm, ⟨26, _⟩ => ⟨S4128x1024, .f32⟩
  | .hbm, ⟨27, _⟩ => ⟨S_, .f32⟩
  | .hbm, ⟨28, _⟩ => ⟨S4128, .f32⟩
  | .hbm, ⟨29, _⟩ => ⟨S4128x1, .f32⟩
  | .hbm, ⟨30, _⟩ => ⟨S_, .f32⟩
  | .hbm, ⟨31, _⟩ => ⟨S4128x1, .f32⟩
  | .hbm, ⟨32, _⟩ => ⟨S4128x1, .f32⟩
  | .hbm, ⟨33, _⟩ => ⟨S_, .f32⟩
  | .hbm, ⟨34, _⟩ => ⟨S4128x1, .f32⟩
  | .hbm, ⟨35, _⟩ => ⟨S4128x1, .f32⟩
  | .hbm, ⟨36, _⟩ => ⟨S4128x1, .f32⟩
  | .hbm, ⟨37, _⟩ => ⟨S4128x1024, .f32⟩
  | .hbm, ⟨38, _⟩ => ⟨S4128x1024, .f32⟩
  | .hbm, ⟨39, _⟩ => ⟨S1x1024, .f32⟩
  | .hbm, ⟨40, _⟩ => ⟨S4128x1024, .f32⟩
  | .hbm, ⟨41, _⟩ => ⟨S4128x1024, .f32⟩
  | .hbm, ⟨42, _⟩ => ⟨S4128x1024, .bf16⟩
  | _, _ => ⟨S4128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel22.lean ====
abbrev S4128x1024 : Shape := ⟨2, ![4128, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .f32⟩
  | .hbm, ⟨1, _⟩ => ⟨S1x1024, .f32⟩
  | .hbm, ⟨2, _⟩ => ⟨S4128x1024, .bf16⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S688x1024, .bf16⟩
  | .local _ .vmem, ⟨4, _⟩ => ⟨S688x1024, .bf16⟩
  | _, _ => ⟨S4128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S4128x1024 : Shape := ⟨2, ![4128, 1024]⟩
abbrev S1x1024 : Shape := ⟨2, ![1, 1024]⟩
abbrev S1024 : Shape := ⟨1, ![1024]⟩
abbrev S_ : Shape := ⟨0, ![]⟩
abbrev S4128 : Shape := ⟨1, ![4128]⟩
abbrev S4128x1 : Shape := ⟨2, ![4128, 1]⟩

abbrev nBuf : Space → Nat
  | .hbm => 20
  | .vmem => 0
  | .smem => 0
  | _ => 0

abbrev bufTy : (tb : Table) → Fin (tcTables nBuf tb) → BufTy
  | .hbm, ⟨0, _⟩ => ⟨S4128x1024, .f32⟩
  | .hbm, ⟨1, _⟩ => ⟨S1x1024, .f32⟩
  | .hbm, ⟨2, _⟩ => ⟨S1024, .f32⟩
  | .hbm, ⟨3, _⟩ => ⟨S4128x1024, .f32⟩
  | .hbm, ⟨4, _⟩ => ⟨S_, .f32⟩
  | .hbm, ⟨5, _⟩ => ⟨S4128, .f32⟩
  | .hbm, ⟨6, _⟩ => ⟨S4128x1, .f32⟩
  | .hbm, ⟨7, _⟩ => ⟨S_, .f32⟩
  | .hbm, ⟨8, _⟩ => ⟨S4128x1, .f32⟩
  | .hbm, ⟨9, _⟩ => ⟨S4128x1, .f32⟩
  | .hbm, ⟨10, _⟩ => ⟨S_, .f32⟩
  | .hbm, ⟨11, _⟩ => ⟨S4128x1, .f32⟩
  | .hbm, ⟨12, _⟩ => ⟨S4128x1, .f32⟩
  | .hbm, ⟨13, _⟩ => ⟨S4128x1, .f32⟩
  | .hbm, ⟨14, _⟩ => ⟨S4128x1024, .f32⟩
  | .hbm, ⟨15, _⟩ => ⟨S4128x1024, .f32⟩
  | .hbm, ⟨16, _⟩ => ⟨S1x1024, .f32⟩
  | .hbm, ⟨17, _⟩ => ⟨S4128x1024, .f32⟩
  | .hbm, ⟨18, _⟩ => ⟨S4128x1024, .f32⟩
  | .hbm, ⟨19, _⟩ => ⟨S4128x1024, .bf16⟩
  | _, _ => ⟨S4128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel23.lean ====
abbrev S8x1024x512 : Shape := ⟨3, ![8, 1024, 512]⟩
abbrev S1024x512 : Shape := ⟨2, ![1024, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S8x1024x258 : Shape := ⟨3, ![8, 1024, 258]⟩
abbrev S1024x258 : Shape := ⟨2, ![1024, 258]⟩
abbrev S8x512x258 : Shape := ⟨3, ![8, 512, 258]⟩
abbrev S512x258 : Shape := ⟨2, ![512, 258]⟩
abbrev S1x512x258 : Shape := ⟨3, ![1, 512, 258]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x258, .bf16⟩
  | .hbm, ⟨1, _⟩ => ⟨S1024x258, .f32⟩
  | .hbm, ⟨2, _⟩ => ⟨S1024x258, .f32⟩
  | .hbm, ⟨3, _⟩ => ⟨S1024x258, .f32⟩
  | .hbm, ⟨4, _⟩ => ⟨S1024x258, .f32⟩
  | .hbm, ⟨5, _⟩ => ⟨S1024x258, .f32⟩
  | .hbm, ⟨6, _⟩ => ⟨S1024x258, .f32⟩
  | .hbm, ⟨7, _⟩ => ⟨S1024x258, .f32⟩
  | .local _ .vmem, ⟨0, _⟩ => ⟨S8x512x258, .bf16⟩
  | .local _ .vmem, ⟨1, _⟩ => ⟨S8x512x258, .bf16⟩
  | .local _ .vmem, ⟨2, _⟩ => ⟨S512x258, .f32⟩
  | .local _ .vmem, ⟨3, _⟩ => ⟨S512x258, .f32⟩
  | .local _ .vmem, ⟨4, _⟩ => ⟨S512x258, .f32⟩
  | .local _ .vmem, ⟨5, _⟩ => ⟨S512x258, .f32⟩
  | .local _ .vmem, ⟨6, _⟩ => ⟨S512x258, .f32⟩
  | .local _ .vmem, ⟨7, _⟩ => ⟨S512x258, .f32⟩
  | .local _ .vmem, ⟨8, _⟩ => ⟨S512x258, .f32⟩
  | .local _ .vmem, ⟨9, _⟩ => ⟨S512x258, .f32⟩
  | .local _ .vmem, ⟨10, _⟩ => ⟨S512x258, .f32⟩
  | .local _ .vmem, ⟨11, _⟩ => ⟨S512x258, .f32⟩
  | .local _ .vmem, ⟨12, _⟩ => ⟨S512x258, .f32⟩
  | .local _ .vmem, ⟨13, _⟩ => ⟨S512x258, .f32⟩
  | .local _ .vmem, ⟨14, _⟩ => ⟨S512x258, .f32⟩
  | .local _ .vmem, ⟨15, _⟩ => ⟨S512x258, .f32⟩
  | _, _ => ⟨S8x1024x258, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x258 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x258 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x258 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x258 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x258 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x258 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x258 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x258 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S8x1024x258 : Shape := ⟨3, ![8, 1024, 258]⟩
abbrev S1024x258 : Shape := ⟨2, ![1024, 258]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x258, .bf16⟩
  | .hbm, ⟨1, _⟩ => ⟨S1024x258, .f32⟩
  | .hbm, ⟨2, _⟩ => ⟨S1024x258, .f32⟩
  | .hbm, ⟨3, _⟩ => ⟨S1024x258, .f32⟩
  | .hbm, ⟨4, _⟩ => ⟨S8x1024x258, .f32⟩
  | .hbm, ⟨5, _⟩ => ⟨S_, .f32⟩
  | .hbm, ⟨6, _⟩ => ⟨S1024x258, .f32⟩
  | .hbm, ⟨7, _⟩ => ⟨S_, .f32⟩
  | .hbm, ⟨8, _⟩ => ⟨S1024x258, .f32⟩
  | .hbm, ⟨9, _⟩ => ⟨S1024x258, .f32⟩
  | .hbm, ⟨10, _⟩ => ⟨S_, .f32⟩
  | .hbm, ⟨11, _⟩ => ⟨S1024x258, .f32⟩
  | .hbm, ⟨12, _⟩ => ⟨S1024x258, .f32⟩
  | .hbm, ⟨13, _⟩ => ⟨S1024x258, .f32⟩
  | .hbm, ⟨14, _⟩ => ⟨S_, .f32⟩
  | .hbm, ⟨15, _⟩ => ⟨S1024x258, .f32⟩
  | .hbm, ⟨16, _⟩ => ⟨S1024x258, .f32⟩
  | .hbm, ⟨17, _⟩ => ⟨S1024x258, .f32⟩
  | .hbm, ⟨18, _⟩ => ⟨S_, .f32⟩
  | .hbm, ⟨19, _⟩ => ⟨S1024x258, .f32⟩
  | .hbm, ⟨20, _⟩ => ⟨S1024x258, .f32⟩
  | .hbm, ⟨21, _⟩ => ⟨S1024x258, .f32⟩
  | .hbm, ⟨22, _⟩ => ⟨S_, .f32⟩
  | .hbm, ⟨23, _⟩ => ⟨S1024x258, .f32⟩
  | .hbm, ⟨24, _⟩ => ⟨S1024x258, .f32⟩
  | .hbm, ⟨25, _⟩ => ⟨S_, .f32⟩
  | .hbm, ⟨26, _⟩ => ⟨S1024x258, .f32⟩
  | .hbm, ⟨27, _⟩ => ⟨S1024x258, .f32⟩
  | .hbm, ⟨28, _⟩ => ⟨S1024x258, .f32⟩
  | .hbm, ⟨29, _⟩ => ⟨S_, .f32⟩
  | .hbm, ⟨30, _⟩ => ⟨S1024x258, .f32⟩
  | .hbm, ⟨31, _⟩ => ⟨S1024x258, .f32⟩
  | .hbm, ⟨32, _⟩ => ⟨S1024x258, .f32⟩
  | .hbm, ⟨33, _⟩ => ⟨S_, .f32⟩
  | .hbm, ⟨34, _⟩ => ⟨S1024x258, .f32⟩
  | .hbm, ⟨35, _⟩ => ⟨S1024x258, .f32⟩
  | .hbm, ⟨36, _⟩ => ⟨S1024x258, .f32⟩
  | .hbm, ⟨37, _⟩ => ⟨S_, .f32⟩
  | .hbm, ⟨38, _⟩ => ⟨S1024x258, .f32⟩
  | .hbm, ⟨39, _⟩ => ⟨S1024x258, .f32⟩
  | _, _ => ⟨S8x1024x258, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S8x1024x688 : Shape := ⟨3, ![8, 1024, 688]⟩
abbrev S1024x688 : Shape := ⟨2, ![1024, 688]⟩
abbrev S8x512x688 : Shape := ⟨3, ![8, 512, 688]⟩
abbrev S512x688 : Shape := ⟨2, ![512, 688]⟩
abbrev S1x512x688 : Shape := ⟨3, ![1, 512, 688]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x688, .bf16⟩
  | .hbm, ⟨1, _⟩ => ⟨S1024x688, .f32⟩
  | .hbm, ⟨2, _⟩ => ⟨S1024x688, .f32⟩
  | .hbm, ⟨3, _⟩ => ⟨S1024x688, .f32⟩
  | .hbm, ⟨4, _⟩ => ⟨S1024x688, .f32⟩
  | .hbm, ⟨5, _⟩ => ⟨S1024x688, .f32⟩
  | .hbm, ⟨6, _⟩ => ⟨S1024x688, .f32⟩
  | .hbm, ⟨7, _⟩ => ⟨S1024x688, .f32⟩
  | .local _ .vmem, ⟨0, _⟩ => ⟨S8x512x688, .bf16⟩
  | .local _ .vmem, ⟨1, _⟩ => ⟨S8x512x688, .bf16⟩
  | .local _ .vmem, ⟨2, _⟩ => ⟨S512x688, .f32⟩
  | .local _ .vmem, ⟨3, _⟩ => ⟨S512x688, .f32⟩
  | .local _ .vmem, ⟨4, _⟩ => ⟨S512x688, .f32⟩
  | .local _ .vmem, ⟨5, _⟩ => ⟨S512x688, .f32⟩
  | .local _ .vmem, ⟨6, _⟩ => ⟨S512x688, .f32⟩
  | .local _ .vmem, ⟨7, _⟩ => ⟨S512x688, .f32⟩
  | .local _ .vmem, ⟨8, _⟩ => ⟨S512x688, .f32⟩
  | .local _ .vmem, ⟨9, _⟩ => ⟨S512x688, .f32⟩
  | .local _ .vmem, ⟨10, _⟩ => ⟨S512x688, .f32⟩
  | .local _ .vmem, ⟨11, _⟩ => ⟨S512x688, .f32⟩
  | .local _ .vmem, ⟨12, _⟩ => ⟨S512x688, .f32⟩
  | .local _ .vmem, ⟨13, _⟩ => ⟨S512x688, .f32⟩
  | .local _ .vmem, ⟨14, _⟩ => ⟨S512x688, .f32⟩
  | .local _ .vmem, ⟨15, _⟩ => ⟨S512x688, .f32⟩
  | _, _ => ⟨S8x1024x688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8x1024x688 : Shape := ⟨3, ![8, 1024, 688]⟩
abbrev S1024x688 : Shape := ⟨2, ![1024, 688]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x688, .bf16⟩
  | .hbm, ⟨1, _⟩ => ⟨S1024x688, .f32⟩
  | .hbm, ⟨2, _⟩ => ⟨S1024x688, .f32⟩
  | .hbm, ⟨3, _⟩ => ⟨S1024x688, .f32⟩
  | .hbm, ⟨4, _⟩ => ⟨S8x1024x688, .f32⟩
  | .hbm, ⟨5, _⟩ => ⟨S_, .f32⟩
  | .hbm, ⟨6, _⟩ => ⟨S1024x688, .f32⟩
  | .hbm, ⟨7, _⟩ => ⟨S_, .f32⟩
  | .hbm, ⟨8, _⟩ => ⟨S1024x688, .f32⟩
  | .hbm, ⟨9, _⟩ => ⟨S1024x688, .f32⟩
  | .hbm, ⟨10, _⟩ => ⟨S_, .f32⟩
  | .hbm, ⟨11, _⟩ => ⟨S1024x688, .f32⟩
  | .hbm, ⟨12, _⟩ => ⟨S1024x688, .f32⟩
  | .hbm, ⟨13, _⟩ => ⟨S1024x688, .f32⟩
  | .hbm, ⟨14, _⟩ => ⟨S_, .f32⟩
  | .hbm, ⟨15, _⟩ => ⟨S1024x688, .f32⟩
  | .hbm, ⟨16, _⟩ => ⟨S1024x688, .f32⟩
  | .hbm, ⟨17, _⟩ => ⟨S1024x688, .f32⟩
  | .hbm, ⟨18, _⟩ => ⟨S_, .f32⟩
  | .hbm, ⟨19, _⟩ => ⟨S1024x688, .f32⟩
  | .hbm, ⟨20, _⟩ => ⟨S1024x688, .f32⟩
  | .hbm, ⟨21, _⟩ => ⟨S1024x688, .f32⟩
  | .hbm, ⟨22, _⟩ => ⟨S_, .f32⟩
  | .hbm, ⟨23, _⟩ => ⟨S1024x688, .f32⟩
  | .hbm, ⟨24, _⟩ => ⟨S1024x688, .f32⟩
  | .hbm, ⟨25, _⟩ => ⟨S_, .f32⟩
  | .hbm, ⟨26, _⟩ => ⟨S1024x688, .f32⟩
  | .hbm, ⟨27, _⟩ => ⟨S1024x688, .f32⟩
  | .hbm, ⟨28, _⟩ => ⟨S1024x688, .f32⟩
  | .hbm, ⟨29, _⟩ => ⟨S_, .f32⟩
  | .hbm, ⟨30, _⟩ => ⟨S1024x688, .f32⟩
  | .hbm, ⟨31, _⟩ => ⟨S1024x688, .f32⟩
  | .hbm, ⟨32, _⟩ => ⟨S1024x688, .f32⟩
  | .hbm, ⟨33, _⟩ => ⟨S_, .f32⟩
  | .hbm, ⟨34, _⟩ => ⟨S1024x688, .f32⟩
  | .hbm, ⟨35, _⟩ => ⟨S1024x688, .f32⟩
  | .hbm, ⟨36, _⟩ => ⟨S1024x688, .f32⟩
  | .hbm, ⟨37, _⟩ => ⟨S_, .f32⟩
  | .hbm, ⟨38, _⟩ => ⟨S1024x688, .f32⟩
  | .hbm, ⟨39, _⟩ => ⟨S1024x688, .f32⟩
  | _, _ => ⟨S8x1024x688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S8x344x1024 : Shape := ⟨3, ![8, 344, 1024]⟩
abbrev S344x1024 : Shape := ⟨2, ![344, 1024]⟩
abbrev S1x344x1024 : Shape := ⟨3, ![1, 344, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x344x1024, .bf16⟩
  | .hbm, ⟨1, _⟩ => ⟨S344x1024, .f32⟩
  | .hbm, ⟨2, _⟩ => ⟨S344x1024, .f32⟩
  | .hbm, ⟨3, _⟩ => ⟨S344x1024, .f32⟩
  | .hbm, ⟨4, _⟩ => ⟨S344x1024, .f32⟩
  | .hbm, ⟨5, _⟩ => ⟨S344x1024, .f32⟩
  | .hbm, ⟨6, _⟩ => ⟨S344x1024, .f32⟩
  | .hbm, ⟨7, _⟩ => ⟨S344x1024, .f32⟩
  | .local _ .vmem, ⟨0, _⟩ => ⟨S8x344x1024, .bf16⟩
  | .local _ .vmem, ⟨1, _⟩ => ⟨S344x1024, .f32⟩
  | .local _ .vmem, ⟨2, _⟩ => ⟨S344x1024, .f32⟩
  | .local _ .vmem, ⟨3, _⟩ => ⟨S344x1024, .f32⟩
  | .local _ .vmem, ⟨4, _⟩ => ⟨S344x1024, .f32⟩
  | .local _ .vmem, ⟨5, _⟩ => ⟨S344x1024, .f32⟩
  | .local _ .vmem, ⟨6, _⟩ => ⟨S344x1024, .f32⟩
  | .local _ .vmem, ⟨7, _⟩ => ⟨S344x1024, .f32⟩
  | _, _ => ⟨S8x344x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x344x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S344x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S344x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S344x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S344x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S344x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S344x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S344x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27Ideal.lean ====
abbrev S8x344x1024 : Shape := ⟨3, ![8, 344, 1024]⟩
abbrev S344x1024 : Shape := ⟨2, ![344, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x344x1024, .bf16⟩
  | .hbm, ⟨1, _⟩ => ⟨S344x1024, .f32⟩
  | .hbm, ⟨2, _⟩ => ⟨S344x1024, .f32⟩
  | .hbm, ⟨3, _⟩ => ⟨S344x1024, .f32⟩
  | .hbm, ⟨4, _⟩ => ⟨S8x344x1024, .f32⟩
  | .hbm, ⟨5, _⟩ => ⟨S_, .f32⟩
  | .hbm, ⟨6, _⟩ => ⟨S344x1024, .f32⟩
  | .hbm, ⟨7, _⟩ => ⟨S_, .f32⟩
  | .hbm, ⟨8, _⟩ => ⟨S344x1024, .f32⟩
  | .hbm, ⟨9, _⟩ => ⟨S344x1024, .f32⟩
  | .hbm, ⟨10, _⟩ => ⟨S_, .f32⟩
  | .hbm, ⟨11, _⟩ => ⟨S344x1024, .f32⟩
  | .hbm, ⟨12, _⟩ => ⟨S344x1024, .f32⟩
  | .hbm, ⟨13, _⟩ => ⟨S344x1024, .f32⟩
  | .hbm, ⟨14, _⟩ => ⟨S_, .f32⟩
  | .hbm, ⟨15, _⟩ => ⟨S344x1024, .f32⟩
  | .hbm, ⟨16, _⟩ => ⟨S344x1024, .f32⟩
  | .hbm, ⟨17, _⟩ => ⟨S344x1024, .f32⟩
  | .hbm, ⟨18, _⟩ => ⟨S_, .f32⟩
  | .hbm, ⟨19, _⟩ => ⟨S344x1024, .f32⟩
  | .hbm, ⟨20, _⟩ => ⟨S344x1024, .f32⟩
  | .hbm, ⟨21, _⟩ => ⟨S344x1024, .f32⟩
  | .hbm, ⟨22, _⟩ => ⟨S_, .f32⟩
  | .hbm, ⟨23, _⟩ => ⟨S344x1024, .f32⟩
  | .hbm, ⟨24, _⟩ => ⟨S344x1024, .f32⟩
  | .hbm, ⟨25, _⟩ => ⟨S_, .f32⟩
  | .hbm, ⟨26, _⟩ => ⟨S344x1024, .f32⟩
  | .hbm, ⟨27, _⟩ => ⟨S344x1024, .f32⟩
  | .hbm, ⟨28, _⟩ => ⟨S344x1024, .f32⟩
  | .hbm, ⟨29, _⟩ => ⟨S_, .f32⟩
  | .hbm, ⟨30, _⟩ => ⟨S344x1024, .f32⟩
  | .hbm, ⟨31, _⟩ => ⟨S344x1024, .f32⟩
  | .hbm, ⟨32, _⟩ => ⟨S344x1024, .f32⟩
  | .hbm, ⟨33, _⟩ => ⟨S_, .f32⟩
  | .hbm, ⟨34, _⟩ => ⟨S344x1024, .f32⟩
  | .hbm, ⟨35, _⟩ => ⟨S344x1024, .f32⟩
  | .hbm, ⟨36, _⟩ => ⟨S344x1024, .f32⟩
  | .hbm, ⟨37, _⟩ => ⟨S_, .f32⟩
  | .hbm, ⟨38, _⟩ => ⟨S344x1024, .f32⟩
  | .hbm, ⟨39, _⟩ => ⟨S344x1024, .f32⟩
  | _, _ => ⟨S8x344x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel28.lean ====
abbrev S8x64x128 : Shape := ⟨3, ![8, 64, 128]⟩
abbrev S64x128 : Shape := ⟨2, ![64, 128]⟩
abbrev S1x64x128 : Shape := ⟨3, ![1, 64, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x64x128, .bf16⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .local _ .vmem, ⟨0, _⟩ => ⟨S8x64x128, .bf16⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | _, _ => ⟨S8x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference28Ideal.lean ====
abbrev S8x64x128 : Shape := ⟨3, ![8, 64, 128]⟩
abbrev S64x128 : Shape := ⟨2, ![64, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x64x128, .bf16⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S8x64x128, .f32⟩
  | .hbm, ⟨5, _⟩ => ⟨S_, .f32⟩
  | .hbm, ⟨6, _⟩ => ⟨S64x128, .f32⟩
  | .hbm, ⟨7, _⟩ => ⟨S_, .f32⟩
  | .hbm, ⟨8, _⟩ => ⟨S64x128, .f32⟩
  | .hbm, ⟨9, _⟩ => ⟨S64x128, .f32⟩
  | .hbm, ⟨10, _⟩ => ⟨S_, .f32⟩
  | .hbm, ⟨11, _⟩ => ⟨S64x128, .f32⟩
  | .hbm, ⟨12, _⟩ => ⟨S64x128, .f32⟩
  | .hbm, ⟨13, _⟩ => ⟨S64x128, .f32⟩
  | .hbm, ⟨14, _⟩ => ⟨S_, .f32⟩
  | .hbm, ⟨15, _⟩ => ⟨S64x128, .f32⟩
  | .hbm, ⟨16, _⟩ => ⟨S64x128, .f32⟩
  | .hbm, ⟨17, _⟩ => ⟨S64x128, .f32⟩
  | .hbm, ⟨18, _⟩ => ⟨S_, .f32⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x128, .f32⟩
  | .hbm, ⟨25, _⟩ => ⟨S_, .f32⟩
  | .hbm, ⟨26, _⟩ => ⟨S64x128, .f32⟩
  | .hbm, ⟨27, _⟩ => ⟨S64x128, .f32⟩
  | .hbm, ⟨28, _⟩ => ⟨S64x128, .f32⟩
  | .hbm, ⟨29, _⟩ => ⟨S_, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S64x128, .f32⟩
  | .hbm, ⟨37, _⟩ => ⟨S_, .f32⟩
  | .hbm, ⟨38, _⟩ => ⟨S64x128, .f32⟩
  | .hbm, ⟨39, _⟩ => ⟨S64x128, .f32⟩
  | _, _ => ⟨S8x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S8x16x128 : Shape := ⟨3, ![8, 16, 128]⟩
abbrev S16x128 : Shape := ⟨2, ![16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel30.lean ====
abbrev S4128x1024 : Shape := ⟨2, ![4128, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4128x1024, .f32⟩
  | .hbm, ⟨1, _⟩ => ⟨S1x1024, .f32⟩
  | .hbm, ⟨2, _⟩ => ⟨S4128x1024, .bf16⟩
  | .hbm, ⟨3, _⟩ => ⟨S4128x1024, .f32⟩
  | .hbm, ⟨4, _⟩ => ⟨S4128x1024, .f32⟩
  | .hbm, ⟨5, _⟩ => ⟨S1x1024, .f32⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S688x1024, .bf16⟩
  | .local _ .vmem, ⟨4, _⟩ => ⟨S688x1024, .bf16⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S1x1024, .f32⟩
  | _, _ => ⟨S4128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference30Ideal.lean ====
abbrev S4128x1024 : Shape := ⟨2, ![4128, 1024]⟩
abbrev S1x1024 : Shape := ⟨2, ![1, 1024]⟩
abbrev S1024 : Shape := ⟨1, ![1024]⟩
abbrev S_ : Shape := ⟨0, ![]⟩
abbrev S4128 : Shape := ⟨1, ![4128]⟩
abbrev S4128x1 : Shape := ⟨2, ![4128, 1]⟩

abbrev nBuf : Space → Nat
  | .hbm => 53
  | .vmem => 0
  | .smem => 0
  | _ => 0

abbrev bufTy : (tb : Table) → Fin (tcTables nBuf tb) → BufTy
  | .hbm, ⟨0, _⟩ => ⟨S4128x1024, .f32⟩
  | .hbm, ⟨1, _⟩ => ⟨S1x1024, .f32⟩
  | .hbm, ⟨2, _⟩ => ⟨S4128x1024, .bf16⟩
  | .hbm, ⟨3, _⟩ => ⟨S4128x1024, .f32⟩
  | .hbm, ⟨4, _⟩ => ⟨S1024, .f32⟩
  | .hbm, ⟨5, _⟩ => ⟨S4128x1024, .f32⟩
  | .hbm, ⟨6, _⟩ => ⟨S_, .f32⟩
  | .hbm, ⟨7, _⟩ => ⟨S4128, .f32⟩
  | .hbm, ⟨8, _⟩ => ⟨S4128x1, .f32⟩
  | .hbm, ⟨9, _⟩ => ⟨S_, .f32⟩
  | .hbm, ⟨10, _⟩ => ⟨S4128x1, .f32⟩
  | .hbm, ⟨11, _⟩ => ⟨S4128x1, .f32⟩
  | .hbm, ⟨12, _⟩ => ⟨S_, .f32⟩
  | .hbm, ⟨13, _⟩ => ⟨S4128x1, .f32⟩
  | .hbm, ⟨14, _⟩ => ⟨S4128x1, .f32⟩
  | .hbm, ⟨15, _⟩ => ⟨S4128x1, .f32⟩
  | .hbm, ⟨16, _⟩ => ⟨S4128x1, .f32⟩
  | .hbm, ⟨17, _⟩ => ⟨S_, .f32⟩
  | .hbm, ⟨18, _⟩ => ⟨S4128x1, .f32⟩
  | .hbm, ⟨19, _⟩ => ⟨S4128x1, .f32⟩
  | .hbm, ⟨20, _⟩ => ⟨S4128x1024, .f32⟩
  | .hbm, ⟨21, _⟩ => ⟨S4128x1024, .f32⟩
  | .hbm, ⟨22, _⟩ => ⟨S1x1024, .f32⟩
  | .hbm, ⟨23, _⟩ => ⟨S4128x1024, .f32⟩
  | .hbm, ⟨24, _⟩ => ⟨S4128x1024, .f32⟩
  | .hbm, ⟨25, _⟩ => ⟨S4128x1024, .f32⟩
  | .hbm, ⟨26, _⟩ => ⟨S4128x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4128x1024, .f32⟩
  | .hbm, ⟨31, _⟩ => ⟨S4128x1024, .f32⟩
  | .hbm, ⟨32, _⟩ => ⟨S_, .f32⟩
  | .hbm, ⟨33, _⟩ => ⟨S1024, .f32⟩
  | .hbm, ⟨34, _⟩ => ⟨S4128x1024, .f32⟩
  | .hbm, ⟨35, _⟩ => ⟨S_, .f32⟩
  | .hbm, ⟨36, _⟩ => ⟨S4128, .f32⟩
  | .hbm, ⟨37, _⟩ => ⟨S4128x1, .f32⟩
  | .hbm, ⟨38, _⟩ => ⟨S4128x1024, .f32⟩
  | .hbm, ⟨39, _⟩ => ⟨S4128x1024, .f32⟩
  | .hbm, ⟨40, _⟩ => ⟨S4128x1024, .f32⟩
  | .hbm, ⟨41, _⟩ => ⟨S4128x1, .f32⟩
  | .hbm, ⟨42, _⟩ => ⟨S_, .f32⟩
  | .hbm, ⟨43, _⟩ => ⟨S4128x1, .f32⟩
  | .hbm, ⟨44, _⟩ => ⟨S4128x1, .f32⟩
  | .hbm, ⟨45, _⟩ => ⟨S_, .f32⟩
  | .hbm, ⟨46, _⟩ => ⟨S4128, .f32⟩
  | .hbm, ⟨47, _⟩ => ⟨S4128x1024, .f32⟩
  | .hbm, ⟨48, _⟩ => ⟨S4128x1024, .f32⟩
  | .hbm, ⟨49, _⟩ => ⟨S4128x1024, .f32⟩
  | .hbm, ⟨50, _⟩ => ⟨S4128x1024, .f32⟩
  | .hbm, ⟨51, _⟩ => ⟨S4128x1024, .f32⟩
  | .hbm, ⟨52, _⟩ => ⟨S1x1024, .f32⟩
  | _, _ => ⟨S4128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel31.lean ====
abbrev S4128x1024 : Shape := ⟨2, ![4128, 1024]⟩
abbrev S1x1024 : Shape := ⟨2, ![1, 1024]⟩
abbrev S8x128 : Shape := ⟨2, ![8, 128]⟩
abbrev S688x1024 : Shape := ⟨2, ![688, 1024]⟩
abbrev S688 : Shape := ⟨1, ![688]⟩
abbrev S688x1 : Shape := ⟨2, ![688, 1]⟩
abbrev S1x688x1 : Shape := ⟨3, ![1, 688, 1]⟩
abbrev S1 : Shape := ⟨1, ![1]⟩
abbrev S1x1x1 : Shape := ⟨3, ![1, 1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4128x1024, .f32⟩
  | .hbm, ⟨1, _⟩ => ⟨S4128x1024, .f32⟩
  | .hbm, ⟨2, _⟩ => ⟨S4128x1024, .f32⟩
  | .hbm, ⟨3, _⟩ => ⟨S1x1024, .f32⟩
  | .hbm, ⟨4, _⟩ => ⟨S8x128, .f32⟩
  | .hbm, ⟨5, _⟩ => ⟨S4128x1024, .f32⟩
  | .hbm, ⟨6, _⟩ => ⟨S4128x1024, .bf16⟩
  | .hbm, ⟨7, _⟩ => ⟨S1x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S1x1024, .f32⟩
  | .local _ .vmem, ⟨7, _⟩ => ⟨S8x128, .f32⟩
  | .local _ .vmem, ⟨8, _⟩ => ⟨S688x1024, .f32⟩
  | .local _ .vmem, ⟨9, _⟩ => ⟨S688x1024, .f32⟩
  | .local _ .vmem, ⟨10, _⟩ => ⟨S688x1024, .bf16⟩
  | .local _ .vmem, ⟨11, _⟩ => ⟨S688x1024, .bf16⟩
  | .local _ .vmem, ⟨12, _⟩ => ⟨S1x1024, .f32⟩
  | _, _ => ⟨S4128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference31Ideal.lean ====
abbrev S4128x1024 : Shape := ⟨2, ![4128, 1024]⟩
abbrev S1x1024 : Shape := ⟨2, ![1, 1024]⟩
abbrev S2x2064x1024 : Shape := ⟨3, ![2, 2064, 1024]⟩
abbrev S2x2048x1024 : Shape := ⟨3, ![2, 2048, 1024]⟩
abbrev S_ : Shape := ⟨0, ![]⟩
abbrev S2x2048 : Shape := ⟨2, ![2, 2048]⟩
abbrev S8x128 : Shape := ⟨2, ![8, 128]⟩

abbrev nBuf : Space → Nat
  | .hbm => 20
  | .vmem => 0
  | .smem => 0
  | _ => 0

abbrev bufTy : (tb : Table) → Fin (tcTables nBuf tb) → BufTy
  | .hbm, ⟨0, _⟩ => ⟨S4128x1024, .f32⟩
  | .hbm, ⟨1, _⟩ => ⟨S4128x1024, .f32⟩
  | .hbm, ⟨2, _⟩ => ⟨S4128x1024, .f32⟩
  | .hbm, ⟨3, _⟩ => ⟨S1x1024, .f32⟩
  | .hbm, ⟨4, _⟩ => ⟨S2x2064x1024, .f32⟩
  | .hbm, ⟨5, _⟩ => ⟨S2x2048x1024, .f32⟩
  | .hbm, ⟨6, _⟩ => ⟨S2x2064x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S_, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x128, .f32⟩
  | _, _ => ⟨S4128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Proof.Attn.Loops.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxHeartbeats 1000000
set_option maxRecDepth 8192

/-! The loops of the attention backward kernel, each by an invariant: the rows read are kept, what
accumulates in the two forgotten outputs is any contents, and the carried value is the fold of one
trip's yield. The loop over a remainder runs no trip. -/

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The value carried after `k` trips of `n`, from `init`, each trip applying `step`. -/
abbrev foldTrips {A : Type} {n : ℕ} (step : Fin n → A → A) (init : A) (k : ℕ) : A :=
  Nat.rec init (fun j a => if h : j < n then step ⟨j, h⟩ a else a) k

/-- One more trip. -/
theorem foldTrips_succ {A : Type} {n : ℕ} (step : Fin n → A → A) (init : A) (k : Fin n) :
    foldTrips step init (k.val + 1) = step k (foldTrips step init k.val) := dif_pos k.isLt

/-- What one trip of head 0's loop over the later row blocks yields, from the rows it reads. -/
def trip1 (i : grid0.Coords) (v6 v7 : Vec F S688x64 .bf16) (v12 : FVec F S1x688 .f32)
    (q : Vec F S2064x128 .bf16) (o : Vec F S2064x128 .f32) (g : Vec F S2064x128 .bf16) (l : Vec F S2064x128 .f32)
    (k : Fin (k0_t1_loop i).trips) (acc : (FVec F S64x688 .f32 × FVec F S64x688 .f32 × FVec F S1x688 .f32)) : (FVec F S64x688 .f32 × FVec F S64x688 .f32 × FVec F S1x688 .f32) :=
  have v185 : Vec F S688x64 .bf16 := View.ld q (Rect.unit (s := S2064x128) (k0_off4 i k) S688x64.size (k0_off4_inb i k))
  have v191 : Vec F S688x64 .bf16 := View.ld g (Rect.unit (s := S2064x128) (k0_off4 i k) S688x64.size (k0_off4_inb i k))
  have v196 : Vec F S688x1 .f32 := View.ld l (Rect.unit (s := S2064x128) (k0_off5 i k) S688x1.size (k0_off5_inb i k))
  have v203 : Vec F S688x64 .f32 := View.ld o (Rect.unit (s := S2064x128) (k0_off4 i k) S688x64.size (k0_off4_inb i k))
  (k0_pay56 acc.1 (k0_pay16 v185) (k0_pay19 v6 v7 v12 v185 v191 v196 v203),
    k0_pay57 acc.2.1 v191 (k0_pay17 v6 v12 v185 v196),
    k0_pay58 acc.2.2 (k0_pay18 v6 v7 v12 v185 v191 v196 v203))

/-- What one trip of head 1's loop over the later row blocks yields, from the rows it reads. -/
def trip3 (i : grid0.Coords) (v94 v95 : Vec F S688x64 .bf16) (v100 : FVec F S1x688 .f32)
    (q : Vec F S2064x128 .bf16) (o : Vec F S2064x128 .f32) (g : Vec F S2064x128 .bf16) (l : Vec F S2064x128 .f32)
    (k : Fin (k0_t3_loop i).trips) (acc : (FVec F S64x688 .f32 × FVec F S64x688 .f32 × FVec F S1x688 .f32)) : (FVec F S64x688 .f32 × FVec F S64x688 .f32 × FVec F S1x688 .f32) :=
  have v185 : Vec F S688x64 .bf16 := View.ld q (Rect.unit (s := S2064x128) (k0_off13 i k) S688x64.size (k0_off13_inb i k))
  have v191 : Vec F S688x64 .bf16 := View.ld g (Rect.unit (s := S2064x128) (k0_off13 i k) S688x64.size (k0_off13_inb i k))
  have v196 : Vec F S688x1 .f32 := View.ld l (Rect.unit (s := S2064x128) (k0_off14 i k) S688x1.size (k0_off14_inb i k))
  have v203 : Vec F S688x64 .f32 := View.ld o (Rect.unit (s := S2064x128) (k0_off13 i k) S688x64.size (k0_off13_inb i k))
  (k0_pay6 acc.1 (k0_pay26 v185) (k0_pay29 v94 v95 v100 v185 v191 v196 v203),
    k0_pay7 acc.2.1 v191 (k0_pay27 v94 v100 v185 v196),
    k0_pay8 acc.2.2 (k0_pay28 v94 v95 v100 v185 v191 v196 v203))

/-- One trip of loop 1: the rows read are kept, the yield is `trip1`'s. -/
theorem run_trip1 (𝒱 : Variants) (c : Dev nD) (bd : Option 𝒱.V) (E : Set ℕ) (i : grid0.Coords) (arg3 : Memref sig .tc .vmem S2064x128 .bf16) (harg3 : arg3.IsWhole) (arg4 : Memref sig .tc .vmem S688x128 .bf16) (harg4 : arg4.IsWhole) (arg5 : Memref sig .tc .vmem S688x128 .bf16) (harg5 : arg5.IsWhole) (arg6 : Memref sig .tc .vmem S2064x128 .f32) (harg6 : arg6.IsWhole) (arg7 : Memref sig .tc .vmem S2064x128 .bf16) (harg7 : arg7.IsWhole) (arg8 : Memref sig .tc .vmem S2064x128 .f32) (harg8 : arg8.IsWhole) (arg9 : Memref sig .tc .vmem S1x1x1x2x688 .f32) (harg9 : arg9.IsWhole) (arg10 : Memref sig .tc .vmem S2064x128 .f32) (harg10 : arg10.IsWhole) (arg11 : Memref sig .tc .vmem S688x128 .bf16) (harg11 : arg11.IsWhole) (arg12 : Memref sig .tc .vmem S688x128 .bf16) (harg12 : arg12.IsWhole) (arg13 : Memref sig .tc .vmem S1x1x1x2x688 .f32) (harg13 : arg13.IsWhole) (arg14 : Memref sig .tc .vmem S1x2064x2 .f32) (harg14 : arg14.IsWhole) (arg2 : BitVec 32) (v6 : Vec F S688x64 .bf16) (v7 : Vec F S688x64 .bf16) (v10 : FVec F S64x688 .bf16) (v12 : FVec F S1x688 .f32) (v15 : FVec F S1x688 .f32) (v16 : BitVec 32) (v71 : FVec F S64x688 .f32) (v74 : FVec F S64x688 .f32) (v76 : FVec F S1x688 .f32) (X3 : BufTy.Contents (Elt F) arg3.view.ty) (X6 : BufTy.Contents (Elt F) arg6.view.ty) (X7 : BufTy.Contents (Elt F) arg7.view.ty) (X8 : BufTy.Contents (Elt F) arg8.view.ty) (k : Fin (k0_t1_loop i).trips) (acc : (FVec F S64x688 .f32 × FVec F S64x688 .f32 × FVec F S1x688 .f32))
    (f10 : BufTy.Contents (Elt F) arg10.view.ty) (f14 : BufTy.Contents (Elt F) arg14.view.ty) :
    iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg10.view.loc (c : Thread nD τ) ↦[arg10.view.set]{fullShare} f10) ∗ (arg14.view.loc (c : Thread nD τ) ↦[arg14.view.set]{fullShare} f14))
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg2 v6 v7 v10 v12 v15 v16 v71 v74 v76 k acc)
          (fun yld => (iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg10.view.loc (c : Thread nD τ) ↦[arg10.view.set]{fullShare} f)) ∗ (∃ f, (arg14.view.loc (c : Thread nD τ) ↦[arg14.view.set]{fullShare} f))
            ∗ ⌜yld = (trip1 i v6 v7 v12 (arg3.view.read (Elt F) X3) (arg6.view.read (Elt F) X6) (arg7.view.read (Elt F) X7) (arg8.view.read (Elt F) X8)) k acc⌝) : sProp 𝕄)) := by
  unfold k0_t1_body
  iintro ⟨H3, H6, H7, H8, H10, H14⟩
  sl_exec
  sl_step
  isplitl [H3]; · iexact H3
  isplitl [H6]; · iexact H6
  isplitl [H7]; · iexact H7
  isplitl [H8]; · iexact H8
  isplitl [H10]; · iexists _; iexact H10
  isplitl [H14]; · iexists _; iexact H14
  ipureintro; rfl

set_option warn.classDefReducibility false in
/-- Loop 1 by its invariant. -/
@[sl_loop] def loop1 (𝒱 : Variants) (c : Dev nD) (bd : Option 𝒱.V) (E : Set ℕ) (i : grid0.Coords) (arg3 : Memref sig .tc .vmem S2064x128 .bf16) (harg3 : arg3.IsWhole) (arg4 : Memref sig .tc .vmem S688x128 .bf16) (harg4 : arg4.IsWhole) (arg5 : Memref sig .tc .vmem S688x128 .bf16) (harg5 : arg5.IsWhole) (arg6 : Memref sig .tc .vmem S2064x128 .f32) (harg6 : arg6.IsWhole) (arg7 : Memref sig .tc .vmem S2064x128 .bf16) (harg7 : arg7.IsWhole) (arg8 : Memref sig .tc .vmem S2064x128 .f32) (harg8 : arg8.IsWhole) (arg9 : Memref sig .tc .vmem S1x1x1x2x688 .f32) (harg9 : arg9.IsWhole) (arg10 : Memref sig .tc .vmem S2064x128 .f32) (harg10 : arg10.IsWhole) (arg11 : Memref sig .tc .vmem S688x128 .bf16) (harg11 : arg11.IsWhole) (arg12 : Memref sig .tc .vmem S688x128 .bf16) (harg12 : arg12.IsWhole) (arg13 : Memref sig .tc .vmem S1x1x1x2x688 .f32) (harg13 : arg13.IsWhole) (arg14 : Memref sig .tc .vmem S1x2064x2 .f32) (harg14 : arg14.IsWhole) (arg2 : BitVec 32) (v6 : Vec F S688x64 .bf16) (v7 : Vec F S688x64 .bf16) (v10 : FVec F S64x688 .bf16) (v12 : FVec F S1x688 .f32) (v15 : FVec F S1x688 .f32) (v16 : BitVec 32) (v71 : FVec F S64x688 .f32) (v74 : FVec F S64x688 .f32) (v76 : FVec F S1x688 .f32) (X3 : BufTy.Contents (Elt F) arg3.view.ty) (X6 : BufTy.Contents (Elt F) arg6.view.ty) (X7 : BufTy.Contents (Elt F) arg7.view.ty) (X8 : BufTy.Contents (Elt F) arg8.view.ty) (init : (FVec F S64x688 .f32 × FVec F S64x688 .f32 × FVec F S1x688 .f32)) :
    Idealize.ShloMosaic.LoopInv (M := 𝕄) Idealize.ShloMosaic.frame (wpE (defs₀ (F := F)) 𝒱 (c : Thread nD τ) bd) E
      (k0_t1_loop i).lb (k0_t1_loop i).ub (k0_t1_loop i).st (k0_t1_ok i) init
      (k0_t1_body (F := F) i arg3 harg3 arg4 harg4 arg5 harg5 arg6 harg6 arg7 harg7 arg8 harg8 arg9 harg9 arg10 harg10 arg11 harg11 arg12 harg12 arg13 harg13 arg14 harg14 arg2 v6 v7 v10 v12 v15 v16 v71 v74 v76) where
  inv k acc := iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg10.view.loc (c : Thread nD τ) ↦[arg10.view.set]{fullShare} f)) ∗ (∃ f, (arg14.view.loc (c : Thread nD τ) ↦[arg14.view.set]{fullShare} f)) ∗ ⌜acc = foldTrips (trip1 i v6 v7 v12 (arg3.view.read (Elt F) X3) (arg6.view.read (Elt F) X6) (arg7.view.read (Elt F) X7) (arg8.view.read (Elt F) X8)) init k⌝)
  step k acc := by
    iintro ⟨H3, H6, H7, H8, ⟨%f10, H10⟩, ⟨%f14, H14⟩, %hacc⟩
    subst hacc
    iapply (wp_wand_r Idealize.ShloMosaic.frame (wpE (defs₀ (F := F)) 𝒱 (c : Thread nD τ) bd) E)
    isplitl [H3 H6 H7 H8 H10 H14]
    · iapply (run_trip1 (F := F) 𝒱 c bd E i arg3 harg3 arg4 harg4 arg5 harg5 arg6 harg6 arg7 harg7 arg8 harg8 arg9 harg9 arg10 harg10 arg11 harg11 arg12 harg12 arg13 harg13 arg14 harg14 arg2 v6 v7 v10 v12 v15 v16 v71 v74 v76 X3 X6 X7 X8 k _ f10 f14)
      isplitl [H3]; · iexact H3
      isplitl [H6]; · iexact H6
      isplitl [H7]; · iexact H7
      isplitl [H8]; · iexact H8
      isplitl [H10]; · iexact H10
      iexact H14
    · iintro %yld ⟨H3, H6, H7, H8, H10, H14, %hres⟩
      isplitl [H3]; · iexact H3
      isplitl [H6]; · iexact H6
      isplitl [H7]; · iexact H7
      isplitl [H8]; · iexact H8
      isplitl [H10]; · iexact H10
      isplitl [H14]; · iexact H14
      ipureintro; exact hres.trans (foldTrips_succ _ _ _).symm

set_option warn.classDefReducibility false in
/-- Loop 2 by its invariant. -/
@[sl_loop] def loop2 (𝒱 : Variants) (c : Dev nD) (bd : Option 𝒱.V) (E : Set ℕ) (i : grid0.Coords) (arg3 : Memref sig .tc .vmem S2064x128 .bf16) (harg3 : arg3.IsWhole) (arg4 : Memref sig .tc .vmem S688x128 .bf16) (harg4 : arg4.IsWhole) (arg5 : Memref sig .tc .vmem S688x128 .bf16) (harg5 : arg5.IsWhole) (arg6 : Memref sig .tc .vmem S2064x128 .f32) (harg6 : arg6.IsWhole) (arg7 : Memref sig .tc .vmem S2064x128 .bf16) (harg7 : arg7.IsWhole) (arg8 : Memref sig .tc .vmem S2064x128 .f32) (harg8 : arg8.IsWhole) (arg9 : Memref sig .tc .vmem S1x1x1x2x688 .f32) (harg9 : arg9.IsWhole) (arg10 : Memref sig .tc .vmem S2064x128 .f32) (harg10 : arg10.IsWhole) (arg11 : Memref sig .tc .vmem S688x128 .bf16) (harg11 : arg11.IsWhole) (arg12 : Memref sig .tc .vmem S688x128 .bf16) (harg12 : arg12.IsWhole) (arg13 : Memref sig .tc .vmem S1x1x1x2x688 .f32) (harg13 : arg13.IsWhole) (arg14 : Memref sig .tc .vmem S1x2064x2 .f32) (harg14 : arg14.IsWhole) (arg2 : BitVec 32) (v6 : Vec F S688x64 .bf16) (v7 : Vec F S688x64 .bf16) (v10 : FVec F S64x688 .bf16) (v12 : FVec F S1x688 .f32) (v15 : FVec F S1x688 .f32) (v16 : BitVec 32) (v71 : FVec F S64x688 .f32) (v74 : FVec F S64x688 .f32) (v76 : FVec F S1x688 .f32) (v82 : BitVec 32) (X3 : BufTy.Contents (Elt F) arg3.view.ty) (X6 : BufTy.Contents (Elt F) arg6.view.ty) (X7 : BufTy.Contents (Elt F) arg7.view.ty) (X8 : BufTy.Contents (Elt F) arg8.view.ty) (init : (FVec F S64x688 .f32 × FVec F S64x688 .f32 × FVec F S1x688 .f32)) :
    Idealize.ShloMosaic.LoopInv (M := 𝕄) Idealize.ShloMosaic.frame (wpE (defs₀ (F := F)) 𝒱 (c : Thread nD τ) bd) E
      (k0_t2_loop i).lb (k0_t2_loop i).ub (k0_t2_loop i).st (k0_t2_ok i) init
      (k0_t2_body (F := F) i arg3 harg3 arg4 harg4 arg5 harg5 arg6 harg6 arg7 harg7 arg8 harg8 arg9 harg9 arg10 harg10 arg11 harg11 arg12 harg12 arg13 harg13 arg14 harg14 arg2 v6 v7 v10 v12 v15 v16 v71 v74 v76 v82) where
  inv k acc := iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg10.view.loc (c : Thread nD τ) ↦[arg10.view.set]{fullShare} f)) ∗ (∃ f, (arg14.view.loc (c : Thread nD τ) ↦[arg14.view.set]{fullShare} f)) ∗ ⌜acc = init⌝)
  step k _ := absurd k.isLt (Nat.not_lt.2 (Nat.le_trans (k0_t2_abs i).2.1 (Nat.zero_le _)))

/-- One trip of loop 3: the rows read are kept, the yield is `trip3`'s. -/
theorem run_trip3 (𝒱 : Variants) (c : Dev nD) (bd : Option 𝒱.V) (E : Set ℕ) (i : grid0.Coords) (arg3 : Memref sig .tc .vmem S2064x128 .bf16) (harg3 : arg3.IsWhole) (arg4 : Memref sig .tc .vmem S688x128 .bf16) (harg4 : arg4.IsWhole) (arg5 : Memref sig .tc .vmem S688x128 .bf16) (harg5 : arg5.IsWhole) (arg6 : Memref sig .tc .vmem S2064x128 .f32) (harg6 : arg6.IsWhole) (arg7 : Memref sig .tc .vmem S2064x128 .bf16) (harg7 : arg7.IsWhole) (arg8 : Memref sig .tc .vmem S2064x128 .f32) (harg8 : arg8.IsWhole) (arg9 : Memref sig .tc .vmem S1x1x1x2x688 .f32) (harg9 : arg9.IsWhole) (arg10 : Memref sig .tc .vmem S2064x128 .f32) (harg10 : arg10.IsWhole) (arg11 : Memref sig .tc .vmem S688x128 .bf16) (harg11 : arg11.IsWhole) (arg12 : Memref sig .tc .vmem S688x128 .bf16) (harg12 : arg12.IsWhole) (arg13 : Memref sig .tc .vmem S1x1x1x2x688 .f32) (harg13 : arg13.IsWhole) (arg14 : Memref sig .tc .vmem S1x2064x2 .f32) (harg14 : arg14.IsWhole) (v94 : Vec F S688x64 .bf16) (v95 : Vec F S688x64 .bf16) (v98 : FVec F S64x688 .bf16) (v100 : FVec F S1x688 .f32) (v104 : BitVec 32) (X3 : BufTy.Contents (Elt F) arg3.view.ty) (X6 : BufTy.Contents (Elt F) arg6.view.ty) (X7 : BufTy.Contents (Elt F) arg7.view.ty) (X8 : BufTy.Contents (Elt F) arg8.view.ty) (k : Fin (k0_t3_loop i).trips) (acc : (FVec F S64x688 .f32 × FVec F S64x688 .f32 × FVec F S1x688 .f32))
    (f10 : BufTy.Contents (Elt F) arg10.view.ty) (f14 : BufTy.Contents (Elt F) arg14.view.ty) :
    iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg10.view.loc (c : Thread nD τ) ↦[arg10.view.set]{fullShare} f10) ∗ (arg14.view.loc (c : Thread nD τ) ↦[arg14.view.set]{fullShare} f14))
      ⊢ wp frame (wpE (defs₀ (F := F)) 𝒱 (c : Thread nD τ) bd) E (k0_t3_body (F := F) i arg3 harg3 arg4 harg4 arg5 harg5 arg6 harg6 arg7 harg7 arg8 harg8 arg9 harg9 arg10 harg10 arg11 harg11 arg12 harg12 arg13 harg13 arg14 harg14 v94 v95 v98 v100 v104 k acc)
          (fun yld => (iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg10.view.loc (c : Thread nD τ) ↦[arg10.view.set]{fullShare} f)) ∗ (∃ f, (arg14.view.loc (c : Thread nD τ) ↦[arg14.view.set]{fullShare} f))
            ∗ ⌜yld = (trip3 i v94 v95 v100 (arg3.view.read (Elt F) X3) (arg6.view.read (Elt F) X6) (arg7.view.read (Elt F) X7) (arg8.view.read (Elt F) X8)) k acc⌝) : sProp 𝕄)) := by
  unfold k0_t3_body
  iintro ⟨H3, H6, H7, H8, H10, H14⟩
  sl_exec
  sl_step
  isplitl [H3]; · iexact H3
  isplitl [H6]; · iexact H6
  isplitl [H7]; · iexact H7
  isplitl [H8]; · iexact H8
  isplitl [H10]; · iexists _; iexact H10
  isplitl [H14]; · iexists _; iexact H14
  ipureintro; rfl

set_option warn.classDefReducibility false in
/-- Loop 3 by its invariant. -/
@[sl_loop] def loop3 (𝒱 : Variants) (c : Dev nD) (bd : Option 𝒱.V) (E : Set ℕ) (i : grid0.Coords) (arg3 : Memref sig .tc .vmem S2064x128 .bf16) (harg3 : arg3.IsWhole) (arg4 : Memref sig .tc .vmem S688x128 .bf16) (harg4 : arg4.IsWhole) (arg5 : Memref sig .tc .vmem S688x128 .bf16) (harg5 : arg5.IsWhole) (arg6 : Memref sig .tc .vmem S2064x128 .f32) (harg6 : arg6.IsWhole) (arg7 : Memref sig .tc .vmem S2064x128 .bf16) (harg7 : arg7.IsWhole) (arg8 : Memref sig .tc .vmem S2064x128 .f32) (harg8 : arg8.IsWhole) (arg9 : Memref sig .tc .vmem S1x1x1x2x688 .f32) (harg9 : arg9.IsWhole) (arg10 : Memref sig .tc .vmem S2064x128 .f32) (harg10 : arg10.IsWhole) (arg11 : Memref sig .tc .vmem S688x128 .bf16) (harg11 : arg11.IsWhole) (arg12 : Memref sig .tc .vmem S688x128 .bf16) (harg12 : arg12.IsWhole) (arg13 : Memref sig .tc .vmem S1x1x1x2x688 .f32) (harg13 : arg13.IsWhole) (arg14 : Memref sig .tc .vmem S1x2064x2 .f32) (harg14 : arg14.IsWhole) (v94 : Vec F S688x64 .bf16) (v95 : Vec F S688x64 .bf16) (v98 : FVec F S64x688 .bf16) (v100 : FVec F S1x688 .f32) (v104 : BitVec 32) (X3 : BufTy.Contents (Elt F) arg3.view.ty) (X6 : BufTy.Contents (Elt F) arg6.view.ty) (X7 : BufTy.Contents (Elt F) arg7.view.ty) (X8 : BufTy.Contents (Elt F) arg8.view.ty) (init : (FVec F S64x688 .f32 × FVec F S64x688 .f32 × FVec F S1x688 .f32)) :
    Idealize.ShloMosaic.LoopInv (M := 𝕄) Idealize.ShloMosaic.frame (wpE (defs₀ (F := F)) 𝒱 (c : Thread nD τ) bd) E
      (k0_t3_loop i).lb (k0_t3_loop i).ub (k0_t3_loop i).st (k0_t3_ok i) init
      (k0_t3_body (F := F) i arg3 harg3 arg4 harg4 arg5 harg5 arg6 harg6 arg7 harg7 arg8 harg8 arg9 harg9 arg10 harg10 arg11 harg11 arg12 harg12 arg13 harg13 arg14 harg14 v94 v95 v98 v100 v104) where
  inv k acc := iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg10.view.loc (c : Thread nD τ) ↦[arg10.view.set]{fullShare} f)) ∗ (∃ f, (arg14.view.loc (c : Thread nD τ) ↦[arg14.view.set]{fullShare} f)) ∗ ⌜acc = foldTrips (trip3 i v94 v95 v100 (arg3.view.read (Elt F) X3) (arg6.view.read (Elt F) X6) (arg7.view.read (Elt F) X7) (arg8.view.read (Elt F) X8)) init k⌝)
  step k acc := by
    iintro ⟨H3, H6, H7, H8, ⟨%f10, H10⟩, ⟨%f14, H14⟩, %hacc⟩
    subst hacc
    iapply (wp_wand_r Idealize.ShloMosaic.frame (wpE (defs₀ (F := F)) 𝒱 (c : Thread nD τ) bd) E)
    isplitl [H3 H6 H7 H8 H10 H14]
    · iapply (run_trip3 (F := F) 𝒱 c bd E i arg3 harg3 arg4 harg4 arg5 harg5 arg6 harg6 arg7 harg7 arg8 harg8 arg9 harg9 arg10 harg10 arg11 harg11 arg12 harg12 arg13 harg13 arg14 harg14 v94 v95 v98 v100 v104 X3 X6 X7 X8 k _ f10 f14)
      isplitl [H3]; · iexact H3
      isplitl [H6]; · iexact H6
      isplitl [H7]; · iexact H7
      isplitl [H8]; · iexact H8
      isplitl [H10]; · iexact H10
      iexact H14
    · iintro %yld ⟨H3, H6, H7, H8, H10, H14, %hres⟩
      isplitl [H3]; · iexact H3
      isplitl [H6]; · iexact H6
      isplitl [H7]; · iexact H7
      isplitl [H8]; · iexact H8
      isplitl [H10]; · iexact H10
      isplitl [H14]; · iexact H14
      ipureintro; exact hres.trans (foldTrips_succ _ _ _).symm

set_option warn.classDefReducibility false in
/-- Loop 4 by its invariant. -/
@[sl_loop] def loop4 (𝒱 : Variants) (c : Dev nD) (bd : Option 𝒱.V) (E : Set ℕ) (i : grid0.Coords) (arg3 : Memref sig .tc .vmem S2064x128 .bf16) (harg3 : arg3.IsWhole) (arg4 : Memref sig .tc .vmem S688x128 .bf16) (harg4 : arg4.IsWhole) (arg5 : Memref sig .tc .vmem S688x128 .bf16) (harg5 : arg5.IsWhole) (arg6 : Memref sig .tc .vmem S2064x128 .f32) (harg6 : arg6.IsWhole) (arg7 : Memref sig .tc .vmem S2064x128 .bf16) (harg7 : arg7.IsWhole) (arg8 : Memref sig .tc .vmem S2064x128 .f32) (harg8 : arg8.IsWhole) (arg9 : Memref sig .tc .vmem S1x1x1x2x688 .f32) (harg9 : arg9.IsWhole) (arg10 : Memref sig .tc .vmem S2064x128 .f32) (harg10 : arg10.IsWhole) (arg11 : Memref sig .tc .vmem S688x128 .bf16) (harg11 : arg11.IsWhole) (arg12 : Memref sig .tc .vmem S688x128 .bf16) (harg12 : arg12.IsWhole) (arg13 : Memref sig .tc .vmem S1x1x1x2x688 .f32) (harg13 : arg13.IsWhole) (arg14 : Memref sig .tc .vmem S1x2064x2 .f32) (harg14 : arg14.IsWhole) (v94 : Vec F S688x64 .bf16) (v95 : Vec F S688x64 .bf16) (v98 : FVec F S64x688 .bf16) (v100 : FVec F S1x688 .f32) (v170 : BitVec 32) (X3 : BufTy.Contents (Elt F) arg3.view.ty) (X6 : BufTy.Contents (Elt F) arg6.view.ty) (X7 : BufTy.Contents (Elt F) arg7.view.ty) (X8 : BufTy.Contents (Elt F) arg8.view.ty) (init : (FVec F S64x688 .f32 × FVec F S64x688 .f32 × FVec F S1x688 .f32)) :
    Idealize.ShloMosaic.LoopInv (M := 𝕄) Idealize.ShloMosaic.frame (wpE (defs₀ (F := F)) 𝒱 (c : Thread nD τ) bd) E
      (k0_t4_loop i).lb (k0_t4_loop i).ub (k0_t4_loop i).st (k0_t4_ok i) init
      (k0_t4_body (F := F) i arg3 harg3 arg4 harg4 arg5 harg5 arg6 harg6 arg7 harg7 arg8 harg8 arg9 harg9 arg10 harg10 arg11 harg11 arg12 harg12 arg13 harg13 arg14 harg14 v94 v95 v98 v100 v170) where
  inv k acc := iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg10.view.loc (c : Thread nD τ) ↦[arg10.view.set]{fullShare} f)) ∗ (∃ f, (arg14.view.loc (c : Thread nD τ) ↦[arg14.view.set]{fullShare} f)) ∗ ⌜acc = init⌝)
  step k _ := absurd k.isLt (Nat.not_lt.2 (Nat.le_trans (k0_t4_abs i).2.1 (Nat.zero_le _)))

end Cert.Attn

end
-- ==== Proof.Attn.Run.lean ====
module

public import proofs.«01_k».proof.Proof.Attn.Loops
public import proofs.«01_k».proof.Proof.Gen.KernelIdeal.Launch
public import proofs.«01_k».proof.Proof.Gen.KernelIdeal.Points
public import Idealize.ShloMosaic.Lib.Ring
public import Idealize.ShloMosaic.Lib.WordCmp

@[expose] public section

set_option maxRecDepth 16384

/-! The body of the attention backward kernel at a grid point: the three outputs that are named
(keys, values, keys' gates) end at two pieces each, one per head; the other two hold anything. -/

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The test of the body's conditional: the first row block. -/
abbrev first (i : grid0.Coords) : Prop := (Scalar.cmpi .ne (Scalar.extui (Scalar.cmpi .eq (BitVec.ofNat 32 (i 2).val) 0#32)) 0#32) = 1#1

/-- Head 0's key block, value block and keys' gates, and what it carries past the block on the
diagonal. -/
def kBlk0 (kk : Vec F S688x128 .bf16) : Vec F S688x64 .bf16 := View.ld kk (Rect.unit (s := S688x128) ![0, 0] S688x64.size inb_S688x128_S688x64_0_0)
/-- The gates of head 0's keys. -/
def cBlk0 (cc : Vec F S1x1x1x2x688 .f32) : Vec F S1x1x1x1x688 .f32 := View.ld cc (Rect.unit (s := S1x1x1x2x688) ![0, 0, 0, 0, 0] S1x1x1x1x688.size inb_S1x1x1x2x688_S1x1x1x1x688_0_0_0_0_0)
/-- What head 0 carries after the block on the diagonal. -/
def diag0 (i : grid0.Coords) (q : Vec F S2064x128 .bf16) (kk vv : Vec F S688x128 .bf16) (o : Vec F S2064x128 .f32) (g : Vec F S2064x128 .bf16) (l : Vec F S2064x128 .f32) (cc : Vec F S1x1x1x2x688 .f32) : (FVec F S64x688 .f32 × FVec F S64x688 .f32 × FVec F S1x688 .f32) :=
  have dq : Vec F S688x64 .bf16 := View.ld q (Rect.unit (s := S2064x128) (k0_off1 i) S688x64.size (k0_off1_inb i))
  have dg : Vec F S688x64 .bf16 := View.ld g (Rect.unit (s := S2064x128) (k0_off1 i) S688x64.size (k0_off1_inb i))
  have dl : Vec F S688x1 .f32 := View.ld l (Rect.unit (s := S2064x128) (k0_off2 i) S688x1.size (k0_off2_inb i))
  have do' : Vec F S688x64 .f32 := View.ld o (Rect.unit (s := S2064x128) (k0_off1 i) S688x64.size (k0_off1_inb i))
  have s : FVec F S688x688 .f32 := k0_pay45 (kBlk0 kk) (cBlk0 cc) dq
  (k0_pay51 (kBlk0 vv) k0_pay41 (k0_pay44 dq) dg s dl do', k0_pay52 k0_pay42 dg s dl,
    k0_pay54 k0_pay43 (k0_pay53 (kBlk0 vv) dg s dl do'))
/-- What head 0 carries after every later row block. -/
def acc0 (i : grid0.Coords) (q : Vec F S2064x128 .bf16) (kk vv : Vec F S688x128 .bf16) (o : Vec F S2064x128 .f32) (g : Vec F S2064x128 .bf16) (l : Vec F S2064x128 .f32) (cc : Vec F S1x1x1x2x688 .f32) : (FVec F S64x688 .f32 × FVec F S64x688 .f32 × FVec F S1x688 .f32) :=
  foldTrips (trip1 i (kBlk0 kk) (kBlk0 vv) (k0_pay40 (cBlk0 cc)) q o g l) (diag0 i q kk vv o g l cc) (k0_t1_loop i).trips

/-- Head 1's key block, value block and keys' gates, and what it carries past the block on the
diagonal. -/
def kBlk1 (kk : Vec F S688x128 .bf16) : Vec F S688x64 .bf16 := View.ld kk (Rect.unit (s := S688x128) ![0, 64] S688x64.size inb_S688x128_S688x64_0_64)
/-- The gates of head 1's keys. -/
def cBlk1 (cc : Vec F S1x1x1x2x688 .f32) : Vec F S1x1x1x1x688 .f32 := View.ld cc (Rect.unit (s := S1x1x1x2x688) ![0, 0, 0, 1, 0] S1x1x1x1x688.size inb_S1x1x1x2x688_S1x1x1x1x688_0_0_0_1_0)
/-- What head 1 carries after the block on the diagonal. -/
def diag1 (i : grid0.Coords) (q : Vec F S2064x128 .bf16) (kk vv : Vec F S688x128 .bf16) (o : Vec F S2064x128 .f32) (g : Vec F S2064x128 .bf16) (l : Vec F S2064x128 .f32) (cc : Vec F S1x1x1x2x688 .f32) : (FVec F S64x688 .f32 × FVec F S64x688 .f32 × FVec F S1x688 .f32) :=
  have dq : Vec F S688x64 .bf16 := View.ld q (Rect.unit (s := S2064x128) (k0_off10 i) S688x64.size (k0_off10_inb i))
  have dg : Vec F S688x64 .bf16 := View.ld g (Rect.unit (s := S2064x128) (k0_off10 i) S688x64.size (k0_off10_inb i))
  have dl : Vec F S688x1 .f32 := View.ld l (Rect.unit (s := S2064x128) (k0_off11 i) S688x1.size (k0_off11_inb i))
  have do' : Vec F S688x64 .f32 := View.ld o (Rect.unit (s := S2064x128) (k0_off10 i) S688x64.size (k0_off10_inb i))
  have c' : FVec F S1x688 .f32 := k0_pay67 (cBlk1 cc)
  (k0_pay2 k0_pay68 (k0_pay71 dq) (k0_pay74 k0_pay38 (kBlk1 kk) (kBlk1 vv) c' dq dg dl do'),
    k0_pay3 k0_pay69 dg (k0_pay72 k0_pay38 (kBlk1 kk) c' dq dl),
    k0_pay4 k0_pay70 (k0_pay73 k0_pay38 (kBlk1 kk) (kBlk1 vv) c' dq dg dl do'))
/-- What head 1 carries after every later row block. -/
def acc1 (i : grid0.Coords) (q : Vec F S2064x128 .bf16) (kk vv : Vec F S688x128 .bf16) (o : Vec F S2064x128 .f32) (g : Vec F S2064x128 .bf16) (l : Vec F S2064x128 .f32) (cc : Vec F S1x1x1x2x688 .f32) : (FVec F S64x688 .f32 × FVec F S64x688 .f32 × FVec F S1x688 .f32) :=
  foldTrips (trip3 i (kBlk1 kk) (kBlk1 vv) (k0_pay67 (cBlk1 cc)) q o g l) (diag1 i q kk vv o g l cc) (k0_t3_loop i).trips

/-- The block of the keys' gradient that the body leaves. -/
def outK (i : grid0.Coords) (q : Vec F S2064x128 .bf16) (kk vv : Vec F S688x128 .bf16) (o : Vec F S2064x128 .f32) (g : Vec F S2064x128 .bf16) (l : Vec F S2064x128 .f32) (cc : Vec F S1x1x1x2x688 .f32) : Vec F S688x128 .bf16 :=
  View.canon [⟨Rect.unit (s := S688x128) ![0, 64] S688x64.size inb_S688x128_S688x64_0_64, k0_pay13 (acc1 i q kk vv o g l cc).1⟩, ⟨Rect.unit (s := S688x128) ![0, 0] S688x64.size inb_S688x128_S688x64_0_0, k0_pay63 (acc0 i q kk vv o g l cc).1⟩]
/-- The two heads' pieces of the keys' gradient cover the block. -/
theorem outK_cover (a b) (y : Shape.Idx S688x128) : ∃ p ∈ ([⟨Rect.unit (s := S688x128) ![0, 64] S688x64.size inb_S688x128_S688x64_0_64, a⟩, ⟨Rect.unit (s := S688x128) ![0, 0] S688x64.size inb_S688x128_S688x64_0_0, b⟩] : List (View.Piece (Elt F) S688x128 .bf16)), y ∈ p.1.set :=
  View.cover_of_tiled [⟨Rect.unit (s := S688x128) ![0, 64] S688x64.size inb_S688x128_S688x64_0_64, a⟩, ⟨Rect.unit (s := S688x128) ![0, 0] S688x64.size inb_S688x128_S688x64_0_0, b⟩] S688x64.size (by rfl) y

/-- The block of the values' gradient that the body leaves. -/
def outV (i : grid0.Coords) (q : Vec F S2064x128 .bf16) (kk vv : Vec F S688x128 .bf16) (o : Vec F S2064x128 .f32) (g : Vec F S2064x128 .bf16) (l : Vec F S2064x128 .f32) (cc : Vec F S1x1x1x2x688 .f32) : Vec F S688x128 .bf16 :=
  View.canon [⟨Rect.unit (s := S688x128) ![0, 64] S688x64.size inb_S688x128_S688x64_0_64, k0_pay14 (acc1 i q kk vv o g l cc).2.1⟩, ⟨Rect.unit (s := S688x128) ![0, 0] S688x64.size inb_S688x128_S688x64_0_0, k0_pay64 (acc0 i q kk vv o g l cc).2.1⟩]
/-- The two heads' pieces of the values' gradient cover the block. -/
theorem outV_cover (a b) (y : Shape.Idx S688x128) : ∃ p ∈ ([⟨Rect.unit (s := S688x128) ![0, 64] S688x64.size inb_S688x128_S688x64_0_64, a⟩, ⟨Rect.unit (s := S688x128) ![0, 0] S688x64.size inb_S688x128_S688x64_0_0, b⟩] : List (View.Piece (Elt F) S688x128 .bf16)), y ∈ p.1.set :=
  View.cover_of_tiled [⟨Rect.unit (s := S688x128) ![0, 64] S688x64.size inb_S688x128_S688x64_0_64, a⟩, ⟨Rect.unit (s := S688x128) ![0, 0] S688x64.size inb_S688x128_S688x64_0_0, b⟩] S688x64.size (by rfl) y

/-- The block of the gradient of the keys' gates that the body leaves. -/
def outC (i : grid0.Coords) (q : Vec F S2064x128 .bf16) (kk vv : Vec F S688x128 .bf16) (o : Vec F S2064x128 .f32) (g : Vec F S2064x128 .bf16) (l : Vec F S2064x128 .f32) (cc : Vec F S1x1x1x2x688 .f32) : Vec F S1x1x1x2x688 .f32 :=
  View.canon [⟨Rect.unit (s := S1x1x1x2x688) ![0, 0, 0, 1, 0] S1x1x1x1x688.size inb_S1x1x1x2x688_S1x1x1x1x688_0_0_0_1_0, k0_pay15 (acc1 i q kk vv o g l cc).2.2⟩, ⟨Rect.unit (s := S1x1x1x2x688) ![0, 0, 0, 0, 0] S1x1x1x1x688.size inb_S1x1x1x2x688_S1x1x1x1x688_0_0_0_0_0, k0_pay65 (acc0 i q kk vv o g l cc).2.2⟩]
/-- The two heads' pieces of the gradient of the keys' gates cover the block. -/
theorem outC_cover (a b) (y : Shape.Idx S1x1x1x2x688) : ∃ p ∈ ([⟨Rect.unit (s := S1x1x1x2x688) ![0, 0, 0, 1, 0] S1x1x1x1x688.size inb_S1x1x1x2x688_S1x1x1x1x688_0_0_0_1_0, a⟩, ⟨Rect.unit (s := S1x1x1x2x688) ![0, 0, 0, 0, 0] S1x1x1x1x688.size inb_S1x1x1x2x688_S1x1x1x1x688_0_0_0_0_0, b⟩] : List (View.Piece (Elt F) S1x1x1x2x688 .f32)), y ∈ p.1.set :=
  View.cover_of_tiled [⟨Rect.unit (s := S1x1x1x2x688) ![0, 0, 0, 1, 0] S1x1x1x1x688.size inb_S1x1x1x2x688_S1x1x1x1x688_0_0_0_1_0, a⟩, ⟨Rect.unit (s := S1x1x1x2x688) ![0, 0, 0, 0, 0] S1x1x1x1x688.size inb_S1x1x1x2x688_S1x1x1x1x688_0_0_0_0_0, b⟩] S1x1x1x1x688.size (by rfl) y

set_option maxHeartbeats 2000000 in
/-- The body at a point whose row block is the first. -/
theorem run_first (c : Dev nD) (i : grid0.Coords) (arg3 : Memref sig .tc .vmem S2064x128 .bf16) (harg3 : arg3.IsWhole) (arg4 : Memref sig .tc .vmem S688x128 .bf16) (harg4 : arg4.IsWhole) (arg5 : Memref sig .tc .vmem S688x128 .bf16) (harg5 : arg5.IsWhole) (arg6 : Memref sig .tc .vmem S2064x128 .f32) (harg6 : arg6.IsWhole) (arg7 : Memref sig .tc .vmem S2064x128 .bf16) (harg7 : arg7.IsWhole) (arg8 : Memref sig .tc .vmem S2064x128 .f32) (harg8 : arg8.IsWhole) (arg9 : Memref sig .tc .vmem S1x1x1x2x688 .f32) (harg9 : arg9.IsWhole) (arg10 : Memref sig .tc .vmem S2064x128 .f32) (harg10 : arg10.IsWhole) (arg11 : Memref sig .tc .vmem S688x128 .bf16) (harg11 : arg11.IsWhole) (arg12 : Memref sig .tc .vmem S688x128 .bf16) (harg12 : arg12.IsWhole) (arg13 : Memref sig .tc .vmem S1x1x1x2x688 .f32) (harg13 : arg13.IsWhole) (arg14 : Memref sig .tc .vmem S1x2064x2 .f32) (harg14 : arg14.IsWhole) (hc : first i) (q : Vec F S2064x128 .bf16) (kk vv : Vec F S688x128 .bf16) (o : Vec F S2064x128 .f32) (g : Vec F S2064x128 .bf16) (l : Vec F S2064x128 .f32) (cc : Vec F S1x1x1x2x688 .f32) :
    ∀ (E : Set ℕ) (K : PUnit → sProp 𝕄),
      iprop(owns (c : Thread nD τ) arg3 fullShare q ∗ owns (c : Thread nD τ) arg4 fullShare kk ∗ owns (c : Thread nD τ) arg5 fullShare vv ∗ owns (c : Thread nD τ) arg6 fullShare o ∗ owns (c : Thread nD τ) arg7 fullShare g ∗ owns (c : Thread nD τ) arg8 fullShare l ∗ owns (c : Thread nD τ) arg9 fullShare cc ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop(owns (c : Thread nD τ) arg3 fullShare q ∗ owns (c : Thread nD τ) arg4 fullShare kk ∗ owns (c : Thread nD τ) arg5 fullShare vv ∗ owns (c : Thread nD τ) arg6 fullShare o ∗ owns (c : Thread nD τ) arg7 fullShare g ∗ owns (c : Thread nD τ) arg8 fullShare l ∗ owns (c : Thread nD τ) arg9 fullShare cc ∗ (∃ d, owns (c : Thread nD τ) arg10 fullShare d) ∗ owns (c : Thread nD τ) arg11 fullShare (outK i q kk vv o g l cc) ∗ owns (c : Thread nD τ) arg12 fullShare (outV i q kk vv o g l cc) ∗ owns (c : Thread nD τ) arg13 fullShare (outC i q kk vv o g l cc) ∗ (∃ d, owns (c : Thread nD τ) arg14 fullShare d)) -∗ K ⟨⟩))
        ⊢ wp frame (wpE (defs₀ (F := F)) Variants.none c none) E (cc0_b_attn_bwd i arg3 harg3 arg4 harg4 arg5 harg5 arg6 harg6 arg7 harg7 arg8 harg8 arg9 harg9 arg10 harg10 arg11 harg11 arg12 harg12 arg13 harg13 arg14 harg14) K := by
  intro E K
  simp only [cc0_b_attn_bwd_eq_skeleton]; unfold cc0_b_attn_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5 hf6
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _, _; isplitr; swap; · iexact H7
    ipureintro; rfl
  isplitl [H8]
  · iexists _; isplitr; swap; · iexact H8
    ipureintro
    refine (View.read_writes_eq_canon _ _ _ (outK_cover _ _)).trans ?_
    rfl
  isplitl [H9]
  · iexists _; isplitr; swap; · iexact H9
    ipureintro
    refine (View.read_writes_eq_canon _ _ _ (outV_cover _ _)).trans ?_
    rfl
  isplitl [H10]
  · iexists _; isplitr; swap; · iexact H10
    ipureintro
    refine (View.read_writes_eq_canon _ _ _ (outC_cover _ _)).trans ?_
    rfl
  iexists _, _; isplitr; swap; · iexact H11
  ipureintro; rfl

set_option maxHeartbeats 2000000 in
/-- The body at a point whose row block is not the first. -/
theorem run_later (c : Dev nD) (i : grid0.Coords) (arg3 : Memref sig .tc .vmem S2064x128 .bf16) (harg3 : arg3.IsWhole) (arg4 : Memref sig .tc .vmem S688x128 .bf16) (harg4 : arg4.IsWhole) (arg5 : Memref sig .tc .vmem S688x128 .bf16) (harg5 : arg5.IsWhole) (arg6 : Memref sig .tc .vmem S2064x128 .f32) (harg6 : arg6.IsWhole) (arg7 : Memref sig .tc .vmem S2064x128 .bf16) (harg7 : arg7.IsWhole) (arg8 : Memref sig .tc .vmem S2064x128 .f32) (harg8 : arg8.IsWhole) (arg9 : Memref sig .tc .vmem S1x1x1x2x688 .f32) (harg9 : arg9.IsWhole) (arg10 : Memref sig .tc .vmem S2064x128 .f32) (harg10 : arg10.IsWhole) (arg11 : Memref sig .tc .vmem S688x128 .bf16) (harg11 : arg11.IsWhole) (arg12 : Memref sig .tc .vmem S688x128 .bf16) (harg12 : arg12.IsWhole) (arg13 : Memref sig .tc .vmem S1x1x1x2x688 .f32) (harg13 : arg13.IsWhole) (arg14 : Memref sig .tc .vmem S1x2064x2 .f32) (harg14 : arg14.IsWhole) (hc : ¬ first i) (q : Vec F S2064x128 .bf16) (kk vv : Vec F S688x128 .bf16) (o : Vec F S2064x128 .f32) (g : Vec F S2064x128 .bf16) (l : Vec F S2064x128 .f32) (cc : Vec F S1x1x1x2x688 .f32) :
    ∀ (E : Set ℕ) (K : PUnit → sProp 𝕄),
      iprop(owns (c : Thread nD τ) arg3 fullShare q ∗ owns (c : Thread nD τ) arg4 fullShare kk ∗ owns (c : Thread nD τ) arg5 fullShare vv ∗ owns (c : Thread nD τ) arg6 fullShare o ∗ owns (c : Thread nD τ) arg7 fullShare g ∗ owns (c : Thread nD τ) arg8 fullShare l ∗ owns (c : Thread nD τ) arg9 fullShare cc ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop(owns (c : Thread nD τ) arg3 fullShare q ∗ owns (c : Thread nD τ) arg4 fullShare kk ∗ owns (c : Thread nD τ) arg5 fullShare vv ∗ owns (c : Thread nD τ) arg6 fullShare o ∗ owns (c : Thread nD τ) arg7 fullShare g ∗ owns (c : Thread nD τ) arg8 fullShare l ∗ owns (c : Thread nD τ) arg9 fullShare cc ∗ (∃ d, owns (c : Thread nD τ) arg10 fullShare d) ∗ owns (c : Thread nD τ) arg11 fullShare (outK i q kk vv o g l cc) ∗ owns (c : Thread nD τ) arg12 fullShare (outV i q kk vv o g l cc) ∗ owns (c : Thread nD τ) arg13 fullShare (outC i q kk vv o g l cc) ∗ (∃ d, owns (c : Thread nD τ) arg14 fullShare d)) -∗ K ⟨⟩))
        ⊢ wp frame (wpE (defs₀ (F := F)) Variants.none c none) E (cc0_b_attn_bwd i arg3 harg3 arg4 harg4 arg5 harg5 arg6 harg6 arg7 harg7 arg8 harg8 arg9 harg9 arg10 harg10 arg11 harg11 arg12 harg12 arg13 harg13 arg14 harg14) K := by
  intro E K
  simp only [cc0_b_attn_bwd_eq_skeleton]; unfold cc0_b_attn_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5 hf6
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _, _; isplitr; swap; · iexact H7
    ipureintro; rfl
  isplitl [H8]
  · iexists _; isplitr; swap; · iexact H8
    ipureintro
    refine (View.read_writes_eq_canon _ _ _ (outK_cover _ _)).trans ?_
    rfl
  isplitl [H9]
  · iexists _; isplitr; swap; · iexact H9
    ipureintro
    refine (View.read_writes_eq_canon _ _ _ (outV_cover _ _)).trans ?_
    rfl
  isplitl [H10]
  · iexists _; isplitr; swap; · iexact H10
    ipureintro
    refine (View.read_writes_eq_canon _ _ _ (outC_cover _ _)).trans ?_
    rfl
  iexists _, _; isplitr; swap; · iexact H11
  ipureintro; rfl

end Cert.Attn

end
-- ==== Proof.Attn.Pay.lean ====
module

public import proofs.«01_k».proof.Proof.Attn.Run
public import Idealize.ShloMosaic.Lib.Pointwise
public import Idealize.ShloMosaic.Lib.IdealHost

@[expose] public section

set_option maxRecDepth 16384
set_option maxHeartbeats 1000000

/-! The attention backward kernel's blocks at an element, at the ideal numbers: the gradient of a
key, a value or a gate is a sum over the rows at or after the key's own. -/

noncomputable section

namespace Cert.Attn

open Idealize.ShloMosaic
open Cert.KernelIdeal Cert.KernelIdeal.Gen

/-! ## The element-wise parts -/

/-- Lane `x` of head `h` of a window's two. -/
abbrev ln (h : Fin 2) (x : Fin 64) : Fin 128 := ⟨64 * h.val + x.val, by omega⟩

/-- Row `r` of row block `b`. -/
abbrev rw3 (b : Fin 3) (r : Fin 688) : Fin 2064 := ⟨688 * b.val + r.val, by omega⟩

/-- One eighth, the scale of the logits. -/
abbrev e8 : EReal := Ideal.ofBits FTy.f32 0x3E000000#32

section
variable (q : Vec Ideal S2064x128 .bf16) (kk vv : Vec Ideal S688x128 .bf16) (o : Vec Ideal S2064x128 .f32) (g : Vec Ideal S2064x128 .bf16) (l : Vec Ideal S2064x128 .f32) (cc : Vec Ideal S1x1x1x2x688 .f32)

/-- The logit of row `T` at key `s`, less the row's own gate. -/
def wS (h : Fin 2) (T : Fin 2064) (s : Fin 688) : EReal :=
  (∑ x : Fin 64, q (ix2 T (ln h x)) * e8 * kk (ix2 s (ln h x))) - cc (ix5 0 0 0 h s)

/-- The weight of row `T` at key `s`. -/
def wP (h : Fin 2) (T : Fin 2064) (s : Fin 688) : EReal :=
  Ideal.exp (wS q kk cc h T s - l (ix2 T (ln h 0)))

/-- The gradient of the logit of row `T` at key `s`. -/
def wD (h : Fin 2) (T : Fin 2064) (s : Fin 688) : EReal :=
  wP q kk l cc h T s * ((∑ x : Fin 64, g (ix2 T (ln h x)) * vv (ix2 s (ln h x)))
    - ∑ x : Fin 64, g (ix2 T (ln h x)) * o (ix2 T (ln h x)))

/-- What row `T` adds to lane `d` of key `s`'s gradient. -/
def tK (h : Fin 2) (d : Fin 64) (s : Fin 688) (T : Fin 2064) : EReal :=
  q (ix2 T (ln h d)) * e8 * wD q kk vv o g l cc h T s

/-- What row `T` adds to lane `d` of value `s`'s gradient. -/
def tV (h : Fin 2) (d : Fin 64) (s : Fin 688) (T : Fin 2064) : EReal :=
  g (ix2 T (ln h d)) * wP q kk l cc h T s

end

/-! ## Sums over row blocks -/

/-- A fold whose trips each add a term to what is read of the carried value. -/
theorem fold_sum {A : Type} {n : ℕ} (step : Fin n → A → A) (init : A) (p : A → EReal) (f : ℕ → EReal)
    (h : ∀ (k : Fin n) a, p (step k a) = p a + f k.val) :
    ∀ m, m ≤ n → p (foldTrips step init m) = p init + ∑ k ∈ Finset.range m, f k
  | 0, _ => by simp
  | m + 1, hm => by
    have e := foldTrips_succ step init ⟨m, hm⟩
    rw [Finset.sum_range_succ, ← add_assoc, ← fold_sum step init p f h m (by omega), ← h ⟨m, hm⟩]
    exact congrArg p e

/-- The rows of the block on the diagonal from the key on, and those of the later blocks. -/
theorem rows_comb (f : Fin 2064 → EReal) (j : Fin 3) (s : Fin 688) :
    (∑ r : Fin 688, if s.val ≤ r.val then f (rw3 j r) else 0)
      + (∑ k ∈ Finset.range (2 - j.val), if h : j.val + 1 + k < 3 then ∑ r : Fin 688, f (rw3 ⟨j.val + 1 + k, h⟩ r) else 0)
    = ∑ T : Fin 2064, if 688 * j.val + s.val ≤ T.val then f T else 0 := by
  have split : ∀ F : Fin 2064 → EReal, ∑ T, F T = ∑ b : Fin 3, ∑ r : Fin 688, F (rw3 b r) := fun F => by
    rw [Fin.sum_univ_tiles 3 688 (by norm_num)]
    refine Finset.sum_congr rfl fun b _ => Finset.sum_congr rfl fun r _ => congrArg F (Fin.ext ?_)
    show b.val * 688 + r.val = 688 * b.val + r.val
    omega
  have hs := s.isLt
  have same : (∑ r : Fin 688, if 688 * j.val + s.val ≤ (rw3 j r).val then f (rw3 j r) else 0)
      = ∑ r : Fin 688, if s.val ≤ r.val then f (rw3 j r) else 0 := by
    refine Finset.sum_congr rfl fun r _ => if_congr ?_ rfl rfl
    show 688 * j.val + s.val ≤ 688 * j.val + r.val ↔ _
    omega
  have before : ∀ b : Fin 3, b.val < j.val → (∑ r : Fin 688, if 688 * j.val + s.val ≤ (rw3 b r).val then f (rw3 b r) else 0) = 0 := fun b hb => by
    refine Finset.sum_eq_zero fun r _ => if_neg ?_
    show ¬ 688 * j.val + s.val ≤ 688 * b.val + r.val
    have := r.isLt
    omega
  have later : ∀ b : Fin 3, j.val < b.val → (∑ r : Fin 688, if 688 * j.val + s.val ≤ (rw3 b r).val then f (rw3 b r) else 0) = ∑ r : Fin 688, f (rw3 b r) := fun b hb => by
    refine Finset.sum_congr rfl fun r _ => if_pos ?_
    show 688 * j.val + s.val ≤ 688 * b.val + r.val
    omega
  rw [split, Fin.sum_univ_three, ← same]
  rcases (by decide : ∀ j : Fin 3, j = 0 ∨ j = 1 ∨ j = 2) j with rfl | rfl | rfl
  · rw [later 1 (by decide), later 2 (by decide), add_assoc]
    refine congrArg (_ + ·) ?_
    simp only [Fin.val_zero, Nat.sub_zero, Finset.sum_range_succ, Finset.sum_range_zero, zero_add]
    rfl
  · rw [before 0 (by decide), later 2 (by decide), zero_add]
    refine congrArg (_ + ·) ?_
    simp only [Fin.val_one, Nat.add_one_sub_one, Finset.sum_range_succ, Finset.sum_range_zero, zero_add]
    rfl
  · rw [before 0 (by decide), before 1 (by decide), zero_add, zero_add]
    simp only [Fin.val_two, Nat.sub_self, Finset.range_zero, Finset.sum_empty, add_zero]

/-- A sum of real numbers, as a sum of extended reals. -/
theorem coe_sum {ι : Type*} (t : Finset ι) (f : ι → ℝ) : ((∑ x ∈ t, f x : ℝ) : EReal) = ∑ x ∈ t, (f x : EReal) :=
  map_sum (⟨⟨Real.toEReal, EReal.coe_zero⟩, EReal.coe_add⟩ : ℝ →+ EReal) f t

/-- The negative of a sum of real numbers. -/
theorem neg_sum_real {n : ℕ} (f : Fin n → EReal) (h : ∀ x, ∃ r : ℝ, f x = (r : EReal)) : -(∑ x, f x) = ∑ x, -f x := by
  choose r hr using h
  simp only [hr]
  rw [← coe_sum, ← EReal.coe_neg]
  simp only [← EReal.coe_neg]
  rw [← coe_sum, Finset.sum_neg_distrib]

/-! ## The loops and the block on the diagonal -/

/-- The mask is negative infinity. -/
theorem mask_bot : (Named.named κ "mask" 0xF149F2CA#32 : Ideal .f32) = (⊥ : EReal) := by
  simp [Named.named, κ]

/-- The exponential of a masked logit less anything is zero. -/
theorem exp_mask (x : EReal) : Ideal.exp ((⊥ : EReal) - x) = 0 := by
  rw [EReal.bot_sub]; exact Ideal.exp_bot

/-- A choice on the order of a row and a key. -/
theorem sel_ge (r s : Fin 688) (x y : EReal) :
    Scalar.select (IntOp.cmpi .sge (BitVec.ofNat 32 r.val) (BitVec.ofNat 32 s.val)) x y = if s.val ≤ r.val then x else y := by
  have hr := r.isLt
  have hs := s.isLt
  rw [WordCmp.cmpi_sge_ofNat (by norm_num; omega) (by norm_num; omega)]
  by_cases h : s.val ≤ r.val
  · rw [if_pos h, decide_eq_true h]; rfl
  · rw [if_neg h, decide_eq_false h]; rfl

/-- The later row blocks of head 0's loop. -/
theorem trips1 (i : grid0.Coords) : (k0_t1_loop i).trips = 2 - (i 2).val := by revert i; decide +kernel
/-- The later row blocks of head 1's loop. -/
theorem trips3 (i : grid0.Coords) : (k0_t3_loop i).trips = 2 - (i 2).val := by revert i; decide +kernel

section
variable (i : grid0.Coords) (q : Vec Ideal S2064x128 .bf16) (kk vv : Vec Ideal S688x128 .bf16) (o : Vec Ideal S2064x128 .f32) (g : Vec Ideal S2064x128 .bf16) (l : Vec Ideal S2064x128 .f32) (cc : Vec Ideal S1x1x1x2x688 .f32)

/-- The grid's row block. -/
abbrev jb : Fin 3 := ⟨(i 2).val, (i 2).isLt⟩

/-- What a trip of head 0's loop adds to the keys' gradient. -/
theorem trip_k0 (k : Fin (k0_t1_loop i).trips) (acc) (d : Fin 64) (s : Fin 688) :
    (trip1 i (kBlk0 kk) (kBlk0 vv) (k0_pay40 (cBlk0 cc)) q o g l k acc).1 (ix2 d s)
      = acc.1 (ix2 d s) + if h : (jb i).val + 1 + k.val < 3 then (∑ r : Fin 688, tK q kk vv o g l cc 0 d s (rw3 ⟨(jb i).val + 1 + k.val, h⟩ r)) else 0 := by
  have hj : (i 2).val < 3 := (i 2).isLt
  have hk : k.val < 2 - (i 2).val := (trips1 i) ▸ k.isLt
  have hjk : (jb i).val + 1 + k.val < 3 := by show (i 2).val + 1 + k.val < 3; omega
  rw [dif_pos hjk]
  have e : ∀ (r : Fin 688) (w : 688 * (i 2).val + 688 * k.val + 688 + r.val < 2064), (⟨688 * (i 2).val + 688 * k.val + 688 + r.val, w⟩ : Fin 2064) = rw3 ⟨(jb i).val + 1 + k.val, hjk⟩ r := fun r w =>
    Fin.ext (show 688 * (i 2).val + 688 * k.val + 688 + r.val = 688 * ((i 2).val + 1 + k.val) + r.val by omega)
  pointwise [trip1, k0_pay56, k0_pay19, k0_pay18, k0_pay17, k0_pay16, kBlk0, cBlk0, k0_pay40, k0_off4_eq, k0_off5_eq]
  simp only [e]
  simp only [tK, tV, wD, wP, wS, ln, e8, Fin.val_zero, Fin.val_one, mul_zero, mul_one, zero_add, add_zero]
  rfl

/-- What head 0 carries of the keys' gradient past the block on the diagonal. -/
theorem diag_k0 (d : Fin 64) (s : Fin 688) :
    (diag0 i q kk vv o g l cc).1 (ix2 d s)
      = ∑ r : Fin 688, if s.val ≤ r.val then tK q kk vv o g l cc 0 d s (rw3 (jb i) r) else 0 := by
  have hj : (i 2).val < 3 := (i 2).isLt
  pointwise [diag0, k0_pay51, k0_pay52, k0_pay53, k0_pay54, k0_pay41, k0_pay42, k0_pay43, k0_pay44, k0_pay45, k0_pay46, k0_pay47, k0_pay48, k0_pay49, k0_pay50, k0_pay40, k0_pay39, k0_pay38, kBlk0, cBlk0, k0_off1_eq, k0_off2_eq]
  skip
  refine Finset.sum_congr rfl fun r _ => ?_
  rw [sel_ge]
  by_cases hrs : s.val ≤ r.val
  · rw [if_pos hrs]
    rw [if_pos hrs]
    simp only [tK, tV, wD, wP, wS, ln, e8, Fin.val_zero, Fin.val_one, mul_zero, mul_one, zero_add, add_zero]
    rfl
  · rw [if_neg hrs]
    rw [if_neg hrs]
    rw [mask_bot, exp_mask]
    simp only [zero_mul, mul_zero]

/-- What a trip of head 0's loop adds to the values' gradient. -/
theorem trip_v0 (k : Fin (k0_t1_loop i).trips) (acc) (d : Fin 64) (s : Fin 688) :
    (trip1 i (kBlk0 kk) (kBlk0 vv) (k0_pay40 (cBlk0 cc)) q o g l k acc).2.1 (ix2 d s)
      = acc.2.1 (ix2 d s) + if h : (jb i).val + 1 + k.val < 3 then (∑ r : Fin 688, tV q kk g l cc 0 d s (rw3 ⟨(jb i).val + 1 + k.val, h⟩ r)) else 0 := by
  have hj : (i 2).val < 3 := (i 2).isLt
  have hk : k.val < 2 - (i 2).val := (trips1 i) ▸ k.isLt
  have hjk : (jb i).val + 1 + k.val < 3 := by show (i 2).val + 1 + k.val < 3; omega
  rw [dif_pos hjk]
  have e : ∀ (r : Fin 688) (w : 688 * (i 2).val + 688 * k.val + 688 + r.val < 2064), (⟨688 * (i 2).val + 688 * k.val + 688 + r.val, w⟩ : Fin 2064) = rw3 ⟨(jb i).val + 1 + k.val, hjk⟩ r := fun r w =>
    Fin.ext (show 688 * (i 2).val + 688 * k.val + 688 + r.val = 688 * ((i 2).val + 1 + k.val) + r.val by omega)
  pointwise [trip1, k0_pay57, k0_pay19, k0_pay18, k0_pay17, k0_pay16, kBlk0, cBlk0, k0_pay40, k0_off4_eq, k0_off5_eq]
  simp only [e]
  simp only [tK, tV, wD, wP, wS, ln, e8, Fin.val_zero, Fin.val_one, mul_zero, mul_one, zero_add, add_zero]
  rfl

/-- What head 0 carries of the values' gradient past the block on the diagonal. -/
theorem diag_v0 (d : Fin 64) (s : Fin 688) :
    (diag0 i q kk vv o g l cc).2.1 (ix2 d s)
      = ∑ r : Fin 688, if s.val ≤ r.val then tV q kk g l cc 0 d s (rw3 (jb i) r) else 0 := by
  have hj : (i 2).val < 3 := (i 2).isLt
  pointwise [diag0, k0_pay51, k0_pay52, k0_pay53, k0_pay54, k0_pay41, k0_pay42, k0_pay43, k0_pay44, k0_pay45, k0_pay46, k0_pay47, k0_pay48, k0_pay49, k0_pay50, k0_pay40, k0_pay39, k0_pay38, kBlk0, cBlk0, k0_off1_eq, k0_off2_eq]
  skip
  refine Finset.sum_congr rfl fun r _ => ?_
  rw [sel_ge]
  by_cases hrs : s.val ≤ r.val
  · rw [if_pos hrs]
    rw [if_pos hrs]
    simp only [tK, tV, wD, wP, wS, ln, e8, Fin.val_zero, Fin.val_one, mul_zero, mul_one, zero_add, add_zero]
    rfl
  · rw [if_neg hrs]
    rw [if_neg hrs]
    rw [mask_bot, exp_mask]
    simp only [zero_mul, mul_zero]

/-- What a trip of head 0's loop adds to the gates' gradient. -/
theorem trip_c0 (k : Fin (k0_t1_loop i).trips) (acc) (s : Fin 688) :
    (trip1 i (kBlk0 kk) (kBlk0 vv) (k0_pay40 (cBlk0 cc)) q o g l k acc).2.2 (ix2 0 s)
      = acc.2.2 (ix2 0 s) + if h : (jb i).val + 1 + k.val < 3 then -(∑ r : Fin 688, (fun T => wD q kk vv o g l cc 0 T s) (rw3 ⟨(jb i).val + 1 + k.val, h⟩ r)) else 0 := by
  have hj : (i 2).val < 3 := (i 2).isLt
  have hk : k.val < 2 - (i 2).val := (trips1 i) ▸ k.isLt
  have hjk : (jb i).val + 1 + k.val < 3 := by show (i 2).val + 1 + k.val < 3; omega
  rw [dif_pos hjk]
  have e : ∀ (r : Fin 688) (w : 688 * (i 2).val + 688 * k.val + 688 + r.val < 2064), (⟨688 * (i 2).val + 688 * k.val + 688 + r.val, w⟩ : Fin 2064) = rw3 ⟨(jb i).val + 1 + k.val, hjk⟩ r := fun r w =>
    Fin.ext (show 688 * (i 2).val + 688 * k.val + 688 + r.val = 688 * ((i 2).val + 1 + k.val) + r.val by omega)
  pointwise [trip1, k0_pay58, k0_pay19, k0_pay18, k0_pay17, k0_pay16, kBlk0, cBlk0, k0_pay40, k0_off4_eq, k0_off5_eq]
  simp only [e]
  simp only [tK, tV, wD, wP, wS, ln, e8, Fin.val_zero, Fin.val_one, mul_zero, mul_one, zero_add, add_zero, sub_eq_add_neg]
  rfl

/-- What head 0 carries of the gates' gradient past the block on the diagonal. -/
theorem diag_c0 (s : Fin 688) :
    (diag0 i q kk vv o g l cc).2.2 (ix2 0 s)
      = 0 - ∑ r : Fin 688, if s.val ≤ r.val then (fun T => wD q kk vv o g l cc 0 T s) (rw3 (jb i) r) else 0 := by
  have hj : (i 2).val < 3 := (i 2).isLt
  pointwise [diag0, k0_pay51, k0_pay52, k0_pay53, k0_pay54, k0_pay41, k0_pay42, k0_pay43, k0_pay44, k0_pay45, k0_pay46, k0_pay47, k0_pay48, k0_pay49, k0_pay50, k0_pay40, k0_pay39, k0_pay38, kBlk0, cBlk0, k0_off1_eq, k0_off2_eq]
  refine congrArg (fun x : EReal => 0 - x) ?_
  refine Finset.sum_congr rfl fun r _ => ?_
  rw [sel_ge]
  by_cases hrs : s.val ≤ r.val
  · rw [if_pos hrs]
    rw [if_pos hrs]
    simp only [tK, tV, wD, wP, wS, ln, e8, Fin.val_zero, Fin.val_one, mul_zero, mul_one, zero_add, add_zero]
    rfl
  · rw [if_neg hrs]
    rw [if_neg hrs]
    rw [mask_bot, exp_mask]
    simp only [zero_mul, mul_zero]

/-- What a trip of head 1's loop adds to the keys' gradient. -/
theorem trip_k1 (k : Fin (k0_t3_loop i).trips) (acc) (d : Fin 64) (s : Fin 688) :
    (trip3 i (kBlk1 kk) (kBlk1 vv) (k0_pay67 (cBlk1 cc)) q o g l k acc).1 (ix2 d s)
      = acc.1 (ix2 d s) + if h : (jb i).val + 1 + k.val < 3 then (∑ r : Fin 688, tK q kk vv o g l cc 1 d s (rw3 ⟨(jb i).val + 1 + k.val, h⟩ r)) else 0 := by
  have hj : (i 2).val < 3 := (i 2).isLt
  have hk : k.val < 2 - (i 2).val := (trips3 i) ▸ k.isLt
  have hjk : (jb i).val + 1 + k.val < 3 := by show (i 2).val + 1 + k.val < 3; omega
  rw [dif_pos hjk]
  have e : ∀ (r : Fin 688) (w : 688 * (i 2).val + 688 * k.val + 688 + r.val < 2064), (⟨688 * (i 2).val + 688 * k.val + 688 + r.val, w⟩ : Fin 2064) = rw3 ⟨(jb i).val + 1 + k.val, hjk⟩ r := fun r w =>
    Fin.ext (show 688 * (i 2).val + 688 * k.val + 688 + r.val = 688 * ((i 2).val + 1 + k.val) + r.val by omega)
  pointwise [trip3, k0_pay6, k0_pay29, k0_pay28, k0_pay27, k0_pay26, kBlk1, cBlk1, k0_pay67, k0_off13_eq, k0_off14_eq]
  simp only [e]
  simp only [tK, tV, wD, wP, wS, ln, e8, Fin.val_zero, Fin.val_one, mul_zero, mul_one, zero_add, add_zero]
  rfl

/-- What head 1 carries of the keys' gradient past the block on the diagonal. -/
theorem diag_k1 (d : Fin 64) (s : Fin 688) :
    (diag1 i q kk vv o g l cc).1 (ix2 d s)
      = ∑ r : Fin 688, if s.val ≤ r.val then tK q kk vv o g l cc 1 d s (rw3 (jb i) r) else 0 := by
  have hj : (i 2).val < 3 := (i 2).isLt
  pointwise [diag1, k0_pay2, k0_pay3, k0_pay4, k0_pay68, k0_pay69, k0_pay70, k0_pay71, k0_pay72, k0_pay73, k0_pay74, k0_pay38, kBlk1, cBlk1, k0_pay67, k0_off10_eq, k0_off11_eq]
  skip
  refine Finset.sum_congr rfl fun r _ => ?_
  rw [sel_ge]
  by_cases hrs : s.val ≤ r.val
  · rw [if_pos hrs]
    rw [if_pos hrs]
    simp only [tK, tV, wD, wP, wS, ln, e8, Fin.val_zero, Fin.val_one, mul_zero, mul_one, zero_add, add_zero]
    rfl
  · rw [if_neg hrs]
    rw [if_neg hrs]
    rw [mask_bot, exp_mask]
    simp only [zero_mul, mul_zero]

/-- What a trip of head 1's loop adds to the values' gradient. -/
theorem trip_v1 (k : Fin (k0_t3_loop i).trips) (acc) (d : Fin 64) (s : Fin 688) :
    (trip3 i (kBlk1 kk) (kBlk1 vv) (k0_pay67 (cBlk1 cc)) q o g l k acc).2.1 (ix2 d s)
      = acc.2.1 (ix2 d s) + if h : (jb i).val + 1 + k.val < 3 then (∑ r : Fin 688, tV q kk g l cc 1 d s (rw3 ⟨(jb i).val + 1 + k.val, h⟩ r)) else 0 := by
  have hj : (i 2).val < 3 := (i 2).isLt
  have hk : k.val < 2 - (i 2).val := (trips3 i) ▸ k.isLt
  have hjk : (jb i).val + 1 + k.val < 3 := by show (i 2).val + 1 + k.val < 3; omega
  rw [dif_pos hjk]
  have e : ∀ (r : Fin 688) (w : 688 * (i 2).val + 688 * k.val + 688 + r.val < 2064), (⟨688 * (i 2).val + 688 * k.val + 688 + r.val, w⟩ : Fin 2064) = rw3 ⟨(jb i).val + 1 + k.val, hjk⟩ r := fun r w =>
    Fin.ext (show 688 * (i 2).val + 688 * k.val + 688 + r.val = 688 * ((i 2).val + 1 + k.val) + r.val by omega)
  pointwise [trip3, k0_pay7, k0_pay29, k0_pay28, k0_pay27, k0_pay26, kBlk1, cBlk1, k0_pay67, k0_off13_eq, k0_off14_eq]
  simp only [e]
  simp only [tK, tV, wD, wP, wS, ln, e8, Fin.val_zero, Fin.val_one, mul_zero, mul_one, zero_add, add_zero]
  rfl

/-- What head 1 carries of the values' gradient past the block on the diagonal. -/
theorem diag_v1 (d : Fin 64) (s : Fin 688) :
    (diag1 i q kk vv o g l cc).2.1 (ix2 d s)
      = ∑ r : Fin 688, if s.val ≤ r.val then tV q kk g l cc 1 d s (rw3 (jb i) r) else 0 := by
  have hj : (i 2).val < 3 := (i 2).isLt
  pointwise [diag1, k0_pay2, k0_pay3, k0_pay4, k0_pay68, k0_pay69, k0_pay70, k0_pay71, k0_pay72, k0_pay73, k0_pay74, k0_pay38, kBlk1, cBlk1, k0_pay67, k0_off10_eq, k0_off11_eq]
  skip
  refine Finset.sum_congr rfl fun r _ => ?_
  rw [sel_ge]
  by_cases hrs : s.val ≤ r.val
  · rw [if_pos hrs]
    rw [if_pos hrs]
    simp only [tK, tV, wD, wP, wS, ln, e8, Fin.val_zero, Fin.val_one, mul_zero, mul_one, zero_add, add_zero]
    rfl
  · rw [if_neg hrs]
    rw [if_neg hrs]
    rw [mask_bot, exp_mask]
    simp only [zero_mul, mul_zero]

/-- What a trip of head 1's loop adds to the gates' gradient. -/
theorem trip_c1 (k : Fin (k0_t3_loop i).trips) (acc) (s : Fin 688) :
    (trip3 i (kBlk1 kk) (kBlk1 vv) (k0_pay67 (cBlk1 cc)) q o g l k acc).2.2 (ix2 0 s)
      = acc.2.2 (ix2 0 s) + if h : (jb i).val + 1 + k.val < 3 then -(∑ r : Fin 688, (fun T => wD q kk vv o g l cc 1 T s) (rw3 ⟨(jb i).val + 1 + k.val, h⟩ r)) else 0 := by
  have hj : (i 2).val < 3 := (i 2).isLt
  have hk : k.val < 2 - (i 2).val := (trips3 i) ▸ k.isLt
  have hjk : (jb i).val + 1 + k.val < 3 := by show (i 2).val + 1 + k.val < 3; omega
  rw [dif_pos hjk]
  have e : ∀ (r : Fin 688) (w : 688 * (i 2).val + 688 * k.val + 688 + r.val < 2064), (⟨688 * (i 2).val + 688 * k.val + 688 + r.val, w⟩ : Fin 2064) = rw3 ⟨(jb i).val + 1 + k.val, hjk⟩ r := fun r w =>
    Fin.ext (show 688 * (i 2).val + 688 * k.val + 688 + r.val = 688 * ((i 2).val + 1 + k.val) + r.val by omega)
  pointwise [trip3, k0_pay8, k0_pay29, k0_pay28, k0_pay27, k0_pay26, kBlk1, cBlk1, k0_pay67, k0_off13_eq, k0_off14_eq]
  simp only [e]
  simp only [tK, tV, wD, wP, wS, ln, e8, Fin.val_zero, Fin.val_one, mul_zero, mul_one, zero_add, add_zero, sub_eq_add_neg]
  rfl

/-- What head 1 carries of the gates' gradient past the block on the diagonal. -/
theorem diag_c1 (s : Fin 688) :
    (diag1 i q kk vv o g l cc).2.2 (ix2 0 s)
      = 0 - ∑ r : Fin 688, if s.val ≤ r.val then (fun T => wD q kk vv o g l cc 1 T s) (rw3 (jb i) r) else 0 := by
  have hj : (i 2).val < 3 := (i 2).isLt
  pointwise [diag1, k0_pay2, k0_pay3, k0_pay4, k0_pay68, k0_pay69, k0_pay70, k0_pay71, k0_pay72, k0_pay73, k0_pay74, k0_pay38, kBlk1, cBlk1, k0_pay67, k0_off10_eq, k0_off11_eq]
  refine congrArg (fun x : EReal => 0 - x) ?_
  refine Finset.sum_congr rfl fun r _ => ?_
  rw [sel_ge]
  by_cases hrs : s.val ≤ r.val
  · rw [if_pos hrs]
    rw [if_pos hrs]
    simp only [tK, tV, wD, wP, wS, ln, e8, Fin.val_zero, Fin.val_one, mul_zero, mul_one, zero_add, add_zero]
    rfl
  · rw [if_neg hrs]
    rw [if_neg hrs]
    rw [mask_bot, exp_mask]
    simp only [zero_mul, mul_zero]

end
end Cert.Attn
end
-- ==== Proof.Attn.Out.lean ====
module

public import proofs.«01_k».proof.Proof.Attn.Pay
public import Idealize.ShloMosaic.Lib.Pipeline.ValueKit.Tiles

@[expose] public section

set_option maxRecDepth 16384
set_option maxHeartbeats 1000000

/-! The three blocks the attention backward kernel's body leaves, at an element: sums over the rows
at or after the key's own. -/

noncomputable section

namespace Cert.Attn

open Idealize.ShloMosaic
open Cert.KernelIdeal Cert.KernelIdeal.Gen

/-- An index whose first four axes have one coordinate. -/
theorem unit5 (a b c d : Fin 1) (e f : Fin 688) (h : e.val = f.val) : (ix5 a b c d e : S1x1x1x1x688.Idx) = ix5 0 0 0 0 f := by
  obtain rfl := Fin.ext h
  rw [Fin.eq_zero a, Fin.eq_zero b, Fin.eq_zero c, Fin.eq_zero d]

variable (i : grid0.Coords) (q : Vec Ideal S2064x128 .bf16) (kk vv : Vec Ideal S688x128 .bf16) (o : Vec Ideal S2064x128 .f32) (g : Vec Ideal S2064x128 .bf16) (l : Vec Ideal S2064x128 .f32) (cc : Vec Ideal S1x1x1x2x688 .f32)

/-- What head 0 carries of the keys' gradient at the end. -/
theorem acc_k0 (d : Fin 64) (s : Fin 688) :
    (acc0 i q kk vv o g l cc).1 (ix2 d s)
      = ∑ T : Fin 2064, if 688 * (jb i).val + s.val ≤ T.val then tK q kk vv o g l cc 0 d s T else 0 := by
  refine (fold_sum _ _ (fun a => a.1 (ix2 d s))
    (fun k => if h : (jb i).val + 1 + k < 3 then ∑ r : Fin 688, tK q kk vv o g l cc 0 d s (rw3 ⟨(jb i).val + 1 + k, h⟩ r) else 0)
    (fun k a => trip_k0 i q kk vv o g l cc k a d s) _ le_rfl).trans ?_
  simp only [diag_k0]
  rw [trips1 i]
  exact rows_comb _ (jb i) s

/-- What head 0 carries of the values' gradient at the end. -/
theorem acc_v0 (d : Fin 64) (s : Fin 688) :
    (acc0 i q kk vv o g l cc).2.1 (ix2 d s)
      = ∑ T : Fin 2064, if 688 * (jb i).val + s.val ≤ T.val then tV q kk g l cc 0 d s T else 0 := by
  refine (fold_sum _ _ (fun a => a.2.1 (ix2 d s))
    (fun k => if h : (jb i).val + 1 + k < 3 then ∑ r : Fin 688, tV q kk g l cc 0 d s (rw3 ⟨(jb i).val + 1 + k, h⟩ r) else 0)
    (fun k a => trip_v0 i q kk vv o g l cc k a d s) _ le_rfl).trans ?_
  simp only [diag_v0]
  rw [trips1 i]
  exact rows_comb _ (jb i) s

/-- What head 0 carries of the gates' gradient at the end. -/
theorem acc_c0 (s : Fin 688) (hD : ∀ T, ∃ r : ℝ, wD q kk vv o g l cc 0 T s = (r : EReal)) :
    (acc0 i q kk vv o g l cc).2.2 (ix2 0 s)
      = ∑ T : Fin 2064, if 688 * (jb i).val + s.val ≤ T.val then -wD q kk vv o g l cc 0 T s else 0 := by
  refine (fold_sum _ _ (fun a => a.2.2 (ix2 0 s))
    (fun k => if h : (jb i).val + 1 + k < 3 then ∑ r : Fin 688, -wD q kk vv o g l cc 0 (rw3 ⟨(jb i).val + 1 + k, h⟩ r) s else 0)
    (fun k a => (trip_c0 i q kk vv o g l cc k a s).trans ?_) _ le_rfl).trans ?_
  · refine congrArg (_ + ·) ?_
    by_cases h : (jb i).val + 1 + k.val < 3
    · rw [dif_pos h, dif_pos h]
      exact neg_sum_real (fun r => wD q kk vv o g l cc 0 (rw3 ⟨(jb i).val + 1 + k.val, h⟩ r) s) fun r => hD _
    · rw [dif_neg h, dif_neg h]
  · simp only [diag_c0]
    rw [trips1 i, zero_sub, neg_sum_real _ fun r => ?_]
    · refine Eq.trans ?_ (rows_comb (fun T => -wD q kk vv o g l cc 0 T s) (jb i) s)
      refine congrArg (· + _) (Finset.sum_congr rfl fun r _ => ?_)
      by_cases h : s.val ≤ r.val
      · rw [if_pos h, if_pos h]
      · rw [if_neg h, if_neg h, neg_zero]
    · by_cases h : s.val ≤ r.val
      · rw [if_pos h]; exact hD _
      · rw [if_neg h]; exact ⟨0, rfl⟩

/-- The keys' gradient that the body leaves, at head 0. -/
theorem outK_0 (s : Fin 688) (d : Fin 64) :
    outK i q kk vv o g l cc (ix2 s (ln 0 d))
      = ∑ T : Fin 2064, if 688 * (jb i).val + s.val ≤ T.val then tK q kk vv o g l cc 0 d s T else 0 := by
  refine View.canon_eq_of_allAt _ _ _ (outK_cover _ _ _)
    (View.allAt_cons_unit _ _ _ _ _ (fun x hx => ?_) (View.allAt_cons_unit _ _ _ _ _ (fun x hx => ?_) (View.allAt_nil _ _)))
  · have hx1 : 0 + d.val = 64 + (x 1).val := by have := hx 1; simpa using this
    have hx2 : (x 1).val < 64 := (x 1).isLt
    have := d.isLt
    omega
  · have hx0 : s.val = 0 + (x 0).val := hx 0
    have hx1 : 0 + d.val = 0 + (x 1).val := by have := hx 1; simpa using this
    obtain rfl : x = ix2 s d := by
      rw [ValueIdx.eq_ix2 x]
      exact congrArg₂ ix2 (Fin.ext (show (x 0).val = s.val by omega)) (Fin.ext (show (x 1).val = d.val by omega))
    rw [← acc_k0 i q kk vv o g l cc]
    pointwise [k0_pay63]

/-- The values' gradient that the body leaves, at head 0. -/
theorem outV_0 (s : Fin 688) (d : Fin 64) :
    outV i q kk vv o g l cc (ix2 s (ln 0 d))
      = ∑ T : Fin 2064, if 688 * (jb i).val + s.val ≤ T.val then tV q kk g l cc 0 d s T else 0 := by
  refine View.canon_eq_of_allAt _ _ _ (outV_cover _ _ _)
    (View.allAt_cons_unit _ _ _ _ _ (fun x hx => ?_) (View.allAt_cons_unit _ _ _ _ _ (fun x hx => ?_) (View.allAt_nil _ _)))
  · have hx1 : 0 + d.val = 64 + (x 1).val := by have := hx 1; simpa using this
    have hx2 : (x 1).val < 64 := (x 1).isLt
    have := d.isLt
    omega
  · have hx0 : s.val = 0 + (x 0).val := hx 0
    have hx1 : 0 + d.val = 0 + (x 1).val := by have := hx 1; simpa using this
    obtain rfl : x = ix2 s d := by
      rw [ValueIdx.eq_ix2 x]
      exact congrArg₂ ix2 (Fin.ext (show (x 0).val = s.val by omega)) (Fin.ext (show (x 1).val = d.val by omega))
    rw [← acc_v0 i q kk vv o g l cc]
    pointwise [k0_pay64]

/-- The gates' gradient that the body leaves, at head 0. -/
theorem outC_0 (s : Fin 688) (hD : ∀ T, ∃ r : ℝ, wD q kk vv o g l cc 0 T s = (r : EReal)) :
    outC i q kk vv o g l cc (ix5 0 0 0 0 s)
      = ∑ T : Fin 2064, if 688 * (jb i).val + s.val ≤ T.val then -wD q kk vv o g l cc 0 T s else 0 := by
  refine View.canon_eq_of_allAt _ _ _ (outC_cover _ _ _)
    (View.allAt_cons_unit _ _ _ _ _ (fun x hx => ?_) (View.allAt_cons_unit _ _ _ _ _ (fun x hx => ?_) (View.allAt_nil _ _)))
  · have hx3 : 0 = 1 + (x 3).val := hx 3
    have hx2 : (x 3).val < 1 := (x 3).isLt
    omega
  · have hx4 : s.val = 0 + (x 4).val := hx 4
    obtain rfl : x = ix5 0 0 0 0 s := by
      rw [ValueIdx.eq_ix5 x]
      exact unit5 _ _ _ _ _ s (show (x 4).val = s.val by omega)
    rw [← acc_c0 _ _ _ _ _ _ _ _ _ hD]
    pointwise [k0_pay65]

/-- What head 1 carries of the keys' gradient at the end. -/
theorem acc_k1 (d : Fin 64) (s : Fin 688) :
    (acc1 i q kk vv o g l cc).1 (ix2 d s)
      = ∑ T : Fin 2064, if 688 * (jb i).val + s.val ≤ T.val then tK q kk vv o g l cc 1 d s T else 0 := by
  refine (fold_sum _ _ (fun a => a.1 (ix2 d s))
    (fun k => if h : (jb i).val + 1 + k < 3 then ∑ r : Fin 688, tK q kk vv o g l cc 1 d s (rw3 ⟨(jb i).val + 1 + k, h⟩ r) else 0)
    (fun k a => trip_k1 i q kk vv o g l cc k a d s) _ le_rfl).trans ?_
  simp only [diag_k1]
  rw [trips3 i]
  exact rows_comb _ (jb i) s

/-- What head 1 carries of the values' gradient at the end. -/
theorem acc_v1 (d : Fin 64) (s : Fin 688) :
    (acc1 i q kk vv o g l cc).2.1 (ix2 d s)
      = ∑ T : Fin 2064, if 688 * (jb i).val + s.val ≤ T.val then tV q kk g l cc 1 d s T else 0 := by
  refine (fold_sum _ _ (fun a => a.2.1 (ix2 d s))
    (fun k => if h : (jb i).val + 1 + k < 3 then ∑ r : Fin 688, tV q kk g l cc 1 d s (rw3 ⟨(jb i).val + 1 + k, h⟩ r) else 0)
    (fun k a => trip_v1 i q kk vv o g l cc k a d s) _ le_rfl).trans ?_
  simp only [diag_v1]
  rw [trips3 i]
  exact rows_comb _ (jb i) s

/-- What head 1 carries of the gates' gradient at the end. -/
theorem acc_c1 (s : Fin 688) (hD : ∀ T, ∃ r : ℝ, wD q kk vv o g l cc 1 T s = (r : EReal)) :
    (acc1 i q kk vv o g l cc).2.2 (ix2 0 s)
      = ∑ T : Fin 2064, if 688 * (jb i).val + s.val ≤ T.val then -wD q kk vv o g l cc 1 T s else 0 := by
  refine (fold_sum _ _ (fun a => a.2.2 (ix2 0 s))
    (fun k => if h : (jb i).val + 1 + k < 3 then ∑ r : Fin 688, -wD q kk vv o g l cc 1 (rw3 ⟨(jb i).val + 1 + k, h⟩ r) s else 0)
    (fun k a => (trip_c1 i q kk vv o g l cc k a s).trans ?_) _ le_rfl).trans ?_
  · refine congrArg (_ + ·) ?_
    by_cases h : (jb i).val + 1 + k.val < 3
    · rw [dif_pos h, dif_pos h]
      exact neg_sum_real (fun r => wD q kk vv o g l cc 1 (rw3 ⟨(jb i).val + 1 + k.val, h⟩ r) s) fun r => hD _
    · rw [dif_neg h, dif_neg h]
  · simp only [diag_c1]
    rw [trips3 i, zero_sub, neg_sum_real _ fun r => ?_]
    · refine Eq.trans ?_ (rows_comb (fun T => -wD q kk vv o g l cc 1 T s) (jb i) s)
      refine congrArg (· + _) (Finset.sum_congr rfl fun r _ => ?_)
      by_cases h : s.val ≤ r.val
      · rw [if_pos h, if_pos h]
      · rw [if_neg h, if_neg h, neg_zero]
    · by_cases h : s.val ≤ r.val
      · rw [if_pos h]; exact hD _
      · rw [if_neg h]; exact ⟨0, rfl⟩

/-- The keys' gradient that the body leaves, at head 1. -/
theorem outK_1 (s : Fin 688) (d : Fin 64) :
    outK i q kk vv o g l cc (ix2 s (ln 1 d))
      = ∑ T : Fin 2064, if 688 * (jb i).val + s.val ≤ T.val then tK q kk vv o g l cc 1 d s T else 0 := by
  refine View.canon_eq_of_allAt _ _ _ (outK_cover _ _ _)
    (View.allAt_cons_unit _ _ _ _ _ (fun x hx => ?_) (View.allAt_cons_unit _ _ _ _ _ (fun x hx => ?_) (View.allAt_nil _ _)))
  · have hx0 : s.val = 0 + (x 0).val := hx 0
    have hx1 : 64 + d.val = 64 + (x 1).val := by have := hx 1; simpa using this
    obtain rfl : x = ix2 s d := by
      rw [ValueIdx.eq_ix2 x]
      exact congrArg₂ ix2 (Fin.ext (show (x 0).val = s.val by omega)) (Fin.ext (show (x 1).val = d.val by omega))
    rw [← acc_k1 i q kk vv o g l cc]
    pointwise [k0_pay13]
  · have hx1 : 64 + d.val = 0 + (x 1).val := by have := hx 1; simpa using this
    have hx2 : (x 1).val < 64 := (x 1).isLt
    have := d.isLt
    omega

/-- The values' gradient that the body leaves, at head 1. -/
theorem outV_1 (s : Fin 688) (d : Fin 64) :
    outV i q kk vv o g l cc (ix2 s (ln 1 d))
      = ∑ T : Fin 2064, if 688 * (jb i).val + s.val ≤ T.val then tV q kk g l cc 1 d s T else 0 := by
  refine View.canon_eq_of_allAt _ _ _ (outV_cover _ _ _)
    (View.allAt_cons_unit _ _ _ _ _ (fun x hx => ?_) (View.allAt_cons_unit _ _ _ _ _ (fun x hx => ?_) (View.allAt_nil _ _)))
  · have hx0 : s.val = 0 + (x 0).val := hx 0
    have hx1 : 64 + d.val = 64 + (x 1).val := by have := hx 1; simpa using this
    obtain rfl : x = ix2 s d := by
      rw [ValueIdx.eq_ix2 x]
      exact congrArg₂ ix2 (Fin.ext (show (x 0).val = s.val by omega)) (Fin.ext (show (x 1).val = d.val by omega))
    rw [← acc_v1 i q kk vv o g l cc]
    pointwise [k0_pay14]
  · have hx1 : 64 + d.val = 0 + (x 1).val := by have := hx 1; simpa using this
    have hx2 : (x 1).val < 64 := (x 1).isLt
    have := d.isLt
    omega

/-- The gates' gradient that the body leaves, at head 1. -/
theorem outC_1 (s : Fin 688) (hD : ∀ T, ∃ r : ℝ, wD q kk vv o g l cc 1 T s = (r : EReal)) :
    outC i q kk vv o g l cc (ix5 0 0 0 1 s)
      = ∑ T : Fin 2064, if 688 * (jb i).val + s.val ≤ T.val then -wD q kk vv o g l cc 1 T s else 0 := by
  refine View.canon_eq_of_allAt _ _ _ (outC_cover _ _ _)
    (View.allAt_cons_unit _ _ _ _ _ (fun x hx => ?_) (View.allAt_cons_unit _ _ _ _ _ (fun x hx => ?_) (View.allAt_nil _ _)))
  · have hx4 : s.val = 0 + (x 4).val := hx 4
    obtain rfl : x = ix5 0 0 0 0 s := by
      rw [ValueIdx.eq_ix5 x]
      exact unit5 _ _ _ _ _ s (show (x 4).val = s.val by omega)
    rw [← acc_c1 _ _ _ _ _ _ _ _ _ hD]
    pointwise [k0_pay15]
  · have hx3 : 1 = 0 + (x 3).val := hx 3
    have hx2 : (x 3).val < 1 := (x 3).isLt
    omega

/-- The keys' gradient that the body leaves. -/
theorem outK_at (h : Fin 2) (s : Fin 688) (d : Fin 64) :
    outK i q kk vv o g l cc (ix2 s (ln h d))
      = ∑ T : Fin 2064, if 688 * (jb i).val + s.val ≤ T.val then tK q kk vv o g l cc h d s T else 0 := by
  rcases (by decide : ∀ j : Fin 2, j = 0 ∨ j = 1) h with rfl | rfl
  · exact outK_0 i q kk vv o g l cc s d
  · exact outK_1 i q kk vv o g l cc s d

/-- The values' gradient that the body leaves. -/
theorem outV_at (h : Fin 2) (s : Fin 688) (d : Fin 64) :
    outV i q kk vv o g l cc (ix2 s (ln h d))
      = ∑ T : Fin 2064, if 688 * (jb i).val + s.val ≤ T.val then tV q kk g l cc h d s T else 0 := by
  rcases (by decide : ∀ j : Fin 2, j = 0 ∨ j = 1) h with rfl | rfl
  · exact outV_0 i q kk vv o g l cc s d
  · exact outV_1 i q kk vv o g l cc s d

/-- The gates' gradient that the body leaves, where the logits' gradients are real numbers. -/
theorem outC_at (h : Fin 2) (s : Fin 688) (hD : ∀ T, ∃ r : ℝ, wD q kk vv o g l cc h T s = (r : EReal)) :
    outC i q kk vv o g l cc (ix5 0 0 0 h s)
      = ∑ T : Fin 2064, if 688 * (jb i).val + s.val ≤ T.val then -wD q kk vv o g l cc h T s else 0 := by
  rcases (by decide : ∀ j : Fin 2, j = 0 ∨ j = 1) h with rfl | rfl
  · exact outC_0 i q kk vv o g l cc s hD
  · exact outC_1 i q kk vv o g l cc s hD

end Cert.Attn
end
-- ==== Proof.Attn.Frame.lean ====
module

public import proofs.«01_k».proof.Proof.Attn.Run
public import proofs.«01_k».proof.Proof.Gen.KernelIdeal.Frame

@[expose] public section

set_option maxRecDepth 16384

/-! The frame of the attention backward kernel's idealized program, by hand: two outputs are
forgotten (the queries' gradient and the queries' gates' gradient), the other three are named. -/

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first row block is that of the points divisible by three. -/
theorem first_iff : ∀ t : Fin cfg0.N, first (grid0.coords t) ↔ t.val % 3 = 0 :=
  (fun t => by
    have ht : t.val < 48 := Nat.lt_of_lt_of_eq t.isLt N_0
    have e2 : (grid0.coords t 2).val = t.val / 1 % 3 := Pipeline.Grid.coords_val t 2 (by decide) rfl
    simp only [first, e2]
    word_cmp
   : ∀ t : Fin grid0.N, first (grid0.coords t) ↔ t.val % 3 = 0)

/-- Window 0's staging buffer at point `t`. -/
abbrev st0 (t : Fin cfg0.N) : Memref sig .tc .vmem S2064x128 .bf16 := win0_0.stage (cfg0.slots t 0)
/-- Window 1's staging buffer at point `t`. -/
abbrev st1 (t : Fin cfg0.N) : Memref sig .tc .vmem S688x128 .bf16 := win0_1.stage (cfg0.slots t 1)
/-- Window 2's staging buffer at point `t`. -/
abbrev st2 (t : Fin cfg0.N) : Memref sig .tc .vmem S688x128 .bf16 := win0_2.stage (cfg0.slots t 2)
/-- Window 3's staging buffer at point `t`. -/
abbrev st3 (t : Fin cfg0.N) : Memref sig .tc .vmem S2064x128 .f32 := win0_3.stage (cfg0.slots t 3)
/-- Window 4's staging buffer at point `t`. -/
abbrev st4 (t : Fin cfg0.N) : Memref sig .tc .vmem S2064x128 .bf16 := win0_4.stage (cfg0.slots t 4)
/-- Window 5's staging buffer at point `t`. -/
abbrev st5 (t : Fin cfg0.N) : Memref sig .tc .vmem S2064x128 .f32 := win0_5.stage (cfg0.slots t 5)
/-- Window 6's staging buffer at point `t`. -/
abbrev st6 (t : Fin cfg0.N) : Memref sig .tc .vmem S1x1x1x2x688 .f32 := win0_6.stage (cfg0.slots t 6)
/-- Window 7's staging buffer at point `t`. -/
abbrev st7 (t : Fin cfg0.N) : Memref sig .tc .vmem S2064x128 .f32 := win0_7.stage (cfg0.slots t 7)
/-- Window 8's staging buffer at point `t`. -/
abbrev st8 (t : Fin cfg0.N) : Memref sig .tc .vmem S688x128 .bf16 := win0_8.stage (cfg0.slots t 8)
/-- Window 9's staging buffer at point `t`. -/
abbrev st9 (t : Fin cfg0.N) : Memref sig .tc .vmem S688x128 .bf16 := win0_9.stage (cfg0.slots t 9)
/-- Window 10's staging buffer at point `t`. -/
abbrev st10 (t : Fin cfg0.N) : Memref sig .tc .vmem S1x1x1x2x688 .f32 := win0_10.stage (cfg0.slots t 10)
/-- Window 11's staging buffer at point `t`. -/
abbrev st11 (t : Fin cfg0.N) : Memref sig .tc .vmem S1x2064x2 .f32 := win0_11.stage (cfg0.slots t 11)

/-- The outputs that are not named. -/
def forgets : Fin 12 → Bool := fun w => w.val == 7 || w.val == 11

/-- The proof data: inputs keep their blocks, the three named outputs hold what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, _⟩ => outK (grid0.coords t) (iblk m c 0 t) (iblk m c 1 t) (iblk m c 2 t) (iblk m c 3 t) (iblk m c 4 t) (iblk m c 5 t) (iblk m c 6 t)
    | ⟨9, _⟩ => outV (grid0.coords t) (iblk m c 0 t) (iblk m c 1 t) (iblk m c 2 t) (iblk m c 3 t) (iblk m c 4 t) (iblk m c 5 t) (iblk m c 6 t)
    | ⟨10, _⟩ => outC (grid0.coords t) (iblk m c 0 t) (iblk m c 1 t) (iblk m c 2 t) (iblk m c 3 t) (iblk m c 4 t) (iblk m c 5 t) (iblk m c 6 t)
    | ⟨11, h⟩ => Pipeline.Dat.unnamed (cfg := cfg0) ⟨11, h⟩ t
  Φ _ := Pipeline.ΦA spec0 c
  q w := Pipeline.shareOf spec0 w
  owed _ := 0

/-- The arrays are those found on entry. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_8 (c : Dev nD) (t : Fin cfg0.N) : (dats m 0 c).after 8 t = outK (grid0.coords t) (iblk m c 0 t) (iblk m c 1 t) (iblk m c 2 t) (iblk m c 3 t) (iblk m c 4 t) (iblk m c 5 t) (iblk m c 6 t) := by dsimp only [dats]
theorem after_9 (c : Dev nD) (t : Fin cfg0.N) : (dats m 0 c).after 9 t = outV (grid0.coords t) (iblk m c 0 t) (iblk m c 1 t) (iblk m c 2 t) (iblk m c 3 t) (iblk m c 4 t) (iblk m c 5 t) (iblk m c 6 t) := by dsimp only [dats]
theorem after_10 (c : Dev nD) (t : Fin cfg0.N) : (dats m 0 c).after 10 t = outC (grid0.coords t) (iblk m c 0 t) (iblk m c 1 t) (iblk m c 2 t) (iblk m c 3 t) (iblk m c 4 t) (iblk m c 5 t) (iblk m c 6 t) := by dsimp only [dats]

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)) ∗ (∃ d, owns (c : Thread nD τ) (st7 t) fullShare d) ∗ (∃ d, owns (c : Thread nD τ) (st8 t) fullShare ((dats m 0 c).before 8 t d)) ∗ (∃ d, owns (c : Thread nD τ) (st9 t) fullShare ((dats m 0 c).before 9 t d)) ∗ (∃ d, owns (c : Thread nD τ) (st10 t) fullShare ((dats m 0 c).before 10 t d)) ∗ (∃ d, owns (c : Thread nD τ) (st11 t) fullShare d))
/-- What it returns. -/
def bodyPost (c : Dev nD) (t : Fin cfg0.N) : sProp 𝕄 :=
  iprop((dats m 0 c).Φ t.succ ∗ (dats m 0 c).owesAt () t.succ ∗ owns (c : Thread nD τ) (st0 t) fullShare ((dats m 0 c).after 0 t) ∗ owns (c : Thread nD τ) (st1 t) fullShare ((dats m 0 c).after 1 t) ∗ owns (c : Thread nD τ) (st2 t) fullShare ((dats m 0 c).after 2 t) ∗ owns (c : Thread nD τ) (st3 t) fullShare ((dats m 0 c).after 3 t) ∗ owns (c : Thread nD τ) (st4 t) fullShare ((dats m 0 c).after 4 t) ∗ owns (c : Thread nD τ) (st5 t) fullShare ((dats m 0 c).after 5 t) ∗ owns (c : Thread nD τ) (st6 t) fullShare ((dats m 0 c).after 6 t) ∗ (∃ d, owns (c : Thread nD τ) (st7 t) fullShare d) ∗ owns (c : Thread nD τ) (st8 t) fullShare ((dats m 0 c).after 8 t) ∗ owns (c : Thread nD τ) (st9 t) fullShare ((dats m 0 c).after 9 t) ∗ owns (c : Thread nD τ) (st10 t) fullShare ((dats m 0 c).after 10 t) ∗ (∃ d, owns (c : Thread nD τ) (st11 t) fullShare d))

set_option maxHeartbeats 2400000 in
/-- The body at any point. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_8, after_9, after_10]
  by_cases h0 : t.val % 3 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((run_first c (grid0.coords t) _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((run_later c (grid0.coords t) _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body's row of the table. -/
theorem body_row (t : Fin cfg0.N) :
    defs₀ (F := F) .tc cfg0.body (cfg0.bodyArgs t (cfg0.slots t)) = bodyAt0 t := by
  unfold defs₀; rw [Defs.onTc_tc]

/-- The body's obligation at every point. -/
theorem body_ok (c : Dev nD) : BodyObligation (dats (F := F) m 0 c) (defs₀ (F := F)) Variants.none () Set.univ forgets := fun t => by
  rw [bigSep_W0, bigSep_W0, body_row]
  exact triple_restated (body_sound m c t) rfl .rfl fun _ => .rfl

set_option backward.isDefEq.respectTransparency.types false in
/-- The launch: every array is at contents the proof data allow, every counter at zero. -/
theorem launch : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_ok m c).loose) (hq := fun _ _ _ => rfl)
    (howed := fun _ _ => rfl) (V := V m) (hmain := hmain m Variants.none) (hA := A_eq m) (hΦ := fun _ _ => rfl)

/-- The run: the named outputs' arrays are the library's, the arguments are unchanged, the counters zero. -/
theorem run_all : θ_run defs (onTc (τ := τ) (main (F := F))) ⟨m, fun _ => 0, ρ⟩ (fun r => (∀ c : Dev nD,
      (∀ w, forgets w = false → r.2.mem (((cfgs 0).spec w).arr.view.loc (c.tc : Thread nD τ)) = (dats m 0 c).arrAt w cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨fun w hw => ((dats m 0 c).toRForget_arrAt_iff hw _ _).mp ((h.1 c).1 w),
      (Pipeline.RDat.FramePost.arr_in h.1 c 0 rfl).trans ((A_eq m c 0).trans (V_main_arg0 m c)),
      (Pipeline.RDat.FramePost.arr_in h.1 c 2 rfl).trans ((A_eq m c 2).trans (V_main_arg1 m c)),
      ((h.1 c).2 main_arg2 (Pipeline.mem_restRefs_of main_arg2 (by decide) (by decide))).trans (V_main_arg2 m c),
      (Pipeline.RDat.FramePost.arr_in h.1 c 4 rfl).trans ((A_eq m c 4).trans (V_main_arg3 m c))⟩, h.2⟩) (launch m ρ)

/-- The frame. -/
theorem frame_ok : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_all m ρ)

end Cert.Attn

end
-- ==== Proof.Attn.Blocks.lean ====
module

public import proofs.«01_k».proof.Proof.Attn.Out
public import proofs.«01_k».proof.Proof.Attn.Frame
public import Idealize.ShloMosaic.Lib.Pipeline.Value

@[expose] public section

set_option maxRecDepth 16384
set_option maxHeartbeats 1000000

/-! The blocks of the attention backward kernel's windows in their arrays, and the three gradients'
arrays after the run at an element. -/

noncomputable section

namespace Cert.Attn

open Idealize.ShloMosaic Idealize.ShloMosaic.TcCoe
open Idealize.SL Idealize.SL.Sem
open Cert.KernelIdeal Cert.KernelIdeal.Gen

/-- Row `T` of batch entry `b`. -/
abbrev rowG (b : Fin 2) (T : Fin 2064) : Fin 4128 := ⟨2064 * b.val + T.val, by omega⟩
/-- Key `s` of row block `j` of batch entry `b`. -/
abbrev keyG (b : Fin 2) (j : Fin 3) (s : Fin 688) : Fin 4128 := ⟨2064 * b.val + 688 * j.val + s.val, by omega⟩
/-- Lane `y` of head pair `p`. -/
abbrev colG (p : Fin 8) (y : Fin 128) : Fin 1024 := ⟨128 * p.val + y.val, by omega⟩
/-- Lane `y` of head pair `p`, among the keys. -/
abbrev colK (p : Fin 8) (y : Fin 128) : Fin 2048 := ⟨128 * p.val + y.val, by omega⟩
/-- Lane `y` of head pair `p`, among the values. -/
abbrev colV (p : Fin 8) (y : Fin 128) : Fin 2048 := ⟨1024 + 128 * p.val + y.val, by omega⟩

/-- The block of rows of a batch entry and a head pair. -/
def bR {e : EltTy} (X : Vec Ideal S4128x1024 e) (b : Fin 2) (p : Fin 8) : Vec Ideal S2064x128 e :=
  fun y => X (ix2 (rowG b (y 0)) (colG p (y 1)))
/-- The block of keys. -/
def bK (X : Vec Ideal S4128x2048 .bf16) (b : Fin 2) (p : Fin 8) (j : Fin 3) : Vec Ideal S688x128 .bf16 :=
  fun y => X (ix2 (keyG b j (y 0)) (colK p (y 1)))
/-- The block of values. -/
def bV (X : Vec Ideal S4128x2048 .bf16) (b : Fin 2) (p : Fin 8) (j : Fin 3) : Vec Ideal S688x128 .bf16 :=
  fun y => X (ix2 (keyG b j (y 0)) (colV p (y 1)))
/-- The block of gates. -/
def bC (X : Vec Ideal S2x8x3x2x688 .f32) (b : Fin 2) (p : Fin 8) (j : Fin 3) : Vec Ideal S1x1x1x2x688 .f32 :=
  fun y => X (ix5 b p j (y 3) (y 4))

theorem tr_0 (i : grid0.Coords) : cc0_transform_0 i = ![(i 0).val, (i 1).val] := by revert i; decide +kernel
theorem tr_1 (i : grid0.Coords) : cc0_transform_1 i = ![3 * (i 0).val + (i 2).val, (i 1).val] := by revert i; decide +kernel
theorem tr_2 (i : grid0.Coords) : cc0_transform_2 i = ![3 * (i 0).val + (i 2).val, 8 + (i 1).val] := by revert i; decide +kernel
theorem tr_3 (i : grid0.Coords) : cc0_transform_3 i = ![(i 0).val, (i 1).val] := by revert i; decide +kernel
theorem tr_4 (i : grid0.Coords) : cc0_transform_4 i = ![(i 0).val, (i 1).val] := by revert i; decide +kernel
theorem tr_5 (i : grid0.Coords) : cc0_transform_5 i = ![(i 0).val, (i 1).val] := by revert i; decide +kernel
theorem tr_6 (i : grid0.Coords) : cc0_transform_6 i = ![(i 0).val, (i 1).val, (i 2).val, 0, 0] := by revert i; decide +kernel
theorem tr_8 (i : grid0.Coords) : cc0_transform_8 i = ![3 * (i 0).val + (i 2).val, (i 1).val] := by revert i; decide +kernel
theorem tr_9 (i : grid0.Coords) : cc0_transform_9 i = ![3 * (i 0).val + (i 2).val, (i 1).val] := by revert i; decide +kernel
theorem tr_10 (i : grid0.Coords) : cc0_transform_10 i = ![(i 0).val, (i 1).val, (i 2).val, 0, 0] := by revert i; decide +kernel

/-- A statement of both axes. -/
theorem forall2 {P : Fin 2 → Prop} (h0 : P 0) (h1 : P 1) : ∀ a, P a := fun a => by
  rcases (by decide : ∀ a : Fin 2, a = 0 ∨ a = 1) a with rfl | rfl
  exacts [h0, h1]
/-- A statement of all five axes. -/
theorem forall5 {P : Fin 5 → Prop} (h0 : P 0) (h1 : P 1) (h2 : P 2) (h3 : P 3) (h4 : P 4) : ∀ a, P a := fun a => by
  rcases (by decide : ∀ a : Fin 5, a = 0 ∨ a = 1 ∨ a = 2 ∨ a = 3 ∨ a = 4) a with rfl | rfl | rfl | rfl | rfl
  exacts [h0, h1, h2, h3, h4]

/-- The grid point of a batch entry, a head pair and a row block. -/
def pt (b : Fin 2) (p : Fin 8) (j : Fin 3) : Fin cfg0.N := ⟨24 * b.val + 3 * p.val + j.val, by
  have : cfg0.N = 48 := rfl
  omega⟩
theorem pt_0 (b : Fin 2) (p : Fin 8) (j : Fin 3) : (grid0.coords (pt b p j) 0).val = b.val := by revert b p j; decide +kernel
theorem pt_1 (b : Fin 2) (p : Fin 8) (j : Fin 3) : (grid0.coords (pt b p j) 1).val = p.val := by revert b p j; decide +kernel
theorem pt_2 (b : Fin 2) (p : Fin 8) (j : Fin 3) : (grid0.coords (pt b p j) 2).val = j.val := by revert b p j; decide +kernel

variable (m : (ℓ : Loc nD τ sig) → Buf (Elt Ideal) ℓ) (c : Dev nD)

/-- Window 0's block of an array. -/
theorem read_0 (X : Vec Ideal S4128x1024 .bf16) (b : Fin 2) (p : Fin 8) (j : Fin 3) :
    ((cfg0.win 0).blk (pt b p j)).view.read (Elt Ideal) X = bR (e := .bf16) X b p := by
  funext y
  refine congrArg X (a₁ := ((cfg0.win 0).blk (pt b p j)).view.emb y) ?_
  have e := tr_0 (grid0.coords (pt b p j))
  rw [pt_0, pt_1] at e
  funext a
  refine Fin.ext (((cfg0.win 0).rect_emb_val (pt b p j) y a).trans ?_)
  refine Eq.trans (congrArg (fun f => f a * _ + (y a).val) e) ?_
  revert a
  refine forall2 ?_ ?_
  · show (b.val) * 2064 + (y 0).val = 2064 * b.val + (y 0).val
    omega
  · show (p.val) * 128 + (y 1).val = 128 * p.val + (y 1).val
    omega
/-- Window 0's block at a point. -/
theorem iblk_0 (b : Fin 2) (p : Fin 8) (j : Fin 3) : iblk m c 0 (pt b p j) = bR (e := .bf16) (V m c main_arg0) b p := by
  unfold iblk
  exact read_0 (V m c main_arg0) b p j

/-- Window 1's block of an array. -/
theorem read_1 (X : Vec Ideal S4128x2048 .bf16) (b : Fin 2) (p : Fin 8) (j : Fin 3) :
    ((cfg0.win 1).blk (pt b p j)).view.read (Elt Ideal) X = bK X b p j := by
  funext y
  refine congrArg X (a₁ := ((cfg0.win 1).blk (pt b p j)).view.emb y) ?_
  have e := tr_1 (grid0.coords (pt b p j))
  rw [pt_0, pt_1, pt_2] at e
  funext a
  refine Fin.ext (((cfg0.win 1).rect_emb_val (pt b p j) y a).trans ?_)
  refine Eq.trans (congrArg (fun f => f a * _ + (y a).val) e) ?_
  revert a
  refine forall2 ?_ ?_
  · show (3 * b.val + j.val) * 688 + (y 0).val = 2064 * b.val + 688 * j.val + (y 0).val
    omega
  · show (p.val) * 128 + (y 1).val = 128 * p.val + (y 1).val
    omega
/-- Window 1's block at a point. -/
theorem iblk_1 (b : Fin 2) (p : Fin 8) (j : Fin 3) : iblk m c 1 (pt b p j) = bK (V m c main_arg1) b p j := by
  unfold iblk
  exact read_1 (V m c main_arg1) b p j

/-- Window 2's block of an array. -/
theorem read_2 (X : Vec Ideal S4128x2048 .bf16) (b : Fin 2) (p : Fin 8) (j : Fin 3) :
    ((cfg0.win 2).blk (pt b p j)).view.read (Elt Ideal) X = bV X b p j := by
  funext y
  refine congrArg X (a₁ := ((cfg0.win 2).blk (pt b p j)).view.emb y) ?_
  have e := tr_2 (grid0.coords (pt b p j))
  rw [pt_0, pt_1, pt_2] at e
  funext a
  refine Fin.ext (((cfg0.win 2).rect_emb_val (pt b p j) y a).trans ?_)
  refine Eq.trans (congrArg (fun f => f a * _ + (y a).val) e) ?_
  revert a
  refine forall2 ?_ ?_
  · show (3 * b.val + j.val) * 688 + (y 0).val = 2064 * b.val + 688 * j.val + (y 0).val
    omega
  · show (8 + p.val) * 128 + (y 1).val = 1024 + 128 * p.val + (y 1).val
    omega
/-- Window 2's block at a point. -/
theorem iblk_2 (b : Fin 2) (p : Fin 8) (j : Fin 3) : iblk m c 2 (pt b p j) = bV (V m c main_arg1) b p j := by
  unfold iblk
  exact read_2 (V m c main_arg1) b p j

/-- Window 3's block of an array. -/
theorem read_3 (X : Vec Ideal S4128x1024 .f32) (b : Fin 2) (p : Fin 8) (j : Fin 3) :
    ((cfg0.win 3).blk (pt b p j)).view.read (Elt Ideal) X = bR (e := .f32) X b p := by
  funext y
  refine congrArg X (a₁ := ((cfg0.win 3).blk (pt b p j)).view.emb y) ?_
  have e := tr_3 (grid0.coords (pt b p j))
  rw [pt_0, pt_1] at e
  funext a
  refine Fin.ext (((cfg0.win 3).rect_emb_val (pt b p j) y a).trans ?_)
  refine Eq.trans (congrArg (fun f => f a * _ + (y a).val) e) ?_
  revert a
  refine forall2 ?_ ?_
  · show (b.val) * 2064 + (y 0).val = 2064 * b.val + (y 0).val
    omega
  · show (p.val) * 128 + (y 1).val = 128 * p.val + (y 1).val
    omega
/-- Window 3's block at a point. -/
theorem iblk_3 (b : Fin 2) (p : Fin 8) (j : Fin 3) : iblk m c 3 (pt b p j) = bR (e := .f32) (V m c main_v38) b p := by
  unfold iblk
  exact read_3 (V m c main_v38) b p j

/-- Window 4's block of an array. -/
theorem read_4 (X : Vec Ideal S4128x1024 .bf16) (b : Fin 2) (p : Fin 8) (j : Fin 3) :
    ((cfg0.win 4).blk (pt b p j)).view.read (Elt Ideal) X = bR (e := .bf16) X b p := by
  funext y
  refine congrArg X (a₁ := ((cfg0.win 4).blk (pt b p j)).view.emb y) ?_
  have e := tr_4 (grid0.coords (pt b p j))
  rw [pt_0, pt_1] at e
  funext a
  refine Fin.ext (((cfg0.win 4).rect_emb_val (pt b p j) y a).trans ?_)
  refine Eq.trans (congrArg (fun f => f a * _ + (y a).val) e) ?_
  revert a
  refine forall2 ?_ ?_
  · show (b.val) * 2064 + (y 0).val = 2064 * b.val + (y 0).val
    omega
  · show (p.val) * 128 + (y 1).val = 128 * p.val + (y 1).val
    omega
/-- Window 4's block at a point. -/
theorem iblk_4 (b : Fin 2) (p : Fin 8) (j : Fin 3) : iblk m c 4 (pt b p j) = bR (e := .bf16) (V m c main_arg3) b p := by
  unfold iblk
  exact read_4 (V m c main_arg3) b p j

/-- Window 5's block of an array. -/
theorem read_5 (X : Vec Ideal S4128x1024 .f32) (b : Fin 2) (p : Fin 8) (j : Fin 3) :
    ((cfg0.win 5).blk (pt b p j)).view.read (Elt Ideal) X = bR (e := .f32) X b p := by
  funext y
  refine congrArg X (a₁ := ((cfg0.win 5).blk (pt b p j)).view.emb y) ?_
  have e := tr_5 (grid0.coords (pt b p j))
  rw [pt_0, pt_1] at e
  funext a
  refine Fin.ext (((cfg0.win 5).rect_emb_val (pt b p j) y a).trans ?_)
  refine Eq.trans (congrArg (fun f => f a * _ + (y a).val) e) ?_
  revert a
  refine forall2 ?_ ?_
  · show (b.val) * 2064 + (y 0).val = 2064 * b.val + (y 0).val
    omega
  · show (p.val) * 128 + (y 1).val = 128 * p.val + (y 1).val
    omega
/-- Window 5's block at a point. -/
theorem iblk_5 (b : Fin 2) (p : Fin 8) (j : Fin 3) : iblk m c 5 (pt b p j) = bR (e := .f32) (V m c main_v43) b p := by
  unfold iblk
  exact read_5 (V m c main_v43) b p j

/-- Window 6's block of an array. -/
theorem read_6 (X : Vec Ideal S2x8x3x2x688 .f32) (b : Fin 2) (p : Fin 8) (j : Fin 3) :
    ((cfg0.win 6).blk (pt b p j)).view.read (Elt Ideal) X = bC X b p j := by
  funext y
  refine congrArg X (a₁ := ((cfg0.win 6).blk (pt b p j)).view.emb y) ?_
  have e := tr_6 (grid0.coords (pt b p j))
  rw [pt_0, pt_1, pt_2] at e
  funext a
  refine Fin.ext (((cfg0.win 6).rect_emb_val (pt b p j) y a).trans ?_)
  refine Eq.trans (congrArg (fun f => f a * _ + (y a).val) e) ?_
  revert a
  refine forall5 ?_ ?_ ?_ ?_ ?_
  · show (b.val) * 1 + (y 0).val = b.val
    have h : (y 0).val < 1 := (y 0).isLt
    omega
  · show (p.val) * 1 + (y 1).val = p.val
    have h : (y 1).val < 1 := (y 1).isLt
    omega
  · show (j.val) * 1 + (y 2).val = j.val
    have h : (y 2).val < 1 := (y 2).isLt
    omega
  · show (0) * 2 + (y 3).val = (y 3).val
    omega
  · show (0) * 688 + (y 4).val = (y 4).val
    omega
/-- Window 6's block at a point. -/
theorem iblk_6 (b : Fin 2) (p : Fin 8) (j : Fin 3) : iblk m c 6 (pt b p j) = bC (V m c main_v45) b p j := by
  unfold iblk
  exact read_6 (V m c main_v45) b p j

end Cert.Attn
end
-- ==== Proof.Attn.Arr.lean ====
module

public import proofs.«01_k».proof.Proof.Attn.Blocks

@[expose] public section

set_option maxRecDepth 16384
set_option maxHeartbeats 1000000

/-! The three gradients' arrays after the run, at an element: sums over the rows at or after the key. -/

noncomputable section

namespace Cert.Attn

open Idealize.ShloMosaic Idealize.ShloMosaic.TcCoe
open Idealize.SL Idealize.SL.RA Idealize.SL.Sem
open Cert.KernelIdeal Cert.KernelIdeal.Gen

/-- A grid point's number, from its coordinates. -/
theorem pt_val (t : Fin cfg0.N) :
    t.val = 24 * (grid0.coords t 0).val + 3 * (grid0.coords t 1).val + (grid0.coords t 2).val := by
  revert t; decide +kernel

variable (m : (ℓ : Loc nD τ sig) → Buf (Elt Ideal) ℓ) (c : Dev nD)

/-- The blocks of the keys' gradient at different points are disjoint. -/
theorem disj_8 (t t' : Fin cfg0.N) (_ : (cfg0.win 8).flush t = true) (_ : (cfg0.win 8).flush t' = true) (hne : t ≠ t') :
    Disjoint ((cfg0.win 8).blk t).view.set ((cfg0.win 8).blk t').view.set :=
  (cfg0.win 8).disjoint_blk (by
    intro h
    have h' : cc0_transform_8 (grid0.coords t) = cc0_transform_8 (grid0.coords t') := h
    rw [tr_8, tr_8] at h'
    have h0 : 3 * (grid0.coords t 0).val + (grid0.coords t 2).val = 3 * (grid0.coords t' 0).val + (grid0.coords t' 2).val := congrFun h' 0
    have h1 : (grid0.coords t 1).val = (grid0.coords t' 1).val := congrFun h' 1
    have e := pt_val t
    have e' := pt_val t'
    have b2 : (grid0.coords t 2).val < 3 := (grid0.coords t 2).isLt
    have b2' : (grid0.coords t' 2).val < 3 := (grid0.coords t' 2).isLt
    exact hne (Fin.ext (by omega)))

/-- Where an element of the keys' block sits in the array. -/
theorem emb_8 (b : Fin 2) (p : Fin 8) (j : Fin 3) (s : Fin 688) (y : Fin 128) :
    ((cfg0.win 8).blk (pt b p j)).view.emb (ix2 s y) = (ix2 (keyG b j s) (colG p y)) := by
  have e := tr_8 (grid0.coords (pt b p j))
  rw [pt_0, pt_1, pt_2] at e
  funext a
  refine Fin.ext (((cfg0.win 8).rect_emb_val (pt b p j) (ix2 s y) a).trans ?_)
  refine Eq.trans (congrArg (fun f : Fin (cfg0.win 8).shape.rank → ℕ => f a * (cfg0.win 8).size a + ((ix2 s y) a).val) e) ?_
  revert a
  refine forall2 ?_ ?_
  · show (3 * b.val + j.val) * 688 + s.val = 2064 * b.val + 688 * j.val + s.val
    omega
  · show (p.val) * 128 + y.val = 128 * p.val + y.val
    omega

/-- An output's array after the run is what the points left. -/
theorem at_8 (dat : Pipeline.Dat τ (Elt Ideal) Unit ℕ (UR sig nD τ) ℕ cfg0 c) (b : Fin 2) (p : Fin 8) (j : Fin 3) (s : Fin 688) (y : Fin 128) :
    dat.arrAt 8 cfg0.N (ix2 (keyG b j s) (colG p y)) = dat.after 8 (pt b p j) (ix2 s y) := by
  have h := dat.arrAt_emb_eq_flushed 8 disj_8 (pt b p j) (flush0_8 _) (ix2 s y)
  rw [emb_8] at h
  exact h

/-- The keys' gradient after the run is what the point of its block left. -/
theorem arr_8 (b : Fin 2) (p : Fin 8) (j : Fin 3) (s : Fin 688) (y : Fin 128) :
    (dats m 0 c).arrAt 8 cfg0.N (ix2 (keyG b j s) (colG p y))
      = outK (grid0.coords (pt b p j)) (bR (e := .bf16) (V m c main_arg0) b p) (bK (V m c main_arg1) b p j) (bV (V m c main_arg1) b p j) (bR (e := .f32) (V m c main_v38) b p) (bR (e := .bf16) (V m c main_arg3) b p) (bR (e := .f32) (V m c main_v43) b p) (bC (V m c main_v45) b p j) (ix2 s y) := by
  refine (at_8 c (dats m 0 c) b p j s y).trans ?_
  rw [after_8, iblk_0, iblk_1, iblk_2, iblk_3, iblk_4, iblk_5, iblk_6]

/-- The blocks of the values' gradient at different points are disjoint. -/
theorem disj_9 (t t' : Fin cfg0.N) (_ : (cfg0.win 9).flush t = true) (_ : (cfg0.win 9).flush t' = true) (hne : t ≠ t') :
    Disjoint ((cfg0.win 9).blk t).view.set ((cfg0.win 9).blk t').view.set :=
  (cfg0.win 9).disjoint_blk (by
    intro h
    have h' : cc0_transform_9 (grid0.coords t) = cc0_transform_9 (grid0.coords t') := h
    rw [tr_9, tr_9] at h'
    have h0 : 3 * (grid0.coords t 0).val + (grid0.coords t 2).val = 3 * (grid0.coords t' 0).val + (grid0.coords t' 2).val := congrFun h' 0
    have h1 : (grid0.coords t 1).val = (grid0.coords t' 1).val := congrFun h' 1
    have e := pt_val t
    have e' := pt_val t'
    have b2 : (grid0.coords t 2).val < 3 := (grid0.coords t 2).isLt
    have b2' : (grid0.coords t' 2).val < 3 := (grid0.coords t' 2).isLt
    exact hne (Fin.ext (by omega)))

/-- Where an element of the values' block sits in the array. -/
theorem emb_9 (b : Fin 2) (p : Fin 8) (j : Fin 3) (s : Fin 688) (y : Fin 128) :
    ((cfg0.win 9).blk (pt b p j)).view.emb (ix2 s y) = (ix2 (keyG b j s) (colG p y)) := by
  have e := tr_9 (grid0.coords (pt b p j))
  rw [pt_0, pt_1, pt_2] at e
  funext a
  refine Fin.ext (((cfg0.win 9).rect_emb_val (pt b p j) (ix2 s y) a).trans ?_)
  refine Eq.trans (congrArg (fun f : Fin (cfg0.win 9).shape.rank → ℕ => f a * (cfg0.win 9).size a + ((ix2 s y) a).val) e) ?_
  revert a
  refine forall2 ?_ ?_
  · show (3 * b.val + j.val) * 688 + s.val = 2064 * b.val + 688 * j.val + s.val
    omega
  · show (p.val) * 128 + y.val = 128 * p.val + y.val
    omega

/-- An output's array after the run is what the points left. -/
theorem at_9 (dat : Pipeline.Dat τ (Elt Ideal) Unit ℕ (UR sig nD τ) ℕ cfg0 c) (b : Fin 2) (p : Fin 8) (j : Fin 3) (s : Fin 688) (y : Fin 128) :
    dat.arrAt 9 cfg0.N (ix2 (keyG b j s) (colG p y)) = dat.after 9 (pt b p j) (ix2 s y) := by
  have h := dat.arrAt_emb_eq_flushed 9 disj_9 (pt b p j) (flush0_9 _) (ix2 s y)
  rw [emb_9] at h
  exact h

/-- The values' gradient after the run is what the point of its block left. -/
theorem arr_9 (b : Fin 2) (p : Fin 8) (j : Fin 3) (s : Fin 688) (y : Fin 128) :
    (dats m 0 c).arrAt 9 cfg0.N (ix2 (keyG b j s) (colG p y))
      = outV (grid0.coords (pt b p j)) (bR (e := .bf16) (V m c main_arg0) b p) (bK (V m c main_arg1) b p j) (bV (V m c main_arg1) b p j) (bR (e := .f32) (V m c main_v38) b p) (bR (e := .bf16) (V m c main_arg3) b p) (bR (e := .f32) (V m c main_v43) b p) (bC (V m c main_v45) b p j) (ix2 s y) := by
  refine (at_9 c (dats m 0 c) b p j s y).trans ?_
  rw [after_9, iblk_0, iblk_1, iblk_2, iblk_3, iblk_4, iblk_5, iblk_6]

/-- The blocks of the gates' gradient at different points are disjoint. -/
theorem disj_10 (t t' : Fin cfg0.N) (_ : (cfg0.win 10).flush t = true) (_ : (cfg0.win 10).flush t' = true) (hne : t ≠ t') :
    Disjoint ((cfg0.win 10).blk t).view.set ((cfg0.win 10).blk t').view.set :=
  (cfg0.win 10).disjoint_blk (by
    intro h
    have h' : cc0_transform_10 (grid0.coords t) = cc0_transform_10 (grid0.coords t') := h
    rw [tr_10, tr_10] at h'
    have h0 : (grid0.coords t 0).val = (grid0.coords t' 0).val := congrFun h' 0
    have h1 : (grid0.coords t 1).val = (grid0.coords t' 1).val := congrFun h' 1
    have h2 : (grid0.coords t 2).val = (grid0.coords t' 2).val := congrFun h' 2
    have e := pt_val t
    have e' := pt_val t'
    have b2 : (grid0.coords t 2).val < 3 := (grid0.coords t 2).isLt
    have b2' : (grid0.coords t' 2).val < 3 := (grid0.coords t' 2).isLt
    exact hne (Fin.ext (by omega)))

/-- Where an element of the gates' block sits in the array. -/
theorem emb_10 (b : Fin 2) (p : Fin 8) (j : Fin 3) (h : Fin 2) (s : Fin 688) :
    ((cfg0.win 10).blk (pt b p j)).view.emb (ix5 (0 : Fin 1) (0 : Fin 1) (0 : Fin 1) h s) = (ix5 b p j h s) := by
  have e := tr_10 (grid0.coords (pt b p j))
  rw [pt_0, pt_1, pt_2] at e
  funext a
  refine Fin.ext (((cfg0.win 10).rect_emb_val (pt b p j) (ix5 (0 : Fin 1) (0 : Fin 1) (0 : Fin 1) h s) a).trans ?_)
  refine Eq.trans (congrArg (fun f : Fin (cfg0.win 10).shape.rank → ℕ => f a * (cfg0.win 10).size a + ((ix5 (0 : Fin 1) (0 : Fin 1) (0 : Fin 1) h s) a).val) e) ?_
  revert a
  refine forall5 ?_ ?_ ?_ ?_ ?_
  · show (b.val) * 1 + 0 = b.val
    omega
  · show (p.val) * 1 + 0 = p.val
    omega
  · show (j.val) * 1 + 0 = j.val
    omega
  · show (0) * 2 + h.val = h.val
    omega
  · show (0) * 688 + s.val = s.val
    omega

/-- An output's array after the run is what the points left. -/
theorem at_10 (dat : Pipeline.Dat τ (Elt Ideal) Unit ℕ (UR sig nD τ) ℕ cfg0 c) (b : Fin 2) (p : Fin 8) (j : Fin 3) (h : Fin 2) (s : Fin 688) :
    dat.arrAt 10 cfg0.N (ix5 b p j h s) = dat.after 10 (pt b p j) (ix5 (0 : Fin 1) (0 : Fin 1) (0 : Fin 1) h s) := by
  have h := dat.arrAt_emb_eq_flushed 10 disj_10 (pt b p j) (flush0_10 _) (ix5 (0 : Fin 1) (0 : Fin 1) (0 : Fin 1) h s)
  rw [emb_10] at h
  exact h

/-- The gates' gradient after the run is what the point of its block left. -/
theorem arr_10 (b : Fin 2) (p : Fin 8) (j : Fin 3) (h : Fin 2) (s : Fin 688) :
    (dats m 0 c).arrAt 10 cfg0.N (ix5 b p j h s)
      = outC (grid0.coords (pt b p j)) (bR (e := .bf16) (V m c main_arg0) b p) (bK (V m c main_arg1) b p j) (bV (V m c main_arg1) b p j) (bR (e := .f32) (V m c main_v38) b p) (bR (e := .bf16) (V m c main_arg3) b p) (bR (e := .f32) (V m c main_v43) b p) (bC (V m c main_v45) b p j) (ix5 (0 : Fin 1) (0 : Fin 1) (0 : Fin 1) h s) := by
  refine (at_10 c (dats m 0 c) b p j h s).trans ?_
  rw [after_10, iblk_0, iblk_1, iblk_2, iblk_3, iblk_4, iblk_5, iblk_6]

end Cert.Attn
end
-- ==== Proof.Attn.Math.lean ====
module

public import proofs.«01_k».proof.Proof.Attn.Pay

@[expose] public section

/-! The attention's backward pass over the real numbers: the softmax of a row over the keys it may
see does not change when a constant is added to the row's logits, and the gradient through the
quotient that normalises it is the weight times the centred gradient of the weights. -/

noncomputable section

namespace Cert.Attn

open Idealize.ShloMosaic

section
variable {n : ℕ}

/-- The exponential of `f S`, at the keys `S` that `P` keeps. -/
def ex (P : Fin n → Prop) [DecidablePred P] (f : Fin n → ℝ) (S : Fin n) : ℝ := if P S then Real.exp (f S) else 0

/-- The softmax of `f` over the keys `P` keeps. -/
def sm (P : Fin n → Prop) [DecidablePred P] (f : Fin n → ℝ) (S : Fin n) : ℝ := ex P f S / ∑ S', ex P f S'

variable (P : Fin n → Prop) [DecidablePred P] (f : Fin n → ℝ)

theorem ex_nonneg (S : Fin n) : 0 ≤ ex P f S := by
  unfold ex; split
  · exact (Real.exp_pos _).le
  · exact le_rfl

/-- The normaliser is positive when a key is kept. -/
theorem ex_sum_pos (S : Fin n) (h : P S) : 0 < ∑ S', ex P f S' :=
  Finset.sum_pos' (fun x _ => ex_nonneg P f x) ⟨S, Finset.mem_univ S, by unfold ex; rw [if_pos h]; exact Real.exp_pos _⟩

theorem ex_add (a : ℝ) (S : Fin n) : ex P (fun S => f S + a) S = Real.exp a * ex P f S := by
  unfold ex; split
  · rw [Real.exp_add, mul_comm]
  · rw [mul_zero]

/-- Adding a constant to a row's logits leaves its softmax. -/
theorem sm_add (a : ℝ) (S : Fin n) : sm P (fun S => f S + a) S = sm P f S := by
  unfold sm
  simp only [ex_add]
  rw [← Finset.mul_sum, mul_div_mul_left _ _ (Real.exp_pos a).ne']

/-- The exponential of a logit less the logarithm of the normaliser is the softmax. -/
theorem exp_lse (S : Fin n) (h : P S) (a : ℝ) :
    Real.exp (f S - (a + Real.log (∑ S', ex P (fun S => f S + -a) S'))) = sm P f S := by
  have hL := ex_sum_pos P (fun S => f S + -a) S h
  rw [← sm_add P f (-a) S]
  unfold sm
  rw [show f S - (a + Real.log (∑ S', ex P (fun S => f S + -a) S')) = (f S + -a) - Real.log (∑ S', ex P (fun S => f S + -a) S') by ring]
  rw [Real.exp_sub, Real.exp_log hL]
  congr 1
  unfold ex; rw [if_pos h]

/-- The gradient of a logit, through the normalising quotient: with `E` the exponentials and `L`
their sum, what the quotient's and the sum's gradients add up to. -/
theorem quot_grad (E D : Fin n → ℝ) (L : ℝ) (S : Fin n) :
    (D S * (1 / L) + -(∑ S', D S' * (1 / (L * L)) * E S')) * E S
      = E S / L * (D S - ∑ S', E S' / L * D S') := by
  have h : (∑ S', D S' * (1 / (L * L)) * E S') = (1 / L) * ∑ S', E S' / L * D S' := by
    rw [Finset.mul_sum]; refine Finset.sum_congr rfl fun x _ => ?_
    rw [one_div, mul_inv]; ring
  rw [h]; ring

/-- The row term read from the output is the weighted mean of the weights' gradients. -/
theorem mean_swap {k : ℕ} (p : Fin n → ℝ) (g : Fin k → ℝ) (v : Fin n → Fin k → ℝ) :
    ∑ x, g x * ∑ S, p S * v S x = ∑ S, p S * ∑ x, g x * v S x := by
  simp only [Finset.mul_sum]
  rw [Finset.sum_comm]
  refine Finset.sum_congr rfl fun S _ => Finset.sum_congr rfl fun x _ => by ring

/-- A key that is not kept has weight zero. -/
theorem sm_out (S : Fin n) (h : ¬ P S) : sm P f S = 0 := by
  unfold sm ex; rw [if_neg h, zero_div]

end

/-! ## The gradients -/

section
variable (q g : Fin 2064 → Fin 64 → ℝ) (k v : Fin 2064 → Fin 64 → ℝ) (c : Fin 2064 → ℝ)

/-- The logit of row `T` at key `S`, less the row's own gate. -/
def lg (T S : Fin 2064) : ℝ := (∑ x, q T x * k S x) * (1 / 8) - c S

/-- The softmax weight of row `T` at key `S`, over the keys at or before the row. -/
def pr (T S : Fin 2064) : ℝ := sm (fun S : Fin 2064 => S.val ≤ T.val) (lg q k c T) S

/-- The gradient of the weight of row `T` at key `S`. -/
def dp (T S : Fin 2064) : ℝ := ∑ x, g T x * v S x

/-- The gradient of the logit of row `T` at key `S`. -/
def dl (T S : Fin 2064) : ℝ := pr q k c T S * (dp g v T S - ∑ S', pr q k c T S' * dp g v T S')

/-- The gradient of lane `d` of key `S`. -/
def gK (S : Fin 2064) (d : Fin 64) : ℝ := ∑ T, dl q g k v c T S * (1 / 8) * q T d

/-- The gradient of lane `d` of value `S`. -/
def gV (S : Fin 2064) (d : Fin 64) : ℝ := ∑ T, g T d * pr q k c T S

/-- The gradient of the gate of key `S`. -/
def gC (S : Fin 2064) : ℝ := -∑ T, dl q g k v c T S

end

/-- The f32 pattern `0x3E000000` is one eighth. -/
theorem e8_eq : e8 = (((1 : ℝ) / 8 : ℝ) : EReal) := by
  simp [e8, Ideal.ofBits, Ideal.ieee, -EReal.coe_mul]; norm_num

/-- The f32 pattern `0xFF800000` is minus infinity. -/
theorem ninf_eq : Ideal.ofBits .f32 0xFF800000#32 = (⊥ : EReal) := by
  simp [Ideal.ofBits, Ideal.ieee]

/-- The quotient of two real numbers, the second not zero. -/
theorem div_real (a b : ℝ) (h : b ≠ 0) : Ideal.div (a : EReal) (b : EReal) = ((a / b : ℝ) : EReal) := by
  rw [Ideal.div_coe h, ← EReal.coe_mul, mul_one_div]

/-- A fold of maxima of numbers below `⊤` stays below `⊤`. -/
theorem foldmax_lt {ι : Type*} (x : ι → EReal) (hx : ∀ i, x i ≠ ⊤) (l : List ι) :
    ∀ r : EReal, r ≠ ⊤ → l.foldl (fun r n => max r (x n)) r ≠ ⊤ := by
  induction l with
  | nil => intro r hr; exact hr
  | cons a l ih =>
    intro r hr
    refine ih _ ?_
    show max r (x a) ≠ ⊤
    rcases max_choice r (x a) with h | h <;> rw [h]
    · exact hr
    · exact hx a

/-- A fold of maxima is at least where it starts. -/
theorem foldmax_ge {ι : Type*} (x : ι → EReal) (l : List ι) :
    ∀ r : EReal, r ≤ l.foldl (fun r n => max r (x n)) r := by
  induction l with
  | nil => intro r; exact le_rfl
  | cons a l ih => intro r; exact (le_max_left _ _).trans (ih _)

/-- A fold of maxima is at least every number folded. -/
theorem foldmax_mem {ι : Type*} (x : ι → EReal) (l : List ι) (i : ι) :
    ∀ r : EReal, i ∈ l → x i ≤ l.foldl (fun r n => max r (x n)) r := by
  induction l with
  | nil => intro r h; exact absurd h List.not_mem_nil
  | cons a l ih =>
    intro r h
    rcases List.mem_cons.mp h with rfl | h
    · exact (le_max_right _ _).trans (foldmax_ge x l _)
    · exact ih _ h

/-- The maximum over an axis is a real number, when no number folded is `⊤` and one is not `⊥`. -/
theorem reduce_real {s t : Shape} {dims : List (Fin s.rank)} {u : Shape} (x : s.Idx → EReal) (init : u.Idx → EReal)
    (h : s.ReducesTo dims t) (hu : 0 < u.numel) (j : t.Idx) (hi : ∀ i, init i ≠ ⊤) (hx : ∀ i, x i ≠ ⊤)
    (i0 : s.Idx) (hd : h.drop i0 = j) (h0 : x i0 ≠ ⊥) :
    ∃ r : ℝ, (Host.reduce (FloatOps.maximumf (F := Ideal) (φ := .f32)) x init h hu j : EReal) = (r : EReal) := by
  have hl : (Host.reduce (FloatOps.maximumf (F := Ideal) (φ := .f32)) x init h hu j : EReal) ≠ ⊤ :=
    foldmax_lt (fun n => x (s.rowMajor.symm n)) (fun n => hx _) _ _ (hi _)
  have hg : x i0 ≤ (Host.reduce (FloatOps.maximumf (F := Ideal) (φ := .f32)) x init h hu j : EReal) := by
    have hm : s.rowMajor i0 ∈ (List.finRange s.numel).filter (fun n => h.drop (s.rowMajor.symm n) = j) :=
      List.mem_filter.mpr ⟨List.mem_finRange _, by rw [Equiv.symm_apply_apply]; exact decide_eq_true hd⟩
    have := foldmax_mem (fun n => x (s.rowMajor.symm n)) _ _ (init (Shape.Idx.first hu)) hm
    rw [Equiv.symm_apply_apply] at this
    exact this
  refine ⟨_, (EReal.coe_toReal hl ?_).symm⟩
  intro hb
  rw [hb] at hg
  exact h0 (le_bot_iff.mp hg)

end Cert.Attn

end
-- ==== Proof.Attn.Vals.lean ====
module

public import proofs.«01_k».proof.Proof.Attn.Math
public import proofs.«01_k».proof.Proof.Attn.Blocks
public import proofs.«01_k».proof.Proof.Gen.ReferenceIdeal.Read

@[expose] public section

set_option maxRecDepth 16384
set_option maxHeartbeats 1000000

/-! The plain attention's values at an element, over arguments that are real numbers: its logits,
weights and the gradients of its keys, values and gates. -/

noncomputable section

namespace Cert.Attn

open Idealize.ShloMosaic
open Cert.ReferenceIdeal Cert.ReferenceIdeal.Gen Cert.ReferenceIdeal.Read

/-- Lane `x` of head `H` among the 1024 columns. -/
abbrev cl (H : Fin 16) (x : Fin 64) : Fin 1024 := ⟨64 * H.val + x.val, by omega⟩
/-- Lane `x` of head `H` of the keys. -/
abbrev ck (H : Fin 16) (x : Fin 64) : Fin 2048 := ⟨64 * H.val + x.val, by omega⟩
/-- Lane `x` of head `H` of the values. -/
abbrev cv (H : Fin 16) (x : Fin 64) : Fin 2048 := ⟨1024 + (64 * H.val + x.val), by omega⟩

theorem eq2 {a b : ℕ} (i : (⟨2, ![a, b]⟩ : Shape).Idx) (r : Fin a) (y : Fin b) (h0 : (i 0).val = r.val) (h1 : (i 1).val = y.val) : i = ix2 r y := by
  funext k; match k with
  | ⟨0, _⟩ => exact Fin.ext h0
  | ⟨1, _⟩ => exact Fin.ext h1

theorem eq3 {a b c : ℕ} (i : (⟨3, ![a, b, c]⟩ : Shape).Idx) (r : Fin a) (y : Fin b) (z : Fin c) (h0 : (i 0).val = r.val) (h1 : (i 1).val = y.val)
    (h2 : (i 2).val = z.val) : i = ix3 r y z := by
  funext k; match k with
  | ⟨0, _⟩ => exact Fin.ext h0
  | ⟨1, _⟩ => exact Fin.ext h1
  | ⟨2, _⟩ => exact Fin.ext h2

theorem eq4 {a b c d : ℕ} (i : (⟨4, ![a, b, c, d]⟩ : Shape).Idx) (r : Fin a) (y : Fin b) (z : Fin c) (w : Fin d) (h0 : (i 0).val = r.val) (h1 : (i 1).val = y.val)
    (h2 : (i 2).val = z.val) (h3 : (i 3).val = w.val) : i = ix4 r y z w := by
  funext k; match k with
  | ⟨0, _⟩ => exact Fin.ext h0
  | ⟨1, _⟩ => exact Fin.ext h1
  | ⟨2, _⟩ => exact Fin.ext h2
  | ⟨3, _⟩ => exact Fin.ext h3

/-- The keys' order, as the plain attention's mask compares it. -/
theorem sel_ge' (T S : Fin 2064) (x y : EReal) :
    Scalar.select (IntOp.cmpi .sge (BitVec.ofNat 32 T.val) (BitVec.ofNat 32 S.val)) x y = if S.val ≤ T.val then x else y := by
  have hr := T.isLt
  have hs := S.isLt
  rw [WordCmp.cmpi_sge_ofNat (by norm_num; omega) (by norm_num; omega)]
  by_cases h : S.val ≤ T.val
  · simp [h, Scalar.select]
  · simp [h, Scalar.select]

section
variable (Q : Fin 4128 → Fin 1024 → ℝ) (K : Fin 4128 → Fin 2048 → ℝ) (C : Fin 4128 → Fin 16 → ℝ) (G : Fin 4128 → Fin 1024 → ℝ)

/-- The queries of one head of one batch row. -/
def hq (b : Fin 2) (H : Fin 16) (T : Fin 2064) (x : Fin 64) : ℝ := Q (rowG b T) (cl H x)
/-- The keys of one head of one batch row. -/
def hk (b : Fin 2) (H : Fin 16) (T : Fin 2064) (x : Fin 64) : ℝ := K (rowG b T) (ck H x)
/-- The values of one head of one batch row. -/
def hv (b : Fin 2) (H : Fin 16) (T : Fin 2064) (x : Fin 64) : ℝ := K (rowG b T) (cv H x)
/-- The gates of one head of one batch row. -/
def hc (b : Fin 2) (H : Fin 16) (T : Fin 2064) : ℝ := C (rowG b T) H

variable (x0 : (⟨S4128x1024, .bf16⟩ : BufTy).Contents (Elt Ideal)) (x1 : (⟨S4128x2048, .bf16⟩ : BufTy).Contents (Elt Ideal))
  (x2 : (⟨S4128x16, .f32⟩ : BufTy).Contents (Elt Ideal)) (x3 : (⟨S4128x1024, .bf16⟩ : BufTy).Contents (Elt Ideal))

/-- The four arguments are the real arrays. -/
structure IsReal : Prop where
  q : ∀ r y, (x0 (ix2 r y) : EReal) = (Q r y : EReal)
  k : ∀ r y, (x1 (ix2 r y) : EReal) = (K r y : EReal)
  c : ∀ r y, (x2 (ix2 r y) : EReal) = (C r y : EReal)
  g : ∀ r y, (x3 (ix2 r y) : EReal) = (G r y : EReal)

variable {Q K C G x0 x1 x2 x3}
variable (R : IsReal Q K C G x0 x1 x2 x3)
include R

theorem r_q (b : Fin 2) (H : Fin 16) (T : Fin 2064) (x : Fin 64) :
    (val_main_v8 (F := Ideal) x0 (ix4 b H T x) : EReal) = (hq Q b H T x : EReal) := by
  rw [val_main_v8_apply, val_main_v7_apply, val_main_v6_apply]
  refine Eq.trans (congrArg x0 (eq2 _ (rowG b T) (cl H x) ?_ ?_)) (R.q _ _)
  · show (((b.val * 2064 + T.val) * 16 + H.val) * 64 + x.val) / 1024 = 2064 * b.val + T.val; omega
  · show (((b.val * 2064 + T.val) * 16 + H.val) * 64 + x.val) % 1024 = 64 * H.val + x.val; omega

theorem r_k (b : Fin 2) (H : Fin 16) (T : Fin 2064) (x : Fin 64) :
    (val_main_v10 (F := Ideal) x1 (ix4 b H T x) : EReal) = (hk K b H T x : EReal) := by
  rw [val_main_v10_apply, val_main_v9_apply, val_main_v3_apply, val_main_v2_apply]
  refine Eq.trans (congrArg x1 (eq2 _ (rowG b T) (ck H x) ?_ ?_)) (R.k _ _)
  · show (((b.val * 2064 + T.val) * 16 + H.val) * 64 + x.val) / 1024 = 2064 * b.val + T.val; omega
  · show (((b.val * 2064 + T.val) * 16 + H.val) * 64 + x.val) % 1024 = 64 * H.val + x.val; omega

theorem r_v (b : Fin 2) (H : Fin 16) (T : Fin 2064) (x : Fin 64) :
    (val_main_v57 (F := Ideal) x1 (ix4 b H T x) : EReal) = (hv K b H T x : EReal) := by
  rw [val_main_v57_apply, val_main_v56_apply, val_main_v5_apply, val_main_v4_apply]
  refine Eq.trans (congrArg x1 (eq2 _ (rowG b T) (cv H x) ?_ ?_)) (R.k _ _)
  · show (((b.val * 2064 + T.val) * 16 + H.val) * 64 + x.val) / 1024 = 2064 * b.val + T.val; omega
  · show 1024 + (((b.val * 2064 + T.val) * 16 + H.val) * 64 + x.val) % 1024 = 1024 + (64 * H.val + x.val); omega

theorem r_g (b : Fin 2) (H : Fin 16) (T : Fin 2064) (x : Fin 64) :
    (val_main_v63 (F := Ideal) x3 (ix4 b H T x) : EReal) = (hq G b H T x : EReal) := by
  rw [val_main_v63_apply, val_main_v62_apply, val_main_v61_apply]
  refine Eq.trans (congrArg x3 (eq2 _ (rowG b T) (cl H x) ?_ ?_)) (R.g _ _)
  · show (((b.val * 2064 + T.val) * 16 + H.val) * 64 + x.val) / 1024 = 2064 * b.val + T.val; omega
  · show (((b.val * 2064 + T.val) * 16 + H.val) * 64 + x.val) % 1024 = 64 * H.val + x.val; omega

theorem r_c (b : Fin 2) (H : Fin 16) (T : Fin 2064) :
    (val_main_v1 (F := Ideal) x2 (ix3 b H T) : EReal) = (hc C b H T : EReal) := by
  rw [val_main_v1_apply, val_main_v0_apply]
  refine Eq.trans (congrArg x2 (eq2 _ (rowG b T) H ?_ ?_)) (R.c _ _)
  · show ((b.val * 2064 + T.val) * 16 + H.val) / 16 = 2064 * b.val + T.val; omega
  · show ((b.val * 2064 + T.val) * 16 + H.val) % 16 = H.val; omega

/-- The scaled product of a row's queries with a key. -/
theorem r_13 (b : Fin 2) (H : Fin 16) (T S : Fin 2064) :
    (val_main_v13 (F := Ideal) x0 x1 (ix4 b H T S) : EReal) = (((∑ x, hq Q b H T x * hk K b H S x) * (1 / 8) : ℝ) : EReal) := by
  rw [val_main_v13_apply, val_main_v12_apply, val_main_cst_apply, val_main_v11_apply]
  show (_ : EReal) * e8 = _
  rw [e8_eq, EReal.coe_mul, coe_sum]
  refine congrArg (· * (((1 : ℝ) / 8 : ℝ) : EReal)) (Finset.sum_congr rfl fun x _ => ?_)
  rw [EReal.coe_mul]
  exact congrArg₂ (fun a b : EReal => a * b)
    ((congrArg (val_main_v8 x0) (eq4 _ b H T x rfl rfl rfl rfl)).trans (r_q R b H T x))
    ((congrArg (val_main_v10 x1) (eq4 _ b H S x rfl rfl rfl rfl)).trans (r_k R b H S x))

theorem r_17 (b : Fin 2) (H : Fin 16) (T S : Fin 2064) :
    (val_main_v17 (F := Ideal) x2 (ix4 b H T S) : EReal) = (hc C b H S : EReal) := by
  rw [val_main_v17_apply, val_main_v15_apply]
  refine Eq.trans (congrArg (val_main_v1 x2) (eq3 _ b H S ?_ ?_ ?_)) (r_c R b H S)
  all_goals first | rfl | (dsimp [ix4]; omega)

theorem r_16 (b : Fin 2) (H : Fin 16) (T S : Fin 2064) :
    (val_main_v16 (F := Ideal) x2 (ix4 b H T S) : EReal) = (hc C b H T : EReal) := by
  rw [val_main_v16_apply, val_main_v14_apply]
  refine Eq.trans (congrArg (val_main_v1 x2) (eq3 _ b H T ?_ ?_ ?_)) (r_c R b H T)
  all_goals first | rfl | (dsimp [ix4]; omega)

omit R in
/-- The mask keeps the keys at or before the row. -/
theorem r_sel (b : Fin 2) (H : Fin 16) (T S : Fin 2064) (x y : EReal) :
    Scalar.select (val_main_v27_1 (F := Ideal) (ix4 b H T S)) x y = if S.val ≤ T.val then x else y := by
  rw [val_main_v27_1_apply, val_main_v26_apply, val_main_v24_apply, val_main_v21_apply, val_main_v20_apply, val_main_v25_apply,
    val_main_v23_apply, val_main_v22_apply]
  exact sel_ge' T S x y

/-- The masked logits. -/
theorem r_27 (b : Fin 2) (H : Fin 16) (T S : Fin 2064) :
    (val_main_v27_0 (F := Ideal) x0 x1 x2 (ix4 b H T S) : EReal)
      = if S.val ≤ T.val then ((lg (hq Q b H) (hk K b H) (hc C b H) T S + hc C b H T : ℝ) : EReal) else ⊥ := by
  rw [val_main_v27_0_apply, r_sel]
  refine congrArg₂ (fun x y : EReal => if S.val ≤ T.val then x else y) ?_ ?_
  · rw [val_main_v19_apply, val_main_v18_apply]
    show (_ : EReal) + ((_ : EReal) - _) = _
    rw [r_13 R, r_16 R, r_17 R, ← EReal.coe_sub, ← EReal.coe_add]
    refine congrArg _ ?_
    unfold lg; ring
  · rw [val_main_call0_v2_apply, val_main_call0_v0_apply, val_main_cst_0_apply]
    exact ninf_eq

/-- A row's maximum is a real number. -/
theorem r_28 (b : Fin 2) (H : Fin 16) (T : Fin 2064) :
    ∃ M : ℝ, (val_main_v28 (F := Ideal) x0 x1 x2 (ix3 b H T) : EReal) = (M : EReal) := by
  unfold val_main_v28
  refine reduce_real _ _ _ _ _ ?_ ?_ (ix4 b H T T) ?_ ?_
  · intro i; exact ninf_eq.trans_ne bot_ne_top
  · intro i
    rw [eq_ix4 i]
    refine (r_27 R _ _ _ _).trans_ne ?_
    split
    · exact EReal.coe_ne_top _
    · exact bot_ne_top
  · exact eq3 _ _ _ _ rfl rfl rfl
  · refine (r_27 R _ _ _ _).trans_ne ?_
    rw [if_pos le_rfl]
    exact EReal.coe_ne_bot _

end

end Cert.Attn

end
-- ==== Proof.Attn.RefVals.lean ====
module

public import proofs.«01_k».proof.Proof.Attn.Vals

@[expose] public section

set_option maxRecDepth 16384
set_option maxHeartbeats 1000000

/-! The plain attention's three gradients at an element, as real numbers. -/

noncomputable section

namespace Cert.Attn

open Idealize.ShloMosaic
open Cert.ReferenceIdeal Cert.ReferenceIdeal.Gen Cert.ReferenceIdeal.Read

section
variable {Q : Fin 4128 → Fin 1024 → ℝ} {K : Fin 4128 → Fin 2048 → ℝ} {C : Fin 4128 → Fin 16 → ℝ} {G : Fin 4128 → Fin 1024 → ℝ}
  {x0 : (⟨S4128x1024, .bf16⟩ : BufTy).Contents (Elt Ideal)} {x1 : (⟨S4128x2048, .bf16⟩ : BufTy).Contents (Elt Ideal)}
  {x2 : (⟨S4128x16, .f32⟩ : BufTy).Contents (Elt Ideal)} {x3 : (⟨S4128x1024, .bf16⟩ : BufTy).Contents (Elt Ideal)}
variable (R : IsReal Q K C G x0 x1 x2 x3)
include R

/-- The keys a row may see. -/
abbrev up (T S : Fin 2064) : Prop := S.val ≤ T.val

/-- A row's exponentials, sums and weights: one real `a` moves all of the row's logits. -/
theorem r_row (b : Fin 2) (H : Fin 16) (T : Fin 2064) :
    ∃ a : ℝ, (∀ S, (val_main_v48 (F := Ideal) x0 x1 x2 (ix4 b H T S) : EReal)
        = (ex (up T) (fun S => lg (hq Q b H) (hk K b H) (hc C b H) T S + a) S : EReal))
      ∧ (val_main_v50 (F := Ideal) x0 x1 x2 (ix4 b H T (0 : Fin 1)) : EReal)
        = ((∑ S, ex (up T) (fun S => lg (hq Q b H) (hk K b H) (hc C b H) T S + a) S : ℝ) : EReal) := by
  obtain ⟨M, hM⟩ := r_28 R b H T
  have he : ∀ S, (val_main_v48 (F := Ideal) x0 x1 x2 (ix4 b H T S) : EReal)
      = (ex (up T) (fun S => lg (hq Q b H) (hk K b H) (hc C b H) T S + (hc C b H T - M)) S : EReal) := by
    intro S
    rw [val_main_v48_apply, val_main_v47_apply, val_main_v46_apply, val_main_v45_apply, val_main_v35_apply,
      val_main_v34_apply, val_main_cst_3_apply]
    show Ideal.exp ((_ : EReal) - max (Ideal.ofBits .f32 0xFF800000#32) (_ : EReal)) = _
    rw [ninf_eq, max_eq_right bot_le, r_27 R]
    rw [congrArg (val_main_v28 x0 x1 x2) (eq3 (idx_main_v45 (idx_main_v46 (ix4 b H T S))) b H T rfl rfl rfl), hM]
    unfold ex
    split
    · rw [← EReal.coe_sub, Ideal.exp_coe, add_sub_assoc]
    · rw [EReal.bot_sub, Ideal.exp_bot, EReal.coe_zero]
  refine ⟨hc C b H T - M, he, ?_⟩
  rw [val_main_v50_apply, val_main_v49_apply, val_main_cst_9_apply]
  show Ideal.ofBits .f32 0x00000000#32 + (_ : EReal) = _
  rw [Ideal.ofBits_zero_f32, zero_add, coe_sum]
  refine Finset.sum_congr rfl fun S _ => ?_
  refine Eq.trans (congrArg (val_main_v48 x0 x1 x2) (eq4 _ b H T S rfl rfl rfl rfl)) (he S)

/-- The softmax weights. -/
theorem r_52 (b : Fin 2) (H : Fin 16) (T S : Fin 2064) :
    (val_main_v52 (F := Ideal) x0 x1 x2 (ix4 b H T S) : EReal) = (pr (hq Q b H) (hk K b H) (hc C b H) T S : EReal) := by
  obtain ⟨a, he, hL⟩ := r_row R b H T
  rw [val_main_v52_apply, val_main_v51_apply]
  show Ideal.div (_ : EReal) (_ : EReal) = _
  rw [he, congrArg (val_main_v50 x0 x1 x2) (eq4 (idx_main_v51 (ix4 b H T S)) b H T (0 : Fin 1) rfl rfl rfl rfl), hL,
    div_real _ _ (ex_sum_pos (up T) _ T le_rfl).ne']
  exact congrArg _ (sm_add (up T) _ a S)

/-- The gradients of the weights. -/
theorem r_66 (b : Fin 2) (H : Fin 16) (T S : Fin 2064) :
    (val_main_v66 (F := Ideal) x1 x3 (ix4 b H T S) : EReal) = (dp (hq G b H) (hv K b H) T S : EReal) := by
  rw [val_main_v66_apply]
  unfold dp
  rw [coe_sum]
  refine Finset.sum_congr rfl fun x _ => ?_
  rw [EReal.coe_mul]
  exact congrArg₂ (fun a b : EReal => a * b)
    ((congrArg (val_main_v63 x3) (eq4 _ b H T x rfl rfl rfl rfl)).trans (r_g R b H T x))
    ((congrArg (val_main_v57 x1) (eq4 _ b H S x rfl rfl rfl rfl)).trans (r_v R b H S x))

/-- The gradients of the logits. -/
theorem r_81 (b : Fin 2) (H : Fin 16) (T S : Fin 2064) :
    (val_main_v81 (F := Ideal) x0 x1 x2 x3 (ix4 b H T S) : EReal)
      = (dl (hq Q b H) (hq G b H) (hk K b H) (hv K b H) (hc C b H) T S : EReal) := by
  obtain ⟨a, he, hL⟩ := r_row R b H T
  have hL0 := (ex_sum_pos (up T) (fun S => lg (hq Q b H) (hk K b H) (hc C b H) T S + a) T le_rfl).ne'
  generalize hLe : (∑ S, ex (up T) (fun S => lg (hq Q b H) (hk K b H) (hc C b H) T S + a) S) = L at hL hL0
  have h69 : ∀ S, (val_main_v69 (F := Ideal) x0 x1 x2 (ix4 b H T S) : EReal) = ((1 / (L * L) : ℝ) : EReal) := by
    intro S
    rw [val_main_v69_apply, val_main_v55_apply, val_main_v54_apply, val_main_cst_10_apply, val_main_v53_apply]
    show Ideal.div (Ideal.ofBits .f32 0x3F800000#32) ((_ : EReal) * (_ : EReal)) = _
    rw [congrArg (val_main_v50 x0 x1 x2) (eq4 (idx_main_v69 (ix4 b H T S)) b H T (0 : Fin 1) rfl rfl rfl rfl), hL,
      ← EReal.coe_mul, Ideal.ofBits_one_f32, ← EReal.coe_one, div_real _ _ (mul_ne_zero hL0 hL0)]
  have h72 : (val_main_v72 (F := Ideal) x0 x1 x2 x3 (ix3 b H T) : EReal)
      = ((∑ S, dp (hq G b H) (hv K b H) T S * (1 / (L * L)) * ex (up T) (fun S => lg (hq Q b H) (hk K b H) (hc C b H) T S + a) S : ℝ) : EReal) := by
    rw [val_main_v72_apply, val_main_cst_11_apply]
    show Ideal.ofBits .f32 0x00000000#32 + (_ : EReal) = _
    rw [Ideal.ofBits_zero_f32, zero_add, coe_sum]
    refine Finset.sum_congr rfl fun S _ => ?_
    refine Eq.trans (congrArg (val_main_v71 x0 x1 x2 x3) (eq4 _ b H T S rfl rfl rfl rfl)) ?_
    rw [val_main_v71_apply, val_main_v70_apply]
    show ((_ : EReal) * (_ : EReal)) * (_ : EReal) = _
    rw [r_66 R, h69, he, ← EReal.coe_mul, ← EReal.coe_mul]
  have h78 : (val_main_v78 (F := Ideal) x0 x1 x2 x3 (ix4 b H T S) : EReal)
      = ((-(∑ S, dp (hq G b H) (hv K b H) T S * (1 / (L * L)) * ex (up T) (fun S => lg (hq Q b H) (hk K b H) (hc C b H) T S + a) S) : ℝ) : EReal) := by
    rw [val_main_v78_apply, val_main_v77_apply, val_main_cst_12_apply, Fin.sum_univ_one, val_main_v74_apply, val_main_v73_apply]
    show Ideal.ofBits .f32 0x00000000#32 + -(_ : EReal) = _
    rw [Ideal.ofBits_zero_f32, zero_add, EReal.coe_neg, ← h72]
    refine congrArg (fun x : EReal => -x) (congrArg (val_main_v72 x0 x1 x2 x3) (eq3 _ b H T ?_ ?_ ?_))
    · show (((b.val * 16 + H.val) * 2064 + T.val) * 1 + 0) / 33024 = b.val; omega
    · show (((b.val * 16 + H.val) * 2064 + T.val) * 1 + 0) / 2064 % 16 = H.val; omega
    · show (((b.val * 16 + H.val) * 2064 + T.val) * 1 + 0) % 2064 = T.val; omega
  have h80 : (val_main_v80 (F := Ideal) x0 x1 x2 x3 (ix4 b H T S) : EReal)
      = (dl (hq Q b H) (hq G b H) (hk K b H) (hv K b H) (hc C b H) T S : EReal) := by
    rw [val_main_v80_apply, val_main_v79_apply, val_main_v76_apply, val_main_v75_apply]
    show (Ideal.div (_ : EReal) (_ : EReal) + (_ : EReal)) * (_ : EReal) = _
    rw [congrArg (val_main_v50 x0 x1 x2) (eq4 (idx_main_v75 (ix4 b H T S)) b H T (0 : Fin 1) rfl rfl rfl rfl), hL,
      r_66 R, h78, he, div_real _ _ hL0, ← EReal.coe_add, ← EReal.coe_mul]
    refine congrArg _ ?_
    rw [div_eq_mul_one_div, quot_grad]
    unfold dl pr
    simp only [← sm_add (up T) (lg (hq Q b H) (hk K b H) (hc C b H) T) a]
    unfold sm
    rw [hLe]
  rw [val_main_v81_apply, r_sel, h80, val_main_call1_v0_apply, val_main_call1_cst_apply]
  by_cases h : S.val ≤ T.val
  · rw [if_pos h]
  · rw [if_neg h]
    unfold dl pr
    rw [sm_out _ _ _ h, zero_mul, EReal.coe_zero]
    exact Ideal.ofBits_zero_f32

/-- The reference's gradient of a key. -/
theorem r_91 (b : Fin 2) (H : Fin 16) (S : Fin 2064) (d : Fin 64) :
    (val_main_v91 (F := Ideal) x0 x1 x2 x3 (ix2 (rowG b S) (cl H d)) : EReal)
      = (gK (hq Q b H) (hq G b H) (hk K b H) (hv K b H) (hc C b H) S d : EReal) := by
  rw [val_main_v91_apply, val_main_v90_apply, val_main_v89_apply]
  refine Eq.trans (congrArg (val_main_v88 x0 x1 x2 x3) (eq4 _ b H S d ?_ ?_ ?_ ?_)) ?_
  · show ((2064 * b.val + S.val) * 1024 + (64 * H.val + d.val)) / 2113536 = b.val; omega
  · show ((2064 * b.val + S.val) * 1024 + (64 * H.val + d.val)) / 64 % 16 = H.val; omega
  · show ((2064 * b.val + S.val) * 1024 + (64 * H.val + d.val)) / 1024 % 2064 = S.val; omega
  · show ((2064 * b.val + S.val) * 1024 + (64 * H.val + d.val)) % 64 = d.val; omega
  rw [val_main_v88_apply]
  unfold gK
  rw [coe_sum]
  refine Finset.sum_congr rfl fun T _ => ?_
  rw [EReal.coe_mul]
  refine congrArg₂ (fun a b : EReal => a * b) ?_
    ((congrArg (val_main_v8 x0) (eq4 _ b H T d rfl rfl rfl rfl)).trans (r_q R b H T d))
  refine Eq.trans (congrArg (val_main_v87 x0 x1 x2 x3) (eq4 _ b H T S rfl rfl rfl rfl)) ?_
  rw [val_main_v87_apply, val_main_v86_apply, val_main_cst_15_apply]
  show (_ : EReal) * e8 = _
  rw [r_81 R, e8_eq, ← EReal.coe_mul]

/-- The reference's gradient of a value. -/
theorem r_92 (b : Fin 2) (H : Fin 16) (S : Fin 2064) (d : Fin 64) :
    (val_main_v92 (F := Ideal) x0 x1 x2 x3 (ix2 (rowG b S) (cl H d)) : EReal)
      = (gV (hq Q b H) (hq G b H) (hk K b H) (hc C b H) S d : EReal) := by
  rw [val_main_v92_apply, val_main_v68_apply, val_main_v67_apply, val_main_v65_apply]
  refine Eq.trans (congrArg (val_main_v64 x0 x1 x2 x3) (eq4 _ b H d S ?_ ?_ ?_ ?_)) ?_
  · show ((2064 * b.val + S.val) * 1024 + (64 * H.val + d.val)) / 2113536 = b.val; omega
  · show ((2064 * b.val + S.val) * 1024 + (64 * H.val + d.val)) / 64 % 16 = H.val; omega
  · show ((2064 * b.val + S.val) * 1024 + (64 * H.val + d.val)) % 64 = d.val; omega
  · show ((2064 * b.val + S.val) * 1024 + (64 * H.val + d.val)) / 1024 % 2064 = S.val; omega
  rw [val_main_v64_apply]
  unfold gV
  rw [coe_sum]
  refine Finset.sum_congr rfl fun T _ => ?_
  rw [EReal.coe_mul]
  exact congrArg₂ (fun a b : EReal => a * b)
    ((congrArg (val_main_v63 x3) (eq4 _ b H T d rfl rfl rfl rfl)).trans (r_g R b H T d))
    ((congrArg (val_main_v52 x0 x1 x2) (eq4 _ b H T S rfl rfl rfl rfl)).trans (r_52 R b H T S))

/-- The reference's gradient of a gate. -/
theorem r_94 (b : Fin 2) (p : Fin 8) (j : Fin 3) (h : Fin 2) (s : Fin 688) :
    (val_main_v94 (F := Ideal) x0 x1 x2 x3 (ix5 b p j h s) : EReal)
      = (gC (hq Q b ⟨2 * p.val + h.val, by omega⟩) (hq G b ⟨2 * p.val + h.val, by omega⟩) (hk K b ⟨2 * p.val + h.val, by omega⟩)
          (hv K b ⟨2 * p.val + h.val, by omega⟩) (hc C b ⟨2 * p.val + h.val, by omega⟩) ⟨688 * j.val + s.val, by omega⟩ : EReal) := by
  rw [val_main_v94_apply, val_main_v93_apply, val_main_v85_apply, val_main_cst_14_apply, Fin.sum_univ_one, val_main_v84_apply, val_main_v83_apply,
    val_main_v82_apply, val_main_cst_13_apply]
  show Ideal.ofBits .f32 0x00000000#32 + -(Ideal.ofBits .f32 0x00000000#32 + (_ : EReal)) = _
  rw [Ideal.ofBits_zero_f32, zero_add, zero_add]
  unfold gC
  rw [EReal.coe_neg, coe_sum]
  refine congrArg (fun x : EReal => -x) (Finset.sum_congr rfl fun T _ => ?_)
  have hN0 : ((((b.val * 8 + p.val) * 2 + h.val) * 3 + j.val) * 688 + s.val) / 33024 = b.val := by omega
  have hN1 : ((((b.val * 8 + p.val) * 2 + h.val) * 3 + j.val) * 688 + s.val) / 2064 % 16 = 2 * p.val + h.val := by omega
  have hN2 : ((((b.val * 8 + p.val) * 2 + h.val) * 3 + j.val) * 688 + s.val) % 2064 = 688 * j.val + s.val := by omega
  refine Eq.trans (congrArg (val_main_v81 x0 x1 x2 x3) (eq4 _ b ⟨2 * p.val + h.val, by omega⟩ T ⟨688 * j.val + s.val, by omega⟩ ?_ ?_ ?_ ?_))
    (r_81 R b _ T _)
  · show (((((((((b.val * 8 + p.val) * 2 + h.val) * 3 + j.val) * 688 + s.val) / 33024) * 16 + (((((b.val * 8 + p.val) * 2 + h.val) * 3 + j.val) * 688 + s.val) / 2064 % 16)) * 1 + 0) * 2064 + (((((b.val * 8 + p.val) * 2 + h.val) * 3 + j.val) * 688 + s.val) % 2064))) / 33024 = b.val
    rw [hN0, hN1, hN2]; omega
  · show (((((((((b.val * 8 + p.val) * 2 + h.val) * 3 + j.val) * 688 + s.val) / 33024) * 16 + (((((b.val * 8 + p.val) * 2 + h.val) * 3 + j.val) * 688 + s.val) / 2064 % 16)) * 1 + 0) * 2064 + (((((b.val * 8 + p.val) * 2 + h.val) * 3 + j.val) * 688 + s.val) % 2064))) / 2064 % 16 = 2 * p.val + h.val
    rw [hN0, hN1, hN2]; omega
  · rfl
  · show (((((((((b.val * 8 + p.val) * 2 + h.val) * 3 + j.val) * 688 + s.val) / 33024) * 16 + (((((b.val * 8 + p.val) * 2 + h.val) * 3 + j.val) * 688 + s.val) / 2064 % 16)) * 1 + 0) * 2064 + (((((b.val * 8 + p.val) * 2 + h.val) * 3 + j.val) * 688 + s.val) % 2064))) % 2064 = 688 * j.val + s.val
    rw [hN0, hN1, hN2]; omega

end

end Cert.Attn

end
-- ==== Proof.Attn.HostVals.lean ====
module

public import proofs.«01_k».proof.Proof.Attn.RefVals

@[expose] public section

set_option maxRecDepth 16384
set_option maxHeartbeats 1000000

/-! What the host prepares for the kernel, at an element, over real arguments: the attention's
output and the logarithms of the rows' normalisers. -/

noncomputable section

namespace Cert.Attn

open Idealize.ShloMosaic
open Cert.ReferenceIdeal Cert.ReferenceIdeal.Gen Cert.ReferenceIdeal.Read

/-! ## The layout operations over any array -/

theorem b4_at (y : (⟨S2x16x2064, .f32⟩ : BufTy).Contents (Elt Ideal)) (b : Fin 2) (H : Fin 16) (T : Fin 2064) :
    broadcastInDim S2x16x2064x1 ![0, 1, 2] bcast_S2x16x2064_S2x16x2064x1_0_1_2 y (ix4 b H T (0 : Fin 1)) = y (ix3 b H T) :=
  broadcastInDim_apply _ bcast_S2x16x2064_S2x16x2064x1_0_1_2 y _ (ix3 b H T) (fun a => match a with
    | ⟨0, _⟩ => by show b.val = if (2 : Nat) = 1 then 0 else b.val; rw [if_neg (by decide)]
    | ⟨1, _⟩ => by show H.val = if (16 : Nat) = 1 then 0 else H.val; rw [if_neg (by decide)]
    | ⟨2, _⟩ => by show T.val = if (2064 : Nat) = 1 then 0 else T.val; rw [if_neg (by decide)])

theorem b44_at (y : (⟨S2x16x2064x1, .f32⟩ : BufTy).Contents (Elt Ideal)) (b : Fin 2) (H : Fin 16) (T S : Fin 2064) :
    broadcastInDim S2x16x2064x2064 ![0, 1, 2, 3] bcast_S2x16x2064x1_S2x16x2064x2064_0_1_2_3 y (ix4 b H T S) = y (ix4 b H T (0 : Fin 1)) :=
  broadcastInDim_apply _ bcast_S2x16x2064x1_S2x16x2064x2064_0_1_2_3 y _ (ix4 b H T (0 : Fin 1)) (fun a => match a with
    | ⟨0, _⟩ => by show b.val = if (2 : Nat) = 1 then 0 else b.val; rw [if_neg (by decide)]
    | ⟨1, _⟩ => by show H.val = if (16 : Nat) = 1 then 0 else H.val; rw [if_neg (by decide)]
    | ⟨2, _⟩ => by show T.val = if (2064 : Nat) = 1 then 0 else T.val; rw [if_neg (by decide)]
    | ⟨3, _⟩ => by show 0 = if (1 : Nat) = 1 then 0 else S.val; rw [if_pos rfl])

theorem b64_at (hb : S2x16x2064x1.BroadcastsInDim S2x16x2064x64 (![0, 1, 2, 3] : Fin 4 → Fin 4))
    (y : (⟨S2x16x2064x1, .f32⟩ : BufTy).Contents (Elt Ideal)) (b : Fin 2) (H : Fin 16) (T : Fin 2064) (x : Fin 64) :
    broadcastInDim S2x16x2064x64 ![0, 1, 2, 3] hb y (ix4 b H T x) = y (ix4 b H T (0 : Fin 1)) :=
  broadcastInDim_apply _ hb y _ (ix4 b H T (0 : Fin 1)) (fun a => match a with
    | ⟨0, _⟩ => by show b.val = if (2 : Nat) = 1 then 0 else b.val; rw [if_neg (by decide)]
    | ⟨1, _⟩ => by show H.val = if (16 : Nat) = 1 then 0 else H.val; rw [if_neg (by decide)]
    | ⟨2, _⟩ => by show T.val = if (2064 : Nat) = 1 then 0 else T.val; rw [if_neg (by decide)]
    | ⟨3, _⟩ => by show 0 = if (1 : Nat) = 1 then 0 else x.val; rw [if_pos rfl])

theorem sum_at (y : (⟨S2x16x2064x2064, .f32⟩ : BufTy).Contents (Elt Ideal)) (b : Fin 2) (H : Fin 16) (T : Fin 2064) :
    (Host.reduceAdd (F := Ideal) (φ := .f32) y (constant (F := Ideal) S_ .f32 0x00000000#32) reducesTo_S2x16x2064x2064_S2x16x2064_d3 h_S_ (ix3 b H T) : EReal)
      = ∑ S : Fin 2064, (y (ix4 b H T S) : EReal) := by
  simp only [Host.reduceAdd, Ideal.hostReduceAdd_def]
  rw [Ideal.hostReduceAdd_single reducesTo_S2x16x2064x2064_S2x16x2064_d3 (by decide)]
  refine Eq.trans (congrArg (· + _) Ideal.ofBits_zero_f32) ?_
  rw [zero_add]
  refine Finset.sum_congr rfl fun k _ => ?_
  exact congrArg y (funext fun a => Fin.ext (by match a with | ⟨0, _⟩ => rfl | ⟨1, _⟩ => rfl | ⟨2, _⟩ => rfl | ⟨3, _⟩ => rfl))

theorem dot_at (y0 : (⟨S2x16x2064x2064, .f32⟩ : BufTy).Contents (Elt Ideal)) (x0 : (⟨S4128x1024, .bf16⟩ : BufTy).Contents (Elt Ideal))
    (x1 : (⟨S4128x2048, .bf16⟩ : BufTy).Contents (Elt Ideal)) (x2 : (⟨S4128x16, .f32⟩ : BufTy).Contents (Elt Ideal))
    (h : y0 = val_main_v52 x0 x1 x2) :
    Host.dotGeneral (F := Ideal) (φ₁ := .f32) (φ₂ := .f32) dot_S2x16x2064x2064_S2x16x2064x64_S2x16x2064x64_3_2_2_3_01_01 none y0 (val_main_v57 (F := Ideal) x1) = val_main_v58 x0 x1 x2 := by
  rw [h]; rfl

theorem flat_at (y : (⟨S2x16x2064x64, .f32⟩ : BufTy).Contents (Elt Ideal)) (b : Fin 2) (H : Fin 16) (T : Fin 2064) (x : Fin 64) :
    shapeCast S4128x1024 (transpose S2x2064x16x64 [0, 2, 1, 3] y transposes_S2x16x2064x64_S2x2064x16x64_0_2_1_3) shapeCasts_S2x2064x16x64_S4128x1024
      (ix2 (rowG b T) (cl H x)) = y (ix4 b H T x) := by
  rw [shapeCast_apply _ shapeCasts_S2x2064x16x64_S4128x1024 (ix2 (rowG b T) (cl H x)) (ix4 b T H x)
    (by rw [Shape.rowMajor_val_four, Shape.rowMajor_val_two]
        show ((b.val * 2064 + T.val) * 16 + H.val) * 64 + x.val = (2064 * b.val + T.val) * 1024 + (64 * H.val + x.val); omega)]
  exact transpose_apply [0, 2, 1, 3] y transposes_S2x16x2064x64_S2x2064x16x64_0_2_1_3 (ix4 b T H x) (ix4 b H T x) (fun b => match b with
    | ⟨0, _⟩ => rfl
    | ⟨1, _⟩ => rfl
    | ⟨2, _⟩ => rfl
    | ⟨3, _⟩ => rfl)

/-! ## The element-wise operations over any arrays -/

theorem expsub_at {s : Shape} (a b : FVec Ideal s .f32) (i : s.Idx) :
    (Host.exp (F := Ideal) (φ := .f32) (subf (F := Ideal) (φ := .f32) a b) i : EReal) = Ideal.exp ((a i : EReal) - (b i : EReal)) := rfl

theorem div_at {s : Shape} (a b : FVec Ideal s .f32) (i : s.Idx) :
    (Host.divf (F := Ideal) (φ := .f32) a b i : EReal) = Ideal.div (a i : EReal) (b i : EReal) := rfl

theorem addlog_at {s : Shape} (a b : FVec Ideal s .f32) (i : s.Idx) :
    (addf (F := Ideal) (φ := .f32) a (Host.log (F := Ideal) (φ := .f32) b) i : EReal) = (a i : EReal) + Ideal.log (b i : EReal) := rfl

theorem selsub_at {s : Shape} (k : IVec s 1) (a b z : FVec Ideal s .f32) (i : s.Idx) :
    (select k (subf (F := Ideal) (φ := .f32) a b) z i : EReal) = Scalar.select (k i) ((a i : EReal) - (b i : EReal)) (z i : EReal) := rfl

/-! ## The host's arrays -/

section
variable (x0 : (⟨S4128x1024, .bf16⟩ : BufTy).Contents (Elt Ideal)) (x1 : (⟨S4128x2048, .bf16⟩ : BufTy).Contents (Elt Ideal))
  (x2 : (⟨S4128x16, .f32⟩ : BufTy).Contents (Elt Ideal))

/-- The masked logits. -/
def kS : (⟨S2x16x2064x2064, .f32⟩ : BufTy).Contents (Elt Ideal) :=
  select (val_main_v27_1 (F := Ideal)) (subf (F := Ideal) (φ := .f32) (val_main_v13 (F := Ideal) x0 x1) (val_main_v17 (F := Ideal) x2)) (val_main_call0_v2 (F := Ideal))

/-- The rows' maxima. -/
def kM : (⟨S2x16x2064, .f32⟩ : BufTy).Contents (Elt Ideal) :=
  Host.reduce (FloatOps.maximumf (F := Ideal) (φ := .f32)) (kS x0 x1 x2) (constant (F := Ideal) S_ .f32 0xFF800000#32) reducesTo_S2x16x2064x2064_S2x16x2064_d3 h_S_

/-- The rows' maxima, a unit axis added. -/
def kM4 : (⟨S2x16x2064x1, .f32⟩ : BufTy).Contents (Elt Ideal) :=
  broadcastInDim S2x16x2064x1 ![0, 1, 2] bcast_S2x16x2064_S2x16x2064x1_0_1_2 (kM x0 x1 x2)

/-- The exponentials. -/
def kE : (⟨S2x16x2064x2064, .f32⟩ : BufTy).Contents (Elt Ideal) :=
  Host.exp (F := Ideal) (φ := .f32) (subf (F := Ideal) (φ := .f32) (kS x0 x1 x2) (broadcastInDim S2x16x2064x2064 ![0, 1, 2, 3] bcast_S2x16x2064x1_S2x16x2064x2064_0_1_2_3 (kM4 x0 x1 x2)))

/-- The normalisers, a unit axis added. -/
def kL4 : (⟨S2x16x2064x1, .f32⟩ : BufTy).Contents (Elt Ideal) :=
  broadcastInDim S2x16x2064x1 ![0, 1, 2] bcast_S2x16x2064_S2x16x2064x1_0_1_2
    (Host.reduceAdd (F := Ideal) (φ := .f32) (kE x0 x1 x2) (constant (F := Ideal) S_ .f32 0x00000000#32) reducesTo_S2x16x2064x2064_S2x16x2064_d3 h_S_)

/-- The weights. -/
def kP : (⟨S2x16x2064x2064, .f32⟩ : BufTy).Contents (Elt Ideal) :=
  Host.divf (F := Ideal) (φ := .f32) (kE x0 x1 x2) (broadcastInDim S2x16x2064x2064 ![0, 1, 2, 3] bcast_S2x16x2064x1_S2x16x2064x2064_0_1_2_3 (kL4 x0 x1 x2))

/-- The attention's output. -/
def kO : (⟨S4128x1024, .f32⟩ : BufTy).Contents (Elt Ideal) :=
  shapeCast S4128x1024 (transpose S2x2064x16x64 [0, 2, 1, 3]
    (Host.dotGeneral (F := Ideal) (φ₁ := .f32) (φ₂ := .f32) dot_S2x16x2064x2064_S2x16x2064x64_S2x16x2064x64_3_2_2_3_01_01 none (kP x0 x1 x2) (val_main_v57 (F := Ideal) x1))
    transposes_S2x16x2064x64_S2x2064x16x64_0_2_1_3) shapeCasts_S2x2064x16x64_S4128x1024

/-- The logarithms of the rows' normalisers, over a head's lanes. -/
def kLse (hb : S2x16x2064x1.BroadcastsInDim S2x16x2064x64 (![0, 1, 2, 3] : Fin 4 → Fin 4)) : (⟨S4128x1024, .f32⟩ : BufTy).Contents (Elt Ideal) :=
  shapeCast S4128x1024 (transpose S2x2064x16x64 [0, 2, 1, 3]
    (broadcastInDim S2x16x2064x64 ![0, 1, 2, 3] hb (addf (F := Ideal) (φ := .f32) (kM4 x0 x1 x2) (Host.log (F := Ideal) (φ := .f32) (kL4 x0 x1 x2))))
    transposes_S2x16x2064x64_S2x2064x16x64_0_2_1_3) shapeCasts_S2x2064x16x64_S4128x1024

end

section
variable {Q : Fin 4128 → Fin 1024 → ℝ} {K : Fin 4128 → Fin 2048 → ℝ} {C : Fin 4128 → Fin 16 → ℝ} {G : Fin 4128 → Fin 1024 → ℝ}
  {x0 : (⟨S4128x1024, .bf16⟩ : BufTy).Contents (Elt Ideal)} {x1 : (⟨S4128x2048, .bf16⟩ : BufTy).Contents (Elt Ideal)}
  {x2 : (⟨S4128x16, .f32⟩ : BufTy).Contents (Elt Ideal)} {x3 : (⟨S4128x1024, .bf16⟩ : BufTy).Contents (Elt Ideal)}
variable (R : IsReal Q K C G x0 x1 x2 x3)
include R

theorem kS_at (b : Fin 2) (H : Fin 16) (T S : Fin 2064) :
    (kS x0 x1 x2 (ix4 b H T S) : EReal) = if S.val ≤ T.val then (lg (hq Q b H) (hk K b H) (hc C b H) T S : EReal) else ⊥ := by
  unfold kS
  rw [selsub_at, r_sel]
  refine congrArg₂ (fun x y : EReal => if S.val ≤ T.val then x else y) ?_ ?_
  · rw [r_13 R, r_17 R, ← EReal.coe_sub]
    rfl
  · rw [val_main_call0_v2_apply, val_main_call0_v0_apply, val_main_cst_0_apply]
    exact ninf_eq

theorem kM_at (b : Fin 2) (H : Fin 16) (T : Fin 2064) : ∃ M : ℝ, (kM x0 x1 x2 (ix3 b H T) : EReal) = (M : EReal) := by
  unfold kM
  refine reduce_real _ _ _ _ _ ?_ ?_ (ix4 b H T T) ?_ ?_
  · intro i; exact ninf_eq.trans_ne bot_ne_top
  · intro i
    rw [eq_ix4 i]
    refine (kS_at R _ _ _ _).trans_ne ?_
    split
    · exact EReal.coe_ne_top _
    · exact bot_ne_top
  · exact eq3 _ _ _ _ rfl rfl rfl
  · refine (kS_at R _ _ _ _).trans_ne ?_
    rw [if_pos le_rfl]
    exact EReal.coe_ne_bot _

/-- A row's maximum, exponentials and normaliser. -/
theorem k_row (b : Fin 2) (H : Fin 16) (T : Fin 2064) :
    ∃ M : ℝ, (kM4 x0 x1 x2 (ix4 b H T (0 : Fin 1)) : EReal) = (M : EReal)
      ∧ (∀ S, (kE x0 x1 x2 (ix4 b H T S) : EReal) = (ex (up T) (fun S => lg (hq Q b H) (hk K b H) (hc C b H) T S + -M) S : EReal))
      ∧ (kL4 x0 x1 x2 (ix4 b H T (0 : Fin 1)) : EReal)
        = ((∑ S, ex (up T) (fun S => lg (hq Q b H) (hk K b H) (hc C b H) T S + -M) S : ℝ) : EReal) := by
  obtain ⟨M, hM⟩ := kM_at R b H T
  have h4 : (kM4 x0 x1 x2 (ix4 b H T (0 : Fin 1)) : EReal) = (M : EReal) := (b4_at _ b H T).trans hM
  have he : ∀ S, (kE x0 x1 x2 (ix4 b H T S) : EReal) = (ex (up T) (fun S => lg (hq Q b H) (hk K b H) (hc C b H) T S + -M) S : EReal) := by
    intro S
    unfold kE
    rw [expsub_at, kS_at R, b44_at, h4]
    unfold ex
    split
    · rw [← EReal.coe_sub, Ideal.exp_coe, sub_eq_add_neg]
    · rw [EReal.bot_sub, Ideal.exp_bot, EReal.coe_zero]
  refine ⟨M, h4, he, ?_⟩
  unfold kL4
  rw [b4_at, sum_at, coe_sum]
  exact Finset.sum_congr rfl fun S _ => he S

theorem kP_at (b : Fin 2) (H : Fin 16) (T S : Fin 2064) :
    kP x0 x1 x2 (ix4 b H T S) = val_main_v52 (F := Ideal) x0 x1 x2 (ix4 b H T S) := by
  obtain ⟨M, h4, he, hL⟩ := k_row R b H T
  refine Eq.trans ?_ (r_52 R b H T S).symm
  unfold kP
  rw [div_at, he, b44_at, hL, div_real _ _ (ex_sum_pos (up T) _ T le_rfl).ne']
  exact congrArg _ (sm_add (up T) _ (-M) S)

/-- The host's weights are the plain attention's. -/
theorem kP_eq : kP x0 x1 x2 = val_main_v52 (F := Ideal) x0 x1 x2 := by
  funext i
  rw [eq_ix4 i]
  exact kP_at R _ _ _ _

/-- The output the kernel is given. -/
theorem kO_at (b : Fin 2) (H : Fin 16) (T : Fin 2064) (x : Fin 64) :
    (kO x0 x1 x2 (ix2 (rowG b T) (cl H x)) : EReal)
      = ((∑ S, pr (hq Q b H) (hk K b H) (hc C b H) T S * hv K b H S x : ℝ) : EReal) := by
  unfold kO
  rw [flat_at, dot_at _ x0 x1 x2 (kP_eq R), val_main_v58_apply, coe_sum]
  refine Finset.sum_congr rfl fun S _ => ?_
  rw [EReal.coe_mul]
  exact congrArg₂ (fun a b : EReal => a * b)
    ((congrArg (val_main_v52 x0 x1 x2) (eq4 _ b H T S rfl rfl rfl rfl)).trans (r_52 R b H T S))
    ((congrArg (val_main_v57 x1) (eq4 _ b H S x rfl rfl rfl rfl)).trans (r_v R b H S x))

/-- The logarithm of a row's normaliser turns its exponentials into its weights. -/
theorem kLse_at (hb) (b : Fin 2) (H : Fin 16) (T : Fin 2064) :
    ∃ z : ℝ, (∀ x, (kLse x0 x1 x2 hb (ix2 (rowG b T) (cl H x)) : EReal) = (z : EReal))
      ∧ ∀ S : Fin 2064, S.val ≤ T.val → Real.exp (lg (hq Q b H) (hk K b H) (hc C b H) T S - z) = pr (hq Q b H) (hk K b H) (hc C b H) T S := by
  obtain ⟨M, h4, he, hL⟩ := k_row R b H T
  refine ⟨M + Real.log (∑ S, ex (up T) (fun S => lg (hq Q b H) (hk K b H) (hc C b H) T S + -M) S), ?_, ?_⟩
  · intro x
    unfold kLse
    rw [flat_at, b64_at, addlog_at, h4, hL]
    rw [Ideal.log_coe, if_neg (not_le.mpr (ex_sum_pos (up T) _ T le_rfl)), ← EReal.coe_add]
  · intro S hS
    exact exp_lse (up T) _ S hS M

end

end Cert.Attn

end
-- ==== Proof.Attn.HostRead.lean ====
module

public import proofs.«01_k».proof.Proof.Attn.HostVals
public import proofs.«01_k».proof.Proof.Attn.Frame
public import Idealize.ShloMosaic.Lib.StableHlo.RunRead

@[expose] public section

set_option maxRecDepth 16384
set_option maxHeartbeats 1000000

/-! What the kernel's host lines leave in the buffers the kernel reads. -/

noncomputable section

namespace Cert.Attn

open Idealize.ShloMosaic Idealize.ShloMosaic.TcCoe
open Idealize.SL Idealize.SL.RA Idealize.SL.Sem
open Cert.KernelIdeal Cert.KernelIdeal.Gen

variable (m : (ℓ : Loc nD τ sig) → Buf (Elt Ideal) ℓ) (c : Dev nD)

/-- The output. -/
theorem V_38 : V m c main_v38 = kO (V m c main_arg0) (V m c main_arg1) (V m c main_arg2) := by
  rw [V_main_arg0, V_main_arg1, V_main_arg2]
  after_reads_simp
  rfl

/-- The logarithms of the normalisers. -/
theorem V_43 : V m c main_v43 = kLse (V m c main_arg0) (V m c main_arg1) (V m c main_arg2) bcast_S2x16x2064x1_S2x16x2064x64_0_1_2_3 := by
  rw [V_main_arg0, V_main_arg1, V_main_arg2]
  after_reads_simp
  rfl

/-- The gates by the keys' tiles. -/
theorem V_45 : V m c main_v45 = transpose S2x8x3x2x688 [0, 3, 1, 4, 2] (shapeCast S2x3x688x8x2 (V m c main_arg2) shapeCasts_S4128x16_S2x3x688x8x2)
    transposes_S2x3x688x8x2_S2x8x3x2x688_0_3_1_4_2 := by
  rw [V_main_arg2]
  after_reads_simp
  rfl

theorem gates_at (y : (⟨S4128x16, .f32⟩ : BufTy).Contents (Elt Ideal)) (b : Fin 2) (p : Fin 8) (j : Fin 3) (h : Fin 2) (s : Fin 688) :
    transpose S2x8x3x2x688 [0, 3, 1, 4, 2] (shapeCast S2x3x688x8x2 y shapeCasts_S4128x16_S2x3x688x8x2)
      transposes_S2x3x688x8x2_S2x8x3x2x688_0_3_1_4_2 (ix5 b p j h s) = y (ix2 (keyG b j s) (⟨2 * p.val + h.val, by omega⟩ : Fin 16)) := by
  rw [transpose_apply [0, 3, 1, 4, 2] _ transposes_S2x3x688x8x2_S2x8x3x2x688_0_3_1_4_2 (ix5 b p j h s) (ix5 b j s p h) (fun b => match b with
    | ⟨0, _⟩ => rfl
    | ⟨1, _⟩ => rfl
    | ⟨2, _⟩ => rfl
    | ⟨3, _⟩ => rfl
    | ⟨4, _⟩ => rfl)]
  exact shapeCast_apply y shapeCasts_S4128x16_S2x3x688x8x2 (ix5 b j s p h) (ix2 (keyG b j s) (⟨2 * p.val + h.val, by omega⟩ : Fin 16))
    (by rw [Shape.rowMajor_val_five, Shape.rowMajor_val_two]
        show (2064 * b.val + 688 * j.val + s.val) * 16 + (2 * p.val + h.val) = ((((b.val * 3 + j.val) * 688 + s.val) * 8 + p.val) * 2 + h.val)
        omega)

theorem V_45_at (b : Fin 2) (p : Fin 8) (j : Fin 3) (h : Fin 2) (s : Fin 688) :
    V m c main_v45 (ix5 b p j h s) = V m c main_arg2 (ix2 (keyG b j s) (⟨2 * p.val + h.val, by omega⟩ : Fin 16)) := by
  rw [V_45]
  exact gates_at (V m c main_arg2) b p j h s

end Cert.Attn

end
-- ==== Proof.Attn.KerVals.lean ====
module

public import proofs.«01_k».proof.Proof.Attn.HostVals
public import proofs.«01_k».proof.Proof.Attn.Out

@[expose] public section

set_option maxRecDepth 16384
set_option maxHeartbeats 1000000

/-! The kernel's blocks at an element over real arguments: the gradients of the plain attention. -/

noncomputable section

namespace Cert.Attn

open Idealize.ShloMosaic
open Cert.KernelIdeal Cert.KernelIdeal.Gen

/-- Head `h` of pair `p`. -/
abbrev hd2 (p : Fin 8) (h : Fin 2) : Fin 16 := ⟨2 * p.val + h.val, by omega⟩
/-- Key `s` of tile `j`. -/
abbrev kj (j : Fin 3) (s : Fin 688) : Fin 2064 := ⟨688 * j.val + s.val, by omega⟩

theorem col_q (p : Fin 8) (h : Fin 2) (x : Fin 64) : colG p (ln h x) = cl (hd2 p h) x :=
  Fin.ext (show 128 * p.val + (64 * h.val + x.val) = 64 * (2 * p.val + h.val) + x.val by omega)
theorem col_k (p : Fin 8) (h : Fin 2) (x : Fin 64) : colK p (ln h x) = ck (hd2 p h) x :=
  Fin.ext (show 128 * p.val + (64 * h.val + x.val) = 64 * (2 * p.val + h.val) + x.val by omega)
theorem col_v (p : Fin 8) (h : Fin 2) (x : Fin 64) : colV p (ln h x) = cv (hd2 p h) x :=
  Fin.ext (show 1024 + 128 * p.val + (64 * h.val + x.val) = 1024 + (64 * (2 * p.val + h.val) + x.val) by omega)
theorem row_k (b : Fin 2) (j : Fin 3) (s : Fin 688) : keyG b j s = rowG b (kj j s) :=
  Fin.ext (show 2064 * b.val + 688 * j.val + s.val = 2064 * b.val + (688 * j.val + s.val) by omega)

section
variable {Q : Fin 4128 → Fin 1024 → ℝ} {K : Fin 4128 → Fin 2048 → ℝ} {C : Fin 4128 → Fin 16 → ℝ} {G : Fin 4128 → Fin 1024 → ℝ}
  {x0 : (⟨S4128x1024, .bf16⟩ : BufTy).Contents (Elt Ideal)} {x1 : (⟨S4128x2048, .bf16⟩ : BufTy).Contents (Elt Ideal)}
  {x2 : (⟨S4128x16, .f32⟩ : BufTy).Contents (Elt Ideal)} {x3 : (⟨S4128x1024, .bf16⟩ : BufTy).Contents (Elt Ideal)}
variable (R : IsReal Q K C G x0 x1 x2 x3)

/-- A block of real rows. -/
theorem bR_at {e : EltTy} (X : Vec Ideal S4128x1024 e) (b : Fin 2) (p : Fin 8) (T : Fin 2064) (h : Fin 2) (x : Fin 64) :
    bR X b p (ix2 T (ln h x)) = X (ix2 (rowG b T) (cl (hd2 p h) x)) := by
  unfold bR
  exact congrArg X (congrArg (ix2 (rowG b T)) (col_q p h x))

theorem bK_at (X : Vec Ideal S4128x2048 .bf16) (b : Fin 2) (p : Fin 8) (j : Fin 3) (s : Fin 688) (h : Fin 2) (x : Fin 64) :
    bK X b p j (ix2 s (ln h x)) = X (ix2 (rowG b (kj j s)) (ck (hd2 p h) x)) := by
  unfold bK
  exact congrArg X (congrArg₂ ix2 (row_k b j s) (col_k p h x))

theorem bV_at (X : Vec Ideal S4128x2048 .bf16) (b : Fin 2) (p : Fin 8) (j : Fin 3) (s : Fin 688) (h : Fin 2) (x : Fin 64) :
    bV X b p j (ix2 s (ln h x)) = X (ix2 (rowG b (kj j s)) (cv (hd2 p h) x)) := by
  unfold bV
  exact congrArg X (congrArg₂ ix2 (row_k b j s) (col_v p h x))

variable (cc : Vec Ideal S2x8x3x2x688 .f32)
variable (hcc : ∀ b p j h s, (cc (ix5 b p j h s) : EReal) = (C (keyG b j s) (hd2 p h) : EReal))
variable (hb : S2x16x2064x1.BroadcastsInDim S2x16x2064x64 (![0, 1, 2, 3] : Fin 4 → Fin 4))
include R hcc

theorem wS_at (b : Fin 2) (p : Fin 8) (j : Fin 3) (h : Fin 2) (s : Fin 688) (T : Fin 2064) :
    wS (bR (e := .bf16) x0 b p) (bK x1 b p j) (bC cc b p j) h T s
      = (lg (hq Q b (hd2 p h)) (hk K b (hd2 p h)) (hc C b (hd2 p h)) T (kj j s) : EReal) := by
  unfold wS lg
  have hc' : (bC cc b p j (ix5 (0 : Fin 1) (0 : Fin 1) (0 : Fin 1) h s) : EReal) = (hc C b (hd2 p h) (kj j s) : EReal) := by
    refine (hcc b p j h s).trans ?_
    rw [row_k]; rfl
  rw [hc', EReal.coe_sub, EReal.coe_mul, coe_sum]
  refine congrArg (fun x : EReal => x - _) ?_
  rw [← coe_sum, ← EReal.coe_mul, Finset.sum_mul, coe_sum]
  refine Finset.sum_congr rfl fun x _ => ?_
  rw [bR_at, bK_at, R.q, R.k, e8_eq, ← EReal.coe_mul, ← EReal.coe_mul]
  refine congrArg _ ?_
  unfold hq hk; ring

/-- The kernel's weights and logit gradients are real, and the plain attention's where the row sees the key. -/
theorem w_at (b : Fin 2) (p : Fin 8) (j : Fin 3) (h : Fin 2) (s : Fin 688) (T : Fin 2064) :
    ∃ w d : ℝ, wP (bR (e := .bf16) x0 b p) (bK x1 b p j) (bR (e := .f32) (kLse x0 x1 x2 hb) b p) (bC cc b p j) h T s = (w : EReal)
      ∧ wD (bR (e := .bf16) x0 b p) (bK x1 b p j) (bV x1 b p j) (bR (e := .f32) (kO x0 x1 x2) b p) (bR (e := .bf16) x3 b p)
          (bR (e := .f32) (kLse x0 x1 x2 hb) b p) (bC cc b p j) h T s = (d : EReal)
      ∧ ((kj j s).val ≤ T.val → w = pr (hq Q b (hd2 p h)) (hk K b (hd2 p h)) (hc C b (hd2 p h)) T (kj j s)
        ∧ d = dl (hq Q b (hd2 p h)) (hq G b (hd2 p h)) (hk K b (hd2 p h)) (hv K b (hd2 p h)) (hc C b (hd2 p h)) T (kj j s)) := by
  obtain ⟨z, hz, hzp⟩ := kLse_at R hb b (hd2 p h) T
  have hP : wP (bR (e := .bf16) x0 b p) (bK x1 b p j) (bR (e := .f32) (kLse x0 x1 x2 hb) b p) (bC cc b p j) h T s
      = (Real.exp (lg (hq Q b (hd2 p h)) (hk K b (hd2 p h)) (hc C b (hd2 p h)) T (kj j s) - z) : EReal) := by
    unfold wP
    rw [wS_at R cc hcc, bR_at, hz, ← EReal.coe_sub, Ideal.exp_coe]
  have hG : (∑ x : Fin 64, bR (e := .bf16) x3 b p (ix2 T (ln h x)) * bV x1 b p j (ix2 s (ln h x)) : EReal)
      = (dp (hq G b (hd2 p h)) (hv K b (hd2 p h)) T (kj j s) : EReal) := by
    unfold dp
    rw [coe_sum]
    refine Finset.sum_congr rfl fun x _ => ?_
    rw [bR_at, bV_at, R.g, R.k, ← EReal.coe_mul]; rfl
  have hO : (∑ x : Fin 64, bR (e := .bf16) x3 b p (ix2 T (ln h x)) * bR (e := .f32) (kO x0 x1 x2) b p (ix2 T (ln h x)) : EReal)
      = ((∑ S', pr (hq Q b (hd2 p h)) (hk K b (hd2 p h)) (hc C b (hd2 p h)) T S' * dp (hq G b (hd2 p h)) (hv K b (hd2 p h)) T S' : ℝ) : EReal) := by
    unfold dp
    rw [← mean_swap, coe_sum]
    refine Finset.sum_congr rfl fun x _ => ?_
    rw [bR_at, bR_at, R.g, kO_at R, ← EReal.coe_mul]; rfl
  refine ⟨_, Real.exp (lg (hq Q b (hd2 p h)) (hk K b (hd2 p h)) (hc C b (hd2 p h)) T (kj j s) - z)
      * (dp (hq G b (hd2 p h)) (hv K b (hd2 p h)) T (kj j s)
        - ∑ S', pr (hq Q b (hd2 p h)) (hk K b (hd2 p h)) (hc C b (hd2 p h)) T S' * dp (hq G b (hd2 p h)) (hv K b (hd2 p h)) T S'),
    hP, ?_, ?_⟩
  · unfold wD
    rw [hP, hG, hO, ← EReal.coe_sub, ← EReal.coe_mul]
  · intro hS
    refine ⟨hzp _ hS, ?_⟩
    unfold dl
    rw [hzp _ hS]

/-- The kernel's gradient of a key. -/
theorem outK_val (i : grid0.Coords) (b : Fin 2) (p : Fin 8) (j : Fin 3) (hi : (i 2).val = j.val) (h : Fin 2) (s : Fin 688) (d : Fin 64) :
    outK i (bR (e := .bf16) x0 b p) (bK x1 b p j) (bV x1 b p j) (bR (e := .f32) (kO x0 x1 x2) b p) (bR (e := .bf16) x3 b p)
        (bR (e := .f32) (kLse x0 x1 x2 hb) b p) (bC cc b p j) (ix2 s (ln h d))
      = (gK (hq Q b (hd2 p h)) (hq G b (hd2 p h)) (hk K b (hd2 p h)) (hv K b (hd2 p h)) (hc C b (hd2 p h)) (kj j s) d : EReal) := by
  rw [outK_at]
  have hj : (jb i).val = j.val := hi
  rw [hj]
  unfold gK
  rw [coe_sum]
  refine Finset.sum_congr rfl fun T _ => ?_
  obtain ⟨w, e, hw, he, hp⟩ := w_at R cc hcc hb b p j h s T
  by_cases hS : (kj j s).val ≤ T.val
  · rw [if_pos hS]
    unfold tK
    rw [he, (hp hS).2, bR_at, R.q, e8_eq, ← EReal.coe_mul, ← EReal.coe_mul]
    refine congrArg _ ?_
    show Q (rowG b T) (cl (hd2 p h) d) * (1 / 8) * _ = _ * (1 / 8) * Q (rowG b T) (cl (hd2 p h) d)
    ring
  · rw [if_neg hS]
    unfold dl pr
    rw [sm_out _ _ _ hS]; simp

/-- The kernel's gradient of a value. -/
theorem outV_val (i : grid0.Coords) (b : Fin 2) (p : Fin 8) (j : Fin 3) (hi : (i 2).val = j.val) (h : Fin 2) (s : Fin 688) (d : Fin 64) :
    outV i (bR (e := .bf16) x0 b p) (bK x1 b p j) (bV x1 b p j) (bR (e := .f32) (kO x0 x1 x2) b p) (bR (e := .bf16) x3 b p)
        (bR (e := .f32) (kLse x0 x1 x2 hb) b p) (bC cc b p j) (ix2 s (ln h d))
      = (gV (hq Q b (hd2 p h)) (hq G b (hd2 p h)) (hk K b (hd2 p h)) (hc C b (hd2 p h)) (kj j s) d : EReal) := by
  rw [outV_at]
  have hj : (jb i).val = j.val := hi
  rw [hj]
  unfold gV
  rw [coe_sum]
  refine Finset.sum_congr rfl fun T _ => ?_
  obtain ⟨w, e, hw, he, hp⟩ := w_at R cc hcc hb b p j h s T
  by_cases hS : (kj j s).val ≤ T.val
  · rw [if_pos hS]
    unfold tV
    rw [hw, (hp hS).1, bR_at, R.g, ← EReal.coe_mul]
    rfl
  · rw [if_neg hS]
    unfold pr
    rw [sm_out _ _ _ hS]; simp

/-- The kernel's gradient of a gate. -/
theorem outC_val (i : grid0.Coords) (b : Fin 2) (p : Fin 8) (j : Fin 3) (hi : (i 2).val = j.val) (h : Fin 2) (s : Fin 688) :
    outC i (bR (e := .bf16) x0 b p) (bK x1 b p j) (bV x1 b p j) (bR (e := .f32) (kO x0 x1 x2) b p) (bR (e := .bf16) x3 b p)
        (bR (e := .f32) (kLse x0 x1 x2 hb) b p) (bC cc b p j) (ix5 (0 : Fin 1) (0 : Fin 1) (0 : Fin 1) h s)
      = (gC (hq Q b (hd2 p h)) (hq G b (hd2 p h)) (hk K b (hd2 p h)) (hv K b (hd2 p h)) (hc C b (hd2 p h)) (kj j s) : EReal) := by
  rw [outC_at (hD := fun T => by obtain ⟨w, e, hw, he, hp⟩ := w_at R cc hcc hb b p j h s T; exact ⟨e, he⟩)]
  have hj : (jb i).val = j.val := hi
  rw [hj]
  unfold gC
  rw [← Finset.sum_neg_distrib, coe_sum]
  refine Finset.sum_congr rfl fun T _ => ?_
  obtain ⟨w, e, hw, he, hp⟩ := w_at R cc hcc hb b p j h s T
  by_cases hS : (kj j s).val ≤ T.val
  · rw [if_pos hS, he, (hp hS).2, EReal.coe_neg]
  · rw [if_neg hS]
    unfold dl pr
    rw [sm_out _ _ _ hS]; simp

end

end Cert.Attn

end
-- ==== Proof.Attn.Finite.lean ====
module

public import proofs.«01_k».proof.Proof.Attn.Vals
public import proofs.«01_k».proof.Proof.Gen.Pre_finite
public import Idealize.ShloMosaic.Lib.ReduceAll

@[expose] public section

set_option maxRecDepth 16384

/-! The precondition: every argument's elements are real numbers. -/

noncomputable section

namespace Cert.Attn

open Idealize.ShloMosaic

/-- The f32 pattern `0x7F800000` is plus infinity. -/
theorem pinf_eq : Ideal.ofBits .f32 0x7F800000#32 = (⊤ : EReal) := by
  simp [Ideal.ofBits, Ideal.ieee]

/-- A number whose absolute value is below infinity is real. -/
theorem real_of_abs (x y : EReal) (hy : y = ⊤) (h : Ideal.cmp .olt (max x (-x)) y = 1#1) :
    x = ((x.toReal : ℝ) : EReal) := by
  subst hy
  have hlt : max x (-x) < ⊤ := by
    by_contra hn
    simp only [Ideal.cmp, hn, decide_false] at h
    exact absurd h (by decide)
  refine (EReal.coe_toReal ?_ ?_).symm
  · rintro rfl; simp at hlt
  · rintro rfl; simp at hlt

theorem and_split {s : Shape} (a b : IVec s 1) (h : andi a b = fun _ => 1#1) :
    (a = fun _ => 1#1) ∧ (b = fun _ => 1#1) :=
  ⟨funext fun i => (IntOp.andi_eq_one.mp (congrFun h i)).1, funext fun i => (IntOp.andi_eq_one.mp (congrFun h i)).2⟩

variable {x0 : (⟨Cert.Pre_finite.S4128x1024, .bf16⟩ : BufTy).Contents (Elt Ideal)} {x1 : (⟨Cert.Pre_finite.S4128x2048, .bf16⟩ : BufTy).Contents (Elt Ideal)}
  {x2 : (⟨Cert.Pre_finite.S4128x16, .f32⟩ : BufTy).Contents (Elt Ideal)} {x3 : (⟨Cert.Pre_finite.S4128x1024, .bf16⟩ : BufTy).Contents (Elt Ideal)}

instance : Subsingleton Cert.Pre_finite.S_.Idx := ⟨fun a b => funext fun k => k.elim0⟩

/-- Arguments that meet the precondition are arrays of reals. -/
theorem isReal_of_finite (h : Cert.Pre_finite.fn (F := Ideal) x0 x1 x2 x3 = fun _ => 1#1) :
    IsReal (fun r y => (x0 (ix2 r y) : EReal).toReal) (fun r y => (x1 (ix2 r y) : EReal).toReal)
      (fun r y => (x2 (ix2 r y) : EReal).toReal) (fun r y => (x3 (ix2 r y) : EReal).toReal) x0 x1 x2 x3 := by
  have h' := and_split _ _ h
  have h15 := and_split _ _ h'.1
  have h10 := and_split _ _ h15.1
  have e0 := congrFun h10.1 ix0
  have e1 := congrFun h10.2 ix0
  have e2 := congrFun h15.2 ix0
  have e3 := congrFun h'.2 ix0
  refine ⟨fun r y => ?_, fun r y => ?_, fun r y => ?_, fun r y => ?_⟩
  · exact real_of_abs _ _ pinf_eq (Host.reduce_andi_all _ _ _ _ _ e0 (ix2 r y))
  · exact real_of_abs _ _ pinf_eq (Host.reduce_andi_all _ _ _ _ _ e1 (ix2 r y))
  · exact real_of_abs _ _ pinf_eq (Host.reduce_andi_all _ _ _ _ _ e2 (ix2 r y))
  · exact real_of_abs _ _ pinf_eq (Host.reduce_andi_all _ _ _ _ _ e3 (ix2 r y))

end Cert.Attn

end
-- ==== Proof.Attn.Value.lean ====
module

public import proofs.«01_k».proof.Proof.Attn.Arr
public import proofs.«01_k».proof.Proof.Attn.HostRead
public import proofs.«01_k».proof.Proof.Attn.KerVals
public import proofs.«01_k».proof.Proof.Attn.RefVals
public import proofs.«01_k».proof.Proof.Attn.Finite

@[expose] public section

set_option maxRecDepth 16384
set_option maxHeartbeats 1000000

/-! The three gradients the kernel leaves are the reference's. -/

noncomputable section

namespace Cert.Attn

open Idealize.ShloMosaic Idealize.ShloMosaic.TcCoe
open Idealize.SL Idealize.SL.RA Idealize.SL.Sem
open Cert.KernelIdeal Cert.KernelIdeal.Gen
open Cert.ReferenceIdeal.Read (val_main_v91 val_main_v92 val_main_v94)

/-- Every row and column of a gradient lies in one block. -/
theorem ix_split (i : (⟨2, ![4128, 1024]⟩ : Shape).Idx) : ∃ (b : Fin 2) (j : Fin 3) (s : Fin 688) (p : Fin 8) (h : Fin 2) (d : Fin 64),
    i = ix2 (keyG b j s) (colG p (ln h d)) := by
  have h0 : (i 0).val < 4128 := (i 0).isLt
  have h1 : (i 1).val < 1024 := (i 1).isLt
  refine ⟨⟨(i 0).val / 2064, by omega⟩, ⟨(i 0).val % 2064 / 688, by omega⟩, ⟨(i 0).val % 688, by omega⟩,
    ⟨(i 1).val / 128, by omega⟩, ⟨(i 1).val % 128 / 64, by omega⟩, ⟨(i 1).val % 64, by omega⟩, ?_⟩
  funext k
  fin_cases k
  · exact Fin.ext (show (i 0).val = 2064 * ((i 0).val / 2064) + 688 * ((i 0).val % 2064 / 688) + (i 0).val % 688 by omega)
  · exact Fin.ext (show (i 1).val = 128 * ((i 1).val / 128) + (64 * ((i 1).val % 128 / 64) + (i 1).val % 64) by omega)

variable (m : (ℓ : Loc nD τ sig) → Buf (Elt Ideal) ℓ) (c : Dev nD)
variable {Q : Fin 4128 → Fin 1024 → ℝ} {K : Fin 4128 → Fin 2048 → ℝ} {C : Fin 4128 → Fin 16 → ℝ} {G : Fin 4128 → Fin 1024 → ℝ}
variable (R : IsReal Q K C G (V m c main_arg0) (V m c main_arg1) (V m c main_arg2) (V m c main_arg3))
include R

/-- The keys' gradient. -/
theorem val_8 : (dats m 0 c).arrAt 8 cfg0.N = val_main_v91 (F := Ideal) (V m c main_arg0) (V m c main_arg1) (V m c main_arg2) (V m c main_arg3) := by
  funext i
  obtain ⟨b, j, s, p, h, d, rfl⟩ := ix_split i
  refine (arr_8 m c b p j s (ln h d)).trans ?_
  rw [V_38, V_43]
  refine (outK_val R (V m c main_v45) (fun b p j h s => (V_45_at m c b p j h s).trans (R.c _ _)) _ _ b p j (pt_2 b p j) h s d).trans ?_
  rw [row_k, col_q]
  exact (r_91 R b (hd2 p h) (kj j s) d).symm

/-- The values' gradient. -/
theorem val_9 : (dats m 0 c).arrAt 9 cfg0.N = val_main_v92 (F := Ideal) (V m c main_arg0) (V m c main_arg1) (V m c main_arg2) (V m c main_arg3) := by
  funext i
  obtain ⟨b, j, s, p, h, d, rfl⟩ := ix_split i
  refine (arr_9 m c b p j s (ln h d)).trans ?_
  rw [V_38, V_43]
  refine (outV_val R (V m c main_v45) (fun b p j h s => (V_45_at m c b p j h s).trans (R.c _ _)) _ _ b p j (pt_2 b p j) h s d).trans ?_
  rw [row_k, col_q]
  exact (r_92 R b (hd2 p h) (kj j s) d).symm

/-- The gates' gradient. -/
theorem val_10 : (dats m 0 c).arrAt 10 cfg0.N = val_main_v94 (F := Ideal) (V m c main_arg0) (V m c main_arg1) (V m c main_arg2) (V m c main_arg3) := by
  funext i
  obtain ⟨b, p, j, h, s, rfl⟩ : ∃ (b : Fin 2) (p : Fin 8) (j : Fin 3) (h : Fin 2) (s : Fin 688), i = ix5 b p j h s :=
    ⟨i 0, i 1, i 2, i 3, i 4, by funext k; fin_cases k <;> rfl⟩
  refine (arr_10 m c b p j h s).trans ?_
  rw [V_38, V_43]
  refine (outC_val R (V m c main_v45) (fun b p j h s => (V_45_at m c b p j h s).trans (R.c _ _)) _ _ b p j (pt_2 b p j) h s).trans ?_
  exact (r_94 R b p j h s).symm

end Cert.Attn

end
-- ==== Proof.Prod.Core.lean ====
module

public import Idealize.ShloMosaic.Lib.MatmulPlain
public import Idealize.ShloMosaic.Lib.KernelVsHost
public import Idealize.ShloMosaic.Lib.Pipeline.Value
public import Idealize.ShloMosaic.Lib.Pointwise

@[expose] public section

/-! Matrix products as sums of products, what a block of one is, and a product accumulated over blocks of
rows: everything the matrix product kernels have in common. -/

noncomputable section

namespace Cert.Prod

open Idealize.ShloMosaic hiding ix2 eq_ix2
open Idealize.ShloMosaic.ValueIdx

/-- Matrices of extended reals, in any float format. -/
abbrev Mat (M N : ℕ) := (⟨2, ![M, N]⟩ : Shape).Idx → EReal

variable {M K N : ℕ}

/-- A statement of both axes. -/
theorem axes {P : Fin 2 → Prop} (h0 : P 0) (h1 : P 1) : ∀ a, P a := fun a => by
  rcases (by decide : ∀ a : Fin 2, a = 0 ∨ a = 1) a with rfl | rfl
  exacts [h0, h1]

/-- Rows times columns. -/
def nn (A : Mat M K) (B : Mat K N) : Mat M N := fun i => ∑ k : Fin K, A (ix2 (i 0) k) * B (ix2 k (i 1))
/-- Rows times rows. -/
def nt (A : Mat M K) (B : Mat N K) : Mat M N := fun i => ∑ k : Fin K, A (ix2 (i 0) k) * B (ix2 (i 1) k)
/-- Columns times columns. -/
def tn (A : Mat K M) (B : Mat K N) : Mat M N := fun i => ∑ k : Fin K, A (ix2 k (i 0)) * B (ix2 k (i 1))

/-- A sum. -/
def plus (A B : Mat M N) : Mat M N := fun i => A i + B i

/-- The dimension numbers of columns times columns. -/
def tnDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {φ₁ φ₂ : FTy}

/-- The zero accumulator. -/
abbrev zero32 (M N : ℕ) : FVec Ideal ⟨2, ![M, N]⟩ .f32 := constant ⟨2, ![M, N]⟩ .f32 0x00000000#32

theorem zero32_at (i : (⟨2, ![M, N]⟩ : Shape).Idx) : (zero32 M N i : EReal) = 0 := Ideal.ofBits_zero_f32

/-- A product from zero, rows times columns. -/
theorem mm_nn (p : Option ContractPrecision) (A : FVec Ideal ⟨2, ![M, K]⟩ φ₁) (B : FVec Ideal ⟨2, ![K, N]⟩ φ₂) :
    matmul (DotDims.plain M K N) p A B (zero32 M N) = nn A B := by
  funext i
  obtain ⟨r, c, rfl⟩ : ∃ (r : Fin M) (c : Fin N), i = ix2 r c := ⟨i 0, i 1, eq_ix2 i⟩
  exact (Ideal.matmul_plain_apply p A B (zero32 M N) r c).trans ((congrArg (· + _) (zero32_at _)).trans (zero_add _))
/-- A product from zero, rows times rows. -/
theorem mm_nt (p : Option ContractPrecision) (A : FVec Ideal ⟨2, ![M, K]⟩ φ₁) (B : FVec Ideal ⟨2, ![N, K]⟩ φ₂) :
    matmul (DotDims.transposedRhs M K N) p A B (zero32 M N) = nt A B := by
  funext i
  obtain ⟨r, c, rfl⟩ : ∃ (r : Fin M) (c : Fin N), i = ix2 r c := ⟨i 0, i 1, eq_ix2 i⟩
  exact (Ideal.matmul_transposedRhs_apply p A B (zero32 M N) r c).trans ((congrArg (· + _) (zero32_at _)).trans (zero_add _))
/-- A product from zero, columns times columns. -/
theorem mm_tn (p : Option ContractPrecision) (A : FVec Ideal ⟨2, ![K, M]⟩ φ₁) (B : FVec Ideal ⟨2, ![K, N]⟩ φ₂) :
    matmul (tnDims M K N) p A B (zero32 M N) = tn A B := by
  funext i
  have h := Ideal.matmul_apply₁_of (tnDims M K N) (a := 0) rfl (K := K) rfl A B (zero32 M N) i
    (fun k => ix2 k (i 0)) (fun k => ix2 k (i 1)) (fun k => funext fun a => Fin.ext (by
      match a with
      | ⟨0, _⟩ => rfl
      | ⟨1, _⟩ => rfl)) (fun k => funext fun a => Fin.ext (by
      match a with
      | ⟨0, _⟩ => rfl
      | ⟨1, _⟩ => rfl))
  exact h.trans ((congrArg (· + _) (zero32_at _)).trans (zero_add _))

/-- The host's product, rows times columns. -/
theorem host_nn (p : Option ContractPrecision) (A : FVec Ideal ⟨2, ![M, K]⟩ φ₁) (B : FVec Ideal ⟨2, ![K, N]⟩ φ₂) :
    Host.dotGeneral (DotDims.plain M K N) p A B = nn A B := (matmul_zero_eq_dotGeneral _ p A B).symm.trans (mm_nn p A B)
/-- The host's product, rows times rows. -/
theorem host_nt (p : Option ContractPrecision) (A : FVec Ideal ⟨2, ![M, K]⟩ φ₁) (B : FVec Ideal ⟨2, ![N, K]⟩ φ₂) :
    Host.dotGeneral (DotDims.transposedRhs M K N) p A B = nt A B := (matmul_zero_eq_dotGeneral _ p A B).symm.trans (mm_nt p A B)
/-- The host's product, columns times columns. -/
theorem host_tn (p : Option ContractPrecision) (A : FVec Ideal ⟨2, ![K, M]⟩ φ₁) (B : FVec Ideal ⟨2, ![K, N]⟩ φ₂) :
    Host.dotGeneral (tnDims M K N) p A B = tn A B := (matmul_zero_eq_dotGeneral _ p A B).symm.trans (mm_tn p A B)

/-- The host's product of columns and columns in the other order, transposed. -/
theorem host_tn_transposed (p : Option ContractPrecision) (A : FVec Ideal ⟨2, ![K, M]⟩ φ₁) (B : FVec Ideal ⟨2, ![K, N]⟩ φ₂)
    (h : (⟨2, ![N, M]⟩ : Shape).Transposes [1, 0] ⟨2, ![M, N]⟩) :
    transpose ⟨2, ![M, N]⟩ [1, 0] (Host.dotGeneral (tnDims N K M) p B A) h = tn A B := by
  rw [host_tn]
  funext i
  refine (transpose_apply [1, 0] _ h i (ix2 (i 1) (i 0)) (axes rfl rfl)).trans ?_
  exact Finset.sum_congr rfl fun k _ => mul_comm _ _

/-- The part of a matrix that starts at row `r` and column `s`. -/
def IsBlk {M N M' N' : ℕ} (X : Mat M' N') (A : Mat M N) (r s : ℕ) : Prop :=
  ∀ (y : (⟨2, ![M', N']⟩ : Shape).Idx) (i : (⟨2, ![M, N]⟩ : Shape).Idx),
    (i 0).val = r + (y 0).val → (i 1).val = s + (y 1).val → X y = A i

variable {M' N' K' : ℕ}

/-- A block of a product of rows and columns. -/
theorem IsBlk.nn {X : Mat M' K} {A : Mat M K} {Y : Mat K N'} {B : Mat K N} {r s : ℕ} (hX : IsBlk X A r 0)
    (hY : IsBlk Y B 0 s) : IsBlk (nn X Y) (nn A B) r s := fun y i h0 h1 =>
  Finset.sum_congr rfl fun k _ => congrArg₂ (· * ·) (hX _ _ h0 (Nat.zero_add _).symm) (hY _ _ (Nat.zero_add _).symm h1)
/-- A block of a product of rows and rows. -/
theorem IsBlk.nt {X : Mat M' K} {A : Mat M K} {Y : Mat N' K} {B : Mat N K} {r s : ℕ} (hX : IsBlk X A r 0)
    (hY : IsBlk Y B s 0) : IsBlk (nt X Y) (nt A B) r s := fun y i h0 h1 =>
  Finset.sum_congr rfl fun k _ => congrArg₂ (· * ·) (hX _ _ h0 (Nat.zero_add _).symm) (hY _ _ h1 (Nat.zero_add _).symm)
/-- A block of a sum. -/
theorem IsBlk.plus {X Y : Mat M' N'} {A B : Mat M N} {r s : ℕ} (hX : IsBlk X A r s) (hY : IsBlk Y B r s) :
    IsBlk (plus X Y) (plus A B) r s := fun y i h0 h1 => congrArg₂ (· + ·) (hX y i h0 h1) (hY y i h0 h1)

/-- A sum over the rows of all blocks is the sum over the rows. -/
theorem sum_rows {J R : ℕ} (hK : J * R = K) (f : Fin K → EReal) :
    ∑ s : Fin J, ∑ r : Fin R, f ⟨R * s.val + r.val, by
      subst hK
      calc R * s.val + r.val < R * s.val + R := Nat.add_lt_add_left r.isLt _
        _ = R * (s.val + 1) := (Nat.mul_succ _ _).symm
        _ ≤ R * J := Nat.mul_le_mul_left _ s.isLt
        _ = J * R := Nat.mul_comm _ _⟩ = ∑ k : Fin K, f k := by
  subst hK
  rw [← Equiv.sum_comp finProdFinEquiv f, Fintype.sum_prod_type]
  refine Finset.sum_congr rfl fun s _ => Finset.sum_congr rfl fun r _ => congrArg f (Fin.ext ?_)
  exact Nat.add_comm _ _

/-- A product of columns and columns, accumulated block of rows by block of rows from zero. -/
theorem fold_tn {J R n b : ℕ} (hJ : (J + 1) * R = K) {A : Mat K M} {B : Mat K N} {r s : ℕ}
    {a : (t : ℕ) → t < n → Mat M' N'} {g : (t : ℕ) → t < n → Mat M' N' → Mat M' N'}
    (X : (t : ℕ) → t < n → Mat R M') (Y : (t : ℕ) → t < n → Mat R N')
    (hX : ∀ t h, b ≤ t → t ≤ b + J → IsBlk (X t h) A (R * (t - b)) r)
    (hY : ∀ t h, b ≤ t → t ≤ b + J → IsBlk (Y t h) B (R * (t - b)) s)
    (ha : ∀ h i, a b h i = 0 + tn (X b h) (Y b h) i) (hg : ∀ t h z i, g t h z i = z i + tn (X t h) (Y t h) i)
    (h : b + J < n) : IsBlk (Pipeline.accAt a g b J h) (tn A B) r s := by
  intro y i h0 h1
  let S : ℕ → Mat M' N' := fun t y => if ht : t < n then tn (X t ht) (Y t ht) y else 0
  have e := Pipeline.accAt_add_apply a g (fun _ => 0) S b J
    (fun h y => by show _ = 0 + S b y; rw [ha]; simp only [S, dif_pos h])
    (fun t h z y _ _ => by show _ = z y + S t y; rw [hg]; simp only [S, dif_pos h]) J le_rfl h y
  rw [e, zero_add, Finset.sum_range]
  refine Eq.trans ?_ (sum_rows hJ fun k => A (ix2 k (i 0)) * B (ix2 k (i 1)))
  refine Finset.sum_congr rfl fun q _ => ?_
  have hq : b + q.val < n := by have := q.isLt; omega
  have hb : b + q.val ≤ b + J := by have := q.isLt; omega
  have e : R * (b + q.val - b) = R * q.val := by rw [Nat.add_sub_cancel_left]
  simp only [S, dif_pos hq]
  refine Finset.sum_congr rfl fun p _ => congrArg₂ (· * ·) ?_ ?_
  · exact hX _ hq (Nat.le_add_right _ _) hb _ _ (congrArg (· + p.val) e.symm) h0
  · exact hY _ hq (Nat.le_add_right _ _) hb _ _ (congrArg (· + p.val) e.symm) h1

/-- Two matrices with the same blocks at the tiles of a tiling are equal. -/
theorem eq_of_tiles {R C : ℕ} (hR : 0 < R) (hC : 0 < C) {f g : Mat M N}
    (h : ∀ a b, R * a < M → C * b < N → ∃ X : Mat R C, IsBlk X f (R * a) (C * b) ∧ IsBlk X g (R * a) (C * b)) : f = g := by
  funext i
  have b0 : (i 0).val < M := (i 0).isLt
  have b1 : (i 1).val < N := (i 1).isLt
  obtain ⟨X, hf, hg⟩ := h ((i 0).val / R) ((i 1).val / C) (lt_of_le_of_lt (Nat.mul_div_le _ _) b0)
    (lt_of_le_of_lt (Nat.mul_div_le _ _) b1)
  let y : (⟨2, ![R, C]⟩ : Shape).Idx := ix2 ⟨(i 0).val % R, Nat.mod_lt _ hR⟩ ⟨(i 1).val % C, Nat.mod_lt _ hC⟩
  have e0 : (i 0).val = R * ((i 0).val / R) + (y 0).val := (Nat.div_add_mod _ _).symm
  have e1 : (i 1).val = C * ((i 1).val / C) + (y 1).val := (Nat.div_add_mod _ _).symm
  exact (hf y i e0 e1).symm.trans (hg y i e0 e1)

/-- Where an element of a window's block sits in the array. -/
theorem emb_of {sig : RefSig} {G : Pipeline.Grid} (w : Pipeline.Window sig G) {n : Fin G.N → Fin w.shape.rank → ℕ}
    (e : ∀ t a, w.index t a * w.size a = n t a) (t : Fin G.N) (y : (w.xblock (G.coords t)).Idx) (i : w.shape.Idx)
    (h : ∀ a, (i a).val = n t a + (y a).val) (hk : w.kind = .blocked := by first | rfl | decide) : (w.rect t).emb y = i :=
  funext fun a => Fin.ext ((w.rect_emb_val t y a hk).trans (by rw [e]; exact (h a).symm))

/-- Two matrices with the same blocks at the points of a grid, which walks down each column of tiles. -/
theorem eq_of_grid {I J R C : ℕ} (hI : 0 < I) (hR : 0 < R) (hC : 0 < C) {f g : Mat (R * I) (C * J)} (X : Fin (I * J) → Mat R C)
    (hf : ∀ t, IsBlk (X t) f (R * (t.val % I)) (C * (t.val / I))) (hg : ∀ t, IsBlk (X t) g (R * (t.val % I)) (C * (t.val / I))) :
    f = g := by
  refine eq_of_tiles hR hC fun a b ha hb => ?_
  have ha' : a < I := Nat.lt_of_mul_lt_mul_left ha
  have hb' : b < J := Nat.lt_of_mul_lt_mul_left hb
  have ht : a + I * b < I * J := by
    calc a + I * b < I + I * b := Nat.add_lt_add_right ha' _
      _ = I * (b + 1) := by rw [Nat.mul_succ, Nat.add_comm]
      _ ≤ I * J := Nat.mul_le_mul_left _ hb'
  have ea : (a + I * b) % I = a := by rw [Nat.add_mul_mod_self_left, Nat.mod_eq_of_lt ha']
  have eb : (a + I * b) / I = b := by rw [Nat.add_mul_div_left _ _ hI, Nat.div_eq_of_lt ha', Nat.zero_add]
  have hf' := hf ⟨_, ht⟩
  have hg' := hg ⟨_, ht⟩
  simp only [ea, eb] at hf' hg'
  exact ⟨_, hf', hg'⟩

end Cert.Prod

end
-- ==== Proof.Prod.V2.lean ====
module

public import proofs.«01_k».proof.Defs
public import proofs.«01_k».proof.Proof.Prod.Core
public import proofs.«01_k».proof.Proof.Gen.Kernel2.Frame
public import proofs.«01_k».proof.Proof.Gen.Kernel2Ideal.Value
public import proofs.«01_k».proof.Proof.Gen.Reference2Ideal.Run
public import Idealize.ShloMosaic.Adequacy
public import Idealize.ShloMosaic.Init

@[expose] public section

/-! The gradient into the gated hidden activations (the down projection's input): rows times rows. -/

noncomputable section

namespace Cert.Prod.P2

open Idealize.ShloMosaic Idealize.ShloMosaic.TcCoe Idealize.SL.Sem
open Cert.Kernel2Ideal Cert.Kernel2Ideal.Gen Cert.Kernel2Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![2752 * (t.val / 6), 0] : Fin 2 → ℕ) a := by decide +kernel
theorem off_2 : ∀ t a, (cfg0.win 2).index t a * (cfg0.win 2).size a = (![688 * (t.val % 6), 2752 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (2752 * (t.val / 6)) 0 := fun y i h0 h1 =>
  congrArg (V m c main_arg1) (a₁ := ((cfg0.win 1).blk t).view.emb y) (emb_of (cfg0.win 1) off_1 t y i (axes h0 h1))

/-- What a grid point writes. -/
theorem out_eq (x0 : Vec Ideal S688x1024 .bf16) (x1 : Vec Ideal S2752x1024 .bf16) :
    out0_2 x0 x1 = nt x0 x1 := by
  unfold out0_2
  rw [View.canon_unit_zero hz]
  repeat rw [View.ld_unit_zero hz]
  exact mm_nt (φ₁ := .bf16) (φ₂ := .bf16) none x0 x1

/-- The array the kernel leaves is the product. -/
theorem arr : (dats m 0 c).arrAt 2 cfg0.N = nt (V m c main_arg0) (V m c main_arg1) :=
  eq_of_grid (I := 6) (J := 1) (R := 688) (C := 2752) (by decide) (by decide) (by decide) (fun t => (dats m 0 c).flushed 2 t)
    (fun t y i h0 h1 => ((dats m 0 c).arrAt_emb_eq_flushed 2 disjoint2 t (flush0_2 t) y).symm.trans
      (congrArg ((dats m 0 c).arrAt 2 cfg0.N) (a₁ := ((cfg0.win 2).blk t).view.emb y) (emb_of (cfg0.win 2) off_2 t y i (axes h0 h1))))
    (fun t : Fin cfg0.N => by
      rw [flushed2, out_eq]
      exact (in_0 m c t).nt (in_1 m c t))

/-- The kernel's frame at bits. -/
theorem frame_p : Cert.quiescent_Kernel2 := fun m g _ => Cert.Kernel2.Gen.frame m g
/-- The kernel's frame at the extended reals. -/
theorem frame_pi : Cert.quiescent_Kernel2Ideal := fun m g _ => Cert.Kernel2Ideal.Gen.frame m g
/-- The reference's frame: it has no semaphores. -/
theorem frame_ri : Cert.quiescent_Reference2Ideal := fun m g _ =>
  (θ_run _ _ _).mono (fun _ h => ⟨fun c => (h c).2, sem_eq_zero_of_no_sems (by decide) _⟩) (Cert.Reference2Ideal.Value.run m g)

/-- Kernel and reference leave the same product. -/
theorem value : Cert.algebraic_Kernel2Ideal_Reference2Ideal := fun m g m' g' _ hm => by
  refine ⟨fun c => nt (V m c main_arg0) (V m c main_arg1), ?_, ?_⟩
  · exact (θ_run _ _ _).mono (fun r h c => ⟨(h c).1.trans (arr m c), (h c).2⟩) (run_blocks (F := Ideal) m g)
  · refine (θ_run _ _ _).mono (fun r h c => ⟨(h c).1.trans ?_, (h c).2⟩) (Cert.Reference2Ideal.Value.run (F := Ideal) m' g')
    show _ = nt (V m c main_arg0) (V m c main_arg1)
    rw [V_main_arg0, V_main_arg1, (hm c).1, (hm c).2]
    exact host_nt (φ₁ := .f32) (φ₂ := .f32) none (m ((c : Thread nD τ).loc main_arg0)) (m ((c : Thread nD τ).loc main_arg1))

end Cert.Prod.P2

end
-- ==== Proof.Prod.V3.lean ====
module

public import proofs.«01_k».proof.Defs
public import proofs.«01_k».proof.Proof.Prod.Core
public import proofs.«01_k».proof.Proof.Gen.Kernel3.Frame
public import proofs.«01_k».proof.Proof.Gen.Kernel3Ideal.Value
public import proofs.«01_k».proof.Proof.Gen.Reference3Ideal.Run
public import Idealize.ShloMosaic.Adequacy
public import Idealize.ShloMosaic.Init

@[expose] public section

/-! The gradient into the normed activations (the gate and value projections' input): the sum of two products of rows and rows. -/

noncomputable section

namespace Cert.Prod.P3

open Idealize.ShloMosaic Idealize.ShloMosaic.TcCoe Idealize.SL.Sem
open Cert.Kernel3Ideal Cert.Kernel3Ideal.Gen Cert.Kernel3Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![512 * (t.val / 6), 0] : Fin 2 → ℕ) a := by decide +kernel
theorem off_2 : ∀ t a, (cfg0.win 2).index t a * (cfg0.win 2).size a = (![688 * (t.val % 6), 0] : Fin 2 → ℕ) a := by decide +kernel
theorem off_3 : ∀ t a, (cfg0.win 3).index t a * (cfg0.win 3).size a = (![512 * (t.val / 6), 0] : Fin 2 → ℕ) a := by decide +kernel
theorem off_4 : ∀ t a, (cfg0.win 4).index t a * (cfg0.win 4).size a = (![688 * (t.val % 6), 512 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (512 * (t.val / 6)) 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) (688 * (t.val % 6)) 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (512 * (t.val / 6)) 0 := fun y i h0 h1 =>
  congrArg (V m c main_arg3) (a₁ := ((cfg0.win 3).blk t).view.emb y) (emb_of (cfg0.win 3) off_3 t y i (axes h0 h1))

/-- What a grid point writes. -/
theorem out_eq (x0 : Vec Ideal S688x2752 .bf16) (x1 : Vec Ideal S512x2752 .bf16) (x2 : Vec Ideal S688x2752 .bf16) (x3 : Vec Ideal S512x2752 .bf16) :
    out0_4 x0 x1 x2 x3 = plus (nt x0 x1) (nt x2 x3) := by
  unfold out0_4
  rw [View.canon_unit_zero hz]
  repeat rw [View.ld_unit_zero hz]
  exact congrArg₂ plus (mm_nt (φ₁ := .bf16) (φ₂ := .bf16) none x0 x1) (mm_nt (φ₁ := .bf16) (φ₂ := .bf16) none x2 x3)

/-- The array the kernel leaves is the product. -/
theorem arr : (dats m 0 c).arrAt 4 cfg0.N = plus (nt (V m c main_arg0) (V m c main_arg1)) (nt (V m c main_arg2) (V m c main_arg3)) :=
  eq_of_grid (I := 6) (J := 2) (R := 688) (C := 512) (by decide) (by decide) (by decide) (fun t => (dats m 0 c).flushed 4 t)
    (fun t y i h0 h1 => ((dats m 0 c).arrAt_emb_eq_flushed 4 disjoint4 t (flush0_4 t) y).symm.trans
      (congrArg ((dats m 0 c).arrAt 4 cfg0.N) (a₁ := ((cfg0.win 4).blk t).view.emb y) (emb_of (cfg0.win 4) off_4 t y i (axes h0 h1))))
    (fun t : Fin cfg0.N => by
      rw [flushed4, out_eq]
      exact ((in_0 m c t).nt (in_1 m c t)).plus ((in_2 m c t).nt (in_3 m c t)))

/-- The kernel's frame at bits. -/
theorem frame_p : Cert.quiescent_Kernel3 := fun m g _ => Cert.Kernel3.Gen.frame m g
/-- The kernel's frame at the extended reals. -/
theorem frame_pi : Cert.quiescent_Kernel3Ideal := fun m g _ => Cert.Kernel3Ideal.Gen.frame m g
/-- The reference's frame: it has no semaphores. -/
theorem frame_ri : Cert.quiescent_Reference3Ideal := fun m g _ =>
  (θ_run _ _ _).mono (fun _ h => ⟨fun c => (h c).2, sem_eq_zero_of_no_sems (by decide) _⟩) (Cert.Reference3Ideal.Value.run m g)

/-- Kernel and reference leave the same product. -/
theorem value : Cert.algebraic_Kernel3Ideal_Reference3Ideal := fun m g m' g' _ hm => by
  refine ⟨fun c => plus (nt (V m c main_arg0) (V m c main_arg1)) (nt (V m c main_arg2) (V m c main_arg3)), ?_, ?_⟩
  · exact (θ_run _ _ _).mono (fun r h c => ⟨(h c).1.trans (arr m c), (h c).2⟩) (run_blocks (F := Ideal) m g)
  · refine (θ_run _ _ _).mono (fun r h c => ⟨(h c).1.trans ?_, (h c).2⟩) (Cert.Reference3Ideal.Value.run (F := Ideal) m' g')
    show _ = plus (nt (V m c main_arg0) (V m c main_arg1)) (nt (V m c main_arg2) (V m c main_arg3))
    rw [V_main_arg0, V_main_arg1, V_main_arg2, V_main_arg3, (hm c).1, (hm c).2.1, (hm c).2.2.1, (hm c).2.2.2]
    refine (congrArg₂ plus (host_nt (φ₁ := .f32) (φ₂ := .f32) none (m ((c : Thread nD τ).loc main_arg2)) (m ((c : Thread nD τ).loc main_arg3))) (host_nt (φ₁ := .f32) (φ₂ := .f32) none (m ((c : Thread nD τ).loc main_arg0)) (m ((c : Thread nD τ).loc main_arg1)))).trans ?_
    funext i
    simp only [plus]
    ac_rfl

end Cert.Prod.P3

end
-- ==== Proof.Prod.V4.lean ====
module

public import proofs.«01_k».proof.Defs
public import proofs.«01_k».proof.Proof.Prod.Core
public import proofs.«01_k».proof.Proof.Gen.Kernel4.Frame
public import proofs.«01_k».proof.Proof.Gen.Kernel4Ideal.Value
public import proofs.«01_k».proof.Proof.Gen.Reference4Ideal.Run
public import Idealize.ShloMosaic.Adequacy
public import Idealize.ShloMosaic.Init

@[expose] public section

/-! The gradient of the down projection's weight: columns times columns, accumulated over the blocks of tokens. -/

noncomputable section

namespace Cert.Prod.P4

open Idealize.ShloMosaic Idealize.ShloMosaic.TcCoe Idealize.SL.Sem
open Cert.Kernel4Ideal Cert.Kernel4Ideal.Gen Cert.Kernel4Ideal.Value

/-- Where the windows' blocks start. -/
theorem off_0 : ∀ t a, (cfg0.win 0).index t a * (cfg0.win 0).size a = (![688 * t.val, 0] : Fin 2 → ℕ) a := by decide +kernel
theorem off_1 : ∀ t a, (cfg0.win 1).index t a * (cfg0.win 1).size a = (![688 * t.val, 0] : Fin 2 → ℕ) a := by decide +kernel

variable (m : (ℓ : Loc nD τ sig) → Buf (Elt Ideal) ℓ) (c : Dev nD)

theorem in_0 (t : Fin cfg0.N) : IsBlk (iblk m c 0 t) (V m c main_arg0) (688 * t.val) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (688 * t.val) 0 := fun y i h0 h1 =>
  congrArg (V m c main_arg1) (a₁ := ((cfg0.win 1).blk t).view.emb y) (emb_of (cfg0.win 1) off_1 t y i (axes h0 h1))

/-- What a grid point adds. -/
theorem add_eq (z : Vec Ideal S2752x1024 .f32) (x : Vec Ideal S688x2752 .bf16) (y : Vec Ideal S688x1024 .bf16) (i : S2752x1024.Idx) :
    k0_pay2 z x y i = (z i + tn x y i : EReal) := by
  unfold k0_pay2
  rw [shapeCast_self]
  exact congrArg (fun f : Mat 2752 1024 => (z i + f i : EReal)) (mm_tn (φ₁ := .bf16) (φ₂ := .bf16) none x y)

/-- The array the kernel leaves is the product. -/
theorem arr : G2 m c = tn (V m c main_arg0) (V m c main_arg1) := by
  have key : ∀ (i : S2752x1024.Idx) (q : ℕ) (_ : q = 0) (h : 6 * q + 5 < cfg0.N),
      Pipeline.accAt (reset2 m c) (step2 m c) (6 * q) 5 h (loc2Of i) = tn (V m c main_arg0) (V m c main_arg1) i := by
    rintro i q rfl h
    exact fold_tn (K := 4128) (R := 688) (r := 0) (s := 0) (b := 6 * 0) rfl (fun t h => iblk m c 0 ⟨t, h⟩) (fun t h => iblk m c 1 ⟨t, h⟩)
      (fun t h _ _ => in_0 m c ⟨t, h⟩) (fun t h _ _ => in_1 m c ⟨t, h⟩)
      (fun h i => (add_eq _ _ _ i).trans (congrArg (· + _) Ideal.ofBits_zero_f32)) (fun t h z i => add_eq z _ _ i) h (loc2Of i) i
      ((Nat.mod_eq_of_lt (i 0).isLt).symm.trans (Nat.zero_add _).symm) ((Nat.mod_eq_of_lt (i 1).isLt).symm.trans (Nat.zero_add _).symm)
  funext i
  have hr : run2Of i = 0 := by
    show 1 * ((i 0).val / 2752 - 0) + 1 * ((i 1).val / 1024 - 0) = 0
    have h0 : (i 0).val < 2752 := (i 0).isLt
    have h1 : (i 1).val < 1024 := (i 1).isLt
    omega
  unfold G2
  rw [dif_pos (by rw [hr]; decide)]
  exact key i _ hr _

/-- The kernel's frame at bits. -/
theorem frame_p : Cert.quiescent_Kernel4 := fun m g _ => Cert.Kernel4.Gen.frame m g
/-- The kernel's frame at the extended reals. -/
theorem frame_pi : Cert.quiescent_Kernel4Ideal := fun m g _ => Cert.Kernel4Ideal.Gen.frame m g
/-- The reference's frame: it has no semaphores. -/
theorem frame_ri : Cert.quiescent_Reference4Ideal := fun m g _ =>
  (θ_run _ _ _).mono (fun _ h => ⟨fun c => (h c).2, sem_eq_zero_of_no_sems (by decide) _⟩) (Cert.Reference4Ideal.Value.run m g)

/-- Kernel and reference leave the same product. -/
theorem value : Cert.algebraic_Kernel4Ideal_Reference4Ideal := fun m g m' g' _ hm => by
  refine ⟨fun c => tn (V m c main_arg0) (V m c main_arg1), ?_, ?_⟩
  · exact (θ_run _ _ _).mono (fun r h c => ⟨(h c).1.trans (arr m c), (h c).2⟩) (run (F := Ideal) m g)
  · refine (θ_run _ _ _).mono (fun r h c => ⟨(h c).1.trans ?_, (h c).2⟩) (Cert.Reference4Ideal.Value.run (F := Ideal) m' g')
    show _ = tn (V m c main_arg0) (V m c main_arg1)
    rw [V_main_arg0, V_main_arg1, (hm c).1, (hm c).2]
    exact host_tn_transposed (φ₁ := .f32) (φ₂ := .f32) none (m ((c : Thread nD τ).loc main_arg0)) (m ((c : Thread nD τ).loc main_arg1)) _

end Cert.Prod.P4

end
-- ==== Proof.Prod.V5.lean ====
module

public import proofs.«01_k».proof.Defs
public import proofs.«01_k».proof.Proof.Prod.Core
public import proofs.«01_k».proof.Proof.Gen.Kernel5.Frame
public import proofs.«01_k».proof.Proof.Gen.Kernel5Ideal.Value
public import proofs.«01_k».proof.Proof.Gen.Reference5Ideal.Run
public import Idealize.ShloMosaic.Adequacy
public import Idealize.ShloMosaic.Init

@[expose] public section

/-! The gradient of the gate (or value) projection's weight: columns times columns, accumulated over the blocks of tokens. -/

noncomputable section

namespace Cert.Prod.P5

open Idealize.ShloMosaic Idealize.ShloMosaic.TcCoe Idealize.SL.Sem
open Cert.Kernel5Ideal Cert.Kernel5Ideal.Gen Cert.Kernel5Ideal.Value

/-- Where the windows' blocks start. -/
theorem off_0 : ∀ t a, (cfg0.win 0).index t a * (cfg0.win 0).size a = (![688 * t.val, 0] : Fin 2 → ℕ) a := by decide +kernel
theorem off_1 : ∀ t a, (cfg0.win 1).index t a * (cfg0.win 1).size a = (![688 * t.val, 0] : Fin 2 → ℕ) a := by decide +kernel

variable (m : (ℓ : Loc nD τ sig) → Buf (Elt Ideal) ℓ) (c : Dev nD)

theorem in_0 (t : Fin cfg0.N) : IsBlk (iblk m c 0 t) (V m c main_arg0) (688 * t.val) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (688 * t.val) 0 := fun y i h0 h1 =>
  congrArg (V m c main_arg1) (a₁ := ((cfg0.win 1).blk t).view.emb y) (emb_of (cfg0.win 1) off_1 t y i (axes h0 h1))

/-- What a grid point adds. -/
theorem add_eq (z : Vec Ideal S1024x2752 .f32) (x : Vec Ideal S688x1024 .bf16) (y : Vec Ideal S688x2752 .bf16) (i : S1024x2752.Idx) :
    k0_pay2 z x y i = (z i + tn x y i : EReal) := by
  unfold k0_pay2
  rw [shapeCast_self]
  exact congrArg (fun f : Mat 1024 2752 => (z i + f i : EReal)) (mm_tn (φ₁ := .bf16) (φ₂ := .bf16) none x y)

/-- The array the kernel leaves is the product. -/
theorem arr : G2 m c = tn (V m c main_arg0) (V m c main_arg1) := by
  have key : ∀ (i : S1024x2752.Idx) (q : ℕ) (_ : q = 0) (h : 6 * q + 5 < cfg0.N),
      Pipeline.accAt (reset2 m c) (step2 m c) (6 * q) 5 h (loc2Of i) = tn (V m c main_arg0) (V m c main_arg1) i := by
    rintro i q rfl h
    exact fold_tn (K := 4128) (R := 688) (r := 0) (s := 0) (b := 6 * 0) rfl (fun t h => iblk m c 0 ⟨t, h⟩) (fun t h => iblk m c 1 ⟨t, h⟩)
      (fun t h _ _ => in_0 m c ⟨t, h⟩) (fun t h _ _ => in_1 m c ⟨t, h⟩)
      (fun h i => (add_eq _ _ _ i).trans (congrArg (· + _) Ideal.ofBits_zero_f32)) (fun t h z i => add_eq z _ _ i) h (loc2Of i) i
      ((Nat.mod_eq_of_lt (i 0).isLt).symm.trans (Nat.zero_add _).symm) ((Nat.mod_eq_of_lt (i 1).isLt).symm.trans (Nat.zero_add _).symm)
  funext i
  have hr : run2Of i = 0 := by
    show 1 * ((i 0).val / 1024 - 0) + 1 * ((i 1).val / 2752 - 0) = 0
    have h0 : (i 0).val < 1024 := (i 0).isLt
    have h1 : (i 1).val < 2752 := (i 1).isLt
    omega
  unfold G2
  rw [dif_pos (by rw [hr]; decide)]
  exact key i _ hr _

/-- The kernel's frame at bits. -/
theorem frame_p : Cert.quiescent_Kernel5 := fun m g _ => Cert.Kernel5.Gen.frame m g
/-- The kernel's frame at the extended reals. -/
theorem frame_pi : Cert.quiescent_Kernel5Ideal := fun m g _ => Cert.Kernel5Ideal.Gen.frame m g
/-- The reference's frame: it has no semaphores. -/
theorem frame_ri : Cert.quiescent_Reference5Ideal := fun m g _ =>
  (θ_run _ _ _).mono (fun _ h => ⟨fun c => (h c).2, sem_eq_zero_of_no_sems (by decide) _⟩) (Cert.Reference5Ideal.Value.run m g)

/-- Kernel and reference leave the same product. -/
theorem value : Cert.algebraic_Kernel5Ideal_Reference5Ideal := fun m g m' g' _ hm => by
  refine ⟨fun c => tn (V m c main_arg0) (V m c main_arg1), ?_, ?_⟩
  · exact (θ_run _ _ _).mono (fun r h c => ⟨(h c).1.trans (arr m c), (h c).2⟩) (run (F := Ideal) m g)
  · refine (θ_run _ _ _).mono (fun r h c => ⟨(h c).1.trans ?_, (h c).2⟩) (Cert.Reference5Ideal.Value.run (F := Ideal) m' g')
    show _ = tn (V m c main_arg0) (V m c main_arg1)
    rw [V_main_arg0, V_main_arg1, (hm c).1, (hm c).2]
    exact host_tn_transposed (φ₁ := .f32) (φ₂ := .f32) none (m ((c : Thread nD τ).loc main_arg0)) (m ((c : Thread nD τ).loc main_arg1)) _

end Cert.Prod.P5

end
-- ==== Proof.Prod.V6.lean ====
module

public import proofs.«01_k».proof.Defs
public import proofs.«01_k».proof.Proof.Prod.Core
public import proofs.«01_k».proof.Proof.Gen.Kernel6.Frame
public import proofs.«01_k».proof.Proof.Gen.Kernel6Ideal.Value
public import proofs.«01_k».proof.Proof.Gen.Reference6Ideal.Run
public import Idealize.ShloMosaic.Adequacy
public import Idealize.ShloMosaic.Init

@[expose] public section

/-! The gate (or value) projection of the feed-forward layer: rows times columns. -/

noncomputable section

namespace Cert.Prod.P6

open Idealize.ShloMosaic Idealize.ShloMosaic.TcCoe Idealize.SL.Sem
open Cert.Kernel6Ideal Cert.Kernel6Ideal.Gen Cert.Kernel6Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![0, 2752 * (t.val / 6)] : Fin 2 → ℕ) a := by decide +kernel
theorem off_2 : ∀ t a, (cfg0.win 2).index t a * (cfg0.win 2).size a = (![688 * (t.val % 6), 2752 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) 0 (2752 * (t.val / 6)) := fun y i h0 h1 =>
  congrArg (V m c main_arg1) (a₁ := ((cfg0.win 1).blk t).view.emb y) (emb_of (cfg0.win 1) off_1 t y i (axes h0 h1))

/-- What a grid point writes. -/
theorem out_eq (x0 : Vec Ideal S688x1024 .bf16) (x1 : Vec Ideal S1024x2752 .bf16) :
    out0_2 x0 x1 = nn x0 x1 := by
  unfold out0_2
  rw [View.canon_unit_zero hz]
  repeat rw [View.ld_unit_zero hz]
  exact mm_nn (φ₁ := .bf16) (φ₂ := .bf16) none x0 x1

/-- The array the kernel leaves is the product. -/
theorem arr : (dats m 0 c).arrAt 2 cfg0.N = nn (V m c main_arg0) (V m c main_arg1) :=
  eq_of_grid (I := 6) (J := 1) (R := 688) (C := 2752) (by decide) (by decide) (by decide) (fun t => (dats m 0 c).flushed 2 t)
    (fun t y i h0 h1 => ((dats m 0 c).arrAt_emb_eq_flushed 2 disjoint2 t (flush0_2 t) y).symm.trans
      (congrArg ((dats m 0 c).arrAt 2 cfg0.N) (a₁ := ((cfg0.win 2).blk t).view.emb y) (emb_of (cfg0.win 2) off_2 t y i (axes h0 h1))))
    (fun t : Fin cfg0.N => by
      rw [flushed2, out_eq]
      exact (in_0 m c t).nn (in_1 m c t))

/-- The kernel's frame at bits. -/
theorem frame_p : Cert.quiescent_Kernel6 := fun m g _ => Cert.Kernel6.Gen.frame m g
/-- The kernel's frame at the extended reals. -/
theorem frame_pi : Cert.quiescent_Kernel6Ideal := fun m g _ => Cert.Kernel6Ideal.Gen.frame m g
/-- The reference's frame: it has no semaphores. -/
theorem frame_ri : Cert.quiescent_Reference6Ideal := fun m g _ =>
  (θ_run _ _ _).mono (fun _ h => ⟨fun c => (h c).2, sem_eq_zero_of_no_sems (by decide) _⟩) (Cert.Reference6Ideal.Value.run m g)

/-- Kernel and reference leave the same product. -/
theorem value : Cert.algebraic_Kernel6Ideal_Reference6Ideal := fun m g m' g' _ hm => by
  refine ⟨fun c => nn (V m c main_arg0) (V m c main_arg1), ?_, ?_⟩
  · exact (θ_run _ _ _).mono (fun r h c => ⟨(h c).1.trans (arr m c), (h c).2⟩) (run_blocks (F := Ideal) m g)
  · refine (θ_run _ _ _).mono (fun r h c => ⟨(h c).1.trans ?_, (h c).2⟩) (Cert.Reference6Ideal.Value.run (F := Ideal) m' g')
    show _ = nn (V m c main_arg0) (V m c main_arg1)
    rw [V_main_arg0, V_main_arg1, (hm c).1, (hm c).2]
    exact host_nn (φ₁ := .f32) (φ₂ := .f32) none (m ((c : Thread nD τ).loc main_arg0)) (m ((c : Thread nD τ).loc main_arg1))

end Cert.Prod.P6

end
-- ==== Proof.Prod.V7.lean ====
module

public import proofs.«01_k».proof.Defs
public import proofs.«01_k».proof.Proof.Prod.Core
public import proofs.«01_k».proof.Proof.Gen.Kernel7.Frame
public import proofs.«01_k».proof.Proof.Gen.Kernel7Ideal.Value
public import proofs.«01_k».proof.Proof.Gen.Reference7Ideal.Run
public import Idealize.ShloMosaic.Adequacy
public import Idealize.ShloMosaic.Init

@[expose] public section

/-! The gradient of a square weight: columns times columns, accumulated over the blocks of tokens. -/

noncomputable section

namespace Cert.Prod.P7

open Idealize.ShloMosaic Idealize.ShloMosaic.TcCoe Idealize.SL.Sem
open Cert.Kernel7Ideal Cert.Kernel7Ideal.Gen Cert.Kernel7Ideal.Value

/-- Where the windows' blocks start. -/
theorem off_0 : ∀ t a, (cfg0.win 0).index t a * (cfg0.win 0).size a = (![688 * t.val, 0] : Fin 2 → ℕ) a := by decide +kernel
theorem off_1 : ∀ t a, (cfg0.win 1).index t a * (cfg0.win 1).size a = (![688 * t.val, 0] : Fin 2 → ℕ) a := by decide +kernel

variable (m : (ℓ : Loc nD τ sig) → Buf (Elt Ideal) ℓ) (c : Dev nD)

theorem in_0 (t : Fin cfg0.N) : IsBlk (iblk m c 0 t) (V m c main_arg0) (688 * t.val) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (688 * t.val) 0 := fun y i h0 h1 =>
  congrArg (V m c main_arg1) (a₁ := ((cfg0.win 1).blk t).view.emb y) (emb_of (cfg0.win 1) off_1 t y i (axes h0 h1))

/-- What a grid point adds. -/
theorem add_eq (z : Vec Ideal S1024x1024 .f32) (x : Vec Ideal S688x1024 .bf16) (y : Vec Ideal S688x1024 .bf16) (i : S1024x1024.Idx) :
    k0_pay2 z x y i = (z i + tn x y i : EReal) := by
  unfold k0_pay2
  rw [shapeCast_self]
  exact congrArg (fun f : Mat 1024 1024 => (z i + f i : EReal)) (mm_tn (φ₁ := .bf16) (φ₂ := .bf16) none x y)

/-- The array the kernel leaves is the product. -/
theorem arr : G2 m c = tn (V m c main_arg0) (V m c main_arg1) := by
  have key : ∀ (i : S1024x1024.Idx) (q : ℕ) (_ : q = 0) (h : 6 * q + 5 < cfg0.N),
      Pipeline.accAt (reset2 m c) (step2 m c) (6 * q) 5 h (loc2Of i) = tn (V m c main_arg0) (V m c main_arg1) i := by
    rintro i q rfl h
    exact fold_tn (K := 4128) (R := 688) (r := 0) (s := 0) (b := 6 * 0) rfl (fun t h => iblk m c 0 ⟨t, h⟩) (fun t h => iblk m c 1 ⟨t, h⟩)
      (fun t h _ _ => in_0 m c ⟨t, h⟩) (fun t h _ _ => in_1 m c ⟨t, h⟩)
      (fun h i => (add_eq _ _ _ i).trans (congrArg (· + _) Ideal.ofBits_zero_f32)) (fun t h z i => add_eq z _ _ i) h (loc2Of i) i
      ((Nat.mod_eq_of_lt (i 0).isLt).symm.trans (Nat.zero_add _).symm) ((Nat.mod_eq_of_lt (i 1).isLt).symm.trans (Nat.zero_add _).symm)
  funext i
  have hr : run2Of i = 0 := by
    show 1 * ((i 0).val / 1024 - 0) + 1 * ((i 1).val / 1024 - 0) = 0
    have h0 : (i 0).val < 1024 := (i 0).isLt
    have h1 : (i 1).val < 1024 := (i 1).isLt
    omega
  unfold G2
  rw [dif_pos (by rw [hr]; decide)]
  exact key i _ hr _

/-- The kernel's frame at bits. -/
theorem frame_p : Cert.quiescent_Kernel7 := fun m g _ => Cert.Kernel7.Gen.frame m g
/-- The kernel's frame at the extended reals. -/
theorem frame_pi : Cert.quiescent_Kernel7Ideal := fun m g _ => Cert.Kernel7Ideal.Gen.frame m g
/-- The reference's frame: it has no semaphores. -/
theorem frame_ri : Cert.quiescent_Reference7Ideal := fun m g _ =>
  (θ_run _ _ _).mono (fun _ h => ⟨fun c => (h c).2, sem_eq_zero_of_no_sems (by decide) _⟩) (Cert.Reference7Ideal.Value.run m g)

/-- Kernel and reference leave the same product. -/
theorem value : Cert.algebraic_Kernel7Ideal_Reference7Ideal := fun m g m' g' _ hm => by
  refine ⟨fun c => tn (V m c main_arg0) (V m c main_arg1), ?_, ?_⟩
  · exact (θ_run _ _ _).mono (fun r h c => ⟨(h c).1.trans (arr m c), (h c).2⟩) (run (F := Ideal) m g)
  · refine (θ_run _ _ _).mono (fun r h c => ⟨(h c).1.trans ?_, (h c).2⟩) (Cert.Reference7Ideal.Value.run (F := Ideal) m' g')
    show _ = tn (V m c main_arg0) (V m c main_arg1)
    rw [V_main_arg0, V_main_arg1, (hm c).1, (hm c).2]
    exact host_tn_transposed (φ₁ := .f32) (φ₂ := .f32) none (m ((c : Thread nD τ).loc main_arg0)) (m ((c : Thread nD τ).loc main_arg1)) _

end Cert.Prod.P7

end
-- ==== Proof.Prod.V8.lean ====
module

public import proofs.«01_k».proof.Defs
public import proofs.«01_k».proof.Proof.Prod.Core
public import proofs.«01_k».proof.Proof.Gen.Kernel8.Frame
public import proofs.«01_k».proof.Proof.Gen.Kernel8Ideal.Value
public import proofs.«01_k».proof.Proof.Gen.Reference8Ideal.Run
public import Idealize.ShloMosaic.Adequacy
public import Idealize.ShloMosaic.Init

@[expose] public section

/-! The gradient into the recurrent layer's normed activations: the sum of four products of rows and rows. -/

noncomputable section

namespace Cert.Prod.P8

open Idealize.ShloMosaic Idealize.ShloMosaic.TcCoe Idealize.SL.Sem
open Cert.Kernel8Ideal Cert.Kernel8Ideal.Gen Cert.Kernel8Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![1024 * (t.val / 6), 0] : Fin 2 → ℕ) a := by decide +kernel
theorem off_2 : ∀ t a, (cfg0.win 2).index t a * (cfg0.win 2).size a = (![688 * (t.val % 6), 0] : Fin 2 → ℕ) a := by decide +kernel
theorem off_3 : ∀ t a, (cfg0.win 3).index t a * (cfg0.win 3).size a = (![1024 * (t.val / 6), 0] : Fin 2 → ℕ) a := by decide +kernel
theorem off_4 : ∀ t a, (cfg0.win 4).index t a * (cfg0.win 4).size a = (![688 * (t.val % 6), 0] : Fin 2 → ℕ) a := by decide +kernel
theorem off_5 : ∀ t a, (cfg0.win 5).index t a * (cfg0.win 5).size a = (![1024 * (t.val / 6), 0] : Fin 2 → ℕ) a := by decide +kernel
theorem off_6 : ∀ t a, (cfg0.win 6).index t a * (cfg0.win 6).size a = (![688 * (t.val % 6), 0] : Fin 2 → ℕ) a := by decide +kernel
theorem off_7 : ∀ t a, (cfg0.win 7).index t a * (cfg0.win 7).size a = (![1024 * (t.val / 6), 0] : Fin 2 → ℕ) a := by decide +kernel
theorem off_8 : ∀ t a, (cfg0.win 8).index t a * (cfg0.win 8).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (1024 * (t.val / 6)) 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) (688 * (t.val % 6)) 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (1024 * (t.val / 6)) 0 := fun y i h0 h1 =>
  congrArg (V m c main_arg3) (a₁ := ((cfg0.win 3).blk t).view.emb y) (emb_of (cfg0.win 3) off_3 t y i (axes h0 h1))
theorem in_4 (t : Fin cfg0.N) : IsBlk (iblk m c 4 t) (V m c main_arg4) (688 * (t.val % 6)) 0 := fun y i h0 h1 =>
  congrArg (V m c main_arg4) (a₁ := ((cfg0.win 4).blk t).view.emb y) (emb_of (cfg0.win 4) off_4 t y i (axes h0 h1))
theorem in_5 (t : Fin cfg0.N) : IsBlk (iblk m c 5 t) (V m c main_arg5) (1024 * (t.val / 6)) 0 := fun y i h0 h1 =>
  congrArg (V m c main_arg5) (a₁ := ((cfg0.win 5).blk t).view.emb y) (emb_of (cfg0.win 5) off_5 t y i (axes h0 h1))
theorem in_6 (t : Fin cfg0.N) : IsBlk (iblk m c 6 t) (V m c main_arg6) (688 * (t.val % 6)) 0 := fun y i h0 h1 =>
  congrArg (V m c main_arg6) (a₁ := ((cfg0.win 6).blk t).view.emb y) (emb_of (cfg0.win 6) off_6 t y i (axes h0 h1))
theorem in_7 (t : Fin cfg0.N) : IsBlk (iblk m c 7 t) (V m c main_arg7) (1024 * (t.val / 6)) 0 := fun y i h0 h1 =>
  congrArg (V m c main_arg7) (a₁ := ((cfg0.win 7).blk t).view.emb y) (emb_of (cfg0.win 7) off_7 t y i (axes h0 h1))

/-- What a grid point writes. -/
theorem out_eq (x0 : Vec Ideal S688x1024 .bf16) (x1 : Vec Ideal S1024x1024 .bf16) (x2 : Vec Ideal S688x1024 .bf16) (x3 : Vec Ideal S1024x1024 .bf16) (x4 : Vec Ideal S688x1024 .bf16) (x5 : Vec Ideal S1024x1024 .bf16) (x6 : Vec Ideal S688x1024 .bf16) (x7 : Vec Ideal S1024x1024 .bf16) :
    out0_8 x0 x1 x2 x3 x4 x5 x6 x7 = plus (plus (plus (nt x0 x1) (nt x2 x3)) (nt x4 x5)) (nt x6 x7) := by
  unfold out0_8
  rw [View.canon_unit_zero hz]
  repeat rw [View.ld_unit_zero hz]
  exact congrArg₂ plus (congrArg₂ plus (congrArg₂ plus (mm_nt (φ₁ := .bf16) (φ₂ := .bf16) none x0 x1) (mm_nt (φ₁ := .bf16) (φ₂ := .bf16) none x2 x3)) (mm_nt (φ₁ := .bf16) (φ₂ := .bf16) none x4 x5)) (mm_nt (φ₁ := .bf16) (φ₂ := .bf16) none x6 x7)

/-- The array the kernel leaves is the product. -/
theorem arr : (dats m 0 c).arrAt 8 cfg0.N = plus (plus (plus (nt (V m c main_arg0) (V m c main_arg1)) (nt (V m c main_arg2) (V m c main_arg3))) (nt (V m c main_arg4) (V m c main_arg5))) (nt (V m c main_arg6) (V m c main_arg7)) :=
  eq_of_grid (I := 6) (J := 1) (R := 688) (C := 1024) (by decide) (by decide) (by decide) (fun t => (dats m 0 c).flushed 8 t)
    (fun t y i h0 h1 => ((dats m 0 c).arrAt_emb_eq_flushed 8 disjoint8 t (flush0_8 t) y).symm.trans
      (congrArg ((dats m 0 c).arrAt 8 cfg0.N) (a₁ := ((cfg0.win 8).blk t).view.emb y) (emb_of (cfg0.win 8) off_8 t y i (axes h0 h1))))
    (fun t : Fin cfg0.N => by
      rw [flushed8, out_eq]
      exact ((((in_0 m c t).nt (in_1 m c t)).plus ((in_2 m c t).nt (in_3 m c t))).plus ((in_4 m c t).nt (in_5 m c t))).plus ((in_6 m c t).nt (in_7 m c t)))

/-- The kernel's frame at bits. -/
theorem frame_p : Cert.quiescent_Kernel8 := fun m g _ => Cert.Kernel8.Gen.frame m g
/-- The kernel's frame at the extended reals. -/
theorem frame_pi : Cert.quiescent_Kernel8Ideal := fun m g _ => Cert.Kernel8Ideal.Gen.frame m g
/-- The reference's frame: it has no semaphores. -/
theorem frame_ri : Cert.quiescent_Reference8Ideal := fun m g _ =>
  (θ_run _ _ _).mono (fun _ h => ⟨fun c => (h c).2, sem_eq_zero_of_no_sems (by decide) _⟩) (Cert.Reference8Ideal.Value.run m g)

/-- Kernel and reference leave the same product. -/
theorem value : Cert.algebraic_Kernel8Ideal_Reference8Ideal := fun m g m' g' _ hm => by
  refine ⟨fun c => plus (plus (plus (nt (V m c main_arg0) (V m c main_arg1)) (nt (V m c main_arg2) (V m c main_arg3))) (nt (V m c main_arg4) (V m c main_arg5))) (nt (V m c main_arg6) (V m c main_arg7)), ?_, ?_⟩
  · exact (θ_run _ _ _).mono (fun r h c => ⟨(h c).1.trans (arr m c), (h c).2⟩) (run_blocks (F := Ideal) m g)
  · refine (θ_run _ _ _).mono (fun r h c => ⟨(h c).1.trans ?_, (h c).2⟩) (Cert.Reference8Ideal.Value.run (F := Ideal) m' g')
    show _ = plus (plus (plus (nt (V m c main_arg0) (V m c main_arg1)) (nt (V m c main_arg2) (V m c main_arg3))) (nt (V m c main_arg4) (V m c main_arg5))) (nt (V m c main_arg6) (V m c main_arg7))
    rw [V_main_arg0, V_main_arg1, V_main_arg2, V_main_arg3, V_main_arg4, V_main_arg5, V_main_arg6, V_main_arg7, (hm c).1, (hm c).2.1, (hm c).2.2.1, (hm c).2.2.2.1, (hm c).2.2.2.2.1, (hm c).2.2.2.2.2.1, (hm c).2.2.2.2.2.2.1, (hm c).2.2.2.2.2.2.2]
    refine (congrArg₂ plus (congrArg₂ plus (congrArg₂ plus (host_nt (φ₁ := .f32) (φ₂ := .f32) none (m ((c : Thread nD τ).loc main_arg6)) (m ((c : Thread nD τ).loc main_arg7))) (host_nt (φ₁ := .f32) (φ₂ := .f32) none (m ((c : Thread nD τ).loc main_arg4)) (m ((c : Thread nD τ).loc main_arg5)))) (host_nt (φ₁ := .f32) (φ₂ := .f32) none (m ((c : Thread nD τ).loc main_arg2)) (m ((c : Thread nD τ).loc main_arg3)))) (host_nt (φ₁ := .f32) (φ₂ := .f32) none (m ((c : Thread nD τ).loc main_arg0)) (m ((c : Thread nD τ).loc main_arg1)))).trans ?_
    funext i
    simp only [plus]
    ac_rfl

end Cert.Prod.P8

end
-- ==== Proof.Prod.V9.lean ====
module

public import proofs.«01_k».proof.Defs
public import proofs.«01_k».proof.Proof.Prod.Core
public import proofs.«01_k».proof.Proof.Gen.Kernel9.Frame
public import proofs.«01_k».proof.Proof.Gen.Kernel9Ideal.Value
public import proofs.«01_k».proof.Proof.Gen.Reference9Ideal.Run
public import Idealize.ShloMosaic.Adequacy
public import Idealize.ShloMosaic.Init

@[expose] public section

/-! The input projection of the recurrent layer: rows times columns. -/

noncomputable section

namespace Cert.Prod.P9

open Idealize.ShloMosaic Idealize.ShloMosaic.TcCoe Idealize.SL.Sem
open Cert.Kernel9Ideal Cert.Kernel9Ideal.Gen Cert.Kernel9Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![0, 1024 * (t.val / 6)] : Fin 2 → ℕ) a := by decide +kernel
theorem off_2 : ∀ t a, (cfg0.win 2).index t a * (cfg0.win 2).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) 0 (1024 * (t.val / 6)) := fun y i h0 h1 =>
  congrArg (V m c main_arg1) (a₁ := ((cfg0.win 1).blk t).view.emb y) (emb_of (cfg0.win 1) off_1 t y i (axes h0 h1))

/-- What a grid point writes. -/
theorem out_eq (x0 : Vec Ideal S688x1024 .bf16) (x1 : Vec Ideal S1024x1024 .bf16) :
    out0_2 x0 x1 = nn x0 x1 := by
  unfold out0_2
  rw [View.canon_unit_zero hz]
  repeat rw [View.ld_unit_zero hz]
  exact mm_nn (φ₁ := .bf16) (φ₂ := .bf16) none x0 x1

/-- The array the kernel leaves is the product. -/
theorem arr : (dats m 0 c).arrAt 2 cfg0.N = nn (V m c main_arg0) (V m c main_arg1) :=
  eq_of_grid (I := 6) (J := 4) (R := 688) (C := 1024) (by decide) (by decide) (by decide) (fun t => (dats m 0 c).flushed 2 t)
    (fun t y i h0 h1 => ((dats m 0 c).arrAt_emb_eq_flushed 2 disjoint2 t (flush0_2 t) y).symm.trans
      (congrArg ((dats m 0 c).arrAt 2 cfg0.N) (a₁ := ((cfg0.win 2).blk t).view.emb y) (emb_of (cfg0.win 2) off_2 t y i (axes h0 h1))))
    (fun t : Fin cfg0.N => by
      rw [flushed2, out_eq]
      exact (in_0 m c t).nn (in_1 m c t))

/-- The kernel's frame at bits. -/
theorem frame_p : Cert.quiescent_Kernel9 := fun m g _ => Cert.Kernel9.Gen.frame m g
/-- The kernel's frame at the extended reals. -/
theorem frame_pi : Cert.quiescent_Kernel9Ideal := fun m g _ => Cert.Kernel9Ideal.Gen.frame m g
/-- The reference's frame: it has no semaphores. -/
theorem frame_ri : Cert.quiescent_Reference9Ideal := fun m g _ =>
  (θ_run _ _ _).mono (fun _ h => ⟨fun c => (h c).2, sem_eq_zero_of_no_sems (by decide) _⟩) (Cert.Reference9Ideal.Value.run m g)

/-- Kernel and reference leave the same product. -/
theorem value : Cert.algebraic_Kernel9Ideal_Reference9Ideal := fun m g m' g' _ hm => by
  refine ⟨fun c => nn (V m c main_arg0) (V m c main_arg1), ?_, ?_⟩
  · exact (θ_run _ _ _).mono (fun r h c => ⟨(h c).1.trans (arr m c), (h c).2⟩) (run_blocks (F := Ideal) m g)
  · refine (θ_run _ _ _).mono (fun r h c => ⟨(h c).1.trans ?_, (h c).2⟩) (Cert.Reference9Ideal.Value.run (F := Ideal) m' g')
    show _ = nn (V m c main_arg0) (V m c main_arg1)
    rw [V_main_arg0, V_main_arg1, (hm c).1, (hm c).2]
    exact host_nn (φ₁ := .f32) (φ₂ := .f32) none (m ((c : Thread nD τ).loc main_arg0)) (m ((c : Thread nD τ).loc main_arg1))

end Cert.Prod.P9

end
-- ==== Proof.Prod.V10.lean ====
module

public import proofs.«01_k».proof.Defs
public import proofs.«01_k».proof.Proof.Prod.Core
public import proofs.«01_k».proof.Proof.Gen.Kernel10.Frame
public import proofs.«01_k».proof.Proof.Gen.Kernel10Ideal.Value
public import proofs.«01_k».proof.Proof.Gen.Reference10Ideal.Run
public import Idealize.ShloMosaic.Adequacy
public import Idealize.ShloMosaic.Init

@[expose] public section

/-! The projection to keys and values: rows times columns. -/

noncomputable section

namespace Cert.Prod.P10

open Idealize.ShloMosaic Idealize.ShloMosaic.TcCoe Idealize.SL.Sem
open Cert.Kernel10Ideal Cert.Kernel10Ideal.Gen Cert.Kernel10Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![0, 1024 * (t.val / 6)] : Fin 2 → ℕ) a := by decide +kernel
theorem off_2 : ∀ t a, (cfg0.win 2).index t a * (cfg0.win 2).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) 0 (1024 * (t.val / 6)) := fun y i h0 h1 =>
  congrArg (V m c main_arg1) (a₁ := ((cfg0.win 1).blk t).view.emb y) (emb_of (cfg0.win 1) off_1 t y i (axes h0 h1))

/-- What a grid point writes. -/
theorem out_eq (x0 : Vec Ideal S688x1024 .bf16) (x1 : Vec Ideal S1024x1024 .bf16) :
    out0_2 x0 x1 = nn x0 x1 := by
  unfold out0_2
  rw [View.canon_unit_zero hz]
  repeat rw [View.ld_unit_zero hz]
  exact mm_nn (φ₁ := .bf16) (φ₂ := .bf16) none x0 x1

/-- The array the kernel leaves is the product. -/
theorem arr : (dats m 0 c).arrAt 2 cfg0.N = nn (V m c main_arg0) (V m c main_arg1) :=
  eq_of_grid (I := 6) (J := 2) (R := 688) (C := 1024) (by decide) (by decide) (by decide) (fun t => (dats m 0 c).flushed 2 t)
    (fun t y i h0 h1 => ((dats m 0 c).arrAt_emb_eq_flushed 2 disjoint2 t (flush0_2 t) y).symm.trans
      (congrArg ((dats m 0 c).arrAt 2 cfg0.N) (a₁ := ((cfg0.win 2).blk t).view.emb y) (emb_of (cfg0.win 2) off_2 t y i (axes h0 h1))))
    (fun t : Fin cfg0.N => by
      rw [flushed2, out_eq]
      exact (in_0 m c t).nn (in_1 m c t))

/-- The kernel's frame at bits. -/
theorem frame_p : Cert.quiescent_Kernel10 := fun m g _ => Cert.Kernel10.Gen.frame m g
/-- The kernel's frame at the extended reals. -/
theorem frame_pi : Cert.quiescent_Kernel10Ideal := fun m g _ => Cert.Kernel10Ideal.Gen.frame m g
/-- The reference's frame: it has no semaphores. -/
theorem frame_ri : Cert.quiescent_Reference10Ideal := fun m g _ =>
  (θ_run _ _ _).mono (fun _ h => ⟨fun c => (h c).2, sem_eq_zero_of_no_sems (by decide) _⟩) (Cert.Reference10Ideal.Value.run m g)

/-- Kernel and reference leave the same product. -/
theorem value : Cert.algebraic_Kernel10Ideal_Reference10Ideal := fun m g m' g' _ hm => by
  refine ⟨fun c => nn (V m c main_arg0) (V m c main_arg1), ?_, ?_⟩
  · exact (θ_run _ _ _).mono (fun r h c => ⟨(h c).1.trans (arr m c), (h c).2⟩) (run_blocks (F := Ideal) m g)
  · refine (θ_run _ _ _).mono (fun r h c => ⟨(h c).1.trans ?_, (h c).2⟩) (Cert.Reference10Ideal.Value.run (F := Ideal) m' g')
    show _ = nn (V m c main_arg0) (V m c main_arg1)
    rw [V_main_arg0, V_main_arg1, (hm c).1, (hm c).2]
    exact host_nn (φ₁ := .f32) (φ₂ := .f32) none (m ((c : Thread nD τ).loc main_arg0)) (m ((c : Thread nD τ).loc main_arg1))

end Cert.Prod.P10

end
-- ==== Proof.Prod.V11.lean ====
module

public import proofs.«01_k».proof.Defs
public import proofs.«01_k».proof.Proof.Prod.Core
public import proofs.«01_k».proof.Proof.Gen.Kernel11.Frame
public import proofs.«01_k».proof.Proof.Gen.Kernel11Ideal.Value
public import proofs.«01_k».proof.Proof.Gen.Reference11Ideal.Run
public import Idealize.ShloMosaic.Adequacy
public import Idealize.ShloMosaic.Init

@[expose] public section

/-! The gradient into the mixed heads (an output projection's input): rows times rows. -/

noncomputable section

namespace Cert.Prod.P11

open Idealize.ShloMosaic Idealize.ShloMosaic.TcCoe Idealize.SL.Sem
open Cert.Kernel11Ideal Cert.Kernel11Ideal.Gen Cert.Kernel11Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![1024 * (t.val / 6), 0] : Fin 2 → ℕ) a := by decide +kernel
theorem off_2 : ∀ t a, (cfg0.win 2).index t a * (cfg0.win 2).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (1024 * (t.val / 6)) 0 := fun y i h0 h1 =>
  congrArg (V m c main_arg1) (a₁ := ((cfg0.win 1).blk t).view.emb y) (emb_of (cfg0.win 1) off_1 t y i (axes h0 h1))

/-- What a grid point writes. -/
theorem out_eq (x0 : Vec Ideal S688x1024 .bf16) (x1 : Vec Ideal S1024x1024 .bf16) :
    out0_2 x0 x1 = nt x0 x1 := by
  unfold out0_2
  rw [View.canon_unit_zero hz]
  repeat rw [View.ld_unit_zero hz]
  exact mm_nt (φ₁ := .bf16) (φ₂ := .bf16) none x0 x1

/-- The array the kernel leaves is the product. -/
theorem arr : (dats m 0 c).arrAt 2 cfg0.N = nt (V m c main_arg0) (V m c main_arg1) :=
  eq_of_grid (I := 6) (J := 1) (R := 688) (C := 1024) (by decide) (by decide) (by decide) (fun t => (dats m 0 c).flushed 2 t)
    (fun t y i h0 h1 => ((dats m 0 c).arrAt_emb_eq_flushed 2 disjoint2 t (flush0_2 t) y).symm.trans
      (congrArg ((dats m 0 c).arrAt 2 cfg0.N) (a₁ := ((cfg0.win 2).blk t).view.emb y) (emb_of (cfg0.win 2) off_2 t y i (axes h0 h1))))
    (fun t : Fin cfg0.N => by
      rw [flushed2, out_eq]
      exact (in_0 m c t).nt (in_1 m c t))

/-- The kernel's frame at bits. -/
theorem frame_p : Cert.quiescent_Kernel11 := fun m g _ => Cert.Kernel11.Gen.frame m g
/-- The kernel's frame at the extended reals. -/
theorem frame_pi : Cert.quiescent_Kernel11Ideal := fun m g _ => Cert.Kernel11Ideal.Gen.frame m g
/-- The reference's frame: it has no semaphores. -/
theorem frame_ri : Cert.quiescent_Reference11Ideal := fun m g _ =>
  (θ_run _ _ _).mono (fun _ h => ⟨fun c => (h c).2, sem_eq_zero_of_no_sems (by decide) _⟩) (Cert.Reference11Ideal.Value.run m g)

/-- Kernel and reference leave the same product. -/
theorem value : Cert.algebraic_Kernel11Ideal_Reference11Ideal := fun m g m' g' _ hm => by
  refine ⟨fun c => nt (V m c main_arg0) (V m c main_arg1), ?_, ?_⟩
  · exact (θ_run _ _ _).mono (fun r h c => ⟨(h c).1.trans (arr m c), (h c).2⟩) (run_blocks (F := Ideal) m g)
  · refine (θ_run _ _ _).mono (fun r h c => ⟨(h c).1.trans ?_, (h c).2⟩) (Cert.Reference11Ideal.Value.run (F := Ideal) m' g')
    show _ = nt (V m c main_arg0) (V m c main_arg1)
    rw [V_main_arg0, V_main_arg1, (hm c).1, (hm c).2]
    exact host_nt (φ₁ := .f32) (φ₂ := .f32) none (m ((c : Thread nD τ).loc main_arg0)) (m ((c : Thread nD τ).loc main_arg1))

end Cert.Prod.P11

end
-- ==== Proof.Prod.V12.lean ====
module

public import proofs.«01_k».proof.Defs
public import proofs.«01_k».proof.Proof.Prod.Core
public import proofs.«01_k».proof.Proof.Gen.Kernel12.Frame
public import proofs.«01_k».proof.Proof.Gen.Kernel12Ideal.Value
public import proofs.«01_k».proof.Proof.Gen.Reference12Ideal.Run
public import Idealize.ShloMosaic.Adequacy
public import Idealize.ShloMosaic.Init

@[expose] public section

/-! The gradient into the keys' and values' normed activations: the sum of three products of rows and rows, the last one of the forget gates. -/

noncomputable section

namespace Cert.Prod.P12

open Idealize.ShloMosaic Idealize.ShloMosaic.TcCoe Idealize.SL.Sem
open Cert.Kernel12Ideal Cert.Kernel12Ideal.Gen Cert.Kernel12Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![1024 * (t.val / 6), 0] : Fin 2 → ℕ) a := by decide +kernel
theorem off_2 : ∀ t a, (cfg0.win 2).index t a * (cfg0.win 2).size a = (![688 * (t.val % 6), 0] : Fin 2 → ℕ) a := by decide +kernel
theorem off_3 : ∀ t a, (cfg0.win 3).index t a * (cfg0.win 3).size a = (![1024 * (t.val / 6), 0] : Fin 2 → ℕ) a := by decide +kernel
theorem off_4 : ∀ t a, (cfg0.win 4).index t a * (cfg0.win 4).size a = (![688 * (t.val % 6), 0] : Fin 2 → ℕ) a := by decide +kernel
theorem off_5 : ∀ t a, (cfg0.win 5).index t a * (cfg0.win 5).size a = (![1024 * (t.val / 6), 0] : Fin 2 → ℕ) a := by decide +kernel
theorem off_6 : ∀ t a, (cfg0.win 6).index t a * (cfg0.win 6).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (1024 * (t.val / 6)) 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) (688 * (t.val % 6)) 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (1024 * (t.val / 6)) 0 := fun y i h0 h1 =>
  congrArg (V m c main_arg3) (a₁ := ((cfg0.win 3).blk t).view.emb y) (emb_of (cfg0.win 3) off_3 t y i (axes h0 h1))
theorem in_4 (t : Fin cfg0.N) : IsBlk (iblk m c 4 t) (V m c main_arg4) (688 * (t.val % 6)) 0 := fun y i h0 h1 =>
  congrArg (V m c main_arg4) (a₁ := ((cfg0.win 4).blk t).view.emb y) (emb_of (cfg0.win 4) off_4 t y i (axes h0 h1))
theorem in_5 (t : Fin cfg0.N) : IsBlk (iblk m c 5 t) (V m c main_arg5) (1024 * (t.val / 6)) 0 := fun y i h0 h1 =>
  congrArg (V m c main_arg5) (a₁ := ((cfg0.win 5).blk t).view.emb y) (emb_of (cfg0.win 5) off_5 t y i (axes h0 h1))

/-- What a grid point writes. -/
theorem out_eq (x0 : Vec Ideal S688x1024 .bf16) (x1 : Vec Ideal S1024x1024 .bf16) (x2 : Vec Ideal S688x1024 .bf16) (x3 : Vec Ideal S1024x1024 .bf16) (x4 : Vec Ideal S688x128 .bf16) (x5 : Vec Ideal S1024x128 .bf16) :
    out0_6 x0 x1 x2 x3 x4 x5 = plus (plus (nt x0 x1) (nt x2 x3)) (nt x4 x5) := by
  unfold out0_6
  rw [View.canon_unit_zero hz]
  repeat rw [View.ld_unit_zero hz]
  exact congrArg₂ plus (congrArg₂ plus (mm_nt (φ₁ := .bf16) (φ₂ := .bf16) none x0 x1) (mm_nt (φ₁ := .bf16) (φ₂ := .bf16) none x2 x3)) (mm_nt (φ₁ := .bf16) (φ₂ := .bf16) none x4 x5)

/-- The array the kernel leaves is the product. -/
theorem arr : (dats m 0 c).arrAt 6 cfg0.N = plus (plus (nt (V m c main_arg0) (V m c main_arg1)) (nt (V m c main_arg2) (V m c main_arg3))) (nt (V m c main_arg4) (V m c main_arg5)) :=
  eq_of_grid (I := 6) (J := 1) (R := 688) (C := 1024) (by decide) (by decide) (by decide) (fun t => (dats m 0 c).flushed 6 t)
    (fun t y i h0 h1 => ((dats m 0 c).arrAt_emb_eq_flushed 6 disjoint6 t (flush0_6 t) y).symm.trans
      (congrArg ((dats m 0 c).arrAt 6 cfg0.N) (a₁ := ((cfg0.win 6).blk t).view.emb y) (emb_of (cfg0.win 6) off_6 t y i (axes h0 h1))))
    (fun t : Fin cfg0.N => by
      rw [flushed6, out_eq]
      exact (((in_0 m c t).nt (in_1 m c t)).plus ((in_2 m c t).nt (in_3 m c t))).plus ((in_4 m c t).nt (in_5 m c t)))

/-- The kernel's frame at bits. -/
theorem frame_p : Cert.quiescent_Kernel12 := fun m g _ => Cert.Kernel12.Gen.frame m g
/-- The kernel's frame at the extended reals. -/
theorem frame_pi : Cert.quiescent_Kernel12Ideal := fun m g _ => Cert.Kernel12Ideal.Gen.frame m g
/-- The reference's frame: it has no semaphores. -/
theorem frame_ri : Cert.quiescent_Reference12Ideal := fun m g _ =>
  (θ_run _ _ _).mono (fun _ h => ⟨fun c => (h c).2, sem_eq_zero_of_no_sems (by decide) _⟩) (Cert.Reference12Ideal.Value.run m g)

/-- Kernel and reference leave the same product. -/
theorem value : Cert.algebraic_Kernel12Ideal_Reference12Ideal := fun m g m' g' _ hm => by
  refine ⟨fun c => plus (plus (nt (V m c main_arg0) (V m c main_arg1)) (nt (V m c main_arg2) (V m c main_arg3))) (nt (V m c main_arg4) (V m c main_arg5)), ?_, ?_⟩
  · exact (θ_run _ _ _).mono (fun r h c => ⟨(h c).1.trans (arr m c), (h c).2⟩) (run_blocks (F := Ideal) m g)
  · refine (θ_run _ _ _).mono (fun r h c => ⟨(h c).1.trans ?_, (h c).2⟩) (Cert.Reference12Ideal.Value.run (F := Ideal) m' g')
    show _ = plus (plus (nt (V m c main_arg0) (V m c main_arg1)) (nt (V m c main_arg2) (V m c main_arg3))) (nt (V m c main_arg4) (V m c main_arg5))
    rw [V_main_arg0, V_main_arg1, V_main_arg2, V_main_arg3, V_main_arg4, V_main_arg5, (hm c).1, (hm c).2.1, (hm c).2.2.1, (hm c).2.2.2.1, (hm c).2.2.2.2.1, (hm c).2.2.2.2.2]
    refine (congrArg₂ plus (congrArg₂ plus (host_nt (φ₁ := .f32) (φ₂ := .f32) none (m ((c : Thread nD τ).loc main_arg4)) (m ((c : Thread nD τ).loc main_arg5))) (host_nt (φ₁ := .f32) (φ₂ := .f32) none (m ((c : Thread nD τ).loc main_arg2)) (m ((c : Thread nD τ).loc main_arg3)))) (host_nt (φ₁ := .f32) (φ₂ := .f32) none (m ((c : Thread nD τ).loc main_arg0)) (m ((c : Thread nD τ).loc main_arg1)))).trans ?_
    funext i
    simp only [plus]
    ac_rfl

end Cert.Prod.P12

end
-- ==== Proof.Prod.V13.lean ====
module

public import proofs.«01_k».proof.Defs
public import proofs.«01_k».proof.Proof.Prod.Core
public import proofs.«01_k».proof.Proof.Gen.Kernel13.Frame
public import proofs.«01_k».proof.Proof.Gen.Kernel13Ideal.Value
public import proofs.«01_k».proof.Proof.Gen.Reference13Ideal.Run
public import Idealize.ShloMosaic.Adequacy
public import Idealize.ShloMosaic.Init

@[expose] public section

/-! The projection to queries: rows times columns. -/

noncomputable section

namespace Cert.Prod.P13

open Idealize.ShloMosaic Idealize.ShloMosaic.TcCoe Idealize.SL.Sem
open Cert.Kernel13Ideal Cert.Kernel13Ideal.Gen Cert.Kernel13Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![0, 1024 * (t.val / 6)] : Fin 2 → ℕ) a := by decide +kernel
theorem off_2 : ∀ t a, (cfg0.win 2).index t a * (cfg0.win 2).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) 0 (1024 * (t.val / 6)) := fun y i h0 h1 =>
  congrArg (V m c main_arg1) (a₁ := ((cfg0.win 1).blk t).view.emb y) (emb_of (cfg0.win 1) off_1 t y i (axes h0 h1))

/-- What a grid point writes. -/
theorem out_eq (x0 : Vec Ideal S688x1024 .bf16) (x1 : Vec Ideal S1024x1024 .bf16) :
    out0_2 x0 x1 = nn x0 x1 := by
  unfold out0_2
  rw [View.canon_unit_zero hz]
  repeat rw [View.ld_unit_zero hz]
  exact mm_nn (φ₁ := .bf16) (φ₂ := .bf16) none x0 x1

/-- The array the kernel leaves is the product. -/
theorem arr : (dats m 0 c).arrAt 2 cfg0.N = nn (V m c main_arg0) (V m c main_arg1) :=
  eq_of_grid (I := 6) (J := 1) (R := 688) (C := 1024) (by decide) (by decide) (by decide) (fun t => (dats m 0 c).flushed 2 t)
    (fun t y i h0 h1 => ((dats m 0 c).arrAt_emb_eq_flushed 2 disjoint2 t (flush0_2 t) y).symm.trans
      (congrArg ((dats m 0 c).arrAt 2 cfg0.N) (a₁ := ((cfg0.win 2).blk t).view.emb y) (emb_of (cfg0.win 2) off_2 t y i (axes h0 h1))))
    (fun t : Fin cfg0.N => by
      rw [flushed2, out_eq]
      exact (in_0 m c t).nn (in_1 m c t))

/-- The kernel's frame at bits. -/
theorem frame_p : Cert.quiescent_Kernel13 := fun m g _ => Cert.Kernel13.Gen.frame m g
/-- The kernel's frame at the extended reals. -/
theorem frame_pi : Cert.quiescent_Kernel13Ideal := fun m g _ => Cert.Kernel13Ideal.Gen.frame m g
/-- The reference's frame: it has no semaphores. -/
theorem frame_ri : Cert.quiescent_Reference13Ideal := fun m g _ =>
  (θ_run _ _ _).mono (fun _ h => ⟨fun c => (h c).2, sem_eq_zero_of_no_sems (by decide) _⟩) (Cert.Reference13Ideal.Value.run m g)

/-- Kernel and reference leave the same product. -/
theorem value : Cert.algebraic_Kernel13Ideal_Reference13Ideal := fun m g m' g' _ hm => by
  refine ⟨fun c => nn (V m c main_arg0) (V m c main_arg1), ?_, ?_⟩
  · exact (θ_run _ _ _).mono (fun r h c => ⟨(h c).1.trans (arr m c), (h c).2⟩) (run_blocks (F := Ideal) m g)
  · refine (θ_run _ _ _).mono (fun r h c => ⟨(h c).1.trans ?_, (h c).2⟩) (Cert.Reference13Ideal.Value.run (F := Ideal) m' g')
    show _ = nn (V m c main_arg0) (V m c main_arg1)
    rw [V_main_arg0, V_main_arg1, (hm c).1, (hm c).2]
    exact host_nn (φ₁ := .f32) (φ₂ := .f32) none (m ((c : Thread nD τ).loc main_arg0)) (m ((c : Thread nD τ).loc main_arg1))

end Cert.Prod.P13

end
-- ==== Proof.Prod.V14.lean ====
module

public import proofs.«01_k».proof.Defs
public import proofs.«01_k».proof.Proof.Prod.Core
public import proofs.«01_k».proof.Proof.Gen.Kernel14.Frame
public import proofs.«01_k».proof.Proof.Gen.Kernel14Ideal.Value
public import proofs.«01_k».proof.Proof.Gen.Reference14Ideal.Run
public import Idealize.ShloMosaic.Adequacy
public import Idealize.ShloMosaic.Init

@[expose] public section

/-! The gradient into the queries' normed activations: rows times rows. -/

noncomputable section

namespace Cert.Prod.P14

open Idealize.ShloMosaic Idealize.ShloMosaic.TcCoe Idealize.SL.Sem
open Cert.Kernel14Ideal Cert.Kernel14Ideal.Gen Cert.Kernel14Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![1024 * (t.val / 6), 0] : Fin 2 → ℕ) a := by decide +kernel
theorem off_2 : ∀ t a, (cfg0.win 2).index t a * (cfg0.win 2).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (1024 * (t.val / 6)) 0 := fun y i h0 h1 =>
  congrArg (V m c main_arg1) (a₁ := ((cfg0.win 1).blk t).view.emb y) (emb_of (cfg0.win 1) off_1 t y i (axes h0 h1))

/-- What a grid point writes. -/
theorem out_eq (x0 : Vec Ideal S688x1024 .f32) (x1 : Vec Ideal S1024x1024 .bf16) :
    out0_2 x0 x1 = nt x0 x1 := by
  unfold out0_2
  rw [View.canon_unit_zero hz]
  repeat rw [View.ld_unit_zero hz]
  exact mm_nt (φ₁ := .bf16) (φ₂ := .bf16) none x0 x1

/-- The array the kernel leaves is the product. -/
theorem arr : (dats m 0 c).arrAt 2 cfg0.N = nt (V m c main_arg0) (V m c main_arg1) :=
  eq_of_grid (I := 6) (J := 1) (R := 688) (C := 1024) (by decide) (by decide) (by decide) (fun t => (dats m 0 c).flushed 2 t)
    (fun t y i h0 h1 => ((dats m 0 c).arrAt_emb_eq_flushed 2 disjoint2 t (flush0_2 t) y).symm.trans
      (congrArg ((dats m 0 c).arrAt 2 cfg0.N) (a₁ := ((cfg0.win 2).blk t).view.emb y) (emb_of (cfg0.win 2) off_2 t y i (axes h0 h1))))
    (fun t : Fin cfg0.N => by
      rw [flushed2, out_eq]
      exact (in_0 m c t).nt (in_1 m c t))

/-- The kernel's frame at bits. -/
theorem frame_p : Cert.quiescent_Kernel14 := fun m g _ => Cert.Kernel14.Gen.frame m g
/-- The kernel's frame at the extended reals. -/
theorem frame_pi : Cert.quiescent_Kernel14Ideal := fun m g _ => Cert.Kernel14Ideal.Gen.frame m g
/-- The reference's frame: it has no semaphores. -/
theorem frame_ri : Cert.quiescent_Reference14Ideal := fun m g _ =>
  (θ_run _ _ _).mono (fun _ h => ⟨fun c => (h c).2, sem_eq_zero_of_no_sems (by decide) _⟩) (Cert.Reference14Ideal.Value.run m g)

/-- Kernel and reference leave the same product. -/
theorem value : Cert.algebraic_Kernel14Ideal_Reference14Ideal := fun m g m' g' _ hm => by
  refine ⟨fun c => nt (V m c main_arg0) (V m c main_arg1), ?_, ?_⟩
  · exact (θ_run _ _ _).mono (fun r h c => ⟨(h c).1.trans (arr m c), (h c).2⟩) (run_blocks (F := Ideal) m g)
  · refine (θ_run _ _ _).mono (fun r h c => ⟨(h c).1.trans ?_, (h c).2⟩) (Cert.Reference14Ideal.Value.run (F := Ideal) m' g')
    show _ = nt (V m c main_arg0) (V m c main_arg1)
    rw [V_main_arg0, V_main_arg1, (hm c).1, (hm c).2]
    exact host_nt (φ₁ := .f32) (φ₂ := .f32) none (m ((c : Thread nD τ).loc main_arg0)) (m ((c : Thread nD τ).loc main_arg1))

end Cert.Prod.P14

end
-- ==== Proof.Prod.V15.lean ====
module

public import proofs.«01_k».proof.Defs
public import proofs.«01_k».proof.Proof.Prod.Core
public import proofs.«01_k».proof.Proof.Gen.Kernel15.Frame
public import proofs.«01_k».proof.Proof.Gen.Kernel15Ideal.Value
public import proofs.«01_k».proof.Proof.Gen.Reference15Ideal.Run
public import Idealize.ShloMosaic.Adequacy
public import Idealize.ShloMosaic.Init

@[expose] public section

/-! The gradient of the queries' weight: columns times columns, accumulated over the blocks of tokens. -/

noncomputable section

namespace Cert.Prod.P15

open Idealize.ShloMosaic Idealize.ShloMosaic.TcCoe Idealize.SL.Sem
open Cert.Kernel15Ideal Cert.Kernel15Ideal.Gen Cert.Kernel15Ideal.Value

/-- Where the windows' blocks start. -/
theorem off_0 : ∀ t a, (cfg0.win 0).index t a * (cfg0.win 0).size a = (![688 * t.val, 0] : Fin 2 → ℕ) a := by decide +kernel
theorem off_1 : ∀ t a, (cfg0.win 1).index t a * (cfg0.win 1).size a = (![688 * t.val, 0] : Fin 2 → ℕ) a := by decide +kernel

variable (m : (ℓ : Loc nD τ sig) → Buf (Elt Ideal) ℓ) (c : Dev nD)

theorem in_0 (t : Fin cfg0.N) : IsBlk (iblk m c 0 t) (V m c main_arg0) (688 * t.val) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (688 * t.val) 0 := fun y i h0 h1 =>
  congrArg (V m c main_arg1) (a₁ := ((cfg0.win 1).blk t).view.emb y) (emb_of (cfg0.win 1) off_1 t y i (axes h0 h1))

/-- What a grid point adds. -/
theorem add_eq (z : Vec Ideal S1024x1024 .f32) (x : Vec Ideal S688x1024 .bf16) (y : Vec Ideal S688x1024 .f32) (i : S1024x1024.Idx) :
    k0_pay2 z x y i = (z i + tn x y i : EReal) := by
  unfold k0_pay2
  rw [shapeCast_self]
  exact congrArg (fun f : Mat 1024 1024 => (z i + f i : EReal)) (mm_tn (φ₁ := .bf16) (φ₂ := .bf16) none x y)

/-- The array the kernel leaves is the product. -/
theorem arr : G2 m c = tn (V m c main_arg0) (V m c main_arg1) := by
  have key : ∀ (i : S1024x1024.Idx) (q : ℕ) (_ : q = 0) (h : 6 * q + 5 < cfg0.N),
      Pipeline.accAt (reset2 m c) (step2 m c) (6 * q) 5 h (loc2Of i) = tn (V m c main_arg0) (V m c main_arg1) i := by
    rintro i q rfl h
    exact fold_tn (K := 4128) (R := 688) (r := 0) (s := 0) (b := 6 * 0) rfl (fun t h => iblk m c 0 ⟨t, h⟩) (fun t h => iblk m c 1 ⟨t, h⟩)
      (fun t h _ _ => in_0 m c ⟨t, h⟩) (fun t h _ _ => in_1 m c ⟨t, h⟩)
      (fun h i => (add_eq _ _ _ i).trans (congrArg (· + _) Ideal.ofBits_zero_f32)) (fun t h z i => add_eq z _ _ i) h (loc2Of i) i
      ((Nat.mod_eq_of_lt (i 0).isLt).symm.trans (Nat.zero_add _).symm) ((Nat.mod_eq_of_lt (i 1).isLt).symm.trans (Nat.zero_add _).symm)
  funext i
  have hr : run2Of i = 0 := by
    show 1 * ((i 0).val / 1024 - 0) + 1 * ((i 1).val / 1024 - 0) = 0
    have h0 : (i 0).val < 1024 := (i 0).isLt
    have h1 : (i 1).val < 1024 := (i 1).isLt
    omega
  unfold G2
  rw [dif_pos (by rw [hr]; decide)]
  exact key i _ hr _

/-- The kernel's frame at bits. -/
theorem frame_p : Cert.quiescent_Kernel15 := fun m g _ => Cert.Kernel15.Gen.frame m g
/-- The kernel's frame at the extended reals. -/
theorem frame_pi : Cert.quiescent_Kernel15Ideal := fun m g _ => Cert.Kernel15Ideal.Gen.frame m g
/-- The reference's frame: it has no semaphores. -/
theorem frame_ri : Cert.quiescent_Reference15Ideal := fun m g _ =>
  (θ_run _ _ _).mono (fun _ h => ⟨fun c => (h c).2, sem_eq_zero_of_no_sems (by decide) _⟩) (Cert.Reference15Ideal.Value.run m g)

/-- Kernel and reference leave the same product. -/
theorem value : Cert.algebraic_Kernel15Ideal_Reference15Ideal := fun m g m' g' _ hm => by
  refine ⟨fun c => tn (V m c main_arg0) (V m c main_arg1), ?_, ?_⟩
  · exact (θ_run _ _ _).mono (fun r h c => ⟨(h c).1.trans (arr m c), (h c).2⟩) (run (F := Ideal) m g)
  · refine (θ_run _ _ _).mono (fun r h c => ⟨(h c).1.trans ?_, (h c).2⟩) (Cert.Reference15Ideal.Value.run (F := Ideal) m' g')
    show _ = tn (V m c main_arg0) (V m c main_arg1)
    rw [V_main_arg0, V_main_arg1, (hm c).1, (hm c).2]
    exact host_tn_transposed (φ₁ := .f32) (φ₂ := .f32) none (m ((c : Thread nD τ).loc main_arg0)) (m ((c : Thread nD τ).loc main_arg1)) _

end Cert.Prod.P15

end
-- ==== Proof.Prod.V16.lean ====
module

public import proofs.«01_k».proof.Defs
public import proofs.«01_k».proof.Proof.Prod.Core
public import proofs.«01_k».proof.Proof.Gen.Kernel16.Frame
public import proofs.«01_k».proof.Proof.Gen.Kernel16Ideal.Value
public import proofs.«01_k».proof.Proof.Gen.Reference16Ideal.Run
public import Idealize.ShloMosaic.Adequacy
public import Idealize.ShloMosaic.Init

@[expose] public section

/-! The gradient of the attention's output weight: columns times columns, accumulated over the blocks of tokens. -/

noncomputable section

namespace Cert.Prod.P16

open Idealize.ShloMosaic Idealize.ShloMosaic.TcCoe Idealize.SL.Sem
open Cert.Kernel16Ideal Cert.Kernel16Ideal.Gen Cert.Kernel16Ideal.Value

/-- Where the windows' blocks start. -/
theorem off_0 : ∀ t a, (cfg0.win 0).index t a * (cfg0.win 0).size a = (![688 * t.val, 0] : Fin 2 → ℕ) a := by decide +kernel
theorem off_1 : ∀ t a, (cfg0.win 1).index t a * (cfg0.win 1).size a = (![688 * t.val, 0] : Fin 2 → ℕ) a := by decide +kernel

variable (m : (ℓ : Loc nD τ sig) → Buf (Elt Ideal) ℓ) (c : Dev nD)

theorem in_0 (t : Fin cfg0.N) : IsBlk (iblk m c 0 t) (V m c main_arg0) (688 * t.val) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (688 * t.val) 0 := fun y i h0 h1 =>
  congrArg (V m c main_arg1) (a₁ := ((cfg0.win 1).blk t).view.emb y) (emb_of (cfg0.win 1) off_1 t y i (axes h0 h1))

/-- What a grid point adds. -/
theorem add_eq (z : Vec Ideal S1024x1024 .f32) (x : Vec Ideal S688x1024 .f32) (y : Vec Ideal S688x1024 .bf16) (i : S1024x1024.Idx) :
    k0_pay2 z x y i = (z i + tn x y i : EReal) := by
  unfold k0_pay2
  rw [shapeCast_self]
  exact congrArg (fun f : Mat 1024 1024 => (z i + f i : EReal)) (mm_tn (φ₁ := .bf16) (φ₂ := .bf16) none x y)

/-- The array the kernel leaves is the product. -/
theorem arr : G2 m c = tn (V m c main_arg0) (V m c main_arg1) := by
  have key : ∀ (i : S1024x1024.Idx) (q : ℕ) (_ : q = 0) (h : 6 * q + 5 < cfg0.N),
      Pipeline.accAt (reset2 m c) (step2 m c) (6 * q) 5 h (loc2Of i) = tn (V m c main_arg0) (V m c main_arg1) i := by
    rintro i q rfl h
    exact fold_tn (K := 4128) (R := 688) (r := 0) (s := 0) (b := 6 * 0) rfl (fun t h => iblk m c 0 ⟨t, h⟩) (fun t h => iblk m c 1 ⟨t, h⟩)
      (fun t h _ _ => in_0 m c ⟨t, h⟩) (fun t h _ _ => in_1 m c ⟨t, h⟩)
      (fun h i => (add_eq _ _ _ i).trans (congrArg (· + _) Ideal.ofBits_zero_f32)) (fun t h z i => add_eq z _ _ i) h (loc2Of i) i
      ((Nat.mod_eq_of_lt (i 0).isLt).symm.trans (Nat.zero_add _).symm) ((Nat.mod_eq_of_lt (i 1).isLt).symm.trans (Nat.zero_add _).symm)
  funext i
  have hr : run2Of i = 0 := by
    show 1 * ((i 0).val / 1024 - 0) + 1 * ((i 1).val / 1024 - 0) = 0
    have h0 : (i 0).val < 1024 := (i 0).isLt
    have h1 : (i 1).val < 1024 := (i 1).isLt
    omega
  unfold G2
  rw [dif_pos (by rw [hr]; decide)]
  exact key i _ hr _

/-- The kernel's frame at bits. -/
theorem frame_p : Cert.quiescent_Kernel16 := fun m g _ => Cert.Kernel16.Gen.frame m g
/-- The kernel's frame at the extended reals. -/
theorem frame_pi : Cert.quiescent_Kernel16Ideal := fun m g _ => Cert.Kernel16Ideal.Gen.frame m g
/-- The reference's frame: it has no semaphores. -/
theorem frame_ri : Cert.quiescent_Reference16Ideal := fun m g _ =>
  (θ_run _ _ _).mono (fun _ h => ⟨fun c => (h c).2, sem_eq_zero_of_no_sems (by decide) _⟩) (Cert.Reference16Ideal.Value.run m g)

/-- Kernel and reference leave the same product. -/
theorem value : Cert.algebraic_Kernel16Ideal_Reference16Ideal := fun m g m' g' _ hm => by
  refine ⟨fun c => tn (V m c main_arg0) (V m c main_arg1), ?_, ?_⟩
  · exact (θ_run _ _ _).mono (fun r h c => ⟨(h c).1.trans (arr m c), (h c).2⟩) (run (F := Ideal) m g)
  · refine (θ_run _ _ _).mono (fun r h c => ⟨(h c).1.trans ?_, (h c).2⟩) (Cert.Reference16Ideal.Value.run (F := Ideal) m' g')
    show _ = tn (V m c main_arg0) (V m c main_arg1)
    rw [V_main_arg0, V_main_arg1, (hm c).1, (hm c).2]
    exact host_tn_transposed (φ₁ := .f32) (φ₂ := .f32) none (m ((c : Thread nD τ).loc main_arg0)) (m ((c : Thread nD τ).loc main_arg1)) _

end Cert.Prod.P16

end
-- ==== Proof.Prod.V17.lean ====
module

public import proofs.«01_k».proof.Defs
public import proofs.«01_k».proof.Proof.Prod.Core
public import proofs.«01_k».proof.Proof.Gen.Kernel17.Frame
public import proofs.«01_k».proof.Proof.Gen.Kernel17Ideal.Value
public import proofs.«01_k».proof.Proof.Gen.Reference17Ideal.Run
public import Idealize.ShloMosaic.Adequacy
public import Idealize.ShloMosaic.Init

@[expose] public section

/-! The gradient of the forget gates' weight: columns times columns, accumulated over the blocks of tokens. -/

noncomputable section

namespace Cert.Prod.P17

open Idealize.ShloMosaic Idealize.ShloMosaic.TcCoe Idealize.SL.Sem
open Cert.Kernel17Ideal Cert.Kernel17Ideal.Gen Cert.Kernel17Ideal.Value

/-- Where the windows' blocks start. -/
theorem off_0 : ∀ t a, (cfg0.win 0).index t a * (cfg0.win 0).size a = (![688 * t.val, 0] : Fin 2 → ℕ) a := by decide +kernel
theorem off_1 : ∀ t a, (cfg0.win 1).index t a * (cfg0.win 1).size a = (![688 * t.val, 0] : Fin 2 → ℕ) a := by decide +kernel

variable (m : (ℓ : Loc nD τ sig) → Buf (Elt Ideal) ℓ) (c : Dev nD)

theorem in_0 (t : Fin cfg0.N) : IsBlk (iblk m c 0 t) (V m c main_arg0) (688 * t.val) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (688 * t.val) 0 := fun y i h0 h1 =>
  congrArg (V m c main_arg1) (a₁ := ((cfg0.win 1).blk t).view.emb y) (emb_of (cfg0.win 1) off_1 t y i (axes h0 h1))

/-- What a grid point adds. -/
theorem add_eq (z : Vec Ideal S1024x128 .f32) (x : Vec Ideal S688x1024 .bf16) (y : Vec Ideal S688x128 .bf16) (i : S1024x128.Idx) :
    k0_pay2 z x y i = (z i + tn x y i : EReal) := by
  unfold k0_pay2
  rw [shapeCast_self]
  exact congrArg (fun f : Mat 1024 128 => (z i + f i : EReal)) (mm_tn (φ₁ := .bf16) (φ₂ := .bf16) none x y)

/-- The array the kernel leaves is the product. -/
theorem arr : G2 m c = tn (V m c main_arg0) (V m c main_arg1) := by
  have key : ∀ (i : S1024x128.Idx) (q : ℕ) (_ : q = 0) (h : 6 * q + 5 < cfg0.N),
      Pipeline.accAt (reset2 m c) (step2 m c) (6 * q) 5 h (loc2Of i) = tn (V m c main_arg0) (V m c main_arg1) i := by
    rintro i q rfl h
    exact fold_tn (K := 4128) (R := 688) (r := 0) (s := 0) (b := 6 * 0) rfl (fun t h => iblk m c 0 ⟨t, h⟩) (fun t h => iblk m c 1 ⟨t, h⟩)
      (fun t h _ _ => in_0 m c ⟨t, h⟩) (fun t h _ _ => in_1 m c ⟨t, h⟩)
      (fun h i => (add_eq _ _ _ i).trans (congrArg (· + _) Ideal.ofBits_zero_f32)) (fun t h z i => add_eq z _ _ i) h (loc2Of i) i
      ((Nat.mod_eq_of_lt (i 0).isLt).symm.trans (Nat.zero_add _).symm) ((Nat.mod_eq_of_lt (i 1).isLt).symm.trans (Nat.zero_add _).symm)
  funext i
  have hr : run2Of i = 0 := by
    show 1 * ((i 0).val / 1024 - 0) + 1 * ((i 1).val / 128 - 0) = 0
    have h0 : (i 0).val < 1024 := (i 0).isLt
    have h1 : (i 1).val < 128 := (i 1).isLt
    omega
  unfold G2
  rw [dif_pos (by rw [hr]; decide)]
  exact key i _ hr _

/-- The kernel's frame at bits. -/
theorem frame_p : Cert.quiescent_Kernel17 := fun m g _ => Cert.Kernel17.Gen.frame m g
/-- The kernel's frame at the extended reals. -/
theorem frame_pi : Cert.quiescent_Kernel17Ideal := fun m g _ => Cert.Kernel17Ideal.Gen.frame m g
/-- The reference's frame: it has no semaphores. -/
theorem frame_ri : Cert.quiescent_Reference17Ideal := fun m g _ =>
  (θ_run _ _ _).mono (fun _ h => ⟨fun c => (h c).2, sem_eq_zero_of_no_sems (by decide) _⟩) (Cert.Reference17Ideal.Value.run m g)

/-- Kernel and reference leave the same product. -/
theorem value : Cert.algebraic_Kernel17Ideal_Reference17Ideal := fun m g m' g' _ hm => by
  refine ⟨fun c => tn (V m c main_arg0) (V m c main_arg1), ?_, ?_⟩
  · exact (θ_run _ _ _).mono (fun r h c => ⟨(h c).1.trans (arr m c), (h c).2⟩) (run (F := Ideal) m g)
  · refine (θ_run _ _ _).mono (fun r h c => ⟨(h c).1.trans ?_, (h c).2⟩) (Cert.Reference17Ideal.Value.run (F := Ideal) m' g')
    show _ = tn (V m c main_arg0) (V m c main_arg1)
    rw [V_main_arg0, V_main_arg1, (hm c).1, (hm c).2]
    exact host_tn_transposed (φ₁ := .f32) (φ₂ := .f32) none (m ((c : Thread nD τ).loc main_arg0)) (m ((c : Thread nD τ).loc main_arg1)) _

end Cert.Prod.P17

end
-- ==== Proof.Prod.Norm.lean ====
module

public import proofs.«01_k».proof.Proof.Prod.Core

@[expose] public section

/-! The root-mean-square norm of the rows of a matrix of 1024 columns, as the kernels and the host compute it,
and what a block of rows of one is. -/

noncomputable section

namespace Cert.Prod

open Idealize.ShloMosaic hiding ix1 ix2 eq_ix2
open Idealize.ShloMosaic.ValueIdx

variable {R : ℕ}

/-- The sum of a row's squares. -/
def squares (A : Mat R 1024) (r : Fin R) : EReal := ∑ k : Fin 1024, A (ix2 r k) * A (ix2 r k)
/-- The factor of a row from the sum of its squares. -/
def scaleOf (s : EReal) : EReal :=
  FloatOps.rsqrt (F := Ideal) (φ := .f32) (FloatOps.addf (FloatOps.divf s (Scalar.ofBits .f32 0x44800000#32)) (Scalar.ofBits .f32 0x358637BD#32))
/-- The norm of the rows, with a gain for each column. -/
def norm (A : Mat R 1024) (g : Mat 1 1024) : Mat R 1024 := fun i => A i * scaleOf (squares A (i 0)) * g (ix2 0 (i 1))

/-- A block of rows of a norm. -/
theorem IsBlk.norm {R' r : ℕ} {X : Mat R' 1024} {A : Mat R 1024} {g g' : Mat 1 1024} (hX : IsBlk X A r 0) (hg : IsBlk g g' 0 0) :
    IsBlk (norm X g) (norm A g') r 0 := fun y i h0 h1 => by
  have hs : squares X (y 0) = squares A (i 0) := Finset.sum_congr rfl fun k _ =>
    congrArg₂ (· * ·) (hX _ _ h0 (Nat.zero_add _).symm) (hX _ _ h0 (Nat.zero_add _).symm)
  exact congrArg₂ (· * ·) (congrArg₂ (· * ·) (hX y i h0 h1) (congrArg scaleOf hs)) (hg _ _ rfl h1)

abbrev SM (R N : ℕ) : Shape := ⟨2, ![R, N]⟩
abbrev SV (R : ℕ) : Shape := ⟨1, ![R]⟩

/-- The kernel's column of one factor a row. -/
abbrev kerScale (A : FVec Ideal (SM R 1024) .f32) (hr : (SM R 1024).Reduces [1] (SV R)) (hc : (SV R).ShapeCasts (SM R 1)) : FVec Ideal (SM R 1) .f32 :=
  rsqrt (addf (divf (shapeCast (SM R 1) (multiReduction .add [1] (SV R) (mulf A A) 0x00000000#32 hr (.inl rfl) rfl) hc)
    (broadcast (SM R 1) (Scalar.ofBits .f32 0x44800000#32))) (broadcast (SM R 1) (Scalar.ofBits .f32 0x358637BD#32)))

/-- The kernel's factor of a row. -/
theorem kerScale_at (A : FVec Ideal (SM R 1024) .f32) (hr : (SM R 1024).Reduces [1] (SV R)) (hc : (SV R).ShapeCasts (SM R 1)) (r : Fin R) :
    kerScale A hr hc (ix2 r 0) = scaleOf (squares A r) := by
  have e : shapeCast (SM R 1) (multiReduction .add [1] (SV R) (mulf A A) 0x00000000#32 hr (.inl rfl) rfl) hc (ix2 r 0) = squares A r := by
    refine (shapeCast_apply _ hc (ix2 r 0) (ix1 r) (by
      rw [Shape.rowMajor_val_one, Shape.rowMajor_val_two]
      show r.val = r.val * 1 + 0
      omega)).trans ?_
    refine (Ideal.multiReduction_add_single _ _ hr _ _ _).trans ?_
    refine Finset.sum_congr rfl fun k _ => ?_
    have e : hr.lift (ix1 r) k = ix2 r k := funext fun a => Fin.ext (by
      match a with
      | ⟨0, _⟩ => rfl
      | ⟨1, _⟩ => rfl)
    exact congrArg (fun j => A j * A j) e
  exact congrArg scaleOf e

/-- The kernel's norm. -/
theorem ker_norm (hR : R ≠ 1) (A : FVec Ideal (SM R 1024) .f32) (g : FVec Ideal (SM 1 1024) .f32) (hr : (SM R 1024).Reduces [1] (SV R))
    (hc : (SV R).ShapeCasts (SM R 1)) (hb : (SM R 1).Broadcasts (SM R 1024)) (hb' : (SM 1 1024).Broadcasts (SM R 1024)) :
    mulf (mulf A (broadcastTo (SM R 1024) (kerScale A hr hc) hb)) (broadcastTo (SM R 1024) g hb') = norm A g := by
  funext i
  obtain ⟨r, k, rfl⟩ : ∃ (r : Fin R) (k : Fin 1024), i = ix2 r k := ⟨i 0, i 1, eq_ix2 i⟩
  refine congrArg₂ (· * ·) (congrArg (A (ix2 r k) * ·) ?_) ?_
  · exact (broadcastTo_apply _ hb (ix2 r k) (ix2 r (0 : Fin 1)) (axes (if_neg hR).symm (if_pos rfl).symm)).trans (kerScale_at A hr hc r)
  · exact broadcastTo_apply g hb' (ix2 r k) (ix2 (0 : Fin 1) k) (axes (if_pos rfl).symm (if_neg (by decide)).symm)

/-- The host's norm. -/
theorem host_norm (hR : R ≠ 1) (A : FVec Ideal (SM R 1024) .f32) (g : FVec Ideal (SM 1 1024) .f32) (S0 : Shape) (h0 : 0 < S0.numel)
    (hr : (SM R 1024).ReducesTo [1] (SV R)) (hr' : (SM R 1024).Reduces [1] (SV R)) (b1 b2 b3 b4 b5 b6) (hc : (SM 1 1024).ShapeCasts (SV 1024)) :
    mulf (mulf A (broadcastInDim (SM R 1024) ![0, 1] b1 (Host.rsqrt (addf (Host.divf (broadcastInDim (SM R 1) ![0] b2
      (Host.reduceAdd (mulf A A) (constant S0 .f32 0x00000000#32) hr h0)) (broadcastInDim (SM R 1) ![] b3 (constant ⟨0, ![]⟩ .f32 0x44800000#32)))
      (broadcastInDim (SM R 1) ![] b4 (constant ⟨0, ![]⟩ .f32 0x358637BD#32))))))
      (broadcastInDim (SM R 1024) ![0, 1] b5 (broadcastInDim (SM 1 1024) ![1] b6 (shapeCast (SV 1024) g hc))) = norm A g := by
  funext i
  obtain ⟨r, k, rfl⟩ : ∃ (r : Fin R) (k : Fin 1024), i = ix2 r k := ⟨i 0, i 1, eq_ix2 i⟩
  refine congrArg₂ (· * ·) (congrArg (A (ix2 r k) * ·) ?_) ?_
  · refine (broadcastInDim_apply _ b1 _ (ix2 r k) (ix2 r (0 : Fin 1)) (axes (if_neg hR).symm (if_pos rfl).symm)).trans ?_
    refine congrArg scaleOf ?_
    refine (broadcastInDim_apply _ b2 _ (ix2 r (0 : Fin 1)) (ix1 r) (fun a => match a with | ⟨0, _⟩ => (if_neg hR).symm)).trans ?_
    simp only [Host.reduceAdd, Ideal.hostReduceAdd_def]
    rw [Ideal.hostReduceAdd_single hr hr']
    refine (congrArg (· + _) Ideal.ofBits_zero_f32).trans ((zero_add _).trans (Finset.sum_congr rfl fun k _ => ?_))
    have e : hr'.lift (ix1 r) k = ix2 r k := funext fun a => Fin.ext (by
      match a with
      | ⟨0, _⟩ => rfl
      | ⟨1, _⟩ => rfl)
    exact congrArg (fun j => A j * A j) e
  · refine (broadcastInDim_apply _ b5 _ (ix2 r k) (ix2 (0 : Fin 1) k) (axes (if_pos rfl).symm (if_neg (by decide)).symm)).trans ?_
    refine (broadcastInDim_apply _ b6 _ (ix2 (0 : Fin 1) k) (ix1 k) (fun a => match a with | ⟨0, _⟩ => (if_neg (show ¬(1024 : ℕ) = 1 by decide)).symm)).trans ?_
    exact shapeCast_apply g hc (ix1 k) (ix2 (0 : Fin 1) k) (by
      rw [Shape.rowMajor_val_one, Shape.rowMajor_val_two]
      show 0 * 1024 + k.val = k.val
      omega)

end Cert.Prod

end
-- ==== Proof.Prod.V18.lean ====
module

public import proofs.«01_k».proof.Defs
public import proofs.«01_k».proof.Proof.Prod.Norm
public import proofs.«01_k».proof.Proof.Gen.Kernel18.Frame
public import proofs.«01_k».proof.Proof.Gen.Kernel18Ideal.Value
public import proofs.«01_k».proof.Proof.Gen.Reference18Ideal.Run
public import Idealize.ShloMosaic.Adequacy
public import Idealize.ShloMosaic.Init

@[expose] public section

/-! The last feed-forward layer's down projection, its norm and the residual. -/

noncomputable section

namespace Cert.Prod.P18

open Idealize.ShloMosaic Idealize.ShloMosaic.TcCoe Idealize.SL.Sem
open Cert.Kernel18Ideal Cert.Kernel18Ideal.Gen Cert.Kernel18Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![0, 0] : Fin 2 → ℕ) a := by decide +kernel
theorem off_2 : ∀ t a, (cfg0.win 2).index t a * (cfg0.win 2).size a = (![0, 0] : Fin 2 → ℕ) a := by decide +kernel
theorem off_3 : ∀ t a, (cfg0.win 3).index t a * (cfg0.win 3).size a = (![688 * (t.val % 6), 0] : Fin 2 → ℕ) a := by decide +kernel
theorem off_4 : ∀ t a, (cfg0.win 4).index t a * (cfg0.win 4).size a = (![688 * (t.val % 6), 1024 * (t.val / 6)] : Fin 2 → ℕ) a := by decide +kernel
theorem off_5 : ∀ t a, (cfg0.win 5).index t a * (cfg0.win 5).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) 0 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) 0 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (688 * (t.val % 6)) 0 := fun y i h0 h1 =>
  congrArg (V m c main_arg3) (a₁ := ((cfg0.win 3).blk t).view.emb y) (emb_of (cfg0.win 3) off_3 t y i (axes h0 h1))

/-- There is one column of tiles. -/
theorem col (t : Fin cfg0.N) : 1024 * (t.val / 6) = 0 := by rw [Nat.div_eq_of_lt (show t.val < 6 from t.isLt)]

/-- The product of a grid point. -/
theorem mix_eq (x0 : Vec Ideal S688x2752 .bf16) (x1 : Vec Ideal S2752x1024 .bf16) : k0_pay1 x0 x1 = nn x0 x1 :=
  mm_nn (φ₁ := .bf16) (φ₂ := .bf16) none x0 x1
/-- The residual plus the norm of the product. -/
theorem res_eq (x0 : Vec Ideal S688x2752 .bf16) (x1 : Vec Ideal S2752x1024 .bf16) (x2 : Vec Ideal S1x1024 .f32) (x3 : Vec Ideal S688x1024 .f32) : k0_pay2 x0 x1 x3 x2 = plus x3 (norm (nn x0 x1) x2) :=
  (congrArg (plus x3) (ker_norm (by decide) (k0_pay1 x0 x1) x2 _ _ _ _)).trans (congrArg (fun A => plus x3 (norm A x2)) (mix_eq x0 x1))

/-- What a grid point writes, window by window. -/
theorem out_4 (x0 : Vec Ideal S688x2752 .bf16) (x1 : Vec Ideal S2752x1024 .bf16) (x2 : Vec Ideal S1x1024 .f32) (x3 : Vec Ideal S688x1024 .f32) : out0_4 x0 x1 x2 x3 = plus x3 (norm (nn x0 x1) x2) := by
  unfold out0_4
  rw [View.canon_unit_zero hz]
  repeat rw [View.ld_unit_zero hz]
  exact res_eq x0 x1 x2 x3
theorem out_5 (x0 : Vec Ideal S688x2752 .bf16) (x1 : Vec Ideal S2752x1024 .bf16) (x2 : Vec Ideal S1x1024 .f32) (x3 : Vec Ideal S688x1024 .f32) : out0_5 x0 x1 x2 x3 = nn x0 x1 := by
  unfold out0_5
  rw [View.canon_unit_zero hz]
  repeat rw [View.ld_unit_zero hz]
  exact mix_eq x0 x1

/-- The product. -/
abbrev mixW : Mat 4128 1024 := nn (V m c main_arg0) (V m c main_arg1)
/-- The residual plus the norm of the product. -/
abbrev resW : Mat 4128 1024 := plus (V m c main_arg3) (norm (mixW m c) (V m c main_arg2))
theorem mix_blk (t : Fin cfg0.N) : IsBlk (nn (iblk m c 0 t) (iblk m c 1 t)) (mixW m c) (688 * (t.val % 6)) 0 := (in_0 m c t).nn (in_1 m c t)
theorem res_blk (t : Fin cfg0.N) : IsBlk (plus (iblk m c 3 t) (norm (nn (iblk m c 0 t) (iblk m c 1 t)) (iblk m c 2 t))) (resW m c) (688 * (t.val % 6)) 0 :=
  (in_3 m c t).plus ((mix_blk m c t).norm (in_2 m c t))

/-- The arrays the kernel leaves. -/
theorem arr_4 : (dats m 0 c).arrAt 4 cfg0.N = resW m c :=
  eq_of_grid (I := 6) (J := 1) (R := 688) (C := 1024) (by decide) (by decide) (by decide) (fun t => (dats m 0 c).flushed 4 t)
    (fun t y i h0 h1 => ((dats m 0 c).arrAt_emb_eq_flushed 4 disjoint4 t (flush0_4 t) y).symm.trans
      (congrArg ((dats m 0 c).arrAt 4 cfg0.N) (a₁ := ((cfg0.win 4).blk t).view.emb y) (emb_of (cfg0.win 4) off_4 t y i (axes h0 h1))))
    (fun t : Fin cfg0.N => by
      rw [flushed4, out_4, col t]
      exact res_blk m c t)
theorem arr_5 : (dats m 0 c).arrAt 5 cfg0.N = mixW m c :=
  eq_of_grid (I := 6) (J := 1) (R := 688) (C := 1024) (by decide) (by decide) (by decide) (fun t => (dats m 0 c).flushed 5 t)
    (fun t y i h0 h1 => ((dats m 0 c).arrAt_emb_eq_flushed 5 disjoint5 t (flush0_5 t) y).symm.trans
      (congrArg ((dats m 0 c).arrAt 5 cfg0.N) (a₁ := ((cfg0.win 5).blk t).view.emb y) (emb_of (cfg0.win 5) off_5 t y i (axes h0 h1))))
    (fun t : Fin cfg0.N => by
      rw [flushed5, out_5, col t]
      exact mix_blk m c t)

/-- The kernel's frame at bits. -/
theorem frame_p : Cert.quiescent_Kernel18 := fun m g _ => Cert.Kernel18.Gen.frame m g
/-- The kernel's frame at the extended reals. -/
theorem frame_pi : Cert.quiescent_Kernel18Ideal := fun m g _ => Cert.Kernel18Ideal.Gen.frame m g
/-- The reference's frame: it has no semaphores. -/
theorem frame_ri : Cert.quiescent_Reference18Ideal := fun m g _ =>
  (θ_run _ _ _).mono (fun _ h => ⟨fun c => (h c).2.2, sem_eq_zero_of_no_sems (by decide) _⟩) (Cert.Reference18Ideal.Value.run m g)

/-- Kernel and reference leave the same arrays. -/
theorem value : Cert.algebraic_Kernel18Ideal_Reference18Ideal := fun m g m' g' _ hm => by
  refine ⟨fun c => resW m c, fun c => mixW m c, ?_, ?_⟩
  · exact (θ_run _ _ _).mono (fun r h c => ⟨(h c).1.trans (arr_4 m c), (h c).2.1.trans (arr_5 m c), (h c).2.2⟩) (run_blocks (F := Ideal) m g)
  · refine (θ_run _ _ _).mono (fun r h c => ⟨(h c).1.trans ?_, (h c).2.1.trans ?_, (h c).2.2⟩) (Cert.Reference18Ideal.Value.run (F := Ideal) m' g')
    · show _ = resW m c
      simp only [mixW, resW]
      rw [V_main_arg0, V_main_arg1, V_main_arg2, V_main_arg3, (hm c).1, (hm c).2.1, (hm c).2.2.1, (hm c).2.2.2]
      refine (congrArg (plus (m ((c : Thread nD τ).loc main_arg3))) (host_norm (by decide) _ _ _ _ _ (by decide) _ _ _ _ _ _ _)).trans ?_
      exact congrArg (fun A : Mat 4128 1024 => plus (m ((c : Thread nD τ).loc main_arg3)) (norm A (m ((c : Thread nD τ).loc main_arg2)))) (host_nn (φ₁ := .f32) (φ₂ := .f32) none (m ((c : Thread nD τ).loc main_arg0)) (m ((c : Thread nD τ).loc main_arg1)))
    · show _ = mixW m c
      simp only [mixW, resW]
      rw [V_main_arg0, V_main_arg1, (hm c).1, (hm c).2.1]
      exact host_nn (φ₁ := .f32) (φ₂ := .f32) none (m ((c : Thread nD τ).loc main_arg0)) (m ((c : Thread nD τ).loc main_arg1))

end Cert.Prod.P18

end
-- ==== Proof.Prod.V19.lean ====
module

public import proofs.«01_k».proof.Defs
public import proofs.«01_k».proof.Proof.Prod.Norm
public import proofs.«01_k».proof.Proof.Gen.Kernel19.Frame
public import proofs.«01_k».proof.Proof.Gen.Kernel19Ideal.Value
public import proofs.«01_k».proof.Proof.Gen.Reference19Ideal.Run
public import Idealize.ShloMosaic.Adequacy
public import Idealize.ShloMosaic.Init

@[expose] public section

/-! The first feed-forward layer's down projection, its norm, the residual, and the norms that the next layers read. -/

noncomputable section

namespace Cert.Prod.P19

open Idealize.ShloMosaic Idealize.ShloMosaic.TcCoe Idealize.SL.Sem
open Cert.Kernel19Ideal Cert.Kernel19Ideal.Gen Cert.Kernel19Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![0, 0] : Fin 2 → ℕ) a := by decide +kernel
theorem off_2 : ∀ t a, (cfg0.win 2).index t a * (cfg0.win 2).size a = (![0, 0] : Fin 2 → ℕ) a := by decide +kernel
theorem off_3 : ∀ t a, (cfg0.win 3).index t a * (cfg0.win 3).size a = (![688 * (t.val % 6), 0] : Fin 2 → ℕ) a := by decide +kernel
theorem off_4 : ∀ t a, (cfg0.win 4).index t a * (cfg0.win 4).size a = (![0, 0] : Fin 2 → ℕ) a := by decide +kernel
theorem off_5 : ∀ t a, (cfg0.win 5).index t a * (cfg0.win 5).size a = (![0, 0] : Fin 2 → ℕ) a := by decide +kernel
theorem off_6 : ∀ t a, (cfg0.win 6).index t a * (cfg0.win 6).size a = (![688 * (t.val % 6), 1024 * (t.val / 6)] : Fin 2 → ℕ) a := by decide +kernel
theorem off_7 : ∀ t a, (cfg0.win 7).index t a * (cfg0.win 7).size a = (![688 * (t.val % 6), 1024 * (t.val / 6)] : Fin 2 → ℕ) a := by decide +kernel
theorem off_8 : ∀ t a, (cfg0.win 8).index t a * (cfg0.win 8).size a = (![688 * (t.val % 6), 1024 * (t.val / 6)] : Fin 2 → ℕ) a := by decide +kernel
theorem off_9 : ∀ t a, (cfg0.win 9).index t a * (cfg0.win 9).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) 0 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) 0 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (688 * (t.val % 6)) 0 := fun y i h0 h1 =>
  congrArg (V m c main_arg3) (a₁ := ((cfg0.win 3).blk t).view.emb y) (emb_of (cfg0.win 3) off_3 t y i (axes h0 h1))
theorem in_4 (t : Fin cfg0.N) : IsBlk (iblk m c 4 t) (V m c main_arg4) 0 0 := fun y i h0 h1 =>
  congrArg (V m c main_arg4) (a₁ := ((cfg0.win 4).blk t).view.emb y) (emb_of (cfg0.win 4) off_4 t y i (axes h0 h1))
theorem in_5 (t : Fin cfg0.N) : IsBlk (iblk m c 5 t) (V m c main_arg5) 0 0 := fun y i h0 h1 =>
  congrArg (V m c main_arg5) (a₁ := ((cfg0.win 5).blk t).view.emb y) (emb_of (cfg0.win 5) off_5 t y i (axes h0 h1))

/-- There is one column of tiles. -/
theorem col (t : Fin cfg0.N) : 1024 * (t.val / 6) = 0 := by rw [Nat.div_eq_of_lt (show t.val < 6 from t.isLt)]

/-- The product of a grid point. -/
theorem mix_eq (x0 : Vec Ideal S688x2752 .bf16) (x1 : Vec Ideal S2752x1024 .bf16) : k0_pay2 x0 x1 = nn x0 x1 :=
  mm_nn (φ₁ := .bf16) (φ₂ := .bf16) none x0 x1
/-- The residual plus the norm of the product. -/
theorem res_eq (x0 : Vec Ideal S688x2752 .bf16) (x1 : Vec Ideal S2752x1024 .bf16) (x2 : Vec Ideal S1x1024 .f32) (x3 : Vec Ideal S688x1024 .f32) : k0_pay3 x0 x1 x3 x2 = plus x3 (norm (nn x0 x1) x2) :=
  (congrArg (plus x3) (ker_norm (by decide) (k0_pay2 x0 x1) x2 _ _ _ _)).trans (congrArg (fun A => plus x3 (norm A x2)) (mix_eq x0 x1))

/-- What a grid point writes, window by window. -/
theorem out_6 (x0 : Vec Ideal S688x2752 .bf16) (x1 : Vec Ideal S2752x1024 .bf16) (x2 : Vec Ideal S1x1024 .f32) (x3 : Vec Ideal S688x1024 .f32) (x4 : Vec Ideal S1x1024 .f32) (x5 : Vec Ideal S1x1024 .f32) : out0_6 x0 x1 x2 x3 x4 x5 = plus x3 (norm (nn x0 x1) x2) := by
  unfold out0_6
  rw [View.canon_unit_zero hz]
  repeat rw [View.ld_unit_zero hz]
  exact res_eq x0 x1 x2 x3
theorem out_7 (x0 : Vec Ideal S688x2752 .bf16) (x1 : Vec Ideal S2752x1024 .bf16) (x2 : Vec Ideal S1x1024 .f32) (x3 : Vec Ideal S688x1024 .f32) (x4 : Vec Ideal S1x1024 .f32) (x5 : Vec Ideal S1x1024 .f32) : out0_7 x0 x1 x2 x3 x4 x5 = nn x0 x1 := by
  unfold out0_7
  rw [View.canon_unit_zero hz]
  repeat rw [View.ld_unit_zero hz]
  exact mix_eq x0 x1
theorem out_8 (x0 : Vec Ideal S688x2752 .bf16) (x1 : Vec Ideal S2752x1024 .bf16) (x2 : Vec Ideal S1x1024 .f32) (x3 : Vec Ideal S688x1024 .f32) (x4 : Vec Ideal S1x1024 .f32) (x5 : Vec Ideal S1x1024 .f32) : out0_8 x0 x1 x2 x3 x4 x5 = norm (plus x3 (norm (nn x0 x1) x2)) x4 := by
  unfold out0_8
  rw [View.canon_unit_zero hz]
  repeat rw [View.ld_unit_zero hz]
  exact (ker_norm (by decide) (k0_pay3 x0 x1 x3 x2) x4 _ _ _ _).trans (congrArg (norm · x4) (res_eq x0 x1 x2 x3))
theorem out_9 (x0 : Vec Ideal S688x2752 .bf16) (x1 : Vec Ideal S2752x1024 .bf16) (x2 : Vec Ideal S1x1024 .f32) (x3 : Vec Ideal S688x1024 .f32) (x4 : Vec Ideal S1x1024 .f32) (x5 : Vec Ideal S1x1024 .f32) : out0_9 x0 x1 x2 x3 x4 x5 = norm (plus x3 (norm (nn x0 x1) x2)) x5 := by
  unfold out0_9
  rw [View.canon_unit_zero hz]
  repeat rw [View.ld_unit_zero hz]
  exact (ker_norm (by decide) (k0_pay3 x0 x1 x3 x2) x5 _ _ _ _).trans (congrArg (norm · x5) (res_eq x0 x1 x2 x3))

/-- The product. -/
abbrev mixW : Mat 4128 1024 := nn (V m c main_arg0) (V m c main_arg1)
/-- The residual plus the norm of the product. -/
abbrev resW : Mat 4128 1024 := plus (V m c main_arg3) (norm (mixW m c) (V m c main_arg2))
theorem mix_blk (t : Fin cfg0.N) : IsBlk (nn (iblk m c 0 t) (iblk m c 1 t)) (mixW m c) (688 * (t.val % 6)) 0 := (in_0 m c t).nn (in_1 m c t)
theorem res_blk (t : Fin cfg0.N) : IsBlk (plus (iblk m c 3 t) (norm (nn (iblk m c 0 t) (iblk m c 1 t)) (iblk m c 2 t))) (resW m c) (688 * (t.val % 6)) 0 :=
  (in_3 m c t).plus ((mix_blk m c t).norm (in_2 m c t))

/-- The arrays the kernel leaves. -/
theorem arr_6 : (dats m 0 c).arrAt 6 cfg0.N = resW m c :=
  eq_of_grid (I := 6) (J := 1) (R := 688) (C := 1024) (by decide) (by decide) (by decide) (fun t => (dats m 0 c).flushed 6 t)
    (fun t y i h0 h1 => ((dats m 0 c).arrAt_emb_eq_flushed 6 disjoint6 t (flush0_6 t) y).symm.trans
      (congrArg ((dats m 0 c).arrAt 6 cfg0.N) (a₁ := ((cfg0.win 6).blk t).view.emb y) (emb_of (cfg0.win 6) off_6 t y i (axes h0 h1))))
    (fun t : Fin cfg0.N => by
      rw [flushed6, out_6, col t]
      exact res_blk m c t)
theorem arr_7 : (dats m 0 c).arrAt 7 cfg0.N = mixW m c :=
  eq_of_grid (I := 6) (J := 1) (R := 688) (C := 1024) (by decide) (by decide) (by decide) (fun t => (dats m 0 c).flushed 7 t)
    (fun t y i h0 h1 => ((dats m 0 c).arrAt_emb_eq_flushed 7 disjoint7 t (flush0_7 t) y).symm.trans
      (congrArg ((dats m 0 c).arrAt 7 cfg0.N) (a₁ := ((cfg0.win 7).blk t).view.emb y) (emb_of (cfg0.win 7) off_7 t y i (axes h0 h1))))
    (fun t : Fin cfg0.N => by
      rw [flushed7, out_7, col t]
      exact mix_blk m c t)
theorem arr_8 : (dats m 0 c).arrAt 8 cfg0.N = norm (resW m c) (V m c main_arg4) :=
  eq_of_grid (I := 6) (J := 1) (R := 688) (C := 1024) (by decide) (by decide) (by decide) (fun t => (dats m 0 c).flushed 8 t)
    (fun t y i h0 h1 => ((dats m 0 c).arrAt_emb_eq_flushed 8 disjoint8 t (flush0_8 t) y).symm.trans
      (congrArg ((dats m 0 c).arrAt 8 cfg0.N) (a₁ := ((cfg0.win 8).blk t).view.emb y) (emb_of (cfg0.win 8) off_8 t y i (axes h0 h1))))
    (fun t : Fin cfg0.N => by
      rw [flushed8, out_8, col t]
      exact (res_blk m c t).norm (in_4 m c t))
theorem arr_9 : (dats m 0 c).arrAt 9 cfg0.N = norm (resW m c) (V m c main_arg5) :=
  eq_of_grid (I := 6) (J := 1) (R := 688) (C := 1024) (by decide) (by decide) (by decide) (fun t => (dats m 0 c).flushed 9 t)
    (fun t y i h0 h1 => ((dats m 0 c).arrAt_emb_eq_flushed 9 disjoint9 t (flush0_9 t) y).symm.trans
      (congrArg ((dats m 0 c).arrAt 9 cfg0.N) (a₁ := ((cfg0.win 9).blk t).view.emb y) (emb_of (cfg0.win 9) off_9 t y i (axes h0 h1))))
    (fun t : Fin cfg0.N => by
      rw [flushed9, out_9, col t]
      exact (res_blk m c t).norm (in_5 m c t))

/-- The kernel's frame at bits. -/
theorem frame_p : Cert.quiescent_Kernel19 := fun m g _ => Cert.Kernel19.Gen.frame m g
/-- The kernel's frame at the extended reals. -/
theorem frame_pi : Cert.quiescent_Kernel19Ideal := fun m g _ => Cert.Kernel19Ideal.Gen.frame m g
/-- The reference's frame: it has no semaphores. -/
theorem frame_ri : Cert.quiescent_Reference19Ideal := fun m g _ =>
  (θ_run _ _ _).mono (fun _ h => ⟨fun c => (h c).2.2.2.2, sem_eq_zero_of_no_sems (by decide) _⟩) (Cert.Reference19Ideal.Value.run m g)

/-- Kernel and reference leave the same arrays. -/
theorem value : Cert.algebraic_Kernel19Ideal_Reference19Ideal := fun m g m' g' _ hm => by
  refine ⟨fun c => resW m c, fun c => mixW m c, fun c => norm (resW m c) (V m c main_arg4), fun c => norm (resW m c) (V m c main_arg5), ?_, ?_⟩
  · exact (θ_run _ _ _).mono (fun r h c => ⟨(h c).1.trans (arr_6 m c), (h c).2.1.trans (arr_7 m c), (h c).2.2.1.trans (arr_8 m c), (h c).2.2.2.1.trans (arr_9 m c), (h c).2.2.2.2⟩) (run_blocks (F := Ideal) m g)
  · refine (θ_run _ _ _).mono (fun r h c => ⟨(h c).1.trans ?_, (h c).2.1.trans ?_, (h c).2.2.1.trans ?_, (h c).2.2.2.1.trans ?_, (h c).2.2.2.2⟩) (Cert.Reference19Ideal.Value.run (F := Ideal) m' g')
    · show _ = resW m c
      simp only [mixW, resW]
      rw [V_main_arg0, V_main_arg1, V_main_arg2, V_main_arg3, (hm c).1, (hm c).2.1, (hm c).2.2.1, (hm c).2.2.2.1]
      refine (congrArg (plus (m ((c : Thread nD τ).loc main_arg3))) (host_norm (by decide) _ _ _ _ _ (by decide) _ _ _ _ _ _ _)).trans ?_
      exact congrArg (fun A : Mat 4128 1024 => plus (m ((c : Thread nD τ).loc main_arg3)) (norm A (m ((c : Thread nD τ).loc main_arg2)))) (host_nn (φ₁ := .f32) (φ₂ := .f32) none (m ((c : Thread nD τ).loc main_arg0)) (m ((c : Thread nD τ).loc main_arg1)))
    · show _ = mixW m c
      simp only [mixW, resW]
      rw [V_main_arg0, V_main_arg1, (hm c).1, (hm c).2.1]
      exact host_nn (φ₁ := .f32) (φ₂ := .f32) none (m ((c : Thread nD τ).loc main_arg0)) (m ((c : Thread nD τ).loc main_arg1))
    · show _ = norm (resW m c) (V m c main_arg4)
      unfold Cert.Reference19Ideal.Value.res_main_v32
      simp only [mixW, resW]
      rw [V_main_arg0, V_main_arg1, V_main_arg2, V_main_arg3, V_main_arg4, (hm c).1, (hm c).2.1, (hm c).2.2.1, (hm c).2.2.2.1, (hm c).2.2.2.2.1]
      refine (host_norm (by decide) _ _ _ _ _ (by decide) _ _ _ _ _ _ _).trans ?_
      refine congrArg (norm · (m ((c : Thread nD τ).loc main_arg4))) ?_
      refine (congrArg (plus (m ((c : Thread nD τ).loc main_arg3))) (host_norm (by decide) _ _ _ _ _ (by decide) _ _ _ _ _ _ _)).trans ?_
      exact congrArg (fun A : Mat 4128 1024 => plus (m ((c : Thread nD τ).loc main_arg3)) (norm A (m ((c : Thread nD τ).loc main_arg2)))) (host_nn (φ₁ := .f32) (φ₂ := .f32) none (m ((c : Thread nD τ).loc main_arg0)) (m ((c : Thread nD τ).loc main_arg1)))
    · show _ = norm (resW m c) (V m c main_arg5)
      unfold Cert.Reference19Ideal.Value.res_main_v47
      simp only [mixW, resW]
      rw [V_main_arg0, V_main_arg1, V_main_arg2, V_main_arg3, V_main_arg5, (hm c).1, (hm c).2.1, (hm c).2.2.1, (hm c).2.2.2.1, (hm c).2.2.2.2.2]
      refine (host_norm (by decide) _ _ _ _ _ (by decide) _ _ _ _ _ _ _).trans ?_
      refine congrArg (norm · (m ((c : Thread nD τ).loc main_arg5))) ?_
      refine (congrArg (plus (m ((c : Thread nD τ).loc main_arg3))) (host_norm (by decide) _ _ _ _ _ (by decide) _ _ _ _ _ _ _)).trans ?_
      exact congrArg (fun A : Mat 4128 1024 => plus (m ((c : Thread nD τ).loc main_arg3)) (norm A (m ((c : Thread nD τ).loc main_arg2)))) (host_nn (φ₁ := .f32) (φ₂ := .f32) none (m ((c : Thread nD τ).loc main_arg0)) (m ((c : Thread nD τ).loc main_arg1)))

end Cert.Prod.P19

end
-- ==== Proof.Prod.V20.lean ====
module

public import proofs.«01_k».proof.Defs
public import proofs.«01_k».proof.Proof.Prod.Norm
public import proofs.«01_k».proof.Proof.Gen.Kernel20.Frame
public import proofs.«01_k».proof.Proof.Gen.Kernel20Ideal.Value
public import proofs.«01_k».proof.Proof.Gen.Reference20Ideal.Run
public import Idealize.ShloMosaic.Adequacy
public import Idealize.ShloMosaic.Init

@[expose] public section

/-! The recurrent layer's output projection, its norm, the residual, and the norm that the next layer reads. -/

noncomputable section

namespace Cert.Prod.P20

open Idealize.ShloMosaic Idealize.ShloMosaic.TcCoe Idealize.SL.Sem
open Cert.Kernel20Ideal Cert.Kernel20Ideal.Gen Cert.Kernel20Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![0, 0] : Fin 2 → ℕ) a := by decide +kernel
theorem off_2 : ∀ t a, (cfg0.win 2).index t a * (cfg0.win 2).size a = (![0, 0] : Fin 2 → ℕ) a := by decide +kernel
theorem off_3 : ∀ t a, (cfg0.win 3).index t a * (cfg0.win 3).size a = (![688 * (t.val % 6), 0] : Fin 2 → ℕ) a := by decide +kernel
theorem off_4 : ∀ t a, (cfg0.win 4).index t a * (cfg0.win 4).size a = (![0, 0] : Fin 2 → ℕ) a := by decide +kernel
theorem off_5 : ∀ t a, (cfg0.win 5).index t a * (cfg0.win 5).size a = (![688 * (t.val % 6), 1024 * (t.val / 6)] : Fin 2 → ℕ) a := by decide +kernel
theorem off_6 : ∀ t a, (cfg0.win 6).index t a * (cfg0.win 6).size a = (![688 * (t.val % 6), 1024 * (t.val / 6)] : Fin 2 → ℕ) a := by decide +kernel
theorem off_7 : ∀ t a, (cfg0.win 7).index t a * (cfg0.win 7).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) 0 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) 0 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (688 * (t.val % 6)) 0 := fun y i h0 h1 =>
  congrArg (V m c main_arg3) (a₁ := ((cfg0.win 3).blk t).view.emb y) (emb_of (cfg0.win 3) off_3 t y i (axes h0 h1))
theorem in_4 (t : Fin cfg0.N) : IsBlk (iblk m c 4 t) (V m c main_arg4) 0 0 := fun y i h0 h1 =>
  congrArg (V m c main_arg4) (a₁ := ((cfg0.win 4).blk t).view.emb y) (emb_of (cfg0.win 4) off_4 t y i (axes h0 h1))

/-- There is one column of tiles. -/
theorem col (t : Fin cfg0.N) : 1024 * (t.val / 6) = 0 := by rw [Nat.div_eq_of_lt (show t.val < 6 from t.isLt)]

/-- The product of a grid point. -/
theorem mix_eq (x0 : Vec Ideal S688x1024 .bf16) (x1 : Vec Ideal S1024x1024 .bf16) : k0_pay1 x0 x1 = nn x0 x1 :=
  mm_nn (φ₁ := .bf16) (φ₂ := .bf16) none x0 x1
/-- The residual plus the norm of the product. -/
theorem res_eq (x0 : Vec Ideal S688x1024 .bf16) (x1 : Vec Ideal S1024x1024 .bf16) (x2 : Vec Ideal S1x1024 .f32) (x3 : Vec Ideal S688x1024 .f32) : k0_pay2 x0 x1 x3 x2 = plus x3 (norm (nn x0 x1) x2) :=
  (congrArg (plus x3) (ker_norm (by decide) (k0_pay1 x0 x1) x2 _ _ _ _)).trans (congrArg (fun A => plus x3 (norm A x2)) (mix_eq x0 x1))

/-- What a grid point writes, window by window. -/
theorem out_5 (x0 : Vec Ideal S688x1024 .bf16) (x1 : Vec Ideal S1024x1024 .bf16) (x2 : Vec Ideal S1x1024 .f32) (x3 : Vec Ideal S688x1024 .f32) (x4 : Vec Ideal S1x1024 .f32) : out0_5 x0 x1 x2 x3 x4 = plus x3 (norm (nn x0 x1) x2) := by
  unfold out0_5
  rw [View.canon_unit_zero hz]
  repeat rw [View.ld_unit_zero hz]
  exact res_eq x0 x1 x2 x3
theorem out_6 (x0 : Vec Ideal S688x1024 .bf16) (x1 : Vec Ideal S1024x1024 .bf16) (x2 : Vec Ideal S1x1024 .f32) (x3 : Vec Ideal S688x1024 .f32) (x4 : Vec Ideal S1x1024 .f32) : out0_6 x0 x1 x2 x3 x4 = nn x0 x1 := by
  unfold out0_6
  rw [View.canon_unit_zero hz]
  repeat rw [View.ld_unit_zero hz]
  exact mix_eq x0 x1
theorem out_7 (x0 : Vec Ideal S688x1024 .bf16) (x1 : Vec Ideal S1024x1024 .bf16) (x2 : Vec Ideal S1x1024 .f32) (x3 : Vec Ideal S688x1024 .f32) (x4 : Vec Ideal S1x1024 .f32) : out0_7 x0 x1 x2 x3 x4 = norm (plus x3 (norm (nn x0 x1) x2)) x4 := by
  unfold out0_7
  rw [View.canon_unit_zero hz]
  repeat rw [View.ld_unit_zero hz]
  exact (ker_norm (by decide) (k0_pay2 x0 x1 x3 x2) x4 _ _ _ _).trans (congrArg (norm · x4) (res_eq x0 x1 x2 x3))

/-- The product. -/
abbrev mixW : Mat 4128 1024 := nn (V m c main_arg0) (V m c main_arg1)
/-- The residual plus the norm of the product. -/
abbrev resW : Mat 4128 1024 := plus (V m c main_arg3) (norm (mixW m c) (V m c main_arg2))
theorem mix_blk (t : Fin cfg0.N) : IsBlk (nn (iblk m c 0 t) (iblk m c 1 t)) (mixW m c) (688 * (t.val % 6)) 0 := (in_0 m c t).nn (in_1 m c t)
theorem res_blk (t : Fin cfg0.N) : IsBlk (plus (iblk m c 3 t) (norm (nn (iblk m c 0 t) (iblk m c 1 t)) (iblk m c 2 t))) (resW m c) (688 * (t.val % 6)) 0 :=
  (in_3 m c t).plus ((mix_blk m c t).norm (in_2 m c t))

/-- The arrays the kernel leaves. -/
theorem arr_5 : (dats m 0 c).arrAt 5 cfg0.N = resW m c :=
  eq_of_grid (I := 6) (J := 1) (R := 688) (C := 1024) (by decide) (by decide) (by decide) (fun t => (dats m 0 c).flushed 5 t)
    (fun t y i h0 h1 => ((dats m 0 c).arrAt_emb_eq_flushed 5 disjoint5 t (flush0_5 t) y).symm.trans
      (congrArg ((dats m 0 c).arrAt 5 cfg0.N) (a₁ := ((cfg0.win 5).blk t).view.emb y) (emb_of (cfg0.win 5) off_5 t y i (axes h0 h1))))
    (fun t : Fin cfg0.N => by
      rw [flushed5, out_5, col t]
      exact res_blk m c t)
theorem arr_6 : (dats m 0 c).arrAt 6 cfg0.N = mixW m c :=
  eq_of_grid (I := 6) (J := 1) (R := 688) (C := 1024) (by decide) (by decide) (by decide) (fun t => (dats m 0 c).flushed 6 t)
    (fun t y i h0 h1 => ((dats m 0 c).arrAt_emb_eq_flushed 6 disjoint6 t (flush0_6 t) y).symm.trans
      (congrArg ((dats m 0 c).arrAt 6 cfg0.N) (a₁ := ((cfg0.win 6).blk t).view.emb y) (emb_of (cfg0.win 6) off_6 t y i (axes h0 h1))))
    (fun t : Fin cfg0.N => by
      rw [flushed6, out_6, col t]
      exact mix_blk m c t)
theorem arr_7 : (dats m 0 c).arrAt 7 cfg0.N = norm (resW m c) (V m c main_arg4) :=
  eq_of_grid (I := 6) (J := 1) (R := 688) (C := 1024) (by decide) (by decide) (by decide) (fun t => (dats m 0 c).flushed 7 t)
    (fun t y i h0 h1 => ((dats m 0 c).arrAt_emb_eq_flushed 7 disjoint7 t (flush0_7 t) y).symm.trans
      (congrArg ((dats m 0 c).arrAt 7 cfg0.N) (a₁ := ((cfg0.win 7).blk t).view.emb y) (emb_of (cfg0.win 7) off_7 t y i (axes h0 h1))))
    (fun t : Fin cfg0.N => by
      rw [flushed7, out_7, col t]
      exact (res_blk m c t).norm (in_4 m c t))

/-- The kernel's frame at bits. -/
theorem frame_p : Cert.quiescent_Kernel20 := fun m g _ => Cert.Kernel20.Gen.frame m g
/-- The kernel's frame at the extended reals. -/
theorem frame_pi : Cert.quiescent_Kernel20Ideal := fun m g _ => Cert.Kernel20Ideal.Gen.frame m g
/-- The reference's frame: it has no semaphores. -/
theorem frame_ri : Cert.quiescent_Reference20Ideal := fun m g _ =>
  (θ_run _ _ _).mono (fun _ h => ⟨fun c => (h c).2.2.2, sem_eq_zero_of_no_sems (by decide) _⟩) (Cert.Reference20Ideal.Value.run m g)

/-- Kernel and reference leave the same arrays. -/
theorem value : Cert.algebraic_Kernel20Ideal_Reference20Ideal := fun m g m' g' _ hm => by
  refine ⟨fun c => resW m c, fun c => mixW m c, fun c => norm (resW m c) (V m c main_arg4), ?_, ?_⟩
  · exact (θ_run _ _ _).mono (fun r h c => ⟨(h c).1.trans (arr_5 m c), (h c).2.1.trans (arr_6 m c), (h c).2.2.1.trans (arr_7 m c), (h c).2.2.2⟩) (run_blocks (F := Ideal) m g)
  · refine (θ_run _ _ _).mono (fun r h c => ⟨(h c).1.trans ?_, (h c).2.1.trans ?_, (h c).2.2.1.trans ?_, (h c).2.2.2⟩) (Cert.Reference20Ideal.Value.run (F := Ideal) m' g')
    · show _ = resW m c
      simp only [mixW, resW]
      rw [V_main_arg0, V_main_arg1, V_main_arg2, V_main_arg3, (hm c).1, (hm c).2.1, (hm c).2.2.1, (hm c).2.2.2.1]
      refine (congrArg (plus (m ((c : Thread nD τ).loc main_arg3))) (host_norm (by decide) _ _ _ _ _ (by decide) _ _ _ _ _ _ _)).trans ?_
      exact congrArg (fun A : Mat 4128 1024 => plus (m ((c : Thread nD τ).loc main_arg3)) (norm A (m ((c : Thread nD τ).loc main_arg2)))) (host_nn (φ₁ := .f32) (φ₂ := .f32) none (m ((c : Thread nD τ).loc main_arg0)) (m ((c : Thread nD τ).loc main_arg1)))
    · show _ = mixW m c
      simp only [mixW, resW]
      rw [V_main_arg0, V_main_arg1, (hm c).1, (hm c).2.1]
      exact host_nn (φ₁ := .f32) (φ₂ := .f32) none (m ((c : Thread nD τ).loc main_arg0)) (m ((c : Thread nD τ).loc main_arg1))
    · show _ = norm (resW m c) (V m c main_arg4)
      unfold Cert.Reference20Ideal.Value.res_main_v32
      simp only [mixW, resW]
      rw [V_main_arg0, V_main_arg1, V_main_arg2, V_main_arg3, V_main_arg4, (hm c).1, (hm c).2.1, (hm c).2.2.1, (hm c).2.2.2.1, (hm c).2.2.2.2]
      refine (host_norm (by decide) _ _ _ _ _ (by decide) _ _ _ _ _ _ _).trans ?_
      refine congrArg (norm · (m ((c : Thread nD τ).loc main_arg4))) ?_
      refine (congrArg (plus (m ((c : Thread nD τ).loc main_arg3))) (host_norm (by decide) _ _ _ _ _ (by decide) _ _ _ _ _ _ _)).trans ?_
      exact congrArg (fun A : Mat 4128 1024 => plus (m ((c : Thread nD τ).loc main_arg3)) (norm A (m ((c : Thread nD τ).loc main_arg2)))) (host_nn (φ₁ := .f32) (φ₂ := .f32) none (m ((c : Thread nD τ).loc main_arg0)) (m ((c : Thread nD τ).loc main_arg1)))

end Cert.Prod.P20

end
-- ==== Proof.Prod.V21.lean ====
module

public import proofs.«01_k».proof.Defs
public import proofs.«01_k».proof.Proof.Prod.Norm
public import proofs.«01_k».proof.Proof.Gen.Kernel21.Frame
public import proofs.«01_k».proof.Proof.Gen.Kernel21Ideal.Value
public import proofs.«01_k».proof.Proof.Gen.Reference21Ideal.Run
public import Idealize.ShloMosaic.Adequacy
public import Idealize.ShloMosaic.Init

@[expose] public section

/-! The attention's output projection, its norm, the residual, and the norm that the next layer reads. -/

noncomputable section

namespace Cert.Prod.P21

open Idealize.ShloMosaic Idealize.ShloMosaic.TcCoe Idealize.SL.Sem
open Cert.Kernel21Ideal Cert.Kernel21Ideal.Gen Cert.Kernel21Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![0, 0] : Fin 2 → ℕ) a := by decide +kernel
theorem off_2 : ∀ t a, (cfg0.win 2).index t a * (cfg0.win 2).size a = (![0, 0] : Fin 2 → ℕ) a := by decide +kernel
theorem off_3 : ∀ t a, (cfg0.win 3).index t a * (cfg0.win 3).size a = (![688 * (t.val % 6), 0] : Fin 2 → ℕ) a := by decide +kernel
theorem off_4 : ∀ t a, (cfg0.win 4).index t a * (cfg0.win 4).size a = (![0, 0] : Fin 2 → ℕ) a := by decide +kernel
theorem off_5 : ∀ t a, (cfg0.win 5).index t a * (cfg0.win 5).size a = (![688 * (t.val % 6), 1024 * (t.val / 6)] : Fin 2 → ℕ) a := by decide +kernel
theorem off_6 : ∀ t a, (cfg0.win 6).index t a * (cfg0.win 6).size a = (![688 * (t.val % 6), 1024 * (t.val / 6)] : Fin 2 → ℕ) a := by decide +kernel
theorem off_7 : ∀ t a, (cfg0.win 7).index t a * (cfg0.win 7).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) 0 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) 0 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (688 * (t.val % 6)) 0 := fun y i h0 h1 =>
  congrArg (V m c main_arg3) (a₁ := ((cfg0.win 3).blk t).view.emb y) (emb_of (cfg0.win 3) off_3 t y i (axes h0 h1))
theorem in_4 (t : Fin cfg0.N) : IsBlk (iblk m c 4 t) (V m c main_arg4) 0 0 := fun y i h0 h1 =>
  congrArg (V m c main_arg4) (a₁ := ((cfg0.win 4).blk t).view.emb y) (emb_of (cfg0.win 4) off_4 t y i (axes h0 h1))

/-- There is one column of tiles. -/
theorem col (t : Fin cfg0.N) : 1024 * (t.val / 6) = 0 := by rw [Nat.div_eq_of_lt (show t.val < 6 from t.isLt)]

/-- The product of a grid point. -/
theorem mix_eq (x0 : Vec Ideal S688x1024 .f32) (x1 : Vec Ideal S1024x1024 .bf16) : k0_pay1 x0 x1 = nn x0 x1 :=
  mm_nn (φ₁ := .bf16) (φ₂ := .bf16) none x0 x1
/-- The residual plus the norm of the product. -/
theorem res_eq (x0 : Vec Ideal S688x1024 .f32) (x1 : Vec Ideal S1024x1024 .bf16) (x2 : Vec Ideal S1x1024 .f32) (x3 : Vec Ideal S688x1024 .f32) : k0_pay2 x0 x1 x3 x2 = plus x3 (norm (nn x0 x1) x2) :=
  (congrArg (plus x3) (ker_norm (by decide) (k0_pay1 x0 x1) x2 _ _ _ _)).trans (congrArg (fun A => plus x3 (norm A x2)) (mix_eq x0 x1))

/-- What a grid point writes, window by window. -/
theorem out_5 (x0 : Vec Ideal S688x1024 .f32) (x1 : Vec Ideal S1024x1024 .bf16) (x2 : Vec Ideal S1x1024 .f32) (x3 : Vec Ideal S688x1024 .f32) (x4 : Vec Ideal S1x1024 .f32) : out0_5 x0 x1 x2 x3 x4 = plus x3 (norm (nn x0 x1) x2) := by
  unfold out0_5
  rw [View.canon_unit_zero hz]
  repeat rw [View.ld_unit_zero hz]
  exact res_eq x0 x1 x2 x3
theorem out_6 (x0 : Vec Ideal S688x1024 .f32) (x1 : Vec Ideal S1024x1024 .bf16) (x2 : Vec Ideal S1x1024 .f32) (x3 : Vec Ideal S688x1024 .f32) (x4 : Vec Ideal S1x1024 .f32) : out0_6 x0 x1 x2 x3 x4 = nn x0 x1 := by
  unfold out0_6
  rw [View.canon_unit_zero hz]
  repeat rw [View.ld_unit_zero hz]
  exact mix_eq x0 x1
theorem out_7 (x0 : Vec Ideal S688x1024 .f32) (x1 : Vec Ideal S1024x1024 .bf16) (x2 : Vec Ideal S1x1024 .f32) (x3 : Vec Ideal S688x1024 .f32) (x4 : Vec Ideal S1x1024 .f32) : out0_7 x0 x1 x2 x3 x4 = norm (plus x3 (norm (nn x0 x1) x2)) x4 := by
  unfold out0_7
  rw [View.canon_unit_zero hz]
  repeat rw [View.ld_unit_zero hz]
  exact (ker_norm (by decide) (k0_pay2 x0 x1 x3 x2) x4 _ _ _ _).trans (congrArg (norm · x4) (res_eq x0 x1 x2 x3))

/-- The product. -/
abbrev mixW : Mat 4128 1024 := nn (V m c main_arg0) (V m c main_arg1)
/-- The residual plus the norm of the product. -/
abbrev resW : Mat 4128 1024 := plus (V m c main_arg3) (norm (mixW m c) (V m c main_arg2))
theorem mix_blk (t : Fin cfg0.N) : IsBlk (nn (iblk m c 0 t) (iblk m c 1 t)) (mixW m c) (688 * (t.val % 6)) 0 := (in_0 m c t).nn (in_1 m c t)
theorem res_blk (t : Fin cfg0.N) : IsBlk (plus (iblk m c 3 t) (norm (nn (iblk m c 0 t) (iblk m c 1 t)) (iblk m c 2 t))) (resW m c) (688 * (t.val % 6)) 0 :=
  (in_3 m c t).plus ((mix_blk m c t).norm (in_2 m c t))

/-- The arrays the kernel leaves. -/
theorem arr_5 : (dats m 0 c).arrAt 5 cfg0.N = resW m c :=
  eq_of_grid (I := 6) (J := 1) (R := 688) (C := 1024) (by decide) (by decide) (by decide) (fun t => (dats m 0 c).flushed 5 t)
    (fun t y i h0 h1 => ((dats m 0 c).arrAt_emb_eq_flushed 5 disjoint5 t (flush0_5 t) y).symm.trans
      (congrArg ((dats m 0 c).arrAt 5 cfg0.N) (a₁ := ((cfg0.win 5).blk t).view.emb y) (emb_of (cfg0.win 5) off_5 t y i (axes h0 h1))))
    (fun t : Fin cfg0.N => by
      rw [flushed5, out_5, col t]
      exact res_blk m c t)
theorem arr_6 : (dats m 0 c).arrAt 6 cfg0.N = mixW m c :=
  eq_of_grid (I := 6) (J := 1) (R := 688) (C := 1024) (by decide) (by decide) (by decide) (fun t => (dats m 0 c).flushed 6 t)
    (fun t y i h0 h1 => ((dats m 0 c).arrAt_emb_eq_flushed 6 disjoint6 t (flush0_6 t) y).symm.trans
      (congrArg ((dats m 0 c).arrAt 6 cfg0.N) (a₁ := ((cfg0.win 6).blk t).view.emb y) (emb_of (cfg0.win 6) off_6 t y i (axes h0 h1))))
    (fun t : Fin cfg0.N => by
      rw [flushed6, out_6, col t]
      exact mix_blk m c t)
theorem arr_7 : (dats m 0 c).arrAt 7 cfg0.N = norm (resW m c) (V m c main_arg4) :=
  eq_of_grid (I := 6) (J := 1) (R := 688) (C := 1024) (by decide) (by decide) (by decide) (fun t => (dats m 0 c).flushed 7 t)
    (fun t y i h0 h1 => ((dats m 0 c).arrAt_emb_eq_flushed 7 disjoint7 t (flush0_7 t) y).symm.trans
      (congrArg ((dats m 0 c).arrAt 7 cfg0.N) (a₁ := ((cfg0.win 7).blk t).view.emb y) (emb_of (cfg0.win 7) off_7 t y i (axes h0 h1))))
    (fun t : Fin cfg0.N => by
      rw [flushed7, out_7, col t]
      exact (res_blk m c t).norm (in_4 m c t))

/-- The kernel's frame at bits. -/
theorem frame_p : Cert.quiescent_Kernel21 := fun m g _ => Cert.Kernel21.Gen.frame m g
/-- The kernel's frame at the extended reals. -/
theorem frame_pi : Cert.quiescent_Kernel21Ideal := fun m g _ => Cert.Kernel21Ideal.Gen.frame m g
/-- The reference's frame: it has no semaphores. -/
theorem frame_ri : Cert.quiescent_Reference21Ideal := fun m g _ =>
  (θ_run _ _ _).mono (fun _ h => ⟨fun c => (h c).2.2.2, sem_eq_zero_of_no_sems (by decide) _⟩) (Cert.Reference21Ideal.Value.run m g)

/-- Kernel and reference leave the same arrays. -/
theorem value : Cert.algebraic_Kernel21Ideal_Reference21Ideal := fun m g m' g' _ hm => by
  refine ⟨fun c => resW m c, fun c => mixW m c, fun c => norm (resW m c) (V m c main_arg4), ?_, ?_⟩
  · exact (θ_run _ _ _).mono (fun r h c => ⟨(h c).1.trans (arr_5 m c), (h c).2.1.trans (arr_6 m c), (h c).2.2.1.trans (arr_7 m c), (h c).2.2.2⟩) (run_blocks (F := Ideal) m g)
  · refine (θ_run _ _ _).mono (fun r h c => ⟨(h c).1.trans ?_, (h c).2.1.trans ?_, (h c).2.2.1.trans ?_, (h c).2.2.2⟩) (Cert.Reference21Ideal.Value.run (F := Ideal) m' g')
    · show _ = resW m c
      simp only [mixW, resW]
      rw [V_main_arg0, V_main_arg1, V_main_arg2, V_main_arg3, (hm c).1, (hm c).2.1, (hm c).2.2.1, (hm c).2.2.2.1]
      refine (congrArg (plus (m ((c : Thread nD τ).loc main_arg3))) (host_norm (by decide) _ _ _ _ _ (by decide) _ _ _ _ _ _ _)).trans ?_
      exact congrArg (fun A : Mat 4128 1024 => plus (m ((c : Thread nD τ).loc main_arg3)) (norm A (m ((c : Thread nD τ).loc main_arg2)))) (host_nn (φ₁ := .f32) (φ₂ := .f32) none (m ((c : Thread nD τ).loc main_arg0)) (m ((c : Thread nD τ).loc main_arg1)))
    · show _ = mixW m c
      simp only [mixW, resW]
      rw [V_main_arg0, V_main_arg1, (hm c).1, (hm c).2.1]
      exact host_nn (φ₁ := .f32) (φ₂ := .f32) none (m ((c : Thread nD τ).loc main_arg0)) (m ((c : Thread nD τ).loc main_arg1))
    · show _ = norm (resW m c) (V m c main_arg4)
      unfold Cert.Reference21Ideal.Value.res_main_v31
      simp only [mixW, resW]
      rw [V_main_arg0, V_main_arg1, V_main_arg2, V_main_arg3, V_main_arg4, (hm c).1, (hm c).2.1, (hm c).2.2.1, (hm c).2.2.2.1, (hm c).2.2.2.2]
      refine (host_norm (by decide) _ _ _ _ _ (by decide) _ _ _ _ _ _ _).trans ?_
      refine congrArg (norm · (m ((c : Thread nD τ).loc main_arg4))) ?_
      refine (congrArg (plus (m ((c : Thread nD τ).loc main_arg3))) (host_norm (by decide) _ _ _ _ _ (by decide) _ _ _ _ _ _ _)).trans ?_
      exact congrArg (fun A : Mat 4128 1024 => plus (m ((c : Thread nD τ).loc main_arg3)) (norm A (m ((c : Thread nD τ).loc main_arg2)))) (host_nn (φ₁ := .f32) (φ₂ := .f32) none (m ((c : Thread nD τ).loc main_arg0)) (m ((c : Thread nD τ).loc main_arg1)))

end Cert.Prod.P21

end
-- ==== Proof.Prod.V22.lean ====
module

public import proofs.«01_k».proof.Defs
public import proofs.«01_k».proof.Proof.Prod.Norm
public import proofs.«01_k».proof.Proof.Gen.Kernel22.Frame
public import proofs.«01_k».proof.Proof.Gen.Kernel22Ideal.Value
public import proofs.«01_k».proof.Proof.Gen.Reference22Ideal.Run
public import Idealize.ShloMosaic.Adequacy
public import Idealize.ShloMosaic.Init

@[expose] public section

/-! The norm of the rows of the first layer's input. -/

noncomputable section

namespace Cert.Prod.P22

open Idealize.ShloMosaic Idealize.ShloMosaic.TcCoe Idealize.SL.Sem
open Cert.Kernel22Ideal Cert.Kernel22Ideal.Gen Cert.Kernel22Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![0, 0] : Fin 2 → ℕ) a := by decide +kernel
theorem off_2 : ∀ t a, (cfg0.win 2).index t a * (cfg0.win 2).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) 0 0 := fun y i h0 h1 =>
  congrArg (V m c main_arg1) (a₁ := ((cfg0.win 1).blk t).view.emb y) (emb_of (cfg0.win 1) off_1 t y i (axes h0 h1))

/-- There is one column of tiles. -/
theorem col (t : Fin cfg0.N) : 1024 * (t.val / 6) = 0 := by rw [Nat.div_eq_of_lt (show t.val < 6 from t.isLt)]

/-- What a grid point writes. -/
theorem out_eq (x0 : Vec Ideal S688x1024 .f32) (x1 : Vec Ideal S1x1024 .f32) : out0_2 x0 x1 = norm x0 x1 := by
  unfold out0_2
  rw [View.canon_unit_zero hz]
  repeat rw [View.ld_unit_zero hz]
  exact ker_norm (by decide) x0 x1 _ _ _ _

/-- The array the kernel leaves is the norm. -/
theorem arr : (dats m 0 c).arrAt 2 cfg0.N = norm (V m c main_arg0) (V m c main_arg1) :=
  eq_of_grid (I := 6) (J := 1) (R := 688) (C := 1024) (by decide) (by decide) (by decide) (fun t => (dats m 0 c).flushed 2 t)
    (fun t y i h0 h1 => ((dats m 0 c).arrAt_emb_eq_flushed 2 disjoint2 t (flush0_2 t) y).symm.trans
      (congrArg ((dats m 0 c).arrAt 2 cfg0.N) (a₁ := ((cfg0.win 2).blk t).view.emb y) (emb_of (cfg0.win 2) off_2 t y i (axes h0 h1))))
    (fun t : Fin cfg0.N => by
      rw [flushed2, out_eq, col t]
      exact (in_0 m c t).norm (in_1 m c t))

/-- The kernel's frame at bits. -/
theorem frame_p : Cert.quiescent_Kernel22 := fun m g _ => Cert.Kernel22.Gen.frame m g
/-- The kernel's frame at the extended reals. -/
theorem frame_pi : Cert.quiescent_Kernel22Ideal := fun m g _ => Cert.Kernel22Ideal.Gen.frame m g
/-- The reference's frame: it has no semaphores. -/
theorem frame_ri : Cert.quiescent_Reference22Ideal := fun m g _ =>
  (θ_run _ _ _).mono (fun _ h => ⟨fun c => (h c).2, sem_eq_zero_of_no_sems (by decide) _⟩) (Cert.Reference22Ideal.Value.run m g)

/-- Kernel and reference leave the same norm. -/
theorem value : Cert.algebraic_Kernel22Ideal_Reference22Ideal := fun m g m' g' _ hm => by
  refine ⟨fun c => norm (V m c main_arg0) (V m c main_arg1), ?_, ?_⟩
  · exact (θ_run _ _ _).mono (fun r h c => ⟨(h c).1.trans (arr m c), (h c).2⟩) (run_blocks (F := Ideal) m g)
  · refine (θ_run _ _ _).mono (fun r h c => ⟨(h c).1.trans ?_, (h c).2⟩) (Cert.Reference22Ideal.Value.run (F := Ideal) m' g')
    show _ = norm (V m c main_arg0) (V m c main_arg1)
    rw [V_main_arg0, V_main_arg1, (hm c).1, (hm c).2]
    exact host_norm (by decide) _ _ _ _ _ (by decide) _ _ _ _ _ _ _

end Cert.Prod.P22

end
-- ==== Proof.Prod.Adam.lean ====
module

public import proofs.«01_k».proof.Proof.Prod.Norm

@[expose] public section

/-! One step of AdamW on a matrix of weights, from the devices' contributions to its gradient, as the kernels and the
host compute it, and what a block of rows of one is. -/

noncomputable section

namespace Cert.Prod

open Idealize.ShloMosaic hiding ix1 ix2 ix3 eq_ix2
open Idealize.ShloMosaic.ValueIdx

variable {M N : ℕ}

abbrev SC (M N : ℕ) : Shape := ⟨3, ![8, M, N]⟩
abbrev S1C (M N : ℕ) : Shape := ⟨3, ![1, M, N]⟩
/-- A matrix from each of the eight devices, in any float format. -/
abbrev Stack (M N : ℕ) := (SC M N).Idx → EReal

/-- A constant of the step. -/
abbrev lit (b : BitVec 32) : EReal := Scalar.ofBits (F := Ideal) .f32 b

/-- The gradient: the sum over the devices. -/
def total (P : Stack M N) : Mat M N := fun i => ∑ k : Fin 8, P (ix3 k (i 0) (i 1))
/-- The new first moment, from the gradient and the old one. -/
def moment1 (g m : Mat M N) : Mat M N := fun i => lit 0x3F666666#32 * m i + lit 0x3DCCCCCD#32 * g i
/-- The new second moment, from the gradient and the old one. -/
def moment2 (g v : Mat M N) : Mat M N := fun i => lit 0x3F7FBE77#32 * v i + lit 0x3A83126F#32 * (g i * g i)
/-- The change of one weight, from its new moments. -/
def change (w m v : EReal) : EReal :=
  lit 0xBA83126F#32 * (FloatOps.divf (F := Ideal) (φ := .f32) (FloatOps.divf (F := Ideal) (φ := .f32) m (lit 0x3F26BD02#32))
    (FloatOps.sqrt (F := Ideal) (φ := .f32) (FloatOps.divf (F := Ideal) (φ := .f32) v (lit 0x3C231ACC#32)) + lit 0x322BCC77#32) + lit 0x3C23D70A#32 * w)
/-- The change of the weights. -/
def delta (w m v : Mat M N) : Mat M N := fun i => change (w i) (m i) (v i)

variable {M' N' : ℕ}

/-- The rows from `r` of every device's matrix. -/
def IsRows (X : Stack M' N) (P : Stack M N) (r : ℕ) : Prop :=
  ∀ (k : Fin 8) (y : (SM M' N).Idx) (i : (SM M N).Idx), (i 0).val = r + (y 0).val → (i 1).val = (y 1).val →
    X (ix3 k (y 0) (y 1)) = P (ix3 k (i 0) (i 1))

/-- Rows of the gradient. -/
theorem IsRows.total {X : Stack M' N} {P : Stack M N} {r : ℕ} (h : IsRows X P r) : IsBlk (total X) (total P) r 0 := fun y i h0 h1 =>
  Finset.sum_congr rfl fun k _ => h k y i h0 (h1.trans (Nat.zero_add _))
/-- A block of the new moments and of the change. -/
theorem IsBlk.moment1 {X Y : Mat M' N'} {g m : Mat M N} {r s : ℕ} (hg : IsBlk X g r s) (hm : IsBlk Y m r s) :
    IsBlk (moment1 X Y) (moment1 g m) r s := fun y i h0 h1 =>
  congrArg₂ (fun a b => lit 0x3F666666#32 * b + lit 0x3DCCCCCD#32 * a) (hg y i h0 h1) (hm y i h0 h1)
theorem IsBlk.moment2 {X Y : Mat M' N'} {g v : Mat M N} {r s : ℕ} (hg : IsBlk X g r s) (hv : IsBlk Y v r s) :
    IsBlk (moment2 X Y) (moment2 g v) r s := fun y i h0 h1 =>
  congrArg₂ (fun a b => lit 0x3F7FBE77#32 * b + lit 0x3A83126F#32 * (a * a)) (hg y i h0 h1) (hv y i h0 h1)
theorem IsBlk.delta {X Y Z : Mat M' N'} {w m v : Mat M N} {r s : ℕ} (hw : IsBlk X w r s) (hm : IsBlk Y m r s) (hv : IsBlk Z v r s) :
    IsBlk (delta X Y Z) (delta w m v) r s := fun y i h0 h1 => by
  show change _ _ _ = change _ _ _
  rw [hw y i h0 h1, hm y i h0 h1, hv y i h0 h1]

/-- The matrix of one device, loaded from the block. -/
theorem slice_at {e : EltTy} (P : (SC M N).Idx → Elt Ideal e) (k : Fin 8) {o : Fin 3 → ℕ} (h0 : o 0 = k.val) (h1 : o 1 = 0) (h2 : o 2 = 0)
    (inb : ∀ a, o a + (S1C M N).size a ≤ (SC M N).size a) (hc : (S1C M N).ShapeCasts (SM M N)) (i : (SM M N).Idx) :
    shapeCast (SM M N) (View.ld (Val := Elt Ideal) (e' := e) P (Rect.unit (s := SC M N) o ![1, M, N] inb)) hc i = P (ix3 k (i 0) (i 1)) := by
  refine (shapeCast_apply _ hc i (ix3 (0 : Fin 1) (i 0) (i 1)) (by
    rw [Shape.rowMajor_val_three, Shape.rowMajor_val_two]
    show (0 * M + (i 0).val) * N + (i 1).val = (i 0).val * N + (i 1).val
    rw [Nat.zero_mul, Nat.zero_add])).trans ?_
  refine congrArg P (funext fun a => Fin.ext ((congrArg (o a + ·) (Nat.one_mul _)).trans (Eq.symm ?_)))
  match a with
  | ⟨0, _⟩ => exact h0.symm
  | ⟨1, _⟩ => exact (Nat.zero_add _).symm.trans (congrArg (· + (i 0).val) h1.symm)
  | ⟨2, _⟩ => exact (Nat.zero_add _).symm.trans (congrArg (· + (i 1).val) h2.symm)

/-- The same as a matrix, of either format. -/
abbrev dev16 (P : Vec Ideal (SC M N) .bf16) (o : Fin 3 → ℕ) (inb : ∀ a, o a + (S1C M N).size a ≤ (SC M N).size a)
    (hc : (S1C M N).ShapeCasts (SM M N)) : FVec Ideal (SM M N) .bf16 :=
  shapeCast (SM M N) (View.ld (Val := Elt Ideal) (e' := .bf16) P (Rect.unit (s := SC M N) o ![1, M, N] inb)) hc
abbrev dev32 (P : Vec Ideal (SC M N) .f32) (o : Fin 3 → ℕ) (inb : ∀ a, o a + (S1C M N).size a ≤ (SC M N).size a)
    (hc : (S1C M N).ShapeCasts (SM M N)) : FVec Ideal (SM M N) .f32 :=
  shapeCast (SM M N) (View.ld (Val := Elt Ideal) (e' := .f32) P (Rect.unit (s := SC M N) o ![1, M, N] inb)) hc

/-- The kernel's sum of the devices' matrices, one after the other. -/
theorem ker_total (P : Vec Ideal (SC M N) .bf16) (i0 i1 i2 i3 i4 i5 i6 i7) (hc : (S1C M N).ShapeCasts (SM M N)) (hb : FTy.bits .bf16 < FTy.bits .f32) :
    addf (addf (addf (addf (addf (addf (addf (extf .f32 (dev16 P ![0, 0, 0] i0 hc) hb)
      (extf .f32 (dev16 P ![1, 0, 0] i1 hc) hb))
      (extf .f32 (dev16 P ![2, 0, 0] i2 hc) hb))
      (extf .f32 (dev16 P ![3, 0, 0] i3 hc) hb))
      (extf .f32 (dev16 P ![4, 0, 0] i4 hc) hb))
      (extf .f32 (dev16 P ![5, 0, 0] i5 hc) hb))
      (extf .f32 (dev16 P ![6, 0, 0] i6 hc) hb))
      (extf .f32 (dev16 P ![7, 0, 0] i7 hc) hb) = total P := by
  funext i
  refine Eq.trans ?_ (Fin.sum_univ_eight _).symm
  have e0 := slice_at (e := .bf16) P 0 rfl rfl rfl i0 hc i
  have e1 := slice_at (e := .bf16) P 1 rfl rfl rfl i1 hc i
  have e2 := slice_at (e := .bf16) P 2 rfl rfl rfl i2 hc i
  have e3 := slice_at (e := .bf16) P 3 rfl rfl rfl i3 hc i
  have e4 := slice_at (e := .bf16) P 4 rfl rfl rfl i4 hc i
  have e5 := slice_at (e := .bf16) P 5 rfl rfl rfl i5 hc i
  have e6 := slice_at (e := .bf16) P 6 rfl rfl rfl i6 hc i
  have e7 := slice_at (e := .bf16) P 7 rfl rfl rfl i7 hc i
  exact congrArg₂ (· + ·) (congrArg₂ (· + ·) (congrArg₂ (· + ·) (congrArg₂ (· + ·) (congrArg₂ (· + ·) (congrArg₂ (· + ·) (congrArg₂ (· + ·) e0 e1) e2) e3) e4) e5) e6) e7
theorem ker_total32 (P : Vec Ideal (SC M N) .f32) (i0 i1 i2 i3 i4 i5 i6 i7) (hc : (S1C M N).ShapeCasts (SM M N)) :
    addf (addf (addf (addf (addf (addf (addf ((dev32 P ![0, 0, 0] i0 hc))
      ((dev32 P ![1, 0, 0] i1 hc)))
      ((dev32 P ![2, 0, 0] i2 hc)))
      ((dev32 P ![3, 0, 0] i3 hc)))
      ((dev32 P ![4, 0, 0] i4 hc)))
      ((dev32 P ![5, 0, 0] i5 hc)))
      ((dev32 P ![6, 0, 0] i6 hc)))
      ((dev32 P ![7, 0, 0] i7 hc)) = total P := by
  funext i
  refine Eq.trans ?_ (Fin.sum_univ_eight _).symm
  have e0 := slice_at (e := .f32) P 0 rfl rfl rfl i0 hc i
  have e1 := slice_at (e := .f32) P 1 rfl rfl rfl i1 hc i
  have e2 := slice_at (e := .f32) P 2 rfl rfl rfl i2 hc i
  have e3 := slice_at (e := .f32) P 3 rfl rfl rfl i3 hc i
  have e4 := slice_at (e := .f32) P 4 rfl rfl rfl i4 hc i
  have e5 := slice_at (e := .f32) P 5 rfl rfl rfl i5 hc i
  have e6 := slice_at (e := .f32) P 6 rfl rfl rfl i6 hc i
  have e7 := slice_at (e := .f32) P 7 rfl rfl rfl i7 hc i
  exact congrArg₂ (· + ·) (congrArg₂ (· + ·) (congrArg₂ (· + ·) (congrArg₂ (· + ·) (congrArg₂ (· + ·) (congrArg₂ (· + ·) (congrArg₂ (· + ·) e0 e1) e2) e3) e4) e5) e6) e7

/-- The host's sum over the devices. -/
theorem host_total (P : FVec Ideal (SC M N) .f32) (S0 : Shape) (h0 : 0 < S0.numel)
    (hr : (SC M N).ReducesTo [0] (SM M N)) (hr' : (SC M N).Reduces [0] (SM M N)) :
    Host.reduceAdd P (constant S0 .f32 0x00000000#32) hr h0 = total P := by
  funext i
  simp only [Host.reduceAdd, Ideal.hostReduceAdd_def]
  rw [Ideal.hostReduceAdd_single hr hr']
  refine (congrArg (· + _) Ideal.ofBits_zero_f32).trans ((zero_add _).trans (Finset.sum_congr rfl fun k _ => ?_))
  exact congrArg P (funext fun a => Fin.ext (by
    match a with
    | ⟨0, _⟩ => rfl
    | ⟨1, _⟩ => rfl
    | ⟨2, _⟩ => rfl))

/-- The host's new moments and change. -/
theorem host_moment1 (g m : FVec Ideal (SM M N) .f32) (b1 b2) :
    addf (mulf (broadcastInDim (SM M N) ![] b1 (constant ⟨0, ![]⟩ .f32 0x3F666666#32)) m)
      (mulf (broadcastInDim (SM M N) ![] b2 (constant ⟨0, ![]⟩ .f32 0x3DCCCCCD#32)) g) = moment1 g m := rfl
theorem host_moment2 (g v : FVec Ideal (SM M N) .f32) (b1 b2) :
    addf (mulf (broadcastInDim (SM M N) ![] b1 (constant ⟨0, ![]⟩ .f32 0x3F7FBE77#32)) v)
      (mulf (broadcastInDim (SM M N) ![] b2 (constant ⟨0, ![]⟩ .f32 0x3A83126F#32)) (mulf g g)) = moment2 g v := rfl
theorem host_delta (w m v : FVec Ideal (SM M N) .f32) (b1 b2 b3 b4 b5) :
    mulf (broadcastInDim (SM M N) ![] b1 (constant ⟨0, ![]⟩ .f32 0xBA83126F#32))
      (addf (Host.divf (Host.divf m (broadcastInDim (SM M N) ![] b2 (constant ⟨0, ![]⟩ .f32 0x3F26BD02#32)))
        (addf (Host.sqrt (Host.divf v (broadcastInDim (SM M N) ![] b3 (constant ⟨0, ![]⟩ .f32 0x3C231ACC#32))))
          (broadcastInDim (SM M N) ![] b4 (constant ⟨0, ![]⟩ .f32 0x322BCC77#32))))
        (mulf (broadcastInDim (SM M N) ![] b5 (constant ⟨0, ![]⟩ .f32 0x3C23D70A#32)) w)) = delta w m v := rfl

end Cert.Prod

end
-- ==== Proof.Prod.V23.lean ====
module

public import proofs.«01_k».proof.Defs
public import proofs.«01_k».proof.Proof.Prod.Adam
public import proofs.«01_k».proof.Proof.Gen.Kernel23.Frame
public import proofs.«01_k».proof.Proof.Gen.Kernel23Ideal.Value
public import proofs.«01_k».proof.Proof.Gen.Reference23Ideal.Run
public import Idealize.ShloMosaic.Adequacy
public import Idealize.ShloMosaic.Init

@[expose] public section

/-! The optimiser's step for the recurrent layer's input weight. -/

noncomputable section

namespace Cert.Prod.P23

open Idealize.ShloMosaic Idealize.ShloMosaic.TcCoe Idealize.SL.Sem
open Cert.Kernel23Ideal Cert.Kernel23Ideal.Gen Cert.Kernel23Ideal.Value

theorem hz : (![0, 0] : Fin 2 → ℕ) = fun _ => 0 := funext (axes rfl rfl)

/-- Where the windows' blocks start. -/
theorem off_0 : ∀ t a, (cfg0.win 0).index t a * (cfg0.win 0).size a = (![0, 512 * (t.val % 2), 0] : Fin 3 → ℕ) a := by decide +kernel
theorem off_1 : ∀ t a, (cfg0.win 1).index t a * (cfg0.win 1).size a = (![512 * (t.val % 2), 0] : Fin 2 → ℕ) a := by decide +kernel
theorem off_2 : ∀ t a, (cfg0.win 2).index t a * (cfg0.win 2).size a = (![512 * (t.val % 2), 0] : Fin 2 → ℕ) a := by decide +kernel
theorem off_3 : ∀ t a, (cfg0.win 3).index t a * (cfg0.win 3).size a = (![512 * (t.val % 2), 0] : Fin 2 → ℕ) a := by decide +kernel
theorem off_4 : ∀ t a, (cfg0.win 4).index t a * (cfg0.win 4).size a = (![512 * (t.val % 2), 512 * (t.val / 2)] : Fin 2 → ℕ) a := by decide +kernel
theorem off_5 : ∀ t a, (cfg0.win 5).index t a * (cfg0.win 5).size a = (![512 * (t.val % 2), 512 * (t.val / 2)] : Fin 2 → ℕ) a := by decide +kernel
theorem off_6 : ∀ t a, (cfg0.win 6).index t a * (cfg0.win 6).size a = (![512 * (t.val % 2), 512 * (t.val / 2)] : Fin 2 → ℕ) a := by decide +kernel
theorem off_7 : ∀ t a, (cfg0.win 7).index t a * (cfg0.win 7).size a = (![512 * (t.val % 2), 512 * (t.val / 2)] : Fin 2 → ℕ) a := by decide +kernel

variable (m : (ℓ : Loc nD τ sig) → Buf (Elt Ideal) ℓ) (c : Dev nD)

theorem in_0 (t : Fin cfg0.N) : IsRows (iblk m c 0 t) (V m c main_arg0) (512 * (t.val % 2)) := fun k y i h0 h1 =>
  congrArg (V m c main_arg0) (a₁ := ((cfg0.win 0).blk t).view.emb (ValueIdx.ix3 k (y 0) (y 1)))
    (emb_of (cfg0.win 0) off_0 t (ValueIdx.ix3 k (y 0) (y 1)) (ValueIdx.ix3 k (i 0) (i 1)) (fun a => match a with
      | ⟨0, _⟩ => (Nat.zero_add _).symm
      | ⟨1, _⟩ => h0
      | ⟨2, _⟩ => h1.trans (Nat.zero_add _).symm))
theorem in_1 (t : Fin cfg0.N) : IsBlk (iblk m c 1 t) (V m c main_arg1) (512 * (t.val % 2)) 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) (512 * (t.val % 2)) 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (512 * (t.val % 2)) 0 := fun y i h0 h1 =>
  congrArg (V m c main_arg3) (a₁ := ((cfg0.win 3).blk t).view.emb y) (emb_of (cfg0.win 3) off_3 t y i (axes h0 h1))

/-- There is one column of tiles. -/
theorem col (t : Fin cfg0.N) : 512 * (t.val / 2) = 0 := by rw [Nat.div_eq_of_lt (show t.val < 2 from t.isLt)]

/-- The gradient of a grid point. -/
theorem grad_eq (x0 : Vec Ideal S8x512x512 .bf16) (x1 : Vec Ideal S512x512 .f32) (x2 : Vec Ideal S512x512 .f32) (x3 : Vec Ideal S512x512 .f32) : k0_pay5 x0 x1 x2 x3 = total x0 := by
  unfold k0_pay5 k0_pay4
  exact ker_total x0 _ _ _ _ _ _ _ _ _ _

/-- What a grid point writes, window by window. -/
theorem out_4 (x0 : Vec Ideal S8x512x512 .bf16) (x1 : Vec Ideal S512x512 .f32) (x2 : Vec Ideal S512x512 .f32) (x3 : Vec Ideal S512x512 .f32) : out0_4 x0 x1 x2 x3 = total x0 := by
  unfold out0_4
  rw [View.canon_unit_zero hz, grad_eq]
theorem out_5 (x0 : Vec Ideal S8x512x512 .bf16) (x1 : Vec Ideal S512x512 .f32) (x2 : Vec Ideal S512x512 .f32) (x3 : Vec Ideal S512x512 .f32) : out0_5 x0 x1 x2 x3 = delta x1 (moment1 (total x0) x2) (moment2 (total x0) x3) := by
  unfold out0_5
  rw [View.canon_unit_zero hz, grad_eq]
  repeat rw [View.ld_unit_zero hz]
  rfl
theorem out_6 (x0 : Vec Ideal S8x512x512 .bf16) (x1 : Vec Ideal S512x512 .f32) (x2 : Vec Ideal S512x512 .f32) (x3 : Vec Ideal S512x512 .f32) : out0_6 x0 x1 x2 x3 = moment1 (total x0) x2 := by
  unfold out0_6
  rw [View.canon_unit_zero hz, grad_eq]
  repeat rw [View.ld_unit_zero hz]
  rfl
theorem out_7 (x0 : Vec Ideal S8x512x512 .bf16) (x1 : Vec Ideal S512x512 .f32) (x2 : Vec Ideal S512x512 .f32) (x3 : Vec Ideal S512x512 .f32) : out0_7 x0 x1 x2 x3 = moment2 (total x0) x3 := by
  unfold out0_7
  rw [View.canon_unit_zero hz, grad_eq]
  repeat rw [View.ld_unit_zero hz]
  rfl

/-- The gradient and the new moments. -/
abbrev gradW : Mat 1024 512 := total (V m c main_arg0)
abbrev firstW : Mat 1024 512 := moment1 (gradW m c) (V m c main_arg2)
abbrev secondW : Mat 1024 512 := moment2 (gradW m c) (V m c main_arg3)
/-- The change of the weights. -/
abbrev deltaW : Mat 1024 512 := delta (V m c main_arg1) (firstW m c) (secondW m c)

/-- The arrays the kernel leaves. -/
theorem arr_4 : (dats m 0 c).arrAt 4 cfg0.N = gradW m c :=
  eq_of_grid (I := 2) (J := 1) (R := 512) (C := 512) (by decide) (by decide) (by decide) (fun t => (dats m 0 c).flushed 4 t)
    (fun t y i h0 h1 => ((dats m 0 c).arrAt_emb_eq_flushed 4 disjoint4 t (flush0_4 t) y).symm.trans
      (congrArg ((dats m 0 c).arrAt 4 cfg0.N) (a₁ := ((cfg0.win 4).blk t).view.emb y) (emb_of (cfg0.win 4) off_4 t y i (axes h0 h1))))
    (fun t : Fin cfg0.N => by
      rw [flushed4, out_4, col t]
      exact (in_0 m c t).total)
theorem arr_5 : (dats m 0 c).arrAt 5 cfg0.N = deltaW m c :=
  eq_of_grid (I := 2) (J := 1) (R := 512) (C := 512) (by decide) (by decide) (by decide) (fun t => (dats m 0 c).flushed 5 t)
    (fun t y i h0 h1 => ((dats m 0 c).arrAt_emb_eq_flushed 5 disjoint5 t (flush0_5 t) y).symm.trans
      (congrArg ((dats m 0 c).arrAt 5 cfg0.N) (a₁ := ((cfg0.win 5).blk t).view.emb y) (emb_of (cfg0.win 5) off_5 t y i (axes h0 h1))))
    (fun t : Fin cfg0.N => by
      rw [flushed5, out_5, col t]
      exact (in_1 m c t).delta ((in_0 m c t).total.moment1 (in_2 m c t)) ((in_0 m c t).total.moment2 (in_3 m c t)))
theorem arr_6 : (dats m 0 c).arrAt 6 cfg0.N = firstW m c :=
  eq_of_grid (I := 2) (J := 1) (R := 512) (C := 512) (by decide) (by decide) (by decide) (fun t => (dats m 0 c).flushed 6 t)
    (fun t y i h0 h1 => ((dats m 0 c).arrAt_emb_eq_flushed 6 disjoint6 t (flush0_6 t) y).symm.trans
      (congrArg ((dats m 0 c).arrAt 6 cfg0.N) (a₁ := ((cfg0.win 6).blk t).view.emb y) (emb_of (cfg0.win 6) off_6 t y i (axes h0 h1))))
    (fun t : Fin cfg0.N => by
      rw [flushed6, out_6, col t]
      exact (in_0 m c t).total.moment1 (in_2 m c t))
theorem arr_7 : (dats m 0 c).arrAt 7 cfg0.N = secondW m c :=
  eq_of_grid (I := 2) (J := 1) (R := 512) (C := 512) (by decide) (by decide) (by decide) (fun t => (dats m 0 c).flushed 7 t)
    (fun t y i h0 h1 => ((dats m 0 c).arrAt_emb_eq_flushed 7 disjoint7 t (flush0_7 t) y).symm.trans
      (congrArg ((dats m 0 c).arrAt 7 cfg0.N) (a₁ := ((cfg0.win 7).blk t).view.emb y) (emb_of (cfg0.win 7) off_7 t y i (axes h0 h1))))
    (fun t : Fin cfg0.N => by
      rw [flushed7, out_7, col t]
      exact (in_0 m c t).total.moment2 (in_3 m c t))

/-- The kernel's frame at bits. -/
theorem frame_p : Cert.quiescent_Kernel23 := fun m g _ => Cert.Kernel23.Gen.frame m g
/-- The kernel's frame at the extended reals. -/
theorem frame_pi : Cert.quiescent_Kernel23Ideal := fun m g _ => Cert.Kernel23Ideal.Gen.frame m g
/-- The reference's frame: it has no semaphores. -/
theorem frame_ri : Cert.quiescent_Reference23Ideal := fun m g _ =>
  (θ_run _ _ _).mono (fun _ h => ⟨fun c => (h c).2.2.2.2, sem_eq_zero_of_no_sems (by decide) _⟩) (Cert.Reference23Ideal.Value.run m g)

/-- The reference's gradient. -/
theorem host_grad (P : FVec Ideal (SC 1024 512) .f32) :
    Host.reduceAdd P (constant Cert.Reference23Ideal.S_ .f32 0x00000000#32) Cert.Reference23Ideal.Gen.reducesTo_S8x1024x512_S1024x512_d0
      Cert.Reference23Ideal.Gen.h_S_ = total P := host_total P _ _ _ (by decide)

/-- Kernel and reference leave the same gradient, change and moments. -/
theorem value : Cert.algebraic_Kernel23Ideal_Reference23Ideal := fun m g m' g' _ hm => by
  refine ⟨fun c => gradW m c, fun c => deltaW m c, fun c => firstW m c, fun c => secondW m c, ?_, ?_⟩
  · exact (θ_run _ _ _).mono (fun r h c => ⟨(h c).1.trans (arr_4 m c), (h c).2.1.trans (arr_5 m c), (h c).2.2.1.trans (arr_6 m c), (h c).2.2.2.1.trans (arr_7 m c), (h c).2.2.2.2⟩) (run_blocks (F := Ideal) m g)
  · refine (θ_run _ _ _).mono (fun r h c => ?_) (Cert.Reference23Ideal.Value.run (F := Ideal) m' g')
    have e := host_grad (m ((c : Thread nD τ).loc main_arg0))
    refine ⟨(h c).1.trans ?_, (h c).2.1.trans ?_, (h c).2.2.1.trans ?_, (h c).2.2.2.1.trans ?_, (h c).2.2.2.2⟩
    · show _ = gradW m c
      simp only [gradW]
      rw [V_main_arg0, (hm c).1]
      exact e
    · show _ = deltaW m c
      simp only [deltaW, firstW, secondW, gradW]
      rw [V_main_arg0, V_main_arg1, V_main_arg2, V_main_arg3, (hm c).1, (hm c).2.1, (hm c).2.2.1, (hm c).2.2.2]
      exact (host_delta (m ((c : Thread nD τ).loc main_arg1)) _ _ _ _ _ _ _).trans (congrArg₂ (delta (m ((c : Thread nD τ).loc main_arg1))) ((host_moment1 _ (m ((c : Thread nD τ).loc main_arg2)) _ _).trans (congrArg (moment1 · (m ((c : Thread nD τ).loc main_arg2))) e)) ((host_moment2 _ (m ((c : Thread nD τ).loc main_arg3)) _ _).trans (congrArg (moment2 · (m ((c : Thread nD τ).loc main_arg3))) e)))
    · show _ = firstW m c
      simp only [firstW, gradW]
      rw [V_main_arg0, V_main_arg2, (hm c).1, (hm c).2.2.1]
      exact (host_moment1 _ (m ((c : Thread nD τ).loc main_arg2)) _ _).trans (congrArg (moment1 · (m ((c : Thread nD τ).loc main_arg2))) e)
    · show _ = secondW m c
      simp only [secondW, gradW]
      rw [V_main_arg0, V_main_arg3, (hm c).1, (hm c).2.2.2]
      exact (host_moment2 _ (m ((c : Thread nD τ).loc main_arg3)) _ _).trans (congrArg (moment2 · (m ((c : Thread nD τ).loc main_arg3))) e)

end Cert.Prod.P23

end
-- ==== Proof.Prod.V24.lean ====
module

public import proofs.«01_k».proof.Defs
public import proofs.«01_k».proof.Proof.Prod.Adam
public import proofs.«01_k».proof.Proof.Gen.Kernel24.Frame
public import proofs.«01_k».proof.Proof.Gen.Kernel24Ideal.Value
public import proofs.«01_k».proof.Proof.Gen.Reference24Ideal.Run
public import Idealize.ShloMosaic.Adequacy
public import Idealize.ShloMosaic.Init

@[expose] public section

/-! The optimiser's step for a square output weight. -/

noncomputable section

namespace Cert.Prod.P24

open Idealize.ShloMosaic Idealize.ShloMosaic.TcCoe Idealize.SL.Sem
open Cert.Kernel24Ideal Cert.Kernel24Ideal.Gen Cert.Kernel24Ideal.Value

theorem hz : (![0, 0] : Fin 2 → ℕ) = fun _ => 0 := funext (axes rfl rfl)

/-- Where the windows' blocks start. -/
theorem off_0 : ∀ t a, (cfg0.win 0).index t a * (cfg0.win 0).size a = (![0, 128 * (t.val % 1), 0] : Fin 3 → ℕ) a := by decide +kernel
theorem off_1 : ∀ t a, (cfg0.win 1).index t a * (cfg0.win 1).size a = (![128 * (t.val % 1), 0] : Fin 2 → ℕ) a := by decide +kernel
theorem off_2 : ∀ t a, (cfg0.win 2).index t a * (cfg0.win 2).size a = (![128 * (t.val % 1), 0] : Fin 2 → ℕ) a := by decide +kernel
theorem off_3 : ∀ t a, (cfg0.win 3).index t a * (cfg0.win 3).size a = (![128 * (t.val % 1), 0] : Fin 2 → ℕ) a := by decide +kernel
theorem off_4 : ∀ t a, (cfg0.win 4).index t a * (cfg0.win 4).size a = (![128 * (t.val % 1), 1024 * (t.val / 1)] : Fin 2 → ℕ) a := by decide +kernel
theorem off_5 : ∀ t a, (cfg0.win 5).index t a * (cfg0.win 5).size a = (![128 * (t.val % 1), 1024 * (t.val / 1)] : Fin 2 → ℕ) a := by decide +kernel
theorem off_6 : ∀ t a, (cfg0.win 6).index t a * (cfg0.win 6).size a = (![128 * (t.val % 1), 1024 * (t.val / 1)] : Fin 2 → ℕ) a := by decide +kernel
theorem off_7 : ∀ t a, (cfg0.win 7).index t a * (cfg0.win 7).size a = (![128 * (t.val % 1), 1024 * (t.val / 1)] : Fin 2 → ℕ) a := by decide +kernel

variable (m : (ℓ : Loc nD τ sig) → Buf (Elt Ideal) ℓ) (c : Dev nD)

theorem in_0 (t : Fin cfg0.N) : IsRows (iblk m c 0 t) (V m c main_arg0) (128 * (t.val % 1)) := fun k y i h0 h1 =>
  congrArg (V m c main_arg0) (a₁ := ((cfg0.win 0).blk t).view.emb (ValueIdx.ix3 k (y 0) (y 1)))
    (emb_of (cfg0.win 0) off_0 t (ValueIdx.ix3 k (y 0) (y 1)) (ValueIdx.ix3 k (i 0) (i 1)) (fun a => match a with
      | ⟨0, _⟩ => (Nat.zero_add _).symm
      | ⟨1, _⟩ => h0
      | ⟨2, _⟩ => h1.trans (Nat.zero_add _).symm))
theorem in_1 (t : Fin cfg0.N) : IsBlk (iblk m c 1 t) (V m c main_arg1) (128 * (t.val % 1)) 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) (128 * (t.val % 1)) 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (128 * (t.val % 1)) 0 := fun y i h0 h1 =>
  congrArg (V m c main_arg3) (a₁ := ((cfg0.win 3).blk t).view.emb y) (emb_of (cfg0.win 3) off_3 t y i (axes h0 h1))

/-- There is one column of tiles. -/
theorem col (t : Fin cfg0.N) : 1024 * (t.val / 1) = 0 := by rw [Nat.div_eq_of_lt (show t.val < 1 from t.isLt)]

/-- The gradient of a grid point. -/
theorem grad_eq (x0 : Vec Ideal S8x128x1024 .bf16) (x1 : Vec Ideal S128x1024 .f32) (x2 : Vec Ideal S128x1024 .f32) (x3 : Vec Ideal S128x1024 .f32) : k0_pay5 x0 x1 x2 x3 = total x0 := by
  unfold k0_pay5 k0_pay4
  exact ker_total x0 _ _ _ _ _ _ _ _ _ _

/-- What a grid point writes, window by window. -/
theorem out_4 (x0 : Vec Ideal S8x128x1024 .bf16) (x1 : Vec Ideal S128x1024 .f32) (x2 : Vec Ideal S128x1024 .f32) (x3 : Vec Ideal S128x1024 .f32) : out0_4 x0 x1 x2 x3 = total x0 := by
  unfold out0_4
  rw [View.canon_unit_zero hz, grad_eq]
theorem out_5 (x0 : Vec Ideal S8x128x1024 .bf16) (x1 : Vec Ideal S128x1024 .f32) (x2 : Vec Ideal S128x1024 .f32) (x3 : Vec Ideal S128x1024 .f32) : out0_5 x0 x1 x2 x3 = delta x1 (moment1 (total x0) x2) (moment2 (total x0) x3) := by
  unfold out0_5
  rw [View.canon_unit_zero hz, grad_eq]
  repeat rw [View.ld_unit_zero hz]
  rfl
theorem out_6 (x0 : Vec Ideal S8x128x1024 .bf16) (x1 : Vec Ideal S128x1024 .f32) (x2 : Vec Ideal S128x1024 .f32) (x3 : Vec Ideal S128x1024 .f32) : out0_6 x0 x1 x2 x3 = moment1 (total x0) x2 := by
  unfold out0_6
  rw [View.canon_unit_zero hz, grad_eq]
  repeat rw [View.ld_unit_zero hz]
  rfl
theorem out_7 (x0 : Vec Ideal S8x128x1024 .bf16) (x1 : Vec Ideal S128x1024 .f32) (x2 : Vec Ideal S128x1024 .f32) (x3 : Vec Ideal S128x1024 .f32) : out0_7 x0 x1 x2 x3 = moment2 (total x0) x3 := by
  unfold out0_7
  rw [View.canon_unit_zero hz, grad_eq]
  repeat rw [View.ld_unit_zero hz]
  rfl

/-- The gradient and the new moments. -/
abbrev gradW : Mat 128 1024 := total (V m c main_arg0)
abbrev firstW : Mat 128 1024 := moment1 (gradW m c) (V m c main_arg2)
abbrev secondW : Mat 128 1024 := moment2 (gradW m c) (V m c main_arg3)
/-- The change of the weights. -/
abbrev deltaW : Mat 128 1024 := delta (V m c main_arg1) (firstW m c) (secondW m c)

/-- The arrays the kernel leaves. -/
theorem arr_4 : (dats m 0 c).arrAt 4 cfg0.N = gradW m c :=
  eq_of_grid (I := 1) (J := 1) (R := 128) (C := 1024) (by decide) (by decide) (by decide) (fun t => (dats m 0 c).flushed 4 t)
    (fun t y i h0 h1 => ((dats m 0 c).arrAt_emb_eq_flushed 4 disjoint4 t (flush0_4 t) y).symm.trans
      (congrArg ((dats m 0 c).arrAt 4 cfg0.N) (a₁ := ((cfg0.win 4).blk t).view.emb y) (emb_of (cfg0.win 4) off_4 t y i (axes h0 h1))))
    (fun t : Fin cfg0.N => by
      rw [flushed4, out_4, col t]
      exact (in_0 m c t).total)
theorem arr_5 : (dats m 0 c).arrAt 5 cfg0.N = deltaW m c :=
  eq_of_grid (I := 1) (J := 1) (R := 128) (C := 1024) (by decide) (by decide) (by decide) (fun t => (dats m 0 c).flushed 5 t)
    (fun t y i h0 h1 => ((dats m 0 c).arrAt_emb_eq_flushed 5 disjoint5 t (flush0_5 t) y).symm.trans
      (congrArg ((dats m 0 c).arrAt 5 cfg0.N) (a₁ := ((cfg0.win 5).blk t).view.emb y) (emb_of (cfg0.win 5) off_5 t y i (axes h0 h1))))
    (fun t : Fin cfg0.N => by
      rw [flushed5, out_5, col t]
      exact (in_1 m c t).delta ((in_0 m c t).total.moment1 (in_2 m c t)) ((in_0 m c t).total.moment2 (in_3 m c t)))
theorem arr_6 : (dats m 0 c).arrAt 6 cfg0.N = firstW m c :=
  eq_of_grid (I := 1) (J := 1) (R := 128) (C := 1024) (by decide) (by decide) (by decide) (fun t => (dats m 0 c).flushed 6 t)
    (fun t y i h0 h1 => ((dats m 0 c).arrAt_emb_eq_flushed 6 disjoint6 t (flush0_6 t) y).symm.trans
      (congrArg ((dats m 0 c).arrAt 6 cfg0.N) (a₁ := ((cfg0.win 6).blk t).view.emb y) (emb_of (cfg0.win 6) off_6 t y i (axes h0 h1))))
    (fun t : Fin cfg0.N => by
      rw [flushed6, out_6, col t]
      exact (in_0 m c t).total.moment1 (in_2 m c t))
theorem arr_7 : (dats m 0 c).arrAt 7 cfg0.N = secondW m c :=
  eq_of_grid (I := 1) (J := 1) (R := 128) (C := 1024) (by decide) (by decide) (by decide) (fun t => (dats m 0 c).flushed 7 t)
    (fun t y i h0 h1 => ((dats m 0 c).arrAt_emb_eq_flushed 7 disjoint7 t (flush0_7 t) y).symm.trans
      (congrArg ((dats m 0 c).arrAt 7 cfg0.N) (a₁ := ((cfg0.win 7).blk t).view.emb y) (emb_of (cfg0.win 7) off_7 t y i (axes h0 h1))))
    (fun t : Fin cfg0.N => by
      rw [flushed7, out_7, col t]
      exact (in_0 m c t).total.moment2 (in_3 m c t))

/-- The kernel's frame at bits. -/
theorem frame_p : Cert.quiescent_Kernel24 := fun m g _ => Cert.Kernel24.Gen.frame m g
/-- The kernel's frame at the extended reals. -/
theorem frame_pi : Cert.quiescent_Kernel24Ideal := fun m g _ => Cert.Kernel24Ideal.Gen.frame m g
/-- The reference's frame: it has no semaphores. -/
theorem frame_ri : Cert.quiescent_Reference24Ideal := fun m g _ =>
  (θ_run _ _ _).mono (fun _ h => ⟨fun c => (h c).2.2.2.2, sem_eq_zero_of_no_sems (by decide) _⟩) (Cert.Reference24Ideal.Value.run m g)

/-- The reference's gradient. -/
theorem host_grad (P : FVec Ideal (SC 128 1024) .f32) :
    Host.reduceAdd P (constant Cert.Reference24Ideal.S_ .f32 0x00000000#32) Cert.Reference24Ideal.Gen.reducesTo_S8x128x1024_S128x1024_d0
      Cert.Reference24Ideal.Gen.h_S_ = total P := host_total P _ _ _ (by decide)

/-- Kernel and reference leave the same gradient, change and moments. -/
theorem value : Cert.algebraic_Kernel24Ideal_Reference24Ideal := fun m g m' g' _ hm => by
  refine ⟨fun c => gradW m c, fun c => deltaW m c, fun c => firstW m c, fun c => secondW m c, ?_, ?_⟩
  · exact (θ_run _ _ _).mono (fun r h c => ⟨(h c).1.trans (arr_4 m c), (h c).2.1.trans (arr_5 m c), (h c).2.2.1.trans (arr_6 m c), (h c).2.2.2.1.trans (arr_7 m c), (h c).2.2.2.2⟩) (run_blocks (F := Ideal) m g)
  · refine (θ_run _ _ _).mono (fun r h c => ?_) (Cert.Reference24Ideal.Value.run (F := Ideal) m' g')
    have e := host_grad (m ((c : Thread nD τ).loc main_arg0))
    refine ⟨(h c).1.trans ?_, (h c).2.1.trans ?_, (h c).2.2.1.trans ?_, (h c).2.2.2.1.trans ?_, (h c).2.2.2.2⟩
    · show _ = gradW m c
      simp only [gradW]
      rw [V_main_arg0, (hm c).1]
      exact e
    · show _ = deltaW m c
      simp only [deltaW, firstW, secondW, gradW]
      rw [V_main_arg0, V_main_arg1, V_main_arg2, V_main_arg3, (hm c).1, (hm c).2.1, (hm c).2.2.1, (hm c).2.2.2]
      exact (host_delta (m ((c : Thread nD τ).loc main_arg1)) _ _ _ _ _ _ _).trans (congrArg₂ (delta (m ((c : Thread nD τ).loc main_arg1))) ((host_moment1 _ (m ((c : Thread nD τ).loc main_arg2)) _ _).trans (congrArg (moment1 · (m ((c : Thread nD τ).loc main_arg2))) e)) ((host_moment2 _ (m ((c : Thread nD τ).loc main_arg3)) _ _).trans (congrArg (moment2 · (m ((c : Thread nD τ).loc main_arg3))) e)))
    · show _ = firstW m c
      simp only [firstW, gradW]
      rw [V_main_arg0, V_main_arg2, (hm c).1, (hm c).2.2.1]
      exact (host_moment1 _ (m ((c : Thread nD τ).loc main_arg2)) _ _).trans (congrArg (moment1 · (m ((c : Thread nD τ).loc main_arg2))) e)
    · show _ = secondW m c
      simp only [secondW, gradW]
      rw [V_main_arg0, V_main_arg3, (hm c).1, (hm c).2.2.2]
      exact (host_moment2 _ (m ((c : Thread nD τ).loc main_arg3)) _ _).trans (congrArg (moment2 · (m ((c : Thread nD τ).loc main_arg3))) e)

end Cert.Prod.P24

end
-- ==== Proof.Prod.V25.lean ====
module

public import proofs.«01_k».proof.Defs
public import proofs.«01_k».proof.Proof.Prod.Adam
public import proofs.«01_k».proof.Proof.Gen.Kernel25.Frame
public import proofs.«01_k».proof.Proof.Gen.Kernel25Ideal.Value
public import proofs.«01_k».proof.Proof.Gen.Reference25Ideal.Run
public import Idealize.ShloMosaic.Adequacy
public import Idealize.ShloMosaic.Init

@[expose] public section

/-! The optimiser's step for the key and value weight. -/

noncomputable section

namespace Cert.Prod.P25

open Idealize.ShloMosaic Idealize.ShloMosaic.TcCoe Idealize.SL.Sem
open Cert.Kernel25Ideal Cert.Kernel25Ideal.Gen Cert.Kernel25Ideal.Value

theorem hz : (![0, 0] : Fin 2 → ℕ) = fun _ => 0 := funext (axes rfl rfl)

/-- Where the windows' blocks start. -/
theorem off_0 : ∀ t a, (cfg0.win 0).index t a * (cfg0.win 0).size a = (![0, 512 * (t.val % 2), 0] : Fin 3 → ℕ) a := by decide +kernel
theorem off_1 : ∀ t a, (cfg0.win 1).index t a * (cfg0.win 1).size a = (![512 * (t.val % 2), 0] : Fin 2 → ℕ) a := by decide +kernel
theorem off_2 : ∀ t a, (cfg0.win 2).index t a * (cfg0.win 2).size a = (![512 * (t.val % 2), 0] : Fin 2 → ℕ) a := by decide +kernel
theorem off_3 : ∀ t a, (cfg0.win 3).index t a * (cfg0.win 3).size a = (![512 * (t.val % 2), 0] : Fin 2 → ℕ) a := by decide +kernel
theorem off_4 : ∀ t a, (cfg0.win 4).index t a * (cfg0.win 4).size a = (![512 * (t.val % 2), 258 * (t.val / 2)] : Fin 2 → ℕ) a := by decide +kernel
theorem off_5 : ∀ t a, (cfg0.win 5).index t a * (cfg0.win 5).size a = (![512 * (t.val % 2), 258 * (t.val / 2)] : Fin 2 → ℕ) a := by decide +kernel
theorem off_6 : ∀ t a, (cfg0.win 6).index t a * (cfg0.win 6).size a = (![512 * (t.val % 2), 258 * (t.val / 2)] : Fin 2 → ℕ) a := by decide +kernel
theorem off_7 : ∀ t a, (cfg0.win 7).index t a * (cfg0.win 7).size a = (![512 * (t.val % 2), 258 * (t.val / 2)] : Fin 2 → ℕ) a := by decide +kernel

variable (m : (ℓ : Loc nD τ sig) → Buf (Elt Ideal) ℓ) (c : Dev nD)

theorem in_0 (t : Fin cfg0.N) : IsRows (iblk m c 0 t) (V m c main_arg0) (512 * (t.val % 2)) := fun k y i h0 h1 =>
  congrArg (V m c main_arg0) (a₁ := ((cfg0.win 0).blk t).view.emb (ValueIdx.ix3 k (y 0) (y 1)))
    (emb_of (cfg0.win 0) off_0 t (ValueIdx.ix3 k (y 0) (y 1)) (ValueIdx.ix3 k (i 0) (i 1)) (fun a => match a with
      | ⟨0, _⟩ => (Nat.zero_add _).symm
      | ⟨1, _⟩ => h0
      | ⟨2, _⟩ => h1.trans (Nat.zero_add _).symm))
theorem in_1 (t : Fin cfg0.N) : IsBlk (iblk m c 1 t) (V m c main_arg1) (512 * (t.val % 2)) 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) (512 * (t.val % 2)) 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (512 * (t.val % 2)) 0 := fun y i h0 h1 =>
  congrArg (V m c main_arg3) (a₁ := ((cfg0.win 3).blk t).view.emb y) (emb_of (cfg0.win 3) off_3 t y i (axes h0 h1))

/-- There is one column of tiles. -/
theorem col (t : Fin cfg0.N) : 258 * (t.val / 2) = 0 := by rw [Nat.div_eq_of_lt (show t.val < 2 from t.isLt)]

/-- The gradient of a grid point. -/
theorem grad_eq (x0 : Vec Ideal S8x512x258 .bf16) (x1 : Vec Ideal S512x258 .f32) (x2 : Vec Ideal S512x258 .f32) (x3 : Vec Ideal S512x258 .f32) : k0_pay5 x0 x1 x2 x3 = total x0 := by
  unfold k0_pay5 k0_pay4
  exact ker_total x0 _ _ _ _ _ _ _ _ _ _

/-- What a grid point writes, window by window. -/
theorem out_4 (x0 : Vec Ideal S8x512x258 .bf16) (x1 : Vec Ideal S512x258 .f32) (x2 : Vec Ideal S512x258 .f32) (x3 : Vec Ideal S512x258 .f32) : out0_4 x0 x1 x2 x3 = total x0 := by
  unfold out0_4
  rw [View.canon_unit_zero hz, grad_eq]
theorem out_5 (x0 : Vec Ideal S8x512x258 .bf16) (x1 : Vec Ideal S512x258 .f32) (x2 : Vec Ideal S512x258 .f32) (x3 : Vec Ideal S512x258 .f32) : out0_5 x0 x1 x2 x3 = delta x1 (moment1 (total x0) x2) (moment2 (total x0) x3) := by
  unfold out0_5
  rw [View.canon_unit_zero hz, grad_eq]
  repeat rw [View.ld_unit_zero hz]
  rfl
theorem out_6 (x0 : Vec Ideal S8x512x258 .bf16) (x1 : Vec Ideal S512x258 .f32) (x2 : Vec Ideal S512x258 .f32) (x3 : Vec Ideal S512x258 .f32) : out0_6 x0 x1 x2 x3 = moment1 (total x0) x2 := by
  unfold out0_6
  rw [View.canon_unit_zero hz, grad_eq]
  repeat rw [View.ld_unit_zero hz]
  rfl
theorem out_7 (x0 : Vec Ideal S8x512x258 .bf16) (x1 : Vec Ideal S512x258 .f32) (x2 : Vec Ideal S512x258 .f32) (x3 : Vec Ideal S512x258 .f32) : out0_7 x0 x1 x2 x3 = moment2 (total x0) x3 := by
  unfold out0_7
  rw [View.canon_unit_zero hz, grad_eq]
  repeat rw [View.ld_unit_zero hz]
  rfl

/-- The gradient and the new moments. -/
abbrev gradW : Mat 1024 258 := total (V m c main_arg0)
abbrev firstW : Mat 1024 258 := moment1 (gradW m c) (V m c main_arg2)
abbrev secondW : Mat 1024 258 := moment2 (gradW m c) (V m c main_arg3)
/-- The change of the weights. -/
abbrev deltaW : Mat 1024 258 := delta (V m c main_arg1) (firstW m c) (secondW m c)

/-- The arrays the kernel leaves. -/
theorem arr_4 : (dats m 0 c).arrAt 4 cfg0.N = gradW m c :=
  eq_of_grid (I := 2) (J := 1) (R := 512) (C := 258) (by decide) (by decide) (by decide) (fun t => (dats m 0 c).flushed 4 t)
    (fun t y i h0 h1 => ((dats m 0 c).arrAt_emb_eq_flushed 4 disjoint4 t (flush0_4 t) y).symm.trans
      (congrArg ((dats m 0 c).arrAt 4 cfg0.N) (a₁ := ((cfg0.win 4).blk t).view.emb y) (emb_of (cfg0.win 4) off_4 t y i (axes h0 h1))))
    (fun t : Fin cfg0.N => by
      rw [flushed4, out_4, col t]
      exact (in_0 m c t).total)
theorem arr_5 : (dats m 0 c).arrAt 5 cfg0.N = deltaW m c :=
  eq_of_grid (I := 2) (J := 1) (R := 512) (C := 258) (by decide) (by decide) (by decide) (fun t => (dats m 0 c).flushed 5 t)
    (fun t y i h0 h1 => ((dats m 0 c).arrAt_emb_eq_flushed 5 disjoint5 t (flush0_5 t) y).symm.trans
      (congrArg ((dats m 0 c).arrAt 5 cfg0.N) (a₁ := ((cfg0.win 5).blk t).view.emb y) (emb_of (cfg0.win 5) off_5 t y i (axes h0 h1))))
    (fun t : Fin cfg0.N => by
      rw [flushed5, out_5, col t]
      exact (in_1 m c t).delta ((in_0 m c t).total.moment1 (in_2 m c t)) ((in_0 m c t).total.moment2 (in_3 m c t)))
theorem arr_6 : (dats m 0 c).arrAt 6 cfg0.N = firstW m c :=
  eq_of_grid (I := 2) (J := 1) (R := 512) (C := 258) (by decide) (by decide) (by decide) (fun t => (dats m 0 c).flushed 6 t)
    (fun t y i h0 h1 => ((dats m 0 c).arrAt_emb_eq_flushed 6 disjoint6 t (flush0_6 t) y).symm.trans
      (congrArg ((dats m 0 c).arrAt 6 cfg0.N) (a₁ := ((cfg0.win 6).blk t).view.emb y) (emb_of (cfg0.win 6) off_6 t y i (axes h0 h1))))
    (fun t : Fin cfg0.N => by
      rw [flushed6, out_6, col t]
      exact (in_0 m c t).total.moment1 (in_2 m c t))
theorem arr_7 : (dats m 0 c).arrAt 7 cfg0.N = secondW m c :=
  eq_of_grid (I := 2) (J := 1) (R := 512) (C := 258) (by decide) (by decide) (by decide) (fun t => (dats m 0 c).flushed 7 t)
    (fun t y i h0 h1 => ((dats m 0 c).arrAt_emb_eq_flushed 7 disjoint7 t (flush0_7 t) y).symm.trans
      (congrArg ((dats m 0 c).arrAt 7 cfg0.N) (a₁ := ((cfg0.win 7).blk t).view.emb y) (emb_of (cfg0.win 7) off_7 t y i (axes h0 h1))))
    (fun t : Fin cfg0.N => by
      rw [flushed7, out_7, col t]
      exact (in_0 m c t).total.moment2 (in_3 m c t))

/-- The kernel's frame at bits. -/
theorem frame_p : Cert.quiescent_Kernel25 := fun m g _ => Cert.Kernel25.Gen.frame m g
/-- The kernel's frame at the extended reals. -/
theorem frame_pi : Cert.quiescent_Kernel25Ideal := fun m g _ => Cert.Kernel25Ideal.Gen.frame m g
/-- The reference's frame: it has no semaphores. -/
theorem frame_ri : Cert.quiescent_Reference25Ideal := fun m g _ =>
  (θ_run _ _ _).mono (fun _ h => ⟨fun c => (h c).2.2.2.2, sem_eq_zero_of_no_sems (by decide) _⟩) (Cert.Reference25Ideal.Value.run m g)

/-- The reference's gradient. -/
theorem host_grad (P : FVec Ideal (SC 1024 258) .f32) :
    Host.reduceAdd P (constant Cert.Reference25Ideal.S_ .f32 0x00000000#32) Cert.Reference25Ideal.Gen.reducesTo_S8x1024x258_S1024x258_d0
      Cert.Reference25Ideal.Gen.h_S_ = total P := host_total P _ _ _ (by decide)

/-- Kernel and reference leave the same gradient, change and moments. -/
theorem value : Cert.algebraic_Kernel25Ideal_Reference25Ideal := fun m g m' g' _ hm => by
  refine ⟨fun c => gradW m c, fun c => deltaW m c, fun c => firstW m c, fun c => secondW m c, ?_, ?_⟩
  · exact (θ_run _ _ _).mono (fun r h c => ⟨(h c).1.trans (arr_4 m c), (h c).2.1.trans (arr_5 m c), (h c).2.2.1.trans (arr_6 m c), (h c).2.2.2.1.trans (arr_7 m c), (h c).2.2.2.2⟩) (run_blocks (F := Ideal) m g)
  · refine (θ_run _ _ _).mono (fun r h c => ?_) (Cert.Reference25Ideal.Value.run (F := Ideal) m' g')
    have e := host_grad (m ((c : Thread nD τ).loc main_arg0))
    refine ⟨(h c).1.trans ?_, (h c).2.1.trans ?_, (h c).2.2.1.trans ?_, (h c).2.2.2.1.trans ?_, (h c).2.2.2.2⟩
    · show _ = gradW m c
      simp only [gradW]
      rw [V_main_arg0, (hm c).1]
      exact e
    · show _ = deltaW m c
      simp only [deltaW, firstW, secondW, gradW]
      rw [V_main_arg0, V_main_arg1, V_main_arg2, V_main_arg3, (hm c).1, (hm c).2.1, (hm c).2.2.1, (hm c).2.2.2]
      exact (host_delta (m ((c : Thread nD τ).loc main_arg1)) _ _ _ _ _ _ _).trans (congrArg₂ (delta (m ((c : Thread nD τ).loc main_arg1))) ((host_moment1 _ (m ((c : Thread nD τ).loc main_arg2)) _ _).trans (congrArg (moment1 · (m ((c : Thread nD τ).loc main_arg2))) e)) ((host_moment2 _ (m ((c : Thread nD τ).loc main_arg3)) _ _).trans (congrArg (moment2 · (m ((c : Thread nD τ).loc main_arg3))) e)))
    · show _ = firstW m c
      simp only [firstW, gradW]
      rw [V_main_arg0, V_main_arg2, (hm c).1, (hm c).2.2.1]
      exact (host_moment1 _ (m ((c : Thread nD τ).loc main_arg2)) _ _).trans (congrArg (moment1 · (m ((c : Thread nD τ).loc main_arg2))) e)
    · show _ = secondW m c
      simp only [secondW, gradW]
      rw [V_main_arg0, V_main_arg3, (hm c).1, (hm c).2.2.2]
      exact (host_moment2 _ (m ((c : Thread nD τ).loc main_arg3)) _ _).trans (congrArg (moment2 · (m ((c : Thread nD τ).loc main_arg3))) e)

end Cert.Prod.P25

end
-- ==== Proof.Prod.V26.lean ====
module

public import proofs.«01_k».proof.Defs
public import proofs.«01_k».proof.Proof.Prod.Adam
public import proofs.«01_k».proof.Proof.Gen.Kernel26.Frame
public import proofs.«01_k».proof.Proof.Gen.Kernel26Ideal.Value
public import proofs.«01_k».proof.Proof.Gen.Reference26Ideal.Run
public import Idealize.ShloMosaic.Adequacy
public import Idealize.ShloMosaic.Init

@[expose] public section

/-! The optimiser's step for a feed-forward layer's up weight. -/

noncomputable section

namespace Cert.Prod.P26

open Idealize.ShloMosaic Idealize.ShloMosaic.TcCoe Idealize.SL.Sem
open Cert.Kernel26Ideal Cert.Kernel26Ideal.Gen Cert.Kernel26Ideal.Value

theorem hz : (![0, 0] : Fin 2 → ℕ) = fun _ => 0 := funext (axes rfl rfl)

/-- Where the windows' blocks start. -/
theorem off_0 : ∀ t a, (cfg0.win 0).index t a * (cfg0.win 0).size a = (![0, 512 * (t.val % 2), 0] : Fin 3 → ℕ) a := by decide +kernel
theorem off_1 : ∀ t a, (cfg0.win 1).index t a * (cfg0.win 1).size a = (![512 * (t.val % 2), 0] : Fin 2 → ℕ) a := by decide +kernel
theorem off_2 : ∀ t a, (cfg0.win 2).index t a * (cfg0.win 2).size a = (![512 * (t.val % 2), 0] : Fin 2 → ℕ) a := by decide +kernel
theorem off_3 : ∀ t a, (cfg0.win 3).index t a * (cfg0.win 3).size a = (![512 * (t.val % 2), 0] : Fin 2 → ℕ) a := by decide +kernel
theorem off_4 : ∀ t a, (cfg0.win 4).index t a * (cfg0.win 4).size a = (![512 * (t.val % 2), 688 * (t.val / 2)] : Fin 2 → ℕ) a := by decide +kernel
theorem off_5 : ∀ t a, (cfg0.win 5).index t a * (cfg0.win 5).size a = (![512 * (t.val % 2), 688 * (t.val / 2)] : Fin 2 → ℕ) a := by decide +kernel
theorem off_6 : ∀ t a, (cfg0.win 6).index t a * (cfg0.win 6).size a = (![512 * (t.val % 2), 688 * (t.val / 2)] : Fin 2 → ℕ) a := by decide +kernel
theorem off_7 : ∀ t a, (cfg0.win 7).index t a * (cfg0.win 7).size a = (![512 * (t.val % 2), 688 * (t.val / 2)] : Fin 2 → ℕ) a := by decide +kernel

variable (m : (ℓ : Loc nD τ sig) → Buf (Elt Ideal) ℓ) (c : Dev nD)

theorem in_0 (t : Fin cfg0.N) : IsRows (iblk m c 0 t) (V m c main_arg0) (512 * (t.val % 2)) := fun k y i h0 h1 =>
  congrArg (V m c main_arg0) (a₁ := ((cfg0.win 0).blk t).view.emb (ValueIdx.ix3 k (y 0) (y 1)))
    (emb_of (cfg0.win 0) off_0 t (ValueIdx.ix3 k (y 0) (y 1)) (ValueIdx.ix3 k (i 0) (i 1)) (fun a => match a with
      | ⟨0, _⟩ => (Nat.zero_add _).symm
      | ⟨1, _⟩ => h0
      | ⟨2, _⟩ => h1.trans (Nat.zero_add _).symm))
theorem in_1 (t : Fin cfg0.N) : IsBlk (iblk m c 1 t) (V m c main_arg1) (512 * (t.val % 2)) 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) (512 * (t.val % 2)) 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (512 * (t.val % 2)) 0 := fun y i h0 h1 =>
  congrArg (V m c main_arg3) (a₁ := ((cfg0.win 3).blk t).view.emb y) (emb_of (cfg0.win 3) off_3 t y i (axes h0 h1))

/-- There is one column of tiles. -/
theorem col (t : Fin cfg0.N) : 688 * (t.val / 2) = 0 := by rw [Nat.div_eq_of_lt (show t.val < 2 from t.isLt)]

/-- The gradient of a grid point. -/
theorem grad_eq (x0 : Vec Ideal S8x512x688 .bf16) (x1 : Vec Ideal S512x688 .f32) (x2 : Vec Ideal S512x688 .f32) (x3 : Vec Ideal S512x688 .f32) : k0_pay5 x0 x1 x2 x3 = total x0 := by
  unfold k0_pay5 k0_pay4
  exact ker_total x0 _ _ _ _ _ _ _ _ _ _

/-- What a grid point writes, window by window. -/
theorem out_4 (x0 : Vec Ideal S8x512x688 .bf16) (x1 : Vec Ideal S512x688 .f32) (x2 : Vec Ideal S512x688 .f32) (x3 : Vec Ideal S512x688 .f32) : out0_4 x0 x1 x2 x3 = total x0 := by
  unfold out0_4
  rw [View.canon_unit_zero hz, grad_eq]
theorem out_5 (x0 : Vec Ideal S8x512x688 .bf16) (x1 : Vec Ideal S512x688 .f32) (x2 : Vec Ideal S512x688 .f32) (x3 : Vec Ideal S512x688 .f32) : out0_5 x0 x1 x2 x3 = delta x1 (moment1 (total x0) x2) (moment2 (total x0) x3) := by
  unfold out0_5
  rw [View.canon_unit_zero hz, grad_eq]
  repeat rw [View.ld_unit_zero hz]
  rfl
theorem out_6 (x0 : Vec Ideal S8x512x688 .bf16) (x1 : Vec Ideal S512x688 .f32) (x2 : Vec Ideal S512x688 .f32) (x3 : Vec Ideal S512x688 .f32) : out0_6 x0 x1 x2 x3 = moment1 (total x0) x2 := by
  unfold out0_6
  rw [View.canon_unit_zero hz, grad_eq]
  repeat rw [View.ld_unit_zero hz]
  rfl
theorem out_7 (x0 : Vec Ideal S8x512x688 .bf16) (x1 : Vec Ideal S512x688 .f32) (x2 : Vec Ideal S512x688 .f32) (x3 : Vec Ideal S512x688 .f32) : out0_7 x0 x1 x2 x3 = moment2 (total x0) x3 := by
  unfold out0_7
  rw [View.canon_unit_zero hz, grad_eq]
  repeat rw [View.ld_unit_zero hz]
  rfl

/-- The gradient and the new moments. -/
abbrev gradW : Mat 1024 688 := total (V m c main_arg0)
abbrev firstW : Mat 1024 688 := moment1 (gradW m c) (V m c main_arg2)
abbrev secondW : Mat 1024 688 := moment2 (gradW m c) (V m c main_arg3)
/-- The change of the weights. -/
abbrev deltaW : Mat 1024 688 := delta (V m c main_arg1) (firstW m c) (secondW m c)

/-- The arrays the kernel leaves. -/
theorem arr_4 : (dats m 0 c).arrAt 4 cfg0.N = gradW m c :=
  eq_of_grid (I := 2) (J := 1) (R := 512) (C := 688) (by decide) (by decide) (by decide) (fun t => (dats m 0 c).flushed 4 t)
    (fun t y i h0 h1 => ((dats m 0 c).arrAt_emb_eq_flushed 4 disjoint4 t (flush0_4 t) y).symm.trans
      (congrArg ((dats m 0 c).arrAt 4 cfg0.N) (a₁ := ((cfg0.win 4).blk t).view.emb y) (emb_of (cfg0.win 4) off_4 t y i (axes h0 h1))))
    (fun t : Fin cfg0.N => by
      rw [flushed4, out_4, col t]
      exact (in_0 m c t).total)
theorem arr_5 : (dats m 0 c).arrAt 5 cfg0.N = deltaW m c :=
  eq_of_grid (I := 2) (J := 1) (R := 512) (C := 688) (by decide) (by decide) (by decide) (fun t => (dats m 0 c).flushed 5 t)
    (fun t y i h0 h1 => ((dats m 0 c).arrAt_emb_eq_flushed 5 disjoint5 t (flush0_5 t) y).symm.trans
      (congrArg ((dats m 0 c).arrAt 5 cfg0.N) (a₁ := ((cfg0.win 5).blk t).view.emb y) (emb_of (cfg0.win 5) off_5 t y i (axes h0 h1))))
    (fun t : Fin cfg0.N => by
      rw [flushed5, out_5, col t]
      exact (in_1 m c t).delta ((in_0 m c t).total.moment1 (in_2 m c t)) ((in_0 m c t).total.moment2 (in_3 m c t)))
theorem arr_6 : (dats m 0 c).arrAt 6 cfg0.N = firstW m c :=
  eq_of_grid (I := 2) (J := 1) (R := 512) (C := 688) (by decide) (by decide) (by decide) (fun t => (dats m 0 c).flushed 6 t)
    (fun t y i h0 h1 => ((dats m 0 c).arrAt_emb_eq_flushed 6 disjoint6 t (flush0_6 t) y).symm.trans
      (congrArg ((dats m 0 c).arrAt 6 cfg0.N) (a₁ := ((cfg0.win 6).blk t).view.emb y) (emb_of (cfg0.win 6) off_6 t y i (axes h0 h1))))
    (fun t : Fin cfg0.N => by
      rw [flushed6, out_6, col t]
      exact (in_0 m c t).total.moment1 (in_2 m c t))
theorem arr_7 : (dats m 0 c).arrAt 7 cfg0.N = secondW m c :=
  eq_of_grid (I := 2) (J := 1) (R := 512) (C := 688) (by decide) (by decide) (by decide) (fun t => (dats m 0 c).flushed 7 t)
    (fun t y i h0 h1 => ((dats m 0 c).arrAt_emb_eq_flushed 7 disjoint7 t (flush0_7 t) y).symm.trans
      (congrArg ((dats m 0 c).arrAt 7 cfg0.N) (a₁ := ((cfg0.win 7).blk t).view.emb y) (emb_of (cfg0.win 7) off_7 t y i (axes h0 h1))))
    (fun t : Fin cfg0.N => by
      rw [flushed7, out_7, col t]
      exact (in_0 m c t).total.moment2 (in_3 m c t))

/-- The kernel's frame at bits. -/
theorem frame_p : Cert.quiescent_Kernel26 := fun m g _ => Cert.Kernel26.Gen.frame m g
/-- The kernel's frame at the extended reals. -/
theorem frame_pi : Cert.quiescent_Kernel26Ideal := fun m g _ => Cert.Kernel26Ideal.Gen.frame m g
/-- The reference's frame: it has no semaphores. -/
theorem frame_ri : Cert.quiescent_Reference26Ideal := fun m g _ =>
  (θ_run _ _ _).mono (fun _ h => ⟨fun c => (h c).2.2.2.2, sem_eq_zero_of_no_sems (by decide) _⟩) (Cert.Reference26Ideal.Value.run m g)

/-- The reference's gradient. -/
theorem host_grad (P : FVec Ideal (SC 1024 688) .f32) :
    Host.reduceAdd P (constant Cert.Reference26Ideal.S_ .f32 0x00000000#32) Cert.Reference26Ideal.Gen.reducesTo_S8x1024x688_S1024x688_d0
      Cert.Reference26Ideal.Gen.h_S_ = total P := host_total P _ _ _ (by decide)

/-- Kernel and reference leave the same gradient, change and moments. -/
theorem value : Cert.algebraic_Kernel26Ideal_Reference26Ideal := fun m g m' g' _ hm => by
  refine ⟨fun c => gradW m c, fun c => deltaW m c, fun c => firstW m c, fun c => secondW m c, ?_, ?_⟩
  · exact (θ_run _ _ _).mono (fun r h c => ⟨(h c).1.trans (arr_4 m c), (h c).2.1.trans (arr_5 m c), (h c).2.2.1.trans (arr_6 m c), (h c).2.2.2.1.trans (arr_7 m c), (h c).2.2.2.2⟩) (run_blocks (F := Ideal) m g)
  · refine (θ_run _ _ _).mono (fun r h c => ?_) (Cert.Reference26Ideal.Value.run (F := Ideal) m' g')
    have e := host_grad (m ((c : Thread nD τ).loc main_arg0))
    refine ⟨(h c).1.trans ?_, (h c).2.1.trans ?_, (h c).2.2.1.trans ?_, (h c).2.2.2.1.trans ?_, (h c).2.2.2.2⟩
    · show _ = gradW m c
      simp only [gradW]
      rw [V_main_arg0, (hm c).1]
      exact e
    · show _ = deltaW m c
      simp only [deltaW, firstW, secondW, gradW]
      rw [V_main_arg0, V_main_arg1, V_main_arg2, V_main_arg3, (hm c).1, (hm c).2.1, (hm c).2.2.1, (hm c).2.2.2]
      exact (host_delta (m ((c : Thread nD τ).loc main_arg1)) _ _ _ _ _ _ _).trans (congrArg₂ (delta (m ((c : Thread nD τ).loc main_arg1))) ((host_moment1 _ (m ((c : Thread nD τ).loc main_arg2)) _ _).trans (congrArg (moment1 · (m ((c : Thread nD τ).loc main_arg2))) e)) ((host_moment2 _ (m ((c : Thread nD τ).loc main_arg3)) _ _).trans (congrArg (moment2 · (m ((c : Thread nD τ).loc main_arg3))) e)))
    · show _ = firstW m c
      simp only [firstW, gradW]
      rw [V_main_arg0, V_main_arg2, (hm c).1, (hm c).2.2.1]
      exact (host_moment1 _ (m ((c : Thread nD τ).loc main_arg2)) _ _).trans (congrArg (moment1 · (m ((c : Thread nD τ).loc main_arg2))) e)
    · show _ = secondW m c
      simp only [secondW, gradW]
      rw [V_main_arg0, V_main_arg3, (hm c).1, (hm c).2.2.2]
      exact (host_moment2 _ (m ((c : Thread nD τ).loc main_arg3)) _ _).trans (congrArg (moment2 · (m ((c : Thread nD τ).loc main_arg3))) e)

end Cert.Prod.P26

end
-- ==== Proof.Prod.V27.lean ====
module

public import proofs.«01_k».proof.Defs
public import proofs.«01_k».proof.Proof.Prod.Adam
public import proofs.«01_k».proof.Proof.Gen.Kernel27.Frame
public import proofs.«01_k».proof.Proof.Gen.Kernel27Ideal.Value
public import proofs.«01_k».proof.Proof.Gen.Reference27Ideal.Run
public import Idealize.ShloMosaic.Adequacy
public import Idealize.ShloMosaic.Init

@[expose] public section

/-! The optimiser's step for a feed-forward layer's down weight. -/

noncomputable section

namespace Cert.Prod.P27

open Idealize.ShloMosaic Idealize.ShloMosaic.TcCoe Idealize.SL.Sem
open Cert.Kernel27Ideal Cert.Kernel27Ideal.Gen Cert.Kernel27Ideal.Value

theorem hz : (![0, 0] : Fin 2 → ℕ) = fun _ => 0 := funext (axes rfl rfl)

/-- Where the windows' blocks start. -/
theorem off_0 : ∀ t a, (cfg0.win 0).index t a * (cfg0.win 0).size a = (![0, 344 * (t.val % 1), 0] : Fin 3 → ℕ) a := by decide +kernel
theorem off_1 : ∀ t a, (cfg0.win 1).index t a * (cfg0.win 1).size a = (![344 * (t.val % 1), 0] : Fin 2 → ℕ) a := by decide +kernel
theorem off_2 : ∀ t a, (cfg0.win 2).index t a * (cfg0.win 2).size a = (![344 * (t.val % 1), 0] : Fin 2 → ℕ) a := by decide +kernel
theorem off_3 : ∀ t a, (cfg0.win 3).index t a * (cfg0.win 3).size a = (![344 * (t.val % 1), 0] : Fin 2 → ℕ) a := by decide +kernel
theorem off_4 : ∀ t a, (cfg0.win 4).index t a * (cfg0.win 4).size a = (![344 * (t.val % 1), 1024 * (t.val / 1)] : Fin 2 → ℕ) a := by decide +kernel
theorem off_5 : ∀ t a, (cfg0.win 5).index t a * (cfg0.win 5).size a = (![344 * (t.val % 1), 1024 * (t.val / 1)] : Fin 2 → ℕ) a := by decide +kernel
theorem off_6 : ∀ t a, (cfg0.win 6).index t a * (cfg0.win 6).size a = (![344 * (t.val % 1), 1024 * (t.val / 1)] : Fin 2 → ℕ) a := by decide +kernel
theorem off_7 : ∀ t a, (cfg0.win 7).index t a * (cfg0.win 7).size a = (![344 * (t.val % 1), 1024 * (t.val / 1)] : Fin 2 → ℕ) a := by decide +kernel

variable (m : (ℓ : Loc nD τ sig) → Buf (Elt Ideal) ℓ) (c : Dev nD)

theorem in_0 (t : Fin cfg0.N) : IsRows (iblk m c 0 t) (V m c main_arg0) (344 * (t.val % 1)) := fun k y i h0 h1 =>
  congrArg (V m c main_arg0) (a₁ := ((cfg0.win 0).blk t).view.emb (ValueIdx.ix3 k (y 0) (y 1)))
    (emb_of (cfg0.win 0) off_0 t (ValueIdx.ix3 k (y 0) (y 1)) (ValueIdx.ix3 k (i 0) (i 1)) (fun a => match a with
      | ⟨0, _⟩ => (Nat.zero_add _).symm
      | ⟨1, _⟩ => h0
      | ⟨2, _⟩ => h1.trans (Nat.zero_add _).symm))
theorem in_1 (t : Fin cfg0.N) : IsBlk (iblk m c 1 t) (V m c main_arg1) (344 * (t.val % 1)) 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) (344 * (t.val % 1)) 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (344 * (t.val % 1)) 0 := fun y i h0 h1 =>
  congrArg (V m c main_arg3) (a₁ := ((cfg0.win 3).blk t).view.emb y) (emb_of (cfg0.win 3) off_3 t y i (axes h0 h1))

/-- There is one column of tiles. -/
theorem col (t : Fin cfg0.N) : 1024 * (t.val / 1) = 0 := by rw [Nat.div_eq_of_lt (show t.val < 1 from t.isLt)]

/-- The gradient of a grid point. -/
theorem grad_eq (x0 : Vec Ideal S8x344x1024 .bf16) (x1 : Vec Ideal S344x1024 .f32) (x2 : Vec Ideal S344x1024 .f32) (x3 : Vec Ideal S344x1024 .f32) : k0_pay5 x0 x1 x2 x3 = total x0 := by
  unfold k0_pay5 k0_pay4
  exact ker_total x0 _ _ _ _ _ _ _ _ _ _

/-- What a grid point writes, window by window. -/
theorem out_4 (x0 : Vec Ideal S8x344x1024 .bf16) (x1 : Vec Ideal S344x1024 .f32) (x2 : Vec Ideal S344x1024 .f32) (x3 : Vec Ideal S344x1024 .f32) : out0_4 x0 x1 x2 x3 = total x0 := by
  unfold out0_4
  rw [View.canon_unit_zero hz, grad_eq]
theorem out_5 (x0 : Vec Ideal S8x344x1024 .bf16) (x1 : Vec Ideal S344x1024 .f32) (x2 : Vec Ideal S344x1024 .f32) (x3 : Vec Ideal S344x1024 .f32) : out0_5 x0 x1 x2 x3 = delta x1 (moment1 (total x0) x2) (moment2 (total x0) x3) := by
  unfold out0_5
  rw [View.canon_unit_zero hz, grad_eq]
  repeat rw [View.ld_unit_zero hz]
  rfl
theorem out_6 (x0 : Vec Ideal S8x344x1024 .bf16) (x1 : Vec Ideal S344x1024 .f32) (x2 : Vec Ideal S344x1024 .f32) (x3 : Vec Ideal S344x1024 .f32) : out0_6 x0 x1 x2 x3 = moment1 (total x0) x2 := by
  unfold out0_6
  rw [View.canon_unit_zero hz, grad_eq]
  repeat rw [View.ld_unit_zero hz]
  rfl
theorem out_7 (x0 : Vec Ideal S8x344x1024 .bf16) (x1 : Vec Ideal S344x1024 .f32) (x2 : Vec Ideal S344x1024 .f32) (x3 : Vec Ideal S344x1024 .f32) : out0_7 x0 x1 x2 x3 = moment2 (total x0) x3 := by
  unfold out0_7
  rw [View.canon_unit_zero hz, grad_eq]
  repeat rw [View.ld_unit_zero hz]
  rfl

/-- The gradient and the new moments. -/
abbrev gradW : Mat 344 1024 := total (V m c main_arg0)
abbrev firstW : Mat 344 1024 := moment1 (gradW m c) (V m c main_arg2)
abbrev secondW : Mat 344 1024 := moment2 (gradW m c) (V m c main_arg3)
/-- The change of the weights. -/
abbrev deltaW : Mat 344 1024 := delta (V m c main_arg1) (firstW m c) (secondW m c)

/-- The arrays the kernel leaves. -/
theorem arr_4 : (dats m 0 c).arrAt 4 cfg0.N = gradW m c :=
  eq_of_grid (I := 1) (J := 1) (R := 344) (C := 1024) (by decide) (by decide) (by decide) (fun t => (dats m 0 c).flushed 4 t)
    (fun t y i h0 h1 => ((dats m 0 c).arrAt_emb_eq_flushed 4 disjoint4 t (flush0_4 t) y).symm.trans
      (congrArg ((dats m 0 c).arrAt 4 cfg0.N) (a₁ := ((cfg0.win 4).blk t).view.emb y) (emb_of (cfg0.win 4) off_4 t y i (axes h0 h1))))
    (fun t : Fin cfg0.N => by
      rw [flushed4, out_4, col t]
      exact (in_0 m c t).total)
theorem arr_5 : (dats m 0 c).arrAt 5 cfg0.N = deltaW m c :=
  eq_of_grid (I := 1) (J := 1) (R := 344) (C := 1024) (by decide) (by decide) (by decide) (fun t => (dats m 0 c).flushed 5 t)
    (fun t y i h0 h1 => ((dats m 0 c).arrAt_emb_eq_flushed 5 disjoint5 t (flush0_5 t) y).symm.trans
      (congrArg ((dats m 0 c).arrAt 5 cfg0.N) (a₁ := ((cfg0.win 5).blk t).view.emb y) (emb_of (cfg0.win 5) off_5 t y i (axes h0 h1))))
    (fun t : Fin cfg0.N => by
      rw [flushed5, out_5, col t]
      exact (in_1 m c t).delta ((in_0 m c t).total.moment1 (in_2 m c t)) ((in_0 m c t).total.moment2 (in_3 m c t)))
theorem arr_6 : (dats m 0 c).arrAt 6 cfg0.N = firstW m c :=
  eq_of_grid (I := 1) (J := 1) (R := 344) (C := 1024) (by decide) (by decide) (by decide) (fun t => (dats m 0 c).flushed 6 t)
    (fun t y i h0 h1 => ((dats m 0 c).arrAt_emb_eq_flushed 6 disjoint6 t (flush0_6 t) y).symm.trans
      (congrArg ((dats m 0 c).arrAt 6 cfg0.N) (a₁ := ((cfg0.win 6).blk t).view.emb y) (emb_of (cfg0.win 6) off_6 t y i (axes h0 h1))))
    (fun t : Fin cfg0.N => by
      rw [flushed6, out_6, col t]
      exact (in_0 m c t).total.moment1 (in_2 m c t))
theorem arr_7 : (dats m 0 c).arrAt 7 cfg0.N = secondW m c :=
  eq_of_grid (I := 1) (J := 1) (R := 344) (C := 1024) (by decide) (by decide) (by decide) (fun t => (dats m 0 c).flushed 7 t)
    (fun t y i h0 h1 => ((dats m 0 c).arrAt_emb_eq_flushed 7 disjoint7 t (flush0_7 t) y).symm.trans
      (congrArg ((dats m 0 c).arrAt 7 cfg0.N) (a₁ := ((cfg0.win 7).blk t).view.emb y) (emb_of (cfg0.win 7) off_7 t y i (axes h0 h1))))
    (fun t : Fin cfg0.N => by
      rw [flushed7, out_7, col t]
      exact (in_0 m c t).total.moment2 (in_3 m c t))

/-- The kernel's frame at bits. -/
theorem frame_p : Cert.quiescent_Kernel27 := fun m g _ => Cert.Kernel27.Gen.frame m g
/-- The kernel's frame at the extended reals. -/
theorem frame_pi : Cert.quiescent_Kernel27Ideal := fun m g _ => Cert.Kernel27Ideal.Gen.frame m g
/-- The reference's frame: it has no semaphores. -/
theorem frame_ri : Cert.quiescent_Reference27Ideal := fun m g _ =>
  (θ_run _ _ _).mono (fun _ h => ⟨fun c => (h c).2.2.2.2, sem_eq_zero_of_no_sems (by decide) _⟩) (Cert.Reference27Ideal.Value.run m g)

/-- The reference's gradient. -/
theorem host_grad (P : FVec Ideal (SC 344 1024) .f32) :
    Host.reduceAdd P (constant Cert.Reference27Ideal.S_ .f32 0x00000000#32) Cert.Reference27Ideal.Gen.reducesTo_S8x344x1024_S344x1024_d0
      Cert.Reference27Ideal.Gen.h_S_ = total P := host_total P _ _ _ (by decide)

/-- Kernel and reference leave the same gradient, change and moments. -/
theorem value : Cert.algebraic_Kernel27Ideal_Reference27Ideal := fun m g m' g' _ hm => by
  refine ⟨fun c => gradW m c, fun c => deltaW m c, fun c => firstW m c, fun c => secondW m c, ?_, ?_⟩
  · exact (θ_run _ _ _).mono (fun r h c => ⟨(h c).1.trans (arr_4 m c), (h c).2.1.trans (arr_5 m c), (h c).2.2.1.trans (arr_6 m c), (h c).2.2.2.1.trans (arr_7 m c), (h c).2.2.2.2⟩) (run_blocks (F := Ideal) m g)
  · refine (θ_run _ _ _).mono (fun r h c => ?_) (Cert.Reference27Ideal.Value.run (F := Ideal) m' g')
    have e := host_grad (m ((c : Thread nD τ).loc main_arg0))
    refine ⟨(h c).1.trans ?_, (h c).2.1.trans ?_, (h c).2.2.1.trans ?_, (h c).2.2.2.1.trans ?_, (h c).2.2.2.2⟩
    · show _ = gradW m c
      simp only [gradW]
      rw [V_main_arg0, (hm c).1]
      exact e
    · show _ = deltaW m c
      simp only [deltaW, firstW, secondW, gradW]
      rw [V_main_arg0, V_main_arg1, V_main_arg2, V_main_arg3, (hm c).1, (hm c).2.1, (hm c).2.2.1, (hm c).2.2.2]
      exact (host_delta (m ((c : Thread nD τ).loc main_arg1)) _ _ _ _ _ _ _).trans (congrArg₂ (delta (m ((c : Thread nD τ).loc main_arg1))) ((host_moment1 _ (m ((c : Thread nD τ).loc main_arg2)) _ _).trans (congrArg (moment1 · (m ((c : Thread nD τ).loc main_arg2))) e)) ((host_moment2 _ (m ((c : Thread nD τ).loc main_arg3)) _ _).trans (congrArg (moment2 · (m ((c : Thread nD τ).loc main_arg3))) e)))
    · show _ = firstW m c
      simp only [firstW, gradW]
      rw [V_main_arg0, V_main_arg2, (hm c).1, (hm c).2.2.1]
      exact (host_moment1 _ (m ((c : Thread nD τ).loc main_arg2)) _ _).trans (congrArg (moment1 · (m ((c : Thread nD τ).loc main_arg2))) e)
    · show _ = secondW m c
      simp only [secondW, gradW]
      rw [V_main_arg0, V_main_arg3, (hm c).1, (hm c).2.2.2]
      exact (host_moment2 _ (m ((c : Thread nD τ).loc main_arg3)) _ _).trans (congrArg (moment2 · (m ((c : Thread nD τ).loc main_arg3))) e)

end Cert.Prod.P27

end
-- ==== Proof.Prod.V28.lean ====
module

public import proofs.«01_k».proof.Defs
public import proofs.«01_k».proof.Proof.Prod.Adam
public import proofs.«01_k».proof.Proof.Gen.Kernel28.Frame
public import proofs.«01_k».proof.Proof.Gen.Kernel28Ideal.Value
public import proofs.«01_k».proof.Proof.Gen.Reference28Ideal.Run
public import Idealize.ShloMosaic.Adequacy
public import Idealize.ShloMosaic.Init

@[expose] public section

/-! The optimiser's step for the packed vectors. -/

noncomputable section

namespace Cert.Prod.P28

open Idealize.ShloMosaic Idealize.ShloMosaic.TcCoe Idealize.SL.Sem
open Cert.Kernel28Ideal Cert.Kernel28Ideal.Gen Cert.Kernel28Ideal.Value

theorem hz : (![0, 0] : Fin 2 → ℕ) = fun _ => 0 := funext (axes rfl rfl)

/-- Where the windows' blocks start. -/
theorem off_0 : ∀ t a, (cfg0.win 0).index t a * (cfg0.win 0).size a = (![0, 64 * (t.val % 1), 0] : Fin 3 → ℕ) a := by decide +kernel
theorem off_1 : ∀ t a, (cfg0.win 1).index t a * (cfg0.win 1).size a = (![64 * (t.val % 1), 0] : Fin 2 → ℕ) a := by decide +kernel
theorem off_2 : ∀ t a, (cfg0.win 2).index t a * (cfg0.win 2).size a = (![64 * (t.val % 1), 0] : Fin 2 → ℕ) a := by decide +kernel
theorem off_3 : ∀ t a, (cfg0.win 3).index t a * (cfg0.win 3).size a = (![64 * (t.val % 1), 0] : Fin 2 → ℕ) a := by decide +kernel
theorem off_4 : ∀ t a, (cfg0.win 4).index t a * (cfg0.win 4).size a = (![64 * (t.val % 1), 128 * (t.val / 1)] : Fin 2 → ℕ) a := by decide +kernel
theorem off_5 : ∀ t a, (cfg0.win 5).index t a * (cfg0.win 5).size a = (![64 * (t.val % 1), 128 * (t.val / 1)] : Fin 2 → ℕ) a := by decide +kernel
theorem off_6 : ∀ t a, (cfg0.win 6).index t a * (cfg0.win 6).size a = (![64 * (t.val % 1), 128 * (t.val / 1)] : Fin 2 → ℕ) a := by decide +kernel
theorem off_7 : ∀ t a, (cfg0.win 7).index t a * (cfg0.win 7).size a = (![64 * (t.val % 1), 128 * (t.val / 1)] : Fin 2 → ℕ) a := by decide +kernel

variable (m : (ℓ : Loc nD τ sig) → Buf (Elt Ideal) ℓ) (c : Dev nD)

theorem in_0 (t : Fin cfg0.N) : IsRows (iblk m c 0 t) (V m c main_arg0) (64 * (t.val % 1)) := fun k y i h0 h1 =>
  congrArg (V m c main_arg0) (a₁ := ((cfg0.win 0).blk t).view.emb (ValueIdx.ix3 k (y 0) (y 1)))
    (emb_of (cfg0.win 0) off_0 t (ValueIdx.ix3 k (y 0) (y 1)) (ValueIdx.ix3 k (i 0) (i 1)) (fun a => match a with
      | ⟨0, _⟩ => (Nat.zero_add _).symm
      | ⟨1, _⟩ => h0
      | ⟨2, _⟩ => h1.trans (Nat.zero_add _).symm))
theorem in_1 (t : Fin cfg0.N) : IsBlk (iblk m c 1 t) (V m c main_arg1) (64 * (t.val % 1)) 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) (64 * (t.val % 1)) 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (64 * (t.val % 1)) 0 := fun y i h0 h1 =>
  congrArg (V m c main_arg3) (a₁ := ((cfg0.win 3).blk t).view.emb y) (emb_of (cfg0.win 3) off_3 t y i (axes h0 h1))

/-- There is one column of tiles. -/
theorem col (t : Fin cfg0.N) : 128 * (t.val / 1) = 0 := by rw [Nat.div_eq_of_lt (show t.val < 1 from t.isLt)]

/-- The gradient of a grid point. -/
theorem grad_eq (x0 : Vec Ideal S8x64x128 .bf16) (x1 : Vec Ideal S64x128 .f32) (x2 : Vec Ideal S64x128 .f32) (x3 : Vec Ideal S64x128 .f32) : k0_pay5 x0 x1 x2 x3 = total x0 := by
  unfold k0_pay5 k0_pay4
  exact ker_total x0 _ _ _ _ _ _ _ _ _ _

/-- What a grid point writes, window by window. -/
theorem out_4 (x0 : Vec Ideal S8x64x128 .bf16) (x1 : Vec Ideal S64x128 .f32) (x2 : Vec Ideal S64x128 .f32) (x3 : Vec Ideal S64x128 .f32) : out0_4 x0 x1 x2 x3 = total x0 := by
  unfold out0_4
  rw [View.canon_unit_zero hz, grad_eq]
theorem out_5 (x0 : Vec Ideal S8x64x128 .bf16) (x1 : Vec Ideal S64x128 .f32) (x2 : Vec Ideal S64x128 .f32) (x3 : Vec Ideal S64x128 .f32) : out0_5 x0 x1 x2 x3 = delta x1 (moment1 (total x0) x2) (moment2 (total x0) x3) := by
  unfold out0_5
  rw [View.canon_unit_zero hz, grad_eq]
  repeat rw [View.ld_unit_zero hz]
  rfl
theorem out_6 (x0 : Vec Ideal S8x64x128 .bf16) (x1 : Vec Ideal S64x128 .f32) (x2 : Vec Ideal S64x128 .f32) (x3 : Vec Ideal S64x128 .f32) : out0_6 x0 x1 x2 x3 = moment1 (total x0) x2 := by
  unfold out0_6
  rw [View.canon_unit_zero hz, grad_eq]
  repeat rw [View.ld_unit_zero hz]
  rfl
theorem out_7 (x0 : Vec Ideal S8x64x128 .bf16) (x1 : Vec Ideal S64x128 .f32) (x2 : Vec Ideal S64x128 .f32) (x3 : Vec Ideal S64x128 .f32) : out0_7 x0 x1 x2 x3 = moment2 (total x0) x3 := by
  unfold out0_7
  rw [View.canon_unit_zero hz, grad_eq]
  repeat rw [View.ld_unit_zero hz]
  rfl

/-- The gradient and the new moments. -/
abbrev gradW : Mat 64 128 := total (V m c main_arg0)
abbrev firstW : Mat 64 128 := moment1 (gradW m c) (V m c main_arg2)
abbrev secondW : Mat 64 128 := moment2 (gradW m c) (V m c main_arg3)
/-- The change of the weights. -/
abbrev deltaW : Mat 64 128 := delta (V m c main_arg1) (firstW m c) (secondW m c)

/-- The arrays the kernel leaves. -/
theorem arr_4 : (dats m 0 c).arrAt 4 cfg0.N = gradW m c :=
  eq_of_grid (I := 1) (J := 1) (R := 64) (C := 128) (by decide) (by decide) (by decide) (fun t => (dats m 0 c).flushed 4 t)
    (fun t y i h0 h1 => ((dats m 0 c).arrAt_emb_eq_flushed 4 disjoint4 t (flush0_4 t) y).symm.trans
      (congrArg ((dats m 0 c).arrAt 4 cfg0.N) (a₁ := ((cfg0.win 4).blk t).view.emb y) (emb_of (cfg0.win 4) off_4 t y i (axes h0 h1))))
    (fun t : Fin cfg0.N => by
      rw [flushed4, out_4, col t]
      exact (in_0 m c t).total)
theorem arr_5 : (dats m 0 c).arrAt 5 cfg0.N = deltaW m c :=
  eq_of_grid (I := 1) (J := 1) (R := 64) (C := 128) (by decide) (by decide) (by decide) (fun t => (dats m 0 c).flushed 5 t)
    (fun t y i h0 h1 => ((dats m 0 c).arrAt_emb_eq_flushed 5 disjoint5 t (flush0_5 t) y).symm.trans
      (congrArg ((dats m 0 c).arrAt 5 cfg0.N) (a₁ := ((cfg0.win 5).blk t).view.emb y) (emb_of (cfg0.win 5) off_5 t y i (axes h0 h1))))
    (fun t : Fin cfg0.N => by
      rw [flushed5, out_5, col t]
      exact (in_1 m c t).delta ((in_0 m c t).total.moment1 (in_2 m c t)) ((in_0 m c t).total.moment2 (in_3 m c t)))
theorem arr_6 : (dats m 0 c).arrAt 6 cfg0.N = firstW m c :=
  eq_of_grid (I := 1) (J := 1) (R := 64) (C := 128) (by decide) (by decide) (by decide) (fun t => (dats m 0 c).flushed 6 t)
    (fun t y i h0 h1 => ((dats m 0 c).arrAt_emb_eq_flushed 6 disjoint6 t (flush0_6 t) y).symm.trans
      (congrArg ((dats m 0 c).arrAt 6 cfg0.N) (a₁ := ((cfg0.win 6).blk t).view.emb y) (emb_of (cfg0.win 6) off_6 t y i (axes h0 h1))))
    (fun t : Fin cfg0.N => by
      rw [flushed6, out_6, col t]
      exact (in_0 m c t).total.moment1 (in_2 m c t))
theorem arr_7 : (dats m 0 c).arrAt 7 cfg0.N = secondW m c :=
  eq_of_grid (I := 1) (J := 1) (R := 64) (C := 128) (by decide) (by decide) (by decide) (fun t => (dats m 0 c).flushed 7 t)
    (fun t y i h0 h1 => ((dats m 0 c).arrAt_emb_eq_flushed 7 disjoint7 t (flush0_7 t) y).symm.trans
      (congrArg ((dats m 0 c).arrAt 7 cfg0.N) (a₁ := ((cfg0.win 7).blk t).view.emb y) (emb_of (cfg0.win 7) off_7 t y i (axes h0 h1))))
    (fun t : Fin cfg0.N => by
      rw [flushed7, out_7, col t]
      exact (in_0 m c t).total.moment2 (in_3 m c t))

/-- The kernel's frame at bits. -/
theorem frame_p : Cert.quiescent_Kernel28 := fun m g _ => Cert.Kernel28.Gen.frame m g
/-- The kernel's frame at the extended reals. -/
theorem frame_pi : Cert.quiescent_Kernel28Ideal := fun m g _ => Cert.Kernel28Ideal.Gen.frame m g
/-- The reference's frame: it has no semaphores. -/
theorem frame_ri : Cert.quiescent_Reference28Ideal := fun m g _ =>
  (θ_run _ _ _).mono (fun _ h => ⟨fun c => (h c).2.2.2.2, sem_eq_zero_of_no_sems (by decide) _⟩) (Cert.Reference28Ideal.Value.run m g)

/-- The reference's gradient. -/
theorem host_grad (P : FVec Ideal (SC 64 128) .f32) :
    Host.reduceAdd P (constant Cert.Reference28Ideal.S_ .f32 0x00000000#32) Cert.Reference28Ideal.Gen.reducesTo_S8x64x128_S64x128_d0
      Cert.Reference28Ideal.Gen.h_S_ = total P := host_total P _ _ _ (by decide)

/-- Kernel and reference leave the same gradient, change and moments. -/
theorem value : Cert.algebraic_Kernel28Ideal_Reference28Ideal := fun m g m' g' _ hm => by
  refine ⟨fun c => gradW m c, fun c => deltaW m c, fun c => firstW m c, fun c => secondW m c, ?_, ?_⟩
  · exact (θ_run _ _ _).mono (fun r h c => ⟨(h c).1.trans (arr_4 m c), (h c).2.1.trans (arr_5 m c), (h c).2.2.1.trans (arr_6 m c), (h c).2.2.2.1.trans (arr_7 m c), (h c).2.2.2.2⟩) (run_blocks (F := Ideal) m g)
  · refine (θ_run _ _ _).mono (fun r h c => ?_) (Cert.Reference28Ideal.Value.run (F := Ideal) m' g')
    have e := host_grad (m ((c : Thread nD τ).loc main_arg0))
    refine ⟨(h c).1.trans ?_, (h c).2.1.trans ?_, (h c).2.2.1.trans ?_, (h c).2.2.2.1.trans ?_, (h c).2.2.2.2⟩
    · show _ = gradW m c
      simp only [gradW]
      rw [V_main_arg0, (hm c).1]
      exact e
    · show _ = deltaW m c
      simp only [deltaW, firstW, secondW, gradW]
      rw [V_main_arg0, V_main_arg1, V_main_arg2, V_main_arg3, (hm c).1, (hm c).2.1, (hm c).2.2.1, (hm c).2.2.2]
      exact (host_delta (m ((c : Thread nD τ).loc main_arg1)) _ _ _ _ _ _ _).trans (congrArg₂ (delta (m ((c : Thread nD τ).loc main_arg1))) ((host_moment1 _ (m ((c : Thread nD τ).loc main_arg2)) _ _).trans (congrArg (moment1 · (m ((c : Thread nD τ).loc main_arg2))) e)) ((host_moment2 _ (m ((c : Thread nD τ).loc main_arg3)) _ _).trans (congrArg (moment2 · (m ((c : Thread nD τ).loc main_arg3))) e)))
    · show _ = firstW m c
      simp only [firstW, gradW]
      rw [V_main_arg0, V_main_arg2, (hm c).1, (hm c).2.2.1]
      exact (host_moment1 _ (m ((c : Thread nD τ).loc main_arg2)) _ _).trans (congrArg (moment1 · (m ((c : Thread nD τ).loc main_arg2))) e)
    · show _ = secondW m c
      simp only [secondW, gradW]
      rw [V_main_arg0, V_main_arg3, (hm c).1, (hm c).2.2.2]
      exact (host_moment2 _ (m ((c : Thread nD τ).loc main_arg3)) _ _).trans (congrArg (moment2 · (m ((c : Thread nD τ).loc main_arg3))) e)

end Cert.Prod.P28

end
-- ==== Proof.Prod.V29.lean ====
module

public import proofs.«01_k».proof.Defs
public import proofs.«01_k».proof.Proof.Prod.Adam
public import proofs.«01_k».proof.Proof.Gen.Kernel29.Frame
public import proofs.«01_k».proof.Proof.Gen.Kernel29Ideal.Value
public import proofs.«01_k».proof.Proof.Gen.Reference29Ideal.Run
public import Idealize.ShloMosaic.Adequacy
public import Idealize.ShloMosaic.Init

@[expose] public section

/-! The optimiser's step for the packed replicated vectors. -/

noncomputable section

namespace Cert.Prod.P29

open Idealize.ShloMosaic Idealize.ShloMosaic.TcCoe Idealize.SL.Sem
open Cert.Kernel29Ideal Cert.Kernel29Ideal.Gen Cert.Kernel29Ideal.Value

theorem hz : (![0, 0] : Fin 2 → ℕ) = fun _ => 0 := funext (axes rfl rfl)

/-- Where the windows' blocks start. -/
theorem off_0 : ∀ t a, (cfg0.win 0).index t a * (cfg0.win 0).size a = (![0, 16 * (t.val % 1), 0] : Fin 3 → ℕ) a := by decide +kernel
theorem off_1 : ∀ t a, (cfg0.win 1).index t a * (cfg0.win 1).size a = (![16 * (t.val % 1), 0] : Fin 2 → ℕ) a := by decide +kernel
theorem off_2 : ∀ t a, (cfg0.win 2).index t a * (cfg0.win 2).size a = (![16 * (t.val % 1), 0] : Fin 2 → ℕ) a := by decide +kernel
theorem off_3 : ∀ t a, (cfg0.win 3).index t a * (cfg0.win 3).size a = (![16 * (t.val % 1), 0] : Fin 2 → ℕ) a := by decide +kernel
theorem off_4 : ∀ t a, (cfg0.win 4).index t a * (cfg0.win 4).size a = (![16 * (t.val % 1), 128 * (t.val / 1)] : Fin 2 → ℕ) a := by decide +kernel
theorem off_5 : ∀ t a, (cfg0.win 5).index t a * (cfg0.win 5).size a = (![16 * (t.val % 1), 128 * (t.val / 1)] : Fin 2 → ℕ) a := by decide +kernel
theorem off_6 : ∀ t a, (cfg0.win 6).index t a * (cfg0.win 6).size a = (![16 * (t.val % 1), 128 * (t.val / 1)] : Fin 2 → ℕ) a := by decide +kernel
theorem off_7 : ∀ t a, (cfg0.win 7).index t a * (cfg0.win 7).size a = (![16 * (t.val % 1), 128 * (t.val / 1)] : Fin 2 → ℕ) a := by decide +kernel

variable (m : (ℓ : Loc nD τ sig) → Buf (Elt Ideal) ℓ) (c : Dev nD)

theorem in_0 (t : Fin cfg0.N) : IsRows (iblk m c 0 t) (V m c main_arg0) (16 * (t.val % 1)) := fun k y i h0 h1 =>
  congrArg (V m c main_arg0) (a₁ := ((cfg0.win 0).blk t).view.emb (ValueIdx.ix3 k (y 0) (y 1)))
    (emb_of (cfg0.win 0) off_0 t (ValueIdx.ix3 k (y 0) (y 1)) (ValueIdx.ix3 k (i 0) (i 1)) (fun a => match a with
      | ⟨0, _⟩ => (Nat.zero_add _).symm
      | ⟨1, _⟩ => h0
      | ⟨2, _⟩ => h1.trans (Nat.zero_add _).symm))
theorem in_1 (t : Fin cfg0.N) : IsBlk (iblk m c 1 t) (V m c main_arg1) (16 * (t.val % 1)) 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) (16 * (t.val % 1)) 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (16 * (t.val % 1)) 0 := fun y i h0 h1 =>
  congrArg (V m c main_arg3) (a₁ := ((cfg0.win 3).blk t).view.emb y) (emb_of (cfg0.win 3) off_3 t y i (axes h0 h1))

/-- There is one column of tiles. -/
theorem col (t : Fin cfg0.N) : 128 * (t.val / 1) = 0 := by rw [Nat.div_eq_of_lt (show t.val < 1 from t.isLt)]

/-- The gradient of a grid point. -/
theorem grad_eq (x0 : Vec Ideal S8x16x128 .f32) (x1 : Vec Ideal S16x128 .f32) (x2 : Vec Ideal S16x128 .f32) (x3 : Vec Ideal S16x128 .f32) : k0_pay5 x0 x1 x2 x3 = total x0 := by
  unfold k0_pay5 k0_pay3
  exact ker_total32 x0 _ _ _ _ _ _ _ _ _
/-- The new first moment of a grid point. -/
theorem first_eq (x0 : Vec Ideal S8x16x128 .f32) (x1 : Vec Ideal S16x128 .f32) (x2 : Vec Ideal S16x128 .f32) (x3 : Vec Ideal S16x128 .f32) : k0_pay6 x0 x1 x2 x3 = moment1 (total x0) x2 := by
  unfold k0_pay6
  rw [View.ld_unit_zero hz]
  refine Eq.trans ?_ (congrArg (moment1 · x2) (grad_eq x0 x1 x2 x3))
  rfl

/-- What a grid point writes, window by window. -/
theorem out_4 (x0 : Vec Ideal S8x16x128 .f32) (x1 : Vec Ideal S16x128 .f32) (x2 : Vec Ideal S16x128 .f32) (x3 : Vec Ideal S16x128 .f32) : out0_4 x0 x1 x2 x3 = total x0 := by
  unfold out0_4
  rw [View.canon_unit_zero hz, grad_eq]
theorem out_5 (x0 : Vec Ideal S8x16x128 .f32) (x1 : Vec Ideal S16x128 .f32) (x2 : Vec Ideal S16x128 .f32) (x3 : Vec Ideal S16x128 .f32) : out0_5 x0 x1 x2 x3 = delta x1 (moment1 (total x0) x2) (moment2 (total x0) x3) := by
  unfold out0_5
  rw [View.canon_unit_zero hz, grad_eq, first_eq]
  repeat rw [View.ld_unit_zero hz]
  rfl
theorem out_6 (x0 : Vec Ideal S8x16x128 .f32) (x1 : Vec Ideal S16x128 .f32) (x2 : Vec Ideal S16x128 .f32) (x3 : Vec Ideal S16x128 .f32) : out0_6 x0 x1 x2 x3 = moment1 (total x0) x2 := by
  unfold out0_6
  rw [View.canon_unit_zero hz, first_eq]
theorem out_7 (x0 : Vec Ideal S8x16x128 .f32) (x1 : Vec Ideal S16x128 .f32) (x2 : Vec Ideal S16x128 .f32) (x3 : Vec Ideal S16x128 .f32) : out0_7 x0 x1 x2 x3 = moment2 (total x0) x3 := by
  unfold out0_7
  rw [View.canon_unit_zero hz, grad_eq]
  repeat rw [View.ld_unit_zero hz]
  rfl

/-- The gradient and the new moments. -/
abbrev gradW : Mat 16 128 := total (V m c main_arg0)
abbrev firstW : Mat 16 128 := moment1 (gradW m c) (V m c main_arg2)
abbrev secondW : Mat 16 128 := moment2 (gradW m c) (V m c main_arg3)
/-- The change of the weights. -/
abbrev deltaW : Mat 16 128 := delta (V m c main_arg1) (firstW m c) (secondW m c)

/-- The arrays the kernel leaves. -/
theorem arr_4 : (dats m 0 c).arrAt 4 cfg0.N = gradW m c :=
  eq_of_grid (I := 1) (J := 1) (R := 16) (C := 128) (by decide) (by decide) (by decide) (fun t => (dats m 0 c).flushed 4 t)
    (fun t y i h0 h1 => ((dats m 0 c).arrAt_emb_eq_flushed 4 disjoint4 t (flush0_4 t) y).symm.trans
      (congrArg ((dats m 0 c).arrAt 4 cfg0.N) (a₁ := ((cfg0.win 4).blk t).view.emb y) (emb_of (cfg0.win 4) off_4 t y i (axes h0 h1))))
    (fun t : Fin cfg0.N => by
      rw [flushed4, out_4, col t]
      exact (in_0 m c t).total)
theorem arr_5 : (dats m 0 c).arrAt 5 cfg0.N = deltaW m c :=
  eq_of_grid (I := 1) (J := 1) (R := 16) (C := 128) (by decide) (by decide) (by decide) (fun t => (dats m 0 c).flushed 5 t)
    (fun t y i h0 h1 => ((dats m 0 c).arrAt_emb_eq_flushed 5 disjoint5 t (flush0_5 t) y).symm.trans
      (congrArg ((dats m 0 c).arrAt 5 cfg0.N) (a₁ := ((cfg0.win 5).blk t).view.emb y) (emb_of (cfg0.win 5) off_5 t y i (axes h0 h1))))
    (fun t : Fin cfg0.N => by
      rw [flushed5, out_5, col t]
      exact (in_1 m c t).delta ((in_0 m c t).total.moment1 (in_2 m c t)) ((in_0 m c t).total.moment2 (in_3 m c t)))
theorem arr_6 : (dats m 0 c).arrAt 6 cfg0.N = firstW m c :=
  eq_of_grid (I := 1) (J := 1) (R := 16) (C := 128) (by decide) (by decide) (by decide) (fun t => (dats m 0 c).flushed 6 t)
    (fun t y i h0 h1 => ((dats m 0 c).arrAt_emb_eq_flushed 6 disjoint6 t (flush0_6 t) y).symm.trans
      (congrArg ((dats m 0 c).arrAt 6 cfg0.N) (a₁ := ((cfg0.win 6).blk t).view.emb y) (emb_of (cfg0.win 6) off_6 t y i (axes h0 h1))))
    (fun t : Fin cfg0.N => by
      rw [flushed6, out_6, col t]
      exact (in_0 m c t).total.moment1 (in_2 m c t))
theorem arr_7 : (dats m 0 c).arrAt 7 cfg0.N = secondW m c :=
  eq_of_grid (I := 1) (J := 1) (R := 16) (C := 128) (by decide) (by decide) (by decide) (fun t => (dats m 0 c).flushed 7 t)
    (fun t y i h0 h1 => ((dats m 0 c).arrAt_emb_eq_flushed 7 disjoint7 t (flush0_7 t) y).symm.trans
      (congrArg ((dats m 0 c).arrAt 7 cfg0.N) (a₁ := ((cfg0.win 7).blk t).view.emb y) (emb_of (cfg0.win 7) off_7 t y i (axes h0 h1))))
    (fun t : Fin cfg0.N => by
      rw [flushed7, out_7, col t]
      exact (in_0 m c t).total.moment2 (in_3 m c t))

/-- The kernel's frame at bits. -/
theorem frame_p : Cert.quiescent_Kernel29 := fun m g _ => Cert.Kernel29.Gen.frame m g
/-- The kernel's frame at the extended reals. -/
theorem frame_pi : Cert.quiescent_Kernel29Ideal := fun m g _ => Cert.Kernel29Ideal.Gen.frame m g
/-- The reference's frame: it has no semaphores. -/
theorem frame_ri : Cert.quiescent_Reference29Ideal := fun m g _ =>
  (θ_run _ _ _).mono (fun _ h => ⟨fun c => (h c).2.2.2.2, sem_eq_zero_of_no_sems (by decide) _⟩) (Cert.Reference29Ideal.Value.run m g)

/-- The reference's gradient. -/
theorem host_grad (P : FVec Ideal (SC 16 128) .f32) :
    Host.reduceAdd P (constant Cert.Reference29Ideal.S_ .f32 0x00000000#32) Cert.Reference29Ideal.Gen.reducesTo_S8x16x128_S16x128_d0
      Cert.Reference29Ideal.Gen.h_S_ = total P := host_total P _ _ _ (by decide)

/-- Kernel and reference leave the same gradient, change and moments. -/
theorem value : Cert.algebraic_Kernel29Ideal_Reference29Ideal := fun m g m' g' _ hm => by
  refine ⟨fun c => gradW m c, fun c => deltaW m c, fun c => firstW m c, fun c => secondW m c, ?_, ?_⟩
  · exact (θ_run _ _ _).mono (fun r h c => ⟨(h c).1.trans (arr_4 m c), (h c).2.1.trans (arr_5 m c), (h c).2.2.1.trans (arr_6 m c), (h c).2.2.2.1.trans (arr_7 m c), (h c).2.2.2.2⟩) (run_blocks (F := Ideal) m g)
  · refine (θ_run _ _ _).mono (fun r h c => ?_) (Cert.Reference29Ideal.Value.run (F := Ideal) m' g')
    have e := host_grad (m ((c : Thread nD τ).loc main_arg0))
    refine ⟨(h c).1.trans ?_, (h c).2.1.trans ?_, (h c).2.2.1.trans ?_, (h c).2.2.2.1.trans ?_, (h c).2.2.2.2⟩
    · show _ = gradW m c
      simp only [gradW]
      rw [V_main_arg0, (hm c).1]
      exact e
    · show _ = deltaW m c
      simp only [deltaW, firstW, secondW, gradW]
      rw [V_main_arg0, V_main_arg1, V_main_arg2, V_main_arg3, (hm c).1, (hm c).2.1, (hm c).2.2.1, (hm c).2.2.2]
      exact (host_delta (m ((c : Thread nD τ).loc main_arg1)) _ _ _ _ _ _ _).trans (congrArg₂ (delta (m ((c : Thread nD τ).loc main_arg1))) ((host_moment1 _ (m ((c : Thread nD τ).loc main_arg2)) _ _).trans (congrArg (moment1 · (m ((c : Thread nD τ).loc main_arg2))) e)) ((host_moment2 _ (m ((c : Thread nD τ).loc main_arg3)) _ _).trans (congrArg (moment2 · (m ((c : Thread nD τ).loc main_arg3))) e)))
    · show _ = firstW m c
      simp only [firstW, gradW]
      rw [V_main_arg0, V_main_arg2, (hm c).1, (hm c).2.2.1]
      exact (host_moment1 _ (m ((c : Thread nD τ).loc main_arg2)) _ _).trans (congrArg (moment1 · (m ((c : Thread nD τ).loc main_arg2))) e)
    · show _ = secondW m c
      simp only [secondW, gradW]
      rw [V_main_arg0, V_main_arg3, (hm c).1, (hm c).2.2.2]
      exact (host_moment2 _ (m ((c : Thread nD τ).loc main_arg3)) _ _).trans (congrArg (moment2 · (m ((c : Thread nD τ).loc main_arg3))) e)

end Cert.Prod.P29

end
-- ==== Proof.Prod.NormBwd.lean ====
module

public import proofs.«01_k».proof.Proof.Prod.Norm

@[expose] public section

/-! The gradients of the root-mean-square norm of the rows of a matrix of 1024 columns: into the matrix, with the
residual's gradient added, and into the gains. The kernel's form and the host's, that they agree, and
what a block of rows of one is. -/

noncomputable section

namespace Cert.Prod

open Idealize.ShloMosaic hiding ix1 ix2 eq_ix2
open Idealize.ShloMosaic.ValueIdx

variable {R : ℕ}

/-- The sum of a row's products. -/
def dots (A B : Mat R 1024) (r : Fin R) : EReal := ∑ k : Fin 1024, A (ix2 r k) * B (ix2 r k)
/-- A matrix with a gain for each column. -/
def gained (d : Mat R 1024) (g : Mat 1 1024) : Mat R 1024 := fun i => d i * g (ix2 0 (i 1))
/-- A row's mean square from the sum of its squares, with the constant that keeps it from zero. -/
def varOf (s : EReal) : EReal :=
  FloatOps.addf (F := Ideal) (φ := .f32) (FloatOps.divf s (Scalar.ofBits .f32 0x44800000#32)) (Scalar.ofBits .f32 0x358637BD#32)
/-- The gradient into one element: `x` the element, `s` the row's factor, `t` the gradient times the gain, `p` the
row's sum of products. -/
def gradAt (x s t p : EReal) : EReal :=
  s * t - x * s * (s * s) * FloatOps.divf (F := Ideal) (φ := .f32) p (Scalar.ofBits .f32 0x44800000#32)
/-- The gradient into the matrix. -/
def gradX (A : Mat R 1024) (g : Mat 1 1024) (d e : Mat R 1024) : Mat R 1024 := fun i =>
  gradAt (A i) (scaleOf (squares A (i 0))) (gained d g i) (dots A (gained d g) (i 0)) + e i
/-- The gradient times the normed element. -/
def gainTerm (A d : Mat R 1024) : Mat R 1024 := fun i => d i * (A i * scaleOf (squares A (i 0)))
/-- The gradient into the gains. -/
def gradG (A d : Mat R 1024) : Mat 1 1024 := fun i => ∑ r : Fin R, gainTerm A d (ix2 r (i 1))

variable {R' r : ℕ}

theorem squares_blk {X : Mat R' 1024} {A : Mat R 1024} (hX : IsBlk X A r 0) (y : Fin R') (i : Fin R) (h : i.val = r + y.val) :
    squares X y = squares A i := Finset.sum_congr rfl fun k _ =>
  congrArg₂ (· * ·) (hX _ _ h (Nat.zero_add _).symm) (hX _ _ h (Nat.zero_add _).symm)
theorem dots_blk {X Y : Mat R' 1024} {A B : Mat R 1024} (hX : IsBlk X A r 0) (hY : IsBlk Y B r 0) (y : Fin R') (i : Fin R)
    (h : i.val = r + y.val) : dots X Y y = dots A B i := Finset.sum_congr rfl fun k _ =>
  congrArg₂ (· * ·) (hX _ _ h (Nat.zero_add _).symm) (hY _ _ h (Nat.zero_add _).symm)
theorem IsBlk.gained {X : Mat R' 1024} {d : Mat R 1024} {g g' : Mat 1 1024} (hX : IsBlk X d r 0) (hg : IsBlk g g' 0 0) :
    IsBlk (gained X g) (gained d g') r 0 := fun y i h0 h1 => congrArg₂ (· * ·) (hX y i h0 h1) (hg _ _ rfl h1)
/-- A block of rows of the gradient into the matrix. -/
theorem IsBlk.gradX {X D Z : Mat R' 1024} {A d e : Mat R 1024} {g g' : Mat 1 1024} (hX : IsBlk X A r 0) (hg : IsBlk g g' 0 0)
    (hD : IsBlk D d r 0) (hZ : IsBlk Z e r 0) : IsBlk (gradX X g D Z) (gradX A g' d e) r 0 := fun y i h0 h1 => by
  show gradAt _ _ _ _ + _ = gradAt _ _ _ _ + _
  rw [hX y i h0 h1, hZ y i h0 h1, squares_blk hX _ _ h0, (hD.gained hg) y i h0 h1, dots_blk hX (hD.gained hg) _ _ h0]
theorem IsBlk.gainTerm {X D : Mat R' 1024} {A d : Mat R 1024} (hX : IsBlk X A r 0) (hD : IsBlk D d r 0) :
    IsBlk (gainTerm X D) (gainTerm A d) r 0 := fun y i h0 h1 => by
  show _ * (_ * scaleOf _) = _ * (_ * scaleOf _)
  rw [hX y i h0 h1, hD y i h0 h1, squares_blk hX _ _ h0]

/-! ## The kernel -/

/-- A sum over the columns, as one column. -/
theorem ker_rowSum (B : FVec Ideal (SM R 1024) .f32) (hr : (SM R 1024).Reduces [1] (SV R)) (hc : (SV R).ShapeCasts (SM R 1)) (r : Fin R) :
    shapeCast (SM R 1) (multiReduction .add [1] (SV R) B 0x00000000#32 hr (.inl rfl) rfl) hc (ix2 r 0) = ∑ k : Fin 1024, B (ix2 r k) := by
  refine (shapeCast_apply _ hc (ix2 r 0) (ix1 r) (by
    rw [Shape.rowMajor_val_one, Shape.rowMajor_val_two]
    show r.val = r.val * 1 + 0
    omega)).trans ?_
  refine (Ideal.multiReduction_add_single _ _ hr _ _ _).trans ?_
  refine Finset.sum_congr rfl fun k _ => ?_
  exact congrArg B (funext fun a => Fin.ext (by
    match a with
    | ⟨0, _⟩ => rfl
    | ⟨1, _⟩ => rfl))

/-- The kernel's gradient into the matrix. -/
theorem ker_gradX (hR : R ≠ 1) (A : FVec Ideal (SM R 1024) .f32) (g : FVec Ideal (SM 1 1024) .f32) (d e : FVec Ideal (SM R 1024) .f32)
    (hr : (SM R 1024).Reduces [1] (SV R)) (hc : (SV R).ShapeCasts (SM R 1)) (hb : (SM R 1).Broadcasts (SM R 1024))
    (hb' : (SM 1 1024).Broadcasts (SM R 1024)) :
    addf (subf (mulf (broadcastTo (SM R 1024) (kerScale A hr hc) hb) (mulf d (broadcastTo (SM R 1024) g hb')))
      (mulf (mulf (mulf A (broadcastTo (SM R 1024) (kerScale A hr hc) hb)) (broadcastTo (SM R 1024) (mulf (kerScale A hr hc) (kerScale A hr hc)) hb))
        (broadcastTo (SM R 1024) (divf (shapeCast (SM R 1) (multiReduction .add [1] (SV R)
          (mulf A (mulf d (broadcastTo (SM R 1024) g hb'))) 0x00000000#32 hr (.inl rfl) rfl) hc)
          (broadcast (SM R 1) (Scalar.ofBits .f32 0x44800000#32))) hb))) e = gradX A g d e := by
  have hg : ∀ (r : Fin R) (k : Fin 1024), broadcastTo (SM R 1024) g hb' (ix2 r k) = g (ix2 0 k) := fun r k =>
    broadcastTo_apply g hb' (ix2 r k) (ix2 (0 : Fin 1) k) (axes (if_pos rfl).symm (if_neg (by decide)).symm)
  have hcol : ∀ (v : FVec Ideal (SM R 1) .f32) (r : Fin R) (k : Fin 1024), broadcastTo (SM R 1024) v hb (ix2 r k) = v (ix2 r 0) := fun v r k =>
    broadcastTo_apply v hb (ix2 r k) (ix2 r (0 : Fin 1)) (axes (if_neg hR).symm (if_pos rfl).symm)
  funext i
  obtain ⟨r, k, rfl⟩ : ∃ (r : Fin R) (k : Fin 1024), i = ix2 r k := ⟨i 0, i 1, eq_ix2 i⟩
  have hs := (hcol (kerScale A hr hc) r k).trans (kerScale_at A hr hc r)
  have hss : broadcastTo (SM R 1024) (mulf (kerScale A hr hc) (kerScale A hr hc)) hb (ix2 r k) = (scaleOf (squares A r) * scaleOf (squares A r) : EReal) :=
    (hcol _ r k).trans (congrArg (fun a : EReal => a * a) (kerScale_at A hr hc r))
  have hp : shapeCast (SM R 1) (multiReduction .add [1] (SV R) (mulf A (mulf d (broadcastTo (SM R 1024) g hb'))) 0x00000000#32 hr (.inl rfl) rfl) hc (ix2 r 0)
      = dots A (gained d g) r := (ker_rowSum _ hr hc r).trans (Finset.sum_congr rfl fun k _ =>
    congrArg (fun a : EReal => A (ix2 r k) * (d (ix2 r k) * a)) (hg r k))
  refine congrArg (fun a : EReal => a + e (ix2 r k)) ?_
  refine congrArg₂ (fun a b : EReal => a - b) (congrArg₂ (fun a b : EReal => a * (d (ix2 r k) * b)) hs (hg r k)) ?_
  refine congrArg₂ (fun a b : EReal => a * b) (congrArg₂ (fun a b : EReal => A (ix2 r k) * a * b) hs hss) ?_
  exact (hcol _ r k).trans (congrArg (fun a : EReal => FloatOps.divf (F := Ideal) (φ := .f32) a (Scalar.ofBits .f32 0x44800000#32)) hp)

/-- The kernel's gradient into the gains, from a block of rows. -/
theorem ker_gradG (hR : R ≠ 1) (A d : FVec Ideal (SM R 1024) .f32) (hr : (SM R 1024).Reduces [1] (SV R)) (hc : (SV R).ShapeCasts (SM R 1))
    (hb : (SM R 1).Broadcasts (SM R 1024)) (hr' : (SM R 1024).Reduces [0] (SV 1024)) (hc' : (SV 1024).ShapeCasts (SM 1 1024)) :
    shapeCast (SM 1 1024) (multiReduction .add [0] (SV 1024) (mulf d (mulf A (broadcastTo (SM R 1024) (kerScale A hr hc) hb))) 0x00000000#32 hr' (.inl rfl) rfl) hc'
      = gradG A d := by
  funext i
  obtain ⟨z, k, rfl⟩ : ∃ (z : Fin 1) (k : Fin 1024), i = ix2 z k := ⟨i 0, i 1, eq_ix2 i⟩
  refine (shapeCast_apply _ hc' (ix2 z k) (ix1 k) (by
    rw [Shape.rowMajor_val_one, Shape.rowMajor_val_two]
    show k.val = z.val * 1024 + k.val
    omega)).trans ?_
  refine (Ideal.multiReduction_add_single _ _ hr' _ _ _).trans ?_
  refine Finset.sum_congr rfl fun q _ => ?_
  have e : hr'.lift (ix1 k) q = ix2 q k := funext fun a => Fin.ext (by
    match a with
    | ⟨0, _⟩ => rfl
    | ⟨1, _⟩ => rfl)
  refine (congrArg _ e).trans ?_
  exact congrArg (fun a : EReal => d (ix2 q k) * (A (ix2 q k) * a))
    ((broadcastTo_apply _ hb (ix2 q k) (ix2 q (0 : Fin 1)) (axes (if_neg hR).symm (if_pos rfl).symm)).trans (kerScale_at A hr hc q))

/-! ## The host -/

/-- A row's coefficient in the host's gradient: half of what the mean square's gradient gives each element. -/
def coefOf (p q : EReal) : EReal :=
  FloatOps.divf (F := Ideal) (φ := .f32) (p * (Scalar.ofBits (F := Ideal) .f32 0xBF000000#32 * FloatOps.divf (F := Ideal) (φ := .f32) (scaleOf q) (varOf q)))
    (Scalar.ofBits .f32 0x44800000#32)

abbrev S0 : Shape := ⟨0, ![]⟩

/-- The host's sum over the columns. -/
theorem host_rowSum (B : FVec Ideal (SM R 1024) .f32) (h0 : 0 < S0.numel) (hr : (SM R 1024).ReducesTo [1] (SV R))
    (hr' : (SM R 1024).Reduces [1] (SV R)) (r : Fin R) :
    Host.reduceAdd B (constant S0 .f32 0x00000000#32) hr h0 (ix1 r) = ∑ k : Fin 1024, B (ix2 r k) := by
  simp only [Host.reduceAdd, Ideal.hostReduceAdd_def]
  rw [Ideal.hostReduceAdd_single hr hr']
  refine (congrArg (· + _) Ideal.ofBits_zero_f32).trans ((zero_add _).trans (Finset.sum_congr rfl fun k _ => ?_))
  exact congrArg B (funext fun a => Fin.ext (by
    match a with
    | ⟨0, _⟩ => rfl
    | ⟨1, _⟩ => rfl))

/-- The host's column of the rows' mean squares. -/
abbrev hostVar (A : FVec Ideal (SM R 1024) .f32) (h0 : 0 < S0.numel) (hr : (SM R 1024).ReducesTo [1] (SV R))
    (b2 : (SV R).BroadcastsInDim (SM R 1) ![0]) (b3 : S0.BroadcastsInDim (SM R 1) ![]) : FVec Ideal (SM R 1) .f32 :=
  addf (Host.divf (broadcastInDim (SM R 1) ![0] b2 (Host.reduceAdd (mulf A A) (constant S0 .f32 0x00000000#32) hr h0))
    (broadcastInDim (SM R 1) ![] b3 (constant S0 .f32 0x44800000#32))) (broadcastInDim (SM R 1) ![] b3 (constant S0 .f32 0x358637BD#32))

theorem hostVar_at (hR : R ≠ 1) (A : FVec Ideal (SM R 1024) .f32) (h0 : 0 < S0.numel) (hr : (SM R 1024).ReducesTo [1] (SV R))
    (hr' : (SM R 1024).Reduces [1] (SV R)) (b2 : (SV R).BroadcastsInDim (SM R 1) ![0]) (b3 : S0.BroadcastsInDim (SM R 1) ![]) (r : Fin R) :
    hostVar A h0 hr b2 b3 (ix2 r 0) = varOf (squares A r) :=
  congrArg varOf ((broadcastInDim_apply _ b2 _ (ix2 r (0 : Fin 1)) (ix1 r) (fun a => match a with | ⟨0, _⟩ => (if_neg hR).symm)).trans
    (host_rowSum (mulf A A) h0 hr hr' r))

/-- The host's gains, a row of them for each row. -/
abbrev hostGain (R : ℕ) (g : FVec Ideal (SM 1 1024) .f32) (b5 : (SM 1 1024).BroadcastsInDim (SM R 1024) ![0, 1])
    (b6 : (SV 1024).BroadcastsInDim (SM 1 1024) ![1]) (hc : (SM 1 1024).ShapeCasts (SV 1024)) : FVec Ideal (SM R 1024) .f32 :=
  broadcastInDim (SM R 1024) ![0, 1] b5 (broadcastInDim (SM 1 1024) ![1] b6 (shapeCast (SV 1024) g hc))

theorem hostGain_at (g : FVec Ideal (SM 1 1024) .f32) (b5 : (SM 1 1024).BroadcastsInDim (SM R 1024) ![0, 1])
    (b6 : (SV 1024).BroadcastsInDim (SM 1 1024) ![1]) (hc : (SM 1 1024).ShapeCasts (SV 1024)) (r : Fin R) (k : Fin 1024) :
    hostGain R g b5 b6 hc (ix2 r k) = g (ix2 0 k) := by
  refine (broadcastInDim_apply _ b5 _ (ix2 r k) (ix2 (0 : Fin 1) k) (axes (if_pos rfl).symm (if_neg (by decide)).symm)).trans ?_
  refine (broadcastInDim_apply _ b6 _ (ix2 (0 : Fin 1) k) (ix1 k) (fun a => match a with | ⟨0, _⟩ => (if_neg (show ¬(1024 : ℕ) = 1 by decide)).symm)).trans ?_
  exact shapeCast_apply g hc (ix1 k) (ix2 (0 : Fin 1) k) (by
    rw [Shape.rowMajor_val_one, Shape.rowMajor_val_two]
    show 0 * 1024 + k.val = k.val
    omega)

/-- The host's matrix of the rows' coefficients. -/
abbrev hostCoef (A B : FVec Ideal (SM R 1024) .f32) (h0 : 0 < S0.numel) (hr : (SM R 1024).ReducesTo [1] (SV R))
    (b2 : (SV R).BroadcastsInDim (SM R 1) ![0]) (b3 : S0.BroadcastsInDim (SM R 1) ![]) (hc : (SV R).ShapeCasts (SM R 1))
    (h1 : (SM R 1).ReducesTo [1] (SV R)) (b7 : (SV R).BroadcastsInDim (SM R 1024) ![0]) : FVec Ideal (SM R 1024) .f32 :=
  broadcastInDim (SM R 1024) ![0] b7 (Host.reduceAdd (Host.divf (mulf (shapeCast (SM R 1) (Host.reduceAdd (mulf A B) (constant S0 .f32 0x00000000#32) hr h0) hc)
    (mulf (broadcastInDim (SM R 1) ![] b3 (constant S0 .f32 0xBF000000#32)) (Host.divf (Host.rsqrt (hostVar A h0 hr b2 b3)) (hostVar A h0 hr b2 b3))))
    (broadcastInDim (SM R 1) ![] b3 (constant S0 .f32 0x44800000#32))) (constant S0 .f32 0x00000000#32) h1 h0)

theorem hostCoef_at (hR : R ≠ 1) (A B : FVec Ideal (SM R 1024) .f32) (h0 : 0 < S0.numel) (hr : (SM R 1024).ReducesTo [1] (SV R))
    (hr' : (SM R 1024).Reduces [1] (SV R)) (b2 : (SV R).BroadcastsInDim (SM R 1) ![0]) (b3 : S0.BroadcastsInDim (SM R 1) ![])
    (hc : (SV R).ShapeCasts (SM R 1)) (h1 : (SM R 1).ReducesTo [1] (SV R)) (h1' : (SM R 1).Reduces [1] (SV R))
    (b7 : (SV R).BroadcastsInDim (SM R 1024) ![0]) (r : Fin R) (k : Fin 1024) :
    hostCoef A B h0 hr b2 b3 hc h1 b7 (ix2 r k) = coefOf (dots A B r) (squares A r) := by
  refine (broadcastInDim_apply _ b7 _ (ix2 r k) (ix1 r) (fun a => match a with | ⟨0, _⟩ => (if_neg hR).symm)).trans ?_
  simp only [Host.reduceAdd, Ideal.hostReduceAdd_def]
  rw [Ideal.hostReduceAdd_single h1 h1']
  refine (congrArg (· + _) Ideal.ofBits_zero_f32).trans ((zero_add _).trans ?_)
  refine Eq.trans (Finset.sum_congr rfl (g := fun _ : Fin 1 => coefOf (dots A B r) (squares A r)) fun z _ => ?_) (Fin.sum_univ_one _)
  have e : h1'.lift (ix1 r) z = ix2 r 0 := funext fun a => Fin.ext (by
    match a with
    | ⟨0, _⟩ => rfl
    | ⟨1, _⟩ => exact Nat.lt_one_iff.mp z.isLt)
  refine (congrArg _ e).trans ?_
  have hv := hostVar_at hR A h0 hr hr' b2 b3 r
  have hp : shapeCast (SM R 1) (Host.reduceAdd (mulf A B) (constant S0 .f32 0x00000000#32) hr h0) hc (ix2 r 0) = dots A B r := by
    refine (shapeCast_apply _ hc (ix2 r 0) (ix1 r) (by
      rw [Shape.rowMajor_val_one, Shape.rowMajor_val_two]
      show r.val = r.val * 1 + 0
      omega)).trans ?_
    exact host_rowSum (mulf A B) h0 hr hr' r
  exact congrArg₂ (fun a v : EReal => FloatOps.divf (F := Ideal) (φ := .f32) (a * (Scalar.ofBits (F := Ideal) .f32 0xBF000000#32 *
    FloatOps.divf (F := Ideal) (φ := .f32) (FloatOps.rsqrt (F := Ideal) (φ := .f32) v) v)) (Scalar.ofBits .f32 0x44800000#32)) hp hv

/-! ## The two agree -/

theorem lit_1024 : (Scalar.ofBits (F := Ideal) .f32 0x44800000#32 : EReal) = ((1024 : ℝ) : EReal) := by
  show Ideal.ofBits .f32 0x44800000#32 = _
  simp [Ideal.ofBits, Ideal.ieee, -EReal.coe_mul]; norm_num
theorem lit_half : (Scalar.ofBits (F := Ideal) .f32 0xBF000000#32 : EReal) = ((-(1 / 2) : ℝ) : EReal) := by
  show Ideal.ofBits .f32 0xBF000000#32 = _
  simp [Ideal.ofBits, Ideal.ieee, -EReal.coe_mul]; norm_num
theorem lit_eps : ∃ ε : ℝ, 0 < ε ∧ (Scalar.ofBits (F := Ideal) .f32 0x358637BD#32 : EReal) = (ε : EReal) := by
  refine ⟨(2 ^ 23 + 407485 : ℕ) * (2 : ℝ) ^ (-43 : ℤ), by positivity, ?_⟩
  show Ideal.ofBits .f32 0x358637BD#32 = _
  simp [Ideal.ofBits, Ideal.ieee, -EReal.coe_mul]

/-- Twice the half of a number. -/
theorem half_twice (y : EReal) (b : ℝ) (hb : 0 < b) : y * ((-(b / 2) : ℝ) : EReal) + y * ((-(b / 2) : ℝ) : EReal) = -(y * (b : EReal)) := by
  have h : -(b / 2) < 0 := by linarith
  induction y with
  | bot => rw [EReal.bot_mul_coe_of_neg h, EReal.bot_mul_coe_of_pos hb]; rfl
  | top => rw [EReal.top_mul_coe_of_neg h, EReal.top_mul_coe_of_pos hb]; rfl
  | coe y => norm_cast; ring

theorem squares_nonneg (A : Mat R 1024) (r : Fin R) : 0 ≤ squares A r := Finset.sum_nonneg fun k _ => by
  generalize A (ix2 r k) = a
  induction a with
  | bot => rw [EReal.bot_mul_bot]; exact le_top
  | top => rw [EReal.top_mul_top]; exact le_top
  | coe a => exact_mod_cast mul_self_nonneg a

/-- The host's gradient of an element is the kernel's. -/
theorem elt_eq (x e t p q : EReal) (hq : 0 ≤ q) :
    e + t * scaleOf q + x * coefOf p q + coefOf p q * x = gradAt x (scaleOf q) t p + e := by
  obtain ⟨ε, hε, he⟩ := lit_eps
  induction q with
  | bot => exact absurd hq (by simp)
  | top =>
    have hv : varOf ⊤ = ⊤ := by
      show Ideal.div ⊤ _ + _ = _
      rw [lit_1024, he, Ideal.div_coe (by norm_num), EReal.top_mul_coe_of_pos (by norm_num)]
      exact EReal.top_add_coe ε
    have hs : scaleOf ⊤ = 0 := by
      show Ideal.rsqrt (varOf ⊤) = _
      rw [hv]; rfl
    have hc : coefOf p ⊤ = 0 := by
      show Ideal.div (p * (_ * Ideal.div (scaleOf ⊤) (varOf ⊤))) _ = _
      have h0 : Ideal.div 0 ⊤ = 0 := (if_neg EReal.top_ne_zero).trans (zero_mul _)
      rw [hs, hv, h0, mul_zero, mul_zero, lit_1024, Ideal.div_coe (by norm_num), zero_mul]
    show _ = (_ - _ : EReal) + e
    rw [hc, hs]
    simp
  | coe q =>
    have hq' : 0 ≤ q := by exact_mod_cast hq
    have hμ : 0 < q * (1 / 1024) + ε := by positivity
    have hv : varOf q = ((q * (1 / 1024) + ε : ℝ) : EReal) := by
      show Ideal.div (q : EReal) _ + _ = _
      rw [lit_1024, he, Ideal.div_coe (by norm_num)]
      norm_cast
    obtain ⟨s, hs0, hss, hs⟩ : ∃ s : ℝ, 0 < s ∧ 1 / (q * (1 / 1024) + ε) = s * s ∧ scaleOf q = (s : EReal) := by
      refine ⟨(Real.sqrt (q * (1 / 1024) + ε))⁻¹, by positivity, ?_, ?_⟩
      · rw [← mul_inv, Real.mul_self_sqrt hμ.le, one_div]
      · show Ideal.rsqrt (varOf q) = _
        rw [hv, Ideal.rsqrt_coe, if_neg (not_lt.mpr hμ.le), if_neg hμ.ne']
    have hc : coefOf p q = p * ((-(s * (s * s) * (1 / 1024) / 2) : ℝ) : EReal) := by
      show Ideal.div (p * (_ * Ideal.div (scaleOf q) (varOf q))) _ = _
      rw [lit_1024, lit_half, hs, hv, Ideal.div_coe hμ.ne', Ideal.div_coe (by norm_num), hss, mul_assoc]
      congr 1
      norm_cast
      ring
    have hg : gradAt x (scaleOf q) t p = t * s + -(x * p * ((s * (s * s) * (1 / 1024) : ℝ) : EReal)) := by
      show (_ - _ * Ideal.div p _ : EReal) = _
      rw [lit_1024, hs, Ideal.div_coe (by norm_num), sub_eq_add_neg, mul_comm t]
      congr 2
      push_cast
      ac_rfl
    rw [hg, hc, hs, mul_comm (p * _) x, add_assoc, ← mul_assoc, half_twice _ _ (by positivity), add_comm e, add_right_comm]

/-- The host's gradient into the matrix. -/
theorem host_gradX (hR : R ≠ 1) (A : FVec Ideal (SM R 1024) .f32) (g : FVec Ideal (SM 1 1024) .f32) (d e : FVec Ideal (SM R 1024) .f32)
    (h0 : 0 < S0.numel) (hr : (SM R 1024).ReducesTo [1] (SV R))
    (hr' : (SM R 1024).Reduces [1] (SV R)) (b1 : (SM R 1).BroadcastsInDim (SM R 1024) ![0, 1]) (b2 : (SV R).BroadcastsInDim (SM R 1) ![0])
    (b3 : S0.BroadcastsInDim (SM R 1) ![]) (b5 : (SM 1 1024).BroadcastsInDim (SM R 1024) ![0, 1])
    (b6 : (SV 1024).BroadcastsInDim (SM 1 1024) ![1]) (hc : (SV R).ShapeCasts (SM R 1)) (hc' : (SM 1 1024).ShapeCasts (SV 1024))
    (h1 : (SM R 1).ReducesTo [1] (SV R)) (h1' : (SM R 1).Reduces [1] (SV R)) (b7 : (SV R).BroadcastsInDim (SM R 1024) ![0]) :
    addf (addf (addf e (mulf (mulf d (hostGain R g b5 b6 hc')) (broadcastInDim (SM R 1024) ![0, 1] b1 (Host.rsqrt (hostVar A h0 hr b2 b3)))))
      (mulf A (hostCoef A (mulf d (hostGain R g b5 b6 hc')) h0 hr b2 b3 hc h1 b7)))
      (mulf (hostCoef A (mulf d (hostGain R g b5 b6 hc')) h0 hr b2 b3 hc h1 b7) A) = gradX A g d e := by
  have hd : mulf d (hostGain R g b5 b6 hc') = gained d g := funext fun i => by
    obtain ⟨r, k, rfl⟩ : ∃ (r : Fin R) (k : Fin 1024), i = ix2 r k := ⟨i 0, i 1, eq_ix2 i⟩
    exact congrArg (fun a : EReal => d (ix2 r k) * a) (hostGain_at g b5 b6 hc' r k)
  rw [hd]
  funext i
  obtain ⟨r, k, rfl⟩ : ∃ (r : Fin R) (k : Fin 1024), i = ix2 r k := ⟨i 0, i 1, eq_ix2 i⟩
  have hs : broadcastInDim (SM R 1024) ![0, 1] b1 (Host.rsqrt (hostVar A h0 hr b2 b3)) (ix2 r k) = scaleOf (squares A r) :=
    (broadcastInDim_apply _ b1 _ (ix2 r k) (ix2 r (0 : Fin 1)) (axes (if_neg hR).symm (if_pos rfl).symm)).trans
      (congrArg (fun v : EReal => FloatOps.rsqrt (F := Ideal) (φ := .f32) v) (hostVar_at hR A h0 hr hr' b2 b3 r))
  have hk := hostCoef_at hR A (gained d g) h0 hr hr' b2 b3 hc h1 h1' b7 r k
  refine (congrArg₂ (fun s c : EReal => e (ix2 r k) + gained d g (ix2 r k) * s + A (ix2 r k) * c + c * A (ix2 r k)) hs hk).trans ?_
  exact elt_eq _ _ _ _ _ (squares_nonneg A r)

/-- The host's gradient into the gains. -/
theorem host_gradG (hR : R ≠ 1) (A d : FVec Ideal (SM R 1024) .f32) (h0 : 0 < S0.numel) (hr : (SM R 1024).ReducesTo [1] (SV R))
    (hr' : (SM R 1024).Reduces [1] (SV R)) (b1 : (SM R 1).BroadcastsInDim (SM R 1024) ![0, 1]) (b2 : (SV R).BroadcastsInDim (SM R 1) ![0])
    (b3 : S0.BroadcastsInDim (SM R 1) ![]) (b6 : (SV 1024).BroadcastsInDim (SM 1 1024) ![1]) (hc : (SV 1024).ShapeCasts (SM 1 1024))
    (h2 : (SM R 1024).ReducesTo [0] (SV 1024)) (h2' : (SM R 1024).Reduces [0] (SV 1024))
    (h3 : (SM 1 1024).ReducesTo [0] (SV 1024)) (h3' : (SM 1 1024).Reduces [0] (SV 1024)) :
    broadcastInDim (SM 1 1024) ![1] b6 (Host.reduceAdd (shapeCast (SM 1 1024) (Host.reduceAdd (mulf (mulf A
      (broadcastInDim (SM R 1024) ![0, 1] b1 (Host.rsqrt (hostVar A h0 hr b2 b3)))) d) (constant S0 .f32 0x00000000#32) h2 h0) hc)
      (constant S0 .f32 0x00000000#32) h3 h0) = gradG A d := by
  funext i
  obtain ⟨z, k, rfl⟩ : ∃ (z : Fin 1) (k : Fin 1024), i = ix2 z k := ⟨i 0, i 1, eq_ix2 i⟩
  refine (broadcastInDim_apply _ b6 _ (ix2 z k) (ix1 k) (fun a => match a with | ⟨0, _⟩ => (if_neg (show ¬(1024 : ℕ) = 1 by decide)).symm)).trans ?_
  simp only [Host.reduceAdd, Ideal.hostReduceAdd_def]
  rw [Ideal.hostReduceAdd_single h3 h3']
  refine (congrArg (· + _) Ideal.ofBits_zero_f32).trans ((zero_add _).trans ?_)
  refine Eq.trans (Finset.sum_congr rfl (g := fun _ : Fin 1 => gradG A d (ix2 z k)) fun w _ => ?_) (Fin.sum_univ_one _)
  refine (shapeCast_apply _ hc _ (ix1 k) (by
    rw [Shape.rowMajor_val_one, Shape.rowMajor_val_two]
    show k.val = w.val * 1024 + k.val
    have : w.val = 0 := Nat.lt_one_iff.mp w.isLt
    omega)).trans ?_
  rw [Ideal.hostReduceAdd_single h2 h2']
  refine (congrArg (· + _) Ideal.ofBits_zero_f32).trans ((zero_add _).trans (Finset.sum_congr rfl fun q _ => ?_))
  have e : h2'.lift (ix1 k) q = ix2 q k := funext fun a => Fin.ext (by
    match a with
    | ⟨0, _⟩ => rfl
    | ⟨1, _⟩ => rfl)
  refine (congrArg _ e).trans ?_
  have hs : broadcastInDim (SM R 1024) ![0, 1] b1 (Host.rsqrt (hostVar A h0 hr b2 b3)) (ix2 q k) = scaleOf (squares A q) :=
    (broadcastInDim_apply _ b1 _ (ix2 q k) (ix2 q (0 : Fin 1)) (axes (if_neg hR).symm (if_pos rfl).symm)).trans
      (congrArg (fun v : EReal => FloatOps.rsqrt (F := Ideal) (φ := .f32) v) (hostVar_at hR A h0 hr hr' b2 b3 q))
  exact (congrArg (fun a : EReal => A (ix2 q k) * a * d (ix2 q k)) hs).trans (mul_comm _ _)

end Cert.Prod

end
-- ==== Proof.Prod.V30.lean ====
module

public import proofs.«01_k».proof.Defs
public import proofs.«01_k».proof.Proof.Prod.NormBwd
public import proofs.«01_k».proof.Proof.Gen.Kernel30.Frame
public import proofs.«01_k».proof.Proof.Gen.Kernel30Ideal.Value
public import proofs.«01_k».proof.Proof.Gen.Reference30Ideal.Run
public import Idealize.ShloMosaic.Lib.Pipeline.ValueKit
public import Idealize.ShloMosaic.Adequacy
public import Idealize.ShloMosaic.Init

@[expose] public section

/-! The gradient into the layer's input and into its norm's gains: each grid point writes its rows of the one and adds
its rows' part of the other. -/

noncomputable section

namespace Cert.Prod.P30

open Idealize.ShloMosaic Idealize.ShloMosaic.TcCoe Idealize.ShloMosaic.Tactic Idealize.SL.Sem
open Cert.Kernel30Ideal Cert.Kernel30Ideal.Gen Cert.Kernel30Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![0, 0] : Fin 2 → ℕ) a := by decide +kernel
theorem off_2 : ∀ t a, (cfg0.win 2).index t a * (cfg0.win 2).size a = (![688 * (t.val % 6), 0] : Fin 2 → ℕ) a := by decide +kernel
theorem off_3 : ∀ t a, (cfg0.win 3).index t a * (cfg0.win 3).size a = (![688 * (t.val % 6), 0] : Fin 2 → ℕ) a := by decide +kernel
theorem off_4 : ∀ t a, (cfg0.win 4).index t a * (cfg0.win 4).size a = (![688 * (t.val % 6), 1024 * (t.val / 6)] : Fin 2 → ℕ) a := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) 0 0 := fun y i h0 h1 =>
  congrArg (V m c main_arg1) (a₁ := ((cfg0.win 1).blk t).view.emb y) (emb_of (cfg0.win 1) off_1 t y i (axes h0 h1))
theorem in_2 (t : Fin cfg0.N) : IsBlk (iblk m c 2 t) (V m c main_arg2) (688 * (t.val % 6)) 0 := fun y i h0 h1 =>
  congrArg (V m c main_arg2) (a₁ := ((cfg0.win 2).blk t).view.emb y) (emb_of (cfg0.win 2) off_2 t y i (axes h0 h1))
theorem in_3 (t : Fin cfg0.N) : IsBlk (iblk m c 3 t) (V m c main_arg3) (688 * (t.val % 6)) 0 := fun y i h0 h1 =>
  congrArg (V m c main_arg3) (a₁ := ((cfg0.win 3).blk t).view.emb y) (emb_of (cfg0.win 3) off_3 t y i (axes h0 h1))

/-- There is one column of tiles. -/
theorem col (t : Fin cfg0.N) : 1024 * (t.val / 6) = 0 := by rw [Nat.div_eq_of_lt (show t.val < 6 from t.isLt)]

/-- The gradient into a block of rows. -/
theorem x_eq (x0 : Vec Ideal S688x1024 .f32) (x1 : Vec Ideal S1x1024 .f32) (x2 : Vec Ideal S688x1024 .bf16) (x3 : Vec Ideal S688x1024 .f32) :
    k0_pay6 x0 x1 x2 x3 = gradX x0 x1 x2 x3 := ker_gradX (by decide) x0 x1 (k0_pay2 x2) x3 _ _ _ _
/-- The gradient into the gains from a block of rows. -/
theorem g_eq (x0 : Vec Ideal S688x1024 .f32) (x2 : Vec Ideal S688x1024 .bf16) :
    k0_pay5 x0 x2 = gradG (R := 688) x0 x2 := ker_gradG (by decide) x0 (k0_pay2 x2) _ _ _ _ _

section
variable (i : grid0.Coords) (a1 : Memref sig .tc .vmem S688x1024 .f32) (h1 : a1.IsWhole) (a2 : Memref sig .tc .vmem S1x1024 .f32) (h2 : a2.IsWhole)
  (a3 : Memref sig .tc .vmem S688x1024 .bf16) (h3 : a3.IsWhole) (a4 : Memref sig .tc .vmem S688x1024 .f32) (h4 : a4.IsWhole)
  (a5 : Memref sig .tc .vmem S688x1024 .f32) (h5 : a5.IsWhole) (a6 : Memref sig .tc .vmem S1x1024 .f32) (h6 : a6.IsWhole)
  (x0 : Vec Ideal S688x1024 .f32) (x1 : Vec Ideal S1x1024 .f32) (x2 : Vec Ideal S688x1024 .bf16) (x3 : Vec Ideal S688x1024 .f32)

/-- What the first grid point writes. -/
theorem out_A_4 (hc : cond0_0 i) : out0_A_4 c i a1 h1 a2 h2 a3 h3 a4 h4 a5 h5 a6 h6 hc x0 x1 x2 x3 = gradX x0 x1 x2 x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero (S := S688x1024) hz]
  simp only [View.readAt_eq_ld, h1.read_unread, h2.read_unread, h3.read_unread, h4.read_unread, View.ld_unit_zero (S := S688x1024) hz, View.ld_unit_zero (S := S1x1024) hz]
  exact x_eq x0 x1 x2 x3
theorem out_A_5 (hc : cond0_0 i) : out0_A_5 c i a1 h1 a2 h2 a3 h3 a4 h4 a5 h5 a6 h6 hc x0 x1 x2 x3 = gradG (R := 688) x0 x2 := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S1x1024) hz, View.readCov_unit_zero (S := S1x1024) _ hz]
  unfold k0_pay1 k0_pay7
  simp only [View.readAt_eq_ld, h1.read_unread, h3.read_unread, View.ld_unit_zero (S := S688x1024) hz, shapeCast_self]
  rw [g_eq]
  funext i
  exact (congrArg (· + _) Ideal.ofBits_zero_f32).trans (zero_add _)
/-- What a later grid point writes. -/
theorem out_B_4 (hc : ¬cond0_0 i) (xo : Vec Ideal S1x1024 .f32) :
    out0_B_4 c i a1 h1 a2 h2 a3 h3 a4 h4 a5 h5 a6 h6 hc x0 x1 x2 x3 xo = gradX x0 x1 x2 x3 := by
  unfold out0_B_4
  rw [View.read_writes_eq_canon _ _ _ (cover0_B_4 c i a1 h1 a2 h2 a3 h3 a4 h4 a5 h5 a6 h6 hc x0 x1 x2 x3 xo)]
  unfold kernelRun0_B
  dsimp only
  sl_unfold_words
  rw [View.canon_unit_zero (S := S688x1024) hz]
  simp only [View.readAt_eq_ld, h1.read_unread, h2.read_unread, h3.read_unread, h4.read_unread, View.ld_unit_zero (S := S688x1024) hz, View.ld_unit_zero (S := S1x1024) hz]
  exact x_eq x0 x1 x2 x3
theorem out_B_5 (hc : ¬cond0_0 i) (xo : Vec Ideal S1x1024 .f32) :
    out0_B_5 c i a1 h1 a2 h2 a3 h3 a4 h4 a5 h5 a6 h6 hc x0 x1 x2 x3 xo = plus xo (gradG (R := 688) x0 x2) := by
  unfold out0_B_5
  rw [View.read_writes_eq_canon _ _ _ (cover0_B_5 c i a1 h1 a2 h2 a3 h3 a4 h4 a5 h5 a6 h6 hc x0 x1 x2 x3 xo)]
  unfold kernelRun0_B
  dsimp only
  sl_unfold_words
  rw [View.canon_unit_zero (S := S1x1024) hz]
  unfold k0_pay1
  simp only [View.readAt_eq_ld, h1.read_unread, h3.read_unread, h6.read_unread, View.ld_unit_zero (S := S688x1024) hz, View.ld_unit_zero (S := S1x1024) hz, shapeCast_self]
  rw [g_eq]
  rfl
end

/-- The gradient into the layer's input. -/
abbrev gradW : Mat 4128 1024 := gradX (V m c main_arg0) (V m c main_arg1) (V m c main_arg2) (V m c main_arg3)
/-- The gradient into the gains. -/
abbrev gainW : Mat 1 1024 := gradG (R := 4128) (V m c main_arg0) (V m c main_arg2)

theorem arr_4 : (dats m 0 c).arrAt 4 cfg0.N = gradW m c :=
  eq_of_grid (I := 6) (J := 1) (R := 688) (C := 1024) (by decide) (by decide) (by decide) (fun t => (dats m 0 c).flushed 4 t)
    (fun t y i h0 h1 => ((dats m 0 c).arrAt_emb_eq_flushed 4 disjoint4 t (flush0_4 t) y).symm.trans
      (congrArg ((dats m 0 c).arrAt 4 cfg0.N) (a₁ := ((cfg0.win 4).blk t).view.emb y) (emb_of (cfg0.win 4) off_4 t y i (axes h0 h1))))
    (fun t : Fin cfg0.N => by
      have e : (dats m 0 c).flushed 4 t = (cfg0.win 4).cut (grid0.coords t) (gradX (R := 688) (iblk m c 0 t) (iblk m c 1 t) (iblk m c 2 t) (iblk m c 3 t)) := by
        by_cases h0 : t.val % 6 = 0
        · rw [flushed4_A m c t h0, out_A_4]
        · rw [flushed4_B m c t h0, out_B_4]
      rw [e, col t]
      exact (in_0 m c t).gradX (in_1 m c t) (in_2 m c t) (in_3 m c t))

/-- The gradient into the gains from the rows of one grid point. -/
def part (s : ℕ) : Mat 1 1024 := if h : s < cfg0.N then gradG (R := 688) (iblk m c 0 ⟨s, h⟩) (iblk m c 2 ⟨s, h⟩) else 0

/-- After a grid point the buffer holds the sum of the parts so far. -/
theorem acc_at : ∀ (n : ℕ) (h : n < cfg0.N) (i : S1x1024.Idx), (outsAt0 m c n h).2 i = ∑ s ∈ Finset.range (n + 1), part m c s i
  | 0, h, i => by
    rw [outsAt0_A m c ⟨0, h⟩ (Nat.zero_mod _), out_A_5, Finset.sum_range_one, part, dif_pos h]
  | n + 1, h, i => by
    have h0 : ¬(n + 1) % 6 = 0 := by
      have : n + 1 < 6 := h
      omega
    rw [outsAt0_B m c ⟨n + 1, h⟩ h0, out_B_5, Finset.sum_range_succ, part, dif_pos h]
    exact congrArg (fun a : EReal => a + gradG (R := 688) (iblk m c 0 ⟨n + 1, h⟩) (iblk m c 2 ⟨n + 1, h⟩) i) (acc_at n (Nat.lt_of_succ_lt h) i)

/-- The sum of all the parts is the sum over the rows. -/
theorem acc_all (h : 5 < cfg0.N) : (outsAt0 m c 5 h).2 = gainW m c := by
  funext i
  rw [acc_at, Finset.sum_range]
  refine Eq.trans ?_ (sum_rows (J := 6) (R := 688) rfl fun k => gainTerm (R := 4128) (V m c main_arg0) (V m c main_arg2) (ValueIdx.ix2 k (i 1)))
  refine Finset.sum_congr rfl fun s _ => ?_
  have hs : s.val < cfg0.N := s.isLt
  rw [part, dif_pos hs]
  refine Finset.sum_congr rfl fun q _ => ?_
  exact ((in_0 m c ⟨s.val, hs⟩).gainTerm (in_2 m c ⟨s.val, hs⟩)) _ _
    (congrArg (fun a => 688 * a + q.val) (Nat.mod_eq_of_lt s.isLt).symm) (Nat.zero_add _).symm

theorem arr_5 : (dats m 0 c).arrAt 5 cfg0.N = gainW m c := by
  refine (dats m 0 c).arrAt_eq_of_after_last 5 (⟨5, by decide⟩ : Fin cfg0.N) (by decide +kernel) _ (fun j => ?_)
  rw [after0_5]
  exact congrFun (acc_all m c (by decide)) j

/-- The kernel's frame at bits. -/
theorem frame_p : Cert.quiescent_Kernel30 := fun m g _ => Cert.Kernel30.Gen.frame m g
/-- The kernel's frame at the extended reals. -/
theorem frame_pi : Cert.quiescent_Kernel30Ideal := fun m g _ => Cert.Kernel30Ideal.Gen.frame m g
/-- The reference's frame: it has no semaphores. -/
theorem frame_ri : Cert.quiescent_Reference30Ideal := fun m g _ =>
  (θ_run _ _ _).mono (fun _ h => ⟨fun c => (h c).2.2, sem_eq_zero_of_no_sems (by decide) _⟩) (Cert.Reference30Ideal.Value.run m g)
/-- Kernel and reference leave the same gradients. -/
theorem value : Cert.algebraic_Kernel30Ideal_Reference30Ideal := fun m g m' g' _ hm => by
  refine ⟨fun c => gradW m c, fun c => gainW m c, ?_, ?_⟩
  · exact (θ_run _ _ _).mono (fun r h c => ⟨(h c).1.trans (arr_4 m c), (h c).2.1.trans (arr_5 m c), (h c).2.2⟩) (run_blocks (F := Ideal) m g)
  · refine (θ_run _ _ _).mono (fun r h c => ⟨(h c).1.trans ?_, (h c).2.1.trans ?_, (h c).2.2⟩) (Cert.Reference30Ideal.Value.run (F := Ideal) m' g')
    · show _ = gradW m c
      unfold Cert.Reference30Ideal.Value.res_main_v38
      simp only [gradW]
      rw [V_main_arg0, V_main_arg1, V_main_arg2, V_main_arg3, (hm c).1, (hm c).2.1, (hm c).2.2.1, (hm c).2.2.2]
      exact host_gradX (by decide) _ _ _ _ _ _ (by decide) _ _ _ _ _ _ _ _ (by decide) _
    · show _ = gainW m c
      simp only [gainW]
      rw [V_main_arg0, V_main_arg2, (hm c).1, (hm c).2.2.1]
      exact host_gradG (by decide) _ _ _ _ (by decide) _ _ _ _ _ _ (by decide) _ (by decide)

end Cert.Prod.P30

end
-- ==== Proof.Prod.Loss.lean ====
module

public import proofs.«01_k».proof.Proof.Prod.NormBwd

@[expose] public section

/-! Half the sum, over the tokens, of the mean square of the difference of two matrices of 1024 columns. There are two
sequences of 2064 rows, and the first 16 rows of each are no tokens. The host's form, and the sum in one piece. -/

noncomputable section

namespace Cert.Prod

open Idealize.ShloMosaic hiding ix1 ix2 ix3 eq_ix2
open Idealize.ShloMosaic.ValueIdx

variable {R R' r : ℕ}

/-- The difference. -/
def diff (A B : Mat R 1024) : Mat R 1024 := fun i => A i - B i
/-- The mean square of a row of the difference. -/
def rowLoss (A B : Mat R 1024) (r : Fin R) : EReal :=
  FloatOps.divf (F := Ideal) (φ := .f32) (squares (diff A B) r) (Scalar.ofBits .f32 0x44800000#32)
/-- The same, and zero where the row is no token. -/
def tokenLoss (A B : Mat 4128 1024) (r : Fin 4128) : EReal := if 16 ≤ r.val % 2064 then rowLoss A B r else 0
/-- One half. -/
abbrev half : EReal := Scalar.ofBits (F := Ideal) .f32 0x3F000000#32
/-- Half the sum over the tokens. -/
def lossOf (A B : Mat 4128 1024) : EReal := half * ∑ r : Fin 4128, tokenLoss A B r

theorem IsBlk.diff {X Y : Mat R' 1024} {A B : Mat R 1024} (hX : IsBlk X A r 0) (hY : IsBlk Y B r 0) : IsBlk (diff X Y) (diff A B) r 0 :=
  fun y i h0 h1 => congrArg₂ (fun a b : EReal => a - b) (hX y i h0 h1) (hY y i h0 h1)
theorem rowLoss_blk {X Y : Mat R' 1024} {A B : Mat R 1024} (hX : IsBlk X A r 0) (hY : IsBlk Y B r 0) (y : Fin R') (i : Fin R)
    (h : i.val = r + y.val) : rowLoss X Y y = rowLoss A B i := by
  unfold rowLoss
  rw [squares_blk (hX.diff hY) y i h]
theorem rowLoss_nonneg (A B : Mat R 1024) (r : Fin R) : 0 ≤ rowLoss A B r := by
  show 0 ≤ Ideal.div (squares (diff A B) r) _
  rw [lit_1024, Ideal.div_coe (by norm_num)]
  exact mul_nonneg (squares_nonneg _ _) (by exact_mod_cast (by norm_num : (0 : ℝ) ≤ 1 / 1024))
theorem tokenLoss_nonneg (A B : Mat 4128 1024) (r : Fin 4128) : 0 ≤ tokenLoss A B r := by
  unfold tokenLoss
  split
  · exact rowLoss_nonneg A B r
  · exact le_rfl

/-- A factor taken out of a sum of terms that are not negative. -/
theorem factor_out {ι : Type} (a : EReal) (s : Finset ι) (f : ι → EReal) (hf : ∀ i, 0 ≤ f i) : ∑ i ∈ s, a * f i = a * ∑ i ∈ s, f i := by
  classical
  induction s using Finset.induction_on with
  | empty => rw [Finset.sum_empty, Finset.sum_empty, mul_zero]
  | insert x s hx ih =>
    rw [Finset.sum_insert hx, Finset.sum_insert hx, ih, EReal.left_distrib_of_nonneg (hf x) (Finset.sum_nonneg fun i _ => hf i)]

/-- Half the sum over six blocks of rows, block by block. -/
theorem half_blocks (A B : Mat 4128 1024) :
    ∑ s : Fin 6, half * ∑ y : Fin 688, tokenLoss A B ⟨688 * s.val + y.val, by omega⟩ = lossOf A B :=
  (factor_out half Finset.univ _ fun _ => Finset.sum_nonneg fun _ _ => tokenLoss_nonneg A B _).trans
    (congrArg (half * ·) (sum_rows (J := 6) (R := 688) rfl (tokenLoss A B)))

/-- The sum over the tokens of both sequences. -/
theorem sum_tokens (A B : Mat 4128 1024) :
    ∑ b : Fin 2, ∑ q : Fin 2048, rowLoss A B ⟨2064 * b.val + (16 + q.val), by omega⟩ = ∑ r : Fin 4128, tokenLoss A B r := by
  rw [← sum_rows (J := 2) (R := 2064) rfl (tokenLoss A B)]
  refine Finset.sum_congr rfl fun b _ => ?_
  refine Eq.trans ?_ (Fin.sum_univ_add (a := 16) (b := 2048) fun u : Fin 2064 => tokenLoss A B ⟨2064 * b.val + u.val, by omega⟩).symm
  have h0 : ∑ u : Fin 16, tokenLoss A B ⟨2064 * b.val + (Fin.castAdd 2048 u).val, by have := (Fin.castAdd 2048 u).isLt; omega⟩ = 0 :=
    Finset.sum_eq_zero fun u _ => if_neg (by
      show ¬16 ≤ (2064 * b.val + u.val) % 2064
      omega)
  refine Eq.trans ?_ (congrArg (· + _) h0.symm)
  rw [zero_add]
  refine Finset.sum_congr rfl fun q _ => (if_pos ?_).symm
  show 16 ≤ (2064 * b.val + (16 + q.val)) % 2064
  omega

abbrev S2T : Shape := ⟨2, ![2, 2048]⟩
abbrev S2TD : Shape := ⟨3, ![2, 2048, 1024]⟩
abbrev S2RD : Shape := ⟨3, ![2, 2064, 1024]⟩

/-- The tokens of one sequence. -/
theorem token_at (A : FVec Ideal (SM 4128 1024) .f32) (hc : (SM 4128 1024).ShapeCasts S2RD) (hs : S2RD.Slices ![0, 16, 0] S2TD)
    (b : Fin 2) (q : Fin 2048) (k : Fin 1024) :
    extractStridedSlice S2TD ![0, 16, 0] (shapeCast S2RD A hc) hs (ix3 b q k) = A (ix2 ⟨2064 * b.val + (16 + q.val), by omega⟩ k) := by
  refine (extractStridedSlice_apply _ _ hs (ix3 b q k) (ix3 b (⟨16 + q.val, by omega⟩ : Fin 2064) k) (fun a => ?_)).trans ?_
  · match a with
    | ⟨0, _⟩ => exact (Nat.zero_add _).symm
    | ⟨1, _⟩ => rfl
    | ⟨2, _⟩ => exact (Nat.zero_add _).symm
  · refine shapeCast_apply _ hc _ _ ?_
    rw [Shape.rowMajor_val_three, Shape.rowMajor_val_two]
    show (2064 * b.val + (16 + q.val)) * 1024 + k.val = (b.val * 2064 + (16 + q.val)) * 1024 + k.val
    omega

/-- The host's difference of the tokens. -/
abbrev hostDiff (A B : FVec Ideal (SM 4128 1024) .f32) (hc : (SM 4128 1024).ShapeCasts S2RD) (hs : S2RD.Slices ![0, 16, 0] S2TD) :
    FVec Ideal S2TD .f32 :=
  subf (extractStridedSlice S2TD ![0, 16, 0] (shapeCast S2RD A hc) hs) (extractStridedSlice S2TD ![0, 16, 0] (shapeCast S2RD B hc) hs)

/-- The host's loss. -/
theorem host_loss (A B : FVec Ideal (SM 4128 1024) .f32) (hc : (SM 4128 1024).ShapeCasts S2RD) (hs : S2RD.Slices ![0, 16, 0] S2TD)
    (h0 : 0 < S0.numel) (hr : S2TD.ReducesTo [2] S2T) (hr' : S2T.ReducesTo [0, 1] S0) (b2 : S0.BroadcastsInDim S2T ![]) (S : Shape)
    (b3 : S0.BroadcastsInDim S ![]) :
    broadcastInDim S ![] b3 (mulf (constant S0 .f32 0x3F000000#32) (Host.reduceAdd (Host.divf (Host.reduceAdd
      (mulf (hostDiff A B hc hs) (hostDiff A B hc hs)) (constant S0 .f32 0x00000000#32) hr h0)
      (broadcastInDim S2T ![] b2 (constant S0 .f32 0x44800000#32))) (constant S0 .f32 0x00000000#32) hr' h0)) = fun _ => lossOf A B := by
  funext i
  refine congrArg (fun a : EReal => half * a) ?_
  simp only [Host.reduceAdd, Ideal.hostReduceAdd_def]
  rw [Ideal.hostReduceAdd_r2_a01, ← sum_tokens]
  refine (congrArg (· + _) Ideal.ofBits_zero_f32).trans ((zero_add _).trans ?_)
  refine Finset.sum_congr rfl fun b _ => Finset.sum_congr rfl fun q _ => ?_
  refine congrArg (fun a : EReal => FloatOps.divf (F := Ideal) (φ := .f32) a (Scalar.ofBits .f32 0x44800000#32)) ?_
  rw [Ideal.hostReduceAdd_r3_a2]
  refine (congrArg (· + _) Ideal.ofBits_zero_f32).trans ((zero_add _).trans ?_)
  refine Finset.sum_congr rfl fun k _ => ?_
  have e : hostDiff A B hc hs (ix3 b q k) = diff A B (ix2 ⟨2064 * b.val + (16 + q.val), by omega⟩ k) :=
    congrArg₂ (fun a b : EReal => a - b) (token_at A hc hs b q k) (token_at B hc hs b q k)
  exact congrArg₂ (fun a b : EReal => a * b) e e

end Cert.Prod

end
-- ==== Proof.Prod.V31.lean ====
module

public import proofs.«01_k».proof.Defs
public import proofs.«01_k».proof.Proof.Prod.Loss
public import proofs.«01_k».proof.Proof.Gen.Kernel31.Frame
public import proofs.«01_k».proof.Proof.Gen.Kernel31Ideal.Value
public import proofs.«01_k».proof.Proof.Gen.Reference31Ideal.Run
public import Idealize.ShloMosaic.Lib.Pipeline.ValueKit
public import Idealize.ShloMosaic.Adequacy
public import Idealize.ShloMosaic.Init

@[expose] public section

/-! The loss: each grid point adds half the sum of its rows' mean squares, where the rows that are no tokens give
zero. -/

noncomputable section

namespace Cert.Prod.P31

open Idealize.ShloMosaic Idealize.ShloMosaic.TcCoe Idealize.ShloMosaic.Tactic Idealize.SL.Sem
open Cert.Kernel31Ideal Cert.Kernel31Ideal.Gen Cert.Kernel31Ideal.Value

theorem hz : (![0, 0] : Fin 2 → ℕ) = fun _ => 0 := funext (axes rfl rfl)

/-- Where the windows' blocks start. -/
theorem off_0 : ∀ t a, (cfg0.win 0).index t a * (cfg0.win 0).size a = (![688 * (t.val % 6), 0] : Fin 2 → ℕ) a := by decide +kernel
theorem off_1 : ∀ t a, (cfg0.win 1).index t a * (cfg0.win 1).size a = (![688 * (t.val % 6), 0] : Fin 2 → ℕ) a := by decide +kernel
theorem point : ∀ t : Fin cfg0.N, (grid0.coords t 0).val = t.val := by decide +kernel

variable (m : (ℓ : Loc nD τ sig) → Buf (Elt Ideal) ℓ) (c : Dev nD)

theorem in_0 (t : Fin cfg0.N) : IsBlk (iblk m c 0 t) (V m c main_arg0) (688 * (t.val % 6)) 0 := fun y i h0 h1 =>
  congrArg (V m c main_arg0) (a₁ := ((cfg0.win 0).blk t).view.emb y) (emb_of (cfg0.win 0) off_0 t y i (axes h0 h1))
theorem in_1 (t : Fin cfg0.N) : IsBlk (iblk m c 1 t) (V m c main_arg1) (688 * (t.val % 6)) 0 := fun y i h0 h1 =>
  congrArg (V m c main_arg1) (a₁ := ((cfg0.win 1).blk t).view.emb y) (emb_of (cfg0.win 1) off_1 t y i (axes h0 h1))

/-! ## Which rows are tokens -/

/-- Where in its sequence the block of the grid point `n` starts, as the kernel computes it. -/
def start (n : ℕ) : BitVec 32 :=
  let a : BitVec 32 := BitVec.ofNat 32 n
  let d : BitVec 32 := Scalar.select (Scalar.cmpi .eq 3#32 0#32) 1#32 3#32
  let q : BitVec 32 := Scalar.remsi a d
  Scalar.muli (Scalar.select (Scalar.andi (Scalar.xori (Scalar.cmpi .slt q 0#32) (Scalar.cmpi .slt d 0#32)) (Scalar.cmpi .ne q 0#32))
    (Scalar.addi q d) q) 688#32

theorem mask : ∀ (a : Fin 6) (y : Fin 688), Scalar.cmpi .sge (start a.val + BitVec.ofNat 32 (0 * 688 + y.val)) 16#32
    = if 16 ≤ 688 * (a.val % 3) + y.val then 1#1 else 0#1 := by decide +kernel

/-- A row's part of a block's loss. -/
def rowPart (n : ℕ) (X Y : Mat 688 1024) (y : Fin 688) : EReal := if 16 ≤ 688 * (n % 3) + y.val then rowLoss X Y y else 0

section
variable (i : grid0.Coords) (x0 x1 : Vec Ideal S688x1024 .f32)

theorem pay4_at (y : Fin 688) (k : Fin 1024) : k0_pay4 i x0 x1 (ValueIdx.ix2 y k)
    = (if 16 ≤ 688 * ((i 0).val % 3) + y.val then diff (R := 688) x0 x1 (ValueIdx.ix2 y k) else 0 : EReal) := by
  have e : k0_pay4 i x0 x1 (ValueIdx.ix2 y k) = Scalar.select (Scalar.cmpi .sge (start (i 0).val + BitVec.ofNat 32 (0 * 688 + y.val)) 16#32)
      (diff (R := 688) x0 x1 (ValueIdx.ix2 y k)) (Scalar.ofBits (F := Ideal) .f32 0x00000000#32 : EReal) := rfl
  rw [e, mask (i 0) y]
  split
  · rfl
  · exact Ideal.ofBits_zero_f32

theorem pay7_at (y : Fin 688) : k0_pay7 i x0 x1 (ValueIdx.ix3 0 y 0) = rowPart (i 0).val x0 x1 y := by
  unfold k0_pay7
  refine (shapeCast_apply _ shapeCasts_S688x1_S1x688x1 (ValueIdx.ix3 (0 : Fin 1) y (0 : Fin 1)) (ValueIdx.ix2 y (0 : Fin 1)) (by
    rw [Shape.rowMajor_val_three, Shape.rowMajor_val_two]
    show y.val * 1 + 0 = (0 * 688 + y.val) * 1 + 0
    omega)).trans ?_
  refine (congrArg (fun a : EReal => FloatOps.divf (F := Ideal) (φ := .f32) a (Scalar.ofBits .f32 0x44800000#32))
    (ker_rowSum (R := 688) _ reduces_S688x1024_S688 shapeCasts_S688_S688x1 y)).trans ?_
  unfold rowPart
  split
  · rename_i h
    refine congrArg (fun a : EReal => FloatOps.divf (F := Ideal) (φ := .f32) a (Scalar.ofBits .f32 0x44800000#32)) ?_
    refine Finset.sum_congr rfl fun k _ => ?_
    have e := (pay4_at i x0 x1 y k).trans (if_pos h)
    exact congrArg₂ (fun a b : EReal => a * b) e e
  · rename_i h
    have z : ∑ k : Fin 1024, mulf (k0_pay4 i x0 x1) (k0_pay4 i x0 x1) (ValueIdx.ix2 y k) = (0 : EReal) := Finset.sum_eq_zero fun k _ => by
      have e := (pay4_at i x0 x1 y k).trans (if_neg h)
      exact (congrArg₂ (fun a b : EReal => a * b) e e).trans (mul_zero _)
    refine (congrArg (fun a : EReal => FloatOps.divf (F := Ideal) (φ := .f32) a (Scalar.ofBits .f32 0x44800000#32)) z).trans ?_
    show Ideal.div 0 _ = _
    rw [lit_1024, Ideal.div_coe (by norm_num), zero_mul]

/-- The indices of one column, as numbers. -/
def colIdx : S1x688x1.Idx ≃ Fin 688 where
  toFun j := j 1
  invFun y := ValueIdx.ix3 0 y 0
  left_inv j := funext fun a => Fin.ext (by
    match a with
    | ⟨0, _⟩ => exact (Nat.lt_one_iff.mp (j 0).isLt).symm
    | ⟨1, _⟩ => rfl
    | ⟨2, _⟩ => exact (Nat.lt_one_iff.mp (j 2).isLt).symm)
  right_inv _ := rfl

theorem pay8_at (v : FVec Ideal S8x128 .f32) (w : FVec Ideal S1x688x1 .f32) (j : S8x128.Idx) :
    k0_pay8 v w j = (v j + half * ∑ y : Fin 688, w (ValueIdx.ix3 0 y 0) : EReal) := by
  unfold k0_pay8
  refine congrArg (fun a : EReal => v j + half * a) ?_
  refine (Ideal.multiReduction_add_total w 0x00000000#32 reduces_S1x688x1_S1 (by decide) (.inl rfl) rfl _).trans ?_
  exact (Equiv.sum_comp colIdx.symm fun q => (w q : EReal)).symm

/-- What a grid point adds. -/
theorem step_at (v : FVec Ideal S8x128 .f32) (j : S8x128.Idx) :
    k0_pay8 v (k0_pay7 i x0 x1) j = (v j + half * ∑ y : Fin 688, rowPart (i 0).val x0 x1 y : EReal) :=
  (pay8_at v _ j).trans (congrArg (fun a : EReal => v j + half * a) (Finset.sum_congr rfl fun y _ => pay7_at i x0 x1 y))
end

section
variable (i : grid0.Coords) (a1 : Memref sig .tc .vmem S688x1024 .f32) (h1 : a1.IsWhole) (a2 : Memref sig .tc .vmem S688x1024 .f32) (h2 : a2.IsWhole)
  (a3 : Memref sig .tc .vmem S688x1024 .f32) (h3 : a3.IsWhole) (a4 : Memref sig .tc .vmem S1x1024 .f32) (h4 : a4.IsWhole)
  (a5 : Memref sig .tc .vmem S8x128 .f32) (h5 : a5.IsWhole) (a6 : Memref sig .tc .vmem S688x1024 .f32) (h6 : a6.IsWhole)
  (a7 : Memref sig .tc .vmem S688x1024 .bf16) (h7 : a7.IsWhole) (a8 : Memref sig .tc .vmem S1x1024 .f32) (h8 : a8.IsWhole)
  (x0 x1 x2 : Vec Ideal S688x1024 .f32) (x3 : Vec Ideal S1x1024 .f32)

/-- What the first grid point writes. -/
theorem out_A_4 (hc : cond0_0 i) (j : S8x128.Idx) : out0_A_4 c i a1 h1 a2 h2 a3 h3 a4 h4 a5 h5 a6 h6 a7 h7 a8 h8 hc x0 x1 x2 x3 j
    = (half * ∑ y : Fin 688, rowPart (i 0).val x0 x1 y : EReal) := by
  unfold out0_A_4
  rw [View.read_writes_eq_canon _ _ _ (cover0_A_4 c i a1 h1 a2 h2 a3 h3 a4 h4 a5 h5 a6 h6 a7 h7 a8 h8 hc x0 x1 x2 x3)]
  unfold kernelRun0_A
  dsimp only
  sl_unfold_words
  rw [View.canon_cons_unit_zero (S := S8x128) hz, View.readCov_unit_zero (S := S8x128) _ hz]
  unfold k0_pay6
  simp only [View.readAt_eq_ld, h1.read_unread, h2.read_unread, View.ld_unit_zero (S := S688x1024) hz, shapeCast_self]
  refine (step_at i x0 x1 _ j).trans ?_
  exact (congrArg (· + _) Ideal.ofBits_zero_f32).trans (zero_add _)
/-- What a later grid point writes. -/
theorem out_B_4 (hc : ¬cond0_0 i) (xo : Vec Ideal S8x128 .f32) (xo' : Vec Ideal S1x1024 .f32) (j : S8x128.Idx) :
    out0_B_4 c i a1 h1 a2 h2 a3 h3 a4 h4 a5 h5 a6 h6 a7 h7 a8 h8 hc x0 x1 x2 x3 xo xo' j
      = (xo j + half * ∑ y : Fin 688, rowPart (i 0).val x0 x1 y : EReal) := by
  unfold out0_B_4
  rw [View.read_writes_eq_canon _ _ _ (cover0_B_4 c i a1 h1 a2 h2 a3 h3 a4 h4 a5 h5 a6 h6 a7 h7 a8 h8 hc x0 x1 x2 x3 xo xo')]
  unfold kernelRun0_B
  dsimp only
  sl_unfold_words
  rw [View.canon_unit_zero (S := S8x128) hz]
  unfold k0_pay6
  simp only [View.readAt_eq_ld, h1.read_unread, h2.read_unread, h5.read_unread, View.ld_unit_zero (S := S688x1024) hz, View.ld_unit_zero (S := S8x128) hz, shapeCast_self]
  exact step_at i x0 x1 xo j
end

/-- The loss of the rows of one grid point. -/
def part (s : ℕ) : EReal := if h : s < cfg0.N then half * ∑ y : Fin 688, rowPart s (iblk m c 0 ⟨s, h⟩) (iblk m c 1 ⟨s, h⟩) y else 0

/-- After a grid point the buffer holds the sum of the parts so far. -/
theorem acc_at : ∀ (n : ℕ) (h : n < cfg0.N) (i : S8x128.Idx), (outsAt0 m c n h).1 i = ∑ s ∈ Finset.range (n + 1), part m c s
  | 0, h, i => by
    rw [outsAt0_A m c ⟨0, h⟩ (Nat.zero_mod _), Finset.sum_range_one, part, dif_pos h]
    dsimp only
    rw [out_A_4, point]
  | n + 1, h, i => by
    have h0 : ¬(n + 1) % 6 = 0 := by
      have : n + 1 < 6 := h
      omega
    rw [outsAt0_B m c ⟨n + 1, h⟩ h0, Finset.sum_range_succ, part, dif_pos h]
    dsimp only
    rw [out_B_4, point]
    exact congrArg (fun a : EReal => a + half * ∑ y : Fin 688, rowPart (n + 1) (iblk m c 0 ⟨n + 1, h⟩) (iblk m c 1 ⟨n + 1, h⟩) y) (acc_at n (Nat.lt_of_succ_lt h) i)

/-- The loss. -/
abbrev loss : EReal := lossOf (V m c main_arg0) (V m c main_arg1)

/-- The sum of all the parts is half the sum over the tokens. -/
theorem acc_all (h : 5 < cfg0.N) : (outsAt0 m c 5 h).1 = fun _ => loss m c := by
  funext i
  rw [acc_at, Finset.sum_range]
  refine Eq.trans ?_ (half_blocks (V m c main_arg0) (V m c main_arg1))
  refine Finset.sum_congr rfl fun s _ => ?_
  have hs : s.val < cfg0.N := s.isLt
  rw [part, dif_pos hs]
  refine congrArg (fun a : EReal => half * a) (Finset.sum_congr rfl fun y _ => ?_)
  have e : (688 * s.val + y.val) % 2064 = 688 * (s.val % 3) + y.val := by omega
  unfold rowPart tokenLoss
  rw [rowLoss_blk (in_0 m c ⟨s.val, hs⟩) (in_1 m c ⟨s.val, hs⟩) y ⟨688 * s.val + y.val, by omega⟩
    (congrArg (fun a => 688 * a + y.val) (Nat.mod_eq_of_lt s.isLt).symm)]
  simp only [e]

theorem arr_4 : (dats m 0 c).arrAt 4 cfg0.N = fun _ => loss m c := by
  refine (dats m 0 c).arrAt_eq_of_after_last 4 (⟨5, by decide⟩ : Fin cfg0.N) (by decide +kernel) _ (fun j => ?_)
  rw [after0_4]
  exact congrFun (acc_all m c (by decide)) j

/-- The kernel's frame at bits. -/
theorem frame_p : Cert.quiescent_Kernel31 := fun m g _ => Cert.Kernel31.Gen.frame m g
/-- The kernel's frame at the extended reals. -/
theorem frame_pi : Cert.quiescent_Kernel31Ideal := fun m g _ => Cert.Kernel31Ideal.Gen.frame m g
/-- The reference's frame: it has no semaphores. -/
theorem frame_ri : Cert.quiescent_Reference31Ideal := fun m g _ =>
  (θ_run _ _ _).mono (fun _ h => ⟨fun c => (h c).2, sem_eq_zero_of_no_sems (by decide) _⟩) (Cert.Reference31Ideal.Value.run m g)
/-- Kernel and reference leave the same loss. -/
theorem value : Cert.algebraic_Kernel31Ideal_Reference31Ideal := fun m g m' g' _ hm => by
  refine ⟨fun c => fun _ => loss m c, ?_, ?_⟩
  · exact (θ_run _ _ _).mono (fun r h c => ⟨(h c).1.trans (arr_4 m c), (h c).2.2.2.2⟩) (run_blocks (F := Ideal) m g)
  · refine (θ_run _ _ _).mono (fun r h c => ⟨(h c).1.trans ?_, (h c).2⟩) (Cert.Reference31Ideal.Value.run (F := Ideal) m' g')
    show _ = fun _ => loss m c
    simp only [loss]
    rw [V_main_arg0, V_main_arg1, (hm c).1, (hm c).2.1]
    exact host_loss _ _ _ _ _ _ _ _ _ _

end Cert.Prod.P31

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Attn.Value
public import proofs.«01_k».proof.Proof.AttnBits.Frame
public import Idealize.ShloMosaic.Lib.Quiescent
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Prod.V2
public import proofs.«01_k».proof.Proof.Prod.V3
public import proofs.«01_k».proof.Proof.Prod.V4
public import proofs.«01_k».proof.Proof.Prod.V5
public import proofs.«01_k».proof.Proof.Prod.V6
public import proofs.«01_k».proof.Proof.Prod.V7
public import proofs.«01_k».proof.Proof.Prod.V8
public import proofs.«01_k».proof.Proof.Prod.V9
public import proofs.«01_k».proof.Proof.Prod.V10
public import proofs.«01_k».proof.Proof.Prod.V11
public import proofs.«01_k».proof.Proof.Prod.V12
public import proofs.«01_k».proof.Proof.Prod.V13
public import proofs.«01_k».proof.Proof.Prod.V14
public import proofs.«01_k».proof.Proof.Prod.V15
public import proofs.«01_k».proof.Proof.Prod.V16
public import proofs.«01_k».proof.Proof.Prod.V17
public import proofs.«01_k».proof.Proof.Prod.V18
public import proofs.«01_k».proof.Proof.Prod.V19
public import proofs.«01_k».proof.Proof.Prod.V20
public import proofs.«01_k».proof.Proof.Prod.V21
public import proofs.«01_k».proof.Proof.Prod.V22
public import proofs.«01_k».proof.Proof.Prod.V23
public import proofs.«01_k».proof.Proof.Prod.V24
public import proofs.«01_k».proof.Proof.Prod.V25
public import proofs.«01_k».proof.Proof.Prod.V26
public import proofs.«01_k».proof.Proof.Prod.V27
public import proofs.«01_k».proof.Proof.Prod.V28
public import proofs.«01_k».proof.Proof.Prod.V29
public import proofs.«01_k».proof.Proof.Prod.V30
public import proofs.«01_k».proof.Proof.Prod.V31
public import Idealize.ShloMosaic.Adequacy
public import Idealize.ShloMosaic.Init

@[expose] public section

set_option maxHeartbeats 2000000

noncomputable section

namespace Cert.Proof

open Idealize.ShloMosaic Idealize.SL.Sem Cert.Kernel

/-- The kernel's frame at bits. -/
theorem frame_p : Cert.quiescent_Kernel := fun m g _ => Cert.AttnBits.frame_ok m g

/-- The kernel's frame at the extended reals. -/
theorem frame_pi : Cert.quiescent_KernelIdeal := fun m g _ => Cert.Attn.frame_ok m g

/-- The same from a memory that meets the precondition. -/
theorem frame_pi_pre : Cert.quiescent_KernelIdeal_pre_finite := fun m g _ => Cert.Attn.frame_ok m g

/-- The reference's frame: it has no semaphores. -/
theorem frame_ri : Cert.quiescent_ReferenceIdeal := fun m g _ =>
  (θ_run _ _ _).mono (fun _ h => ⟨fun c => (h c).2.2.2, sem_eq_zero_of_no_sems (by decide) _⟩) (Cert.ReferenceIdeal.Value.run m g)

/-- The same from a memory that meets the precondition. -/
theorem frame_ri_pre : Cert.quiescent_ReferenceIdeal_pre_finite := fun m g _ => frame_ri m g trivial

/-- The mask's constant stands for minus infinity. -/
theorem mask_ok : Cert.preserves_Kernel_KernelIdeal := IdealRules.named_const.statement _ _ _ _ _ rfl

/-- The gradients the kernel leaves are the reference's. -/
theorem value_ok : Cert.algebraic_KernelIdeal_ReferenceIdeal_pre_finite := fun m g m' g' hp hm => by
  have R := fun c => Cert.Attn.isReal_of_finite (hp c)
  have A0 := Cert.KernelIdeal.Gen.V_main_arg0 (F := Ideal) m
  have A1 := Cert.KernelIdeal.Gen.V_main_arg1 (F := Ideal) m
  have A2 := Cert.KernelIdeal.Gen.V_main_arg2 (F := Ideal) m
  have A3 := Cert.KernelIdeal.Gen.V_main_arg3 (F := Ideal) m
  refine ⟨fun c => Cert.ReferenceIdeal.Value.res_main_v91 m' c, fun c => Cert.ReferenceIdeal.Value.res_main_v92 m' c, fun c => Cert.ReferenceIdeal.Value.res_main_v94 m' c, ?_, ?_⟩
  · refine (θ_run _ _ _).mono (fun r h c => ?_) (Cert.Attn.run_all (F := Ideal) m g)
    obtain ⟨hw, ha⟩ := h.1 c
    have R' := R c
    rw [← A0 c, ← A1 c, ← A2 c, ← A3 c] at R'
    refine ⟨?_, ?_, ?_, ha⟩
    · refine (hw 8 (by decide)).trans ((Cert.Attn.val_8 m c R').trans ?_)
      show _ = Cert.ReferenceIdeal.Value.res_main_v91 m' c
      rw [Cert.ReferenceIdeal.Read.val_main_v91_eq, (hm c).1, (hm c).2.1, (hm c).2.2.1, (hm c).2.2.2, A0 c, A1 c, A2 c, A3 c]
    · refine (hw 9 (by decide)).trans ((Cert.Attn.val_9 m c R').trans ?_)
      show _ = Cert.ReferenceIdeal.Value.res_main_v92 m' c
      rw [Cert.ReferenceIdeal.Read.val_main_v92_eq, (hm c).1, (hm c).2.1, (hm c).2.2.1, (hm c).2.2.2, A0 c, A1 c, A2 c, A3 c]
    · refine (hw 10 (by decide)).trans ((Cert.Attn.val_10 m c R').trans ?_)
      show _ = Cert.ReferenceIdeal.Value.res_main_v94 m' c
      rw [Cert.ReferenceIdeal.Read.val_main_v94_eq, (hm c).1, (hm c).2.1, (hm c).2.2.1, (hm c).2.2.2, A0 c, A1 c, A2 c, A3 c]
  · exact Cert.ReferenceIdeal.Value.run m' g'

open Cert.Prod in
/-- All the claims. -/
theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts, Cert.Kernel22.Gen.facts,
  Cert.Kernel22Ideal.Gen.facts, Cert.Reference22Ideal.Gen.facts, Cert.Kernel23.Gen.facts, Cert.Kernel23Ideal.Gen.facts,
  Cert.Reference23Ideal.Gen.facts, Cert.Kernel24.Gen.facts, Cert.Kernel24Ideal.Gen.facts, Cert.Reference24Ideal.Gen.facts,
  Cert.Kernel25.Gen.facts, Cert.Kernel25Ideal.Gen.facts, Cert.Reference25Ideal.Gen.facts, Cert.Kernel26.Gen.facts,
  Cert.Kernel26Ideal.Gen.facts, Cert.Reference26Ideal.Gen.facts, Cert.Kernel27.Gen.facts, Cert.Kernel27Ideal.Gen.facts,
  Cert.Reference27Ideal.Gen.facts, Cert.Kernel28.Gen.facts, Cert.Kernel28Ideal.Gen.facts, Cert.Reference28Ideal.Gen.facts,
  Cert.Kernel29.Gen.facts, Cert.Kernel29Ideal.Gen.facts, Cert.Reference29Ideal.Gen.facts, Cert.Kernel30.Gen.facts,
  Cert.Kernel30Ideal.Gen.facts, Cert.Reference30Ideal.Gen.facts, Cert.Kernel31.Gen.facts,
  Cert.Kernel31Ideal.Gen.facts, Cert.Reference31Ideal.Gen.facts, Cert.Pre_finite.Gen.facts, frame_p,
  frame_pi, frame_pi_pre, frame_ri, frame_ri_pre, P2.frame_p, P2.frame_pi, P2.frame_ri, P3.frame_p, P3.frame_pi, P3.frame_ri,
  P4.frame_p, P4.frame_pi, P4.frame_ri, P5.frame_p, P5.frame_pi, P5.frame_ri, P6.frame_p, P6.frame_pi, P6.frame_ri,
  P7.frame_p, P7.frame_pi, P7.frame_ri, P8.frame_p, P8.frame_pi, P8.frame_ri, P9.frame_p, P9.frame_pi, P9.frame_ri,
  P10.frame_p, P10.frame_pi, P10.frame_ri, P11.frame_p, P11.frame_pi, P11.frame_ri, P12.frame_p, P12.frame_pi, P12.frame_ri,
  P13.frame_p, P13.frame_pi, P13.frame_ri, P14.frame_p, P14.frame_pi, P14.frame_ri, P15.frame_p, P15.frame_pi, P15.frame_ri,
  P16.frame_p, P16.frame_pi, P16.frame_ri, P17.frame_p, P17.frame_pi, P17.frame_ri, P18.frame_p, P18.frame_pi, P18.frame_ri,
  P19.frame_p, P19.frame_pi, P19.frame_ri, P20.frame_p, P20.frame_pi, P20.frame_ri, P21.frame_p, P21.frame_pi, P21.frame_ri,
  P22.frame_p, P22.frame_pi, P22.frame_ri, P23.frame_p, P23.frame_pi, P23.frame_ri, P24.frame_p, P24.frame_pi, P24.frame_ri,
  P25.frame_p, P25.frame_pi, P25.frame_ri, P26.frame_p, P26.frame_pi, P26.frame_ri, P27.frame_p, P27.frame_pi, P27.frame_ri,
  P28.frame_p, P28.frame_pi, P28.frame_ri, P29.frame_p, P29.frame_pi, P29.frame_ri, P30.frame_p,
  P30.frame_pi, P30.frame_ri, P31.frame_p, P31.frame_pi, P31.frame_ri, mask_ok, value_ok, trivial, P2.value,
  trivial, P3.value, trivial, P4.value, trivial, P5.value, trivial, P6.value, trivial, P7.value, trivial, P8.value, trivial,
  P9.value, trivial, P10.value, trivial, P11.value, trivial, P12.value, trivial, P13.value, trivial, P14.value, trivial,
  P15.value, trivial, P16.value, trivial, P17.value, trivial, P18.value, trivial, P19.value, trivial, P20.value, trivial,
  P21.value, trivial, P22.value, trivial, P23.value, trivial, P24.value, trivial, P25.value, trivial, P26.value, trivial,
  P27.value, trivial, P28.value, trivial, P29.value, trivial, P30.value, trivial, P31.value⟩

end Cert.Proof

end
